-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v13) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v13) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v49_0)) (v1 : (c : Dev Cert.Kernel9Ideal.nD) → Buf (Elt Ideal) ((c.tc : Thread Cert.Kernel9Ideal.nD Cert.Kernel9Ideal.τ).loc Cert.Kernel9Ideal.main_v49_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v49_0) = v0 c
          ∧ r.2.mem ((c.tc : Thread Cert.Kernel9Ideal.nD Cert.Kernel9Ideal.τ).loc Cert.Kernel9Ideal.main_v49_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v84) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_scores.lean ====
abbrev S8192x4096 : Shape := ⟨2, ![8192, 4096]⟩
abbrev S32 : Shape := ⟨1, ![32]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S8192x4096 .bf16) (main_arg1 : FVec F S8192x4096 .bf16) (main_arg2 : FVec F S8192x4096 .bf16) (main_arg3 : FVec F S32 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x4096 .f32 := (extf .f32 · bitsLt_bf16_f32) main_arg1
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : IVec S_ 1 := andi main_v4 main_v9
  let main_v11 : FVec F S32 .f32 := Host.absf main_arg3
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  main_v15
-- ==== Kernel.lean ====
abbrev S8192x4096 : Shape := ⟨2, ![8192, 4096]⟩
abbrev S32 : Shape := ⟨1, ![32]⟩
abbrev S2048x512 : Shape := ⟨2, ![2048, 512]⟩
abbrev S512x256 : Shape := ⟨2, ![512, 256]⟩
abbrev S256x256 : Shape := ⟨2, ![256, 256]⟩
abbrev S256x1 : Shape := ⟨2, ![256, 1]⟩
abbrev S256x128 : Shape := ⟨2, ![256, 128]⟩
abbrev S1 : Shape := ⟨1, ![1]⟩
abbrev S256x512 : Shape := ⟨2, ![256, 512]⟩

abbrev nBuf : Space → Nat
  | .hbm => 5
  | .vmem => 8
  | .smem => 1
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S32, .f32⟩
  | .hbm, ⟨4, _⟩ => ⟨S8192x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .smem, ⟨0, _⟩ => ⟨S32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_4 : BitVec 32 := 0#32
  let c8_i32 : BitVec 32 := 8#32
  let v26 : BitVec 32 := Scalar.addi c0_i32_4 c8_i32
  let c1_i32_5 : BitVec 32 := 1#32
  ⟨c0_i32_4, v26, c1_i32_5⟩
def k0_mult1 (k0_t1 : Fin k0_t1_loop.trips) : BitVec 32 :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  v27
def k0_off1 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v31 : Index := Scalar.indexCast v28
  let c0 : Index := 0#32
  ![v31.toNat, 0]
def k0_off2 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v36 : Index := Scalar.indexCast v28
  let c128 : Index := 128#32
  ![v36.toNat, 128]
def k0_off3 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v41 : Index := Scalar.indexCast v28
  let c256 : Index := 256#32
  ![v41.toNat, 256]
def k0_off4 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v46 : Index := Scalar.indexCast v28
  let c384 : Index := 384#32
  ![v46.toNat, 384]
def k0_off5 (i : grid0.Coords) (c0_i32_19 : BitVec 32) : Fin 1 → Nat :=
  let arg1 : BitVec 32 := BitVec.ofNat 32 (i 1).val
  let c4_i32 : BitVec 32 := 4#32
  let v53 : BitVec 32 := Scalar.muli arg1 c4_i32
  let v54 : BitVec 32 := Scalar.addi v53 c0_i32_19
  let v55 : Index := Scalar.indexCast v54
  ![v55.toNat]
@[reducible] def k0_t2_loop (k0_t1 : Fin k0_t1_loop.trips) : Scf.Loop 32 :=
  let c0_i32_59 : BitVec 32 := 0#32
  let c0_i32_4 : BitVec 32 := 0#32
  let c1_i32_5 : BitVec 32 := 1#32
  let arg7 : BitVec 32 := Scf.iv c0_i32_4 c1_i32_5 k0_t1
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let c1_i32_61 : BitVec 32 := 1#32
  ⟨c0_i32_59, v223, c1_i32_61⟩
def k0_mult2 (k0_t1 : Fin k0_t1_loop.trips) (k0_t2 : Fin (k0_t2_loop k0_t1).trips) : BitVec 32 :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let c1_i32_61 : BitVec 32 := 1#32
  let arg8 : BitVec 32 := Scf.iv c0_i32_59 c1_i32_61 k0_t2
  let v239 : BitVec 32 := Scalar.subi v238 arg8
  let c256_i32_68 : BitVec 32 := 256#32
  let v240 : BitVec 32 := Scalar.muli v239 c256_i32_68
  v240
def k0_off6 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v242 : Index := Scalar.indexCast v28
  let c0_69 : Index := 0#32
  ![v242.toNat, 0]
def k0_off7 (k0_t1 : Fin k0_t1_loop.trips) (k0_t2 : Fin (k0_t2_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let c1_i32_61 : BitVec 32 := 1#32
  let arg8 : BitVec 32 := Scf.iv c0_i32_59 c1_i32_61 k0_t2
  let v239 : BitVec 32 := Scalar.subi v238 arg8
  let c256_i32_68 : BitVec 32 := 256#32
  let v240 : BitVec 32 := Scalar.muli v239 c256_i32_68
  let v241 : BitVec 32 := v240
  let v244 : Index := Scalar.indexCast v241
  let c0_70 : Index := 0#32
  ![v244.toNat, 0]
def k0_off8 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v247 : Index := Scalar.indexCast v28
  let c128_72 : Index := 128#32
  ![v247.toNat, 128]
def k0_off9 (k0_t1 : Fin k0_t1_loop.trips) (k0_t2 : Fin (k0_t2_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let c1_i32_61 : BitVec 32 := 1#32
  let arg8 : BitVec 32 := Scf.iv c0_i32_59 c1_i32_61 k0_t2
  let v239 : BitVec 32 := Scalar.subi v238 arg8
  let c256_i32_68 : BitVec 32 := 256#32
  let v240 : BitVec 32 := Scalar.muli v239 c256_i32_68
  let v241 : BitVec 32 := v240
  let v249 : Index := Scalar.indexCast v241
  let c128_73 : Index := 128#32
  ![v249.toNat, 128]
def k0_off10 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v252 : Index := Scalar.indexCast v28
  let c256_75 : Index := 256#32
  ![v252.toNat, 256]
def k0_off11 (k0_t1 : Fin k0_t1_loop.trips) (k0_t2 : Fin (k0_t2_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let c1_i32_61 : BitVec 32 := 1#32
  let arg8 : BitVec 32 := Scf.iv c0_i32_59 c1_i32_61 k0_t2
  let v239 : BitVec 32 := Scalar.subi v238 arg8
  let c256_i32_68 : BitVec 32 := 256#32
  let v240 : BitVec 32 := Scalar.muli v239 c256_i32_68
  let v241 : BitVec 32 := v240
  let v254 : Index := Scalar.indexCast v241
  let c256_76 : Index := 256#32
  ![v254.toNat, 256]
def k0_off12 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v257 : Index := Scalar.indexCast v28
  let c384_78 : Index := 384#32
  ![v257.toNat, 384]
def k0_off13 (k0_t1 : Fin k0_t1_loop.trips) (k0_t2 : Fin (k0_t2_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let c1_i32_61 : BitVec 32 := 1#32
  let arg8 : BitVec 32 := Scf.iv c0_i32_59 c1_i32_61 k0_t2
  let v239 : BitVec 32 := Scalar.subi v238 arg8
  let c256_i32_68 : BitVec 32 := 256#32
  let v240 : BitVec 32 := Scalar.muli v239 c256_i32_68
  let v241 : BitVec 32 := v240
  let v259 : Index := Scalar.indexCast v241
  let c384_79 : Index := 384#32
  ![v259.toNat, 384]
def k0_off14 (i : grid0.Coords) (c0_i32_83 : BitVec 32) : Fin 1 → Nat :=
  let arg1 : BitVec 32 := BitVec.ofNat 32 (i 1).val
  let c4_i32_82 : BitVec 32 := 4#32
  let v264 : BitVec 32 := Scalar.muli arg1 c4_i32_82
  let v265 : BitVec 32 := Scalar.addi v264 c0_i32_83
  let v266 : Index := Scalar.indexCast v265
  ![v266.toNat]
@[reducible] def k0_t3_loop (k0_t1 : Fin k0_t1_loop.trips) : Scf.Loop 32 :=
  let c0_i32_59 : BitVec 32 := 0#32
  let c0_i32_4 : BitVec 32 := 0#32
  let c1_i32_5 : BitVec 32 := 1#32
  let arg7 : BitVec 32 := Scf.iv c0_i32_4 c1_i32_5 k0_t1
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let v220 : BitVec 32 := Scalar.addi c0_i32_59 v219
  let c1_i32_62 : BitVec 32 := 1#32
  ⟨v223, v220, c1_i32_62⟩
def k0_mult3 (k0_t1 : Fin k0_t1_loop.trips) (k0_t3 : Fin (k0_t3_loop k0_t1).trips) : BitVec 32 :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let c1_i32_62 : BitVec 32 := 1#32
  let arg8 : BitVec 32 := Scf.iv v223 c1_i32_62 k0_t3
  let v239 : BitVec 32 := Scalar.subi v238 arg8
  let c256_i32_68 : BitVec 32 := 256#32
  let v240 : BitVec 32 := Scalar.muli v239 c256_i32_68
  v240
def k0_off15 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v242 : Index := Scalar.indexCast v28
  let c0_69 : Index := 0#32
  ![v242.toNat, 0]
def k0_off16 (k0_t1 : Fin k0_t1_loop.trips) (k0_t3 : Fin (k0_t3_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let c1_i32_62 : BitVec 32 := 1#32
  let arg8 : BitVec 32 := Scf.iv v223 c1_i32_62 k0_t3
  let v239 : BitVec 32 := Scalar.subi v238 arg8
  let c256_i32_68 : BitVec 32 := 256#32
  let v240 : BitVec 32 := Scalar.muli v239 c256_i32_68
  let v241 : BitVec 32 := v240
  let v244 : Index := Scalar.indexCast v241
  let c0_70 : Index := 0#32
  ![v244.toNat, 0]
def k0_off17 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v247 : Index := Scalar.indexCast v28
  let c128_72 : Index := 128#32
  ![v247.toNat, 128]
def k0_off18 (k0_t1 : Fin k0_t1_loop.trips) (k0_t3 : Fin (k0_t3_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let c1_i32_62 : BitVec 32 := 1#32
  let arg8 : BitVec 32 := Scf.iv v223 c1_i32_62 k0_t3
  let v239 : BitVec 32 := Scalar.subi v238 arg8
  let c256_i32_68 : BitVec 32 := 256#32
  let v240 : BitVec 32 := Scalar.muli v239 c256_i32_68
  let v241 : BitVec 32 := v240
  let v249 : Index := Scalar.indexCast v241
  let c128_73 : Index := 128#32
  ![v249.toNat, 128]
def k0_off19 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v252 : Index := Scalar.indexCast v28
  let c256_75 : Index := 256#32
  ![v252.toNat, 256]
def k0_off20 (k0_t1 : Fin k0_t1_loop.trips) (k0_t3 : Fin (k0_t3_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let c1_i32_62 : BitVec 32 := 1#32
  let arg8 : BitVec 32 := Scf.iv v223 c1_i32_62 k0_t3
  let v239 : BitVec 32 := Scalar.subi v238 arg8
  let c256_i32_68 : BitVec 32 := 256#32
  let v240 : BitVec 32 := Scalar.muli v239 c256_i32_68
  let v241 : BitVec 32 := v240
  let v254 : Index := Scalar.indexCast v241
  let c256_76 : Index := 256#32
  ![v254.toNat, 256]
def k0_off21 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c256_i32_7 : BitVec 32 := 256#32
  let v27 : BitVec 32 := Scalar.muli arg7 c256_i32_7
  let v28 : BitVec 32 := v27
  let v257 : Index := Scalar.indexCast v28
  let c384_78 : Index := 384#32
  ![v257.toNat, 384]
def k0_off22 (k0_t1 : Fin k0_t1_loop.trips) (k0_t3 : Fin (k0_t3_loop k0_t1).trips) : Fin 2 → Nat :=
  let c0_i32_4 : BitVec 32 := 0#32
  let c1_i32_5 : BitVec 32 := 1#32
  let arg7 : BitVec 32 := Scf.iv c0_i32_4 c1_i32_5 k0_t1
  let c1_i32_67 : BitVec 32 := 1#32
  let v238 : BitVec 32 := Scalar.subi arg7 c1_i32_67
  let c0_i32_59 : BitVec 32 := 0#32
  let v219 : BitVec 32 := Scalar.subi arg7 c0_i32_59
  let c1_i32_60 : BitVec 32 := 1#32
  let v221 : BitVec 32 := Scalar.divsi v219 c1_i32_60
  let v222 : BitVec 32 := Scalar.muli v221 c1_i32_60
  let v223 : BitVec 32 := Scalar.addi c0_i32_59 v222
  let c1_i32_62 : BitVec 32 := 1#32
  let arg8 : BitVec 32 := Scf.iv v223 c1_i32_62 k0_t3
  let v239 : BitVec 32 := Scalar.subi v238 arg8
  let c256_i32_68 : BitVec 32 := 256#32
  let v240 : BitVec 32 := Scalar.muli v239 c256_i32_68
  let v241 : BitVec 32 := v240
  let v259 : Index := Scalar.indexCast v241
  let c384_79 : Index := 384#32
  ![v259.toNat, 384]
def k0_off23 (i : grid0.Coords) (c0_i32_83 : BitVec 32) : Fin 1 → Nat :=
  let arg1 : BitVec 32 := BitVec.ofNat 32 (i 1).val
  let c4_i32_82 : BitVec 32 := 4#32
  let v264 : BitVec 32 := Scalar.muli arg1 c4_i32_82
  let v265 : BitVec 32 := Scalar.addi v264 c0_i32_83
  let v266 : Index := Scalar.indexCast v265
  ![v266.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x4096 : Shape := ⟨2, ![8192, 4096]⟩
abbrev S32 : Shape := ⟨1, ![32]⟩
abbrev S4x2048x32x128 : Shape := ⟨4, ![4, 2048, 32, 128]⟩
abbrev S1x32x1x1 : Shape := ⟨4, ![1, 32, 1, 1]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x128x2048 : Shape := ⟨4, ![4, 32, 128, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S32, .f32⟩
  | .hbm, ⟨4, _⟩ => ⟨S8192x4096, .f32⟩
  | .hbm, ⟨5, _⟩ => ⟨S4x2048x32x128, .f32⟩
  | .hbm, ⟨6, _⟩ => ⟨S8192x4096, .f32⟩
  | .hbm, ⟨7, _⟩ => ⟨S4x2048x32x128, .f32⟩
  | .hbm, ⟨8, _⟩ => ⟨S8192x4096, .f32⟩
  | .hbm, ⟨9, _⟩ => ⟨S4x2048x32x128, .f32⟩
  | .hbm, ⟨10, _⟩ => ⟨S1x32x1x1, .f32⟩
  | .hbm, ⟨11, _⟩ => ⟨S4x32x2048x2048, .f32⟩
  | .hbm, ⟨12, _⟩ => ⟨S_, .f32⟩
  | .hbm, ⟨13, _⟩ => ⟨S4x32x2048x2048, .f32⟩
  | .hbm, ⟨14, _⟩ => ⟨S4x32x2048x2048, .f32⟩
  | .hbm, ⟨15, _⟩ => ⟨S4x32x2048x2048, .f32⟩
  | .hbm, ⟨16, _⟩ => ⟨S4x32x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S4x32x2048x2048, .f32⟩
  | .hbm, ⟨25, _⟩ => ⟨S4x32x2048x2048, .f32⟩
  | .hbm, ⟨26, _⟩ => ⟨S_, .f32⟩
  | .hbm, ⟨27, _⟩ => ⟨S4x32x2048x2048, .f32⟩
  | .hbm, ⟨28, _⟩ => ⟨S4x32x2048x2048, .f32⟩
  | .hbm, ⟨29, _⟩ => ⟨S4x32x2048x2048, .f32⟩
  | .hbm, ⟨30, _⟩ => ⟨S4x32x2048x2048, .f32⟩
  | .hbm, ⟨31, _⟩ => ⟨S4x32x2048x2048, .i1⟩
  | .hbm, ⟨32, _⟩ => ⟨S4x32x2048x2048, .f32⟩
  | .hbm, ⟨33, _⟩ => ⟨S4x32x2048x2048, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S4x32x2048x2048, .f32⟩
  | .hbm, ⟨38, _⟩ => ⟨S4x32x2048x2048, .f32⟩
  | .hbm, ⟨39, _⟩ => ⟨S4x32x2048x2048, .f32⟩
  | .hbm, ⟨40, _⟩ => ⟨S4x32x2048x2048, .f32⟩
  | .hbm, ⟨41, _⟩ => ⟨S_, .f32⟩
  | .hbm, ⟨42, _⟩ => ⟨S_, .f32⟩
  | .hbm, ⟨43, _⟩ => ⟨S4x32x2048x2048, .i1⟩
  | .hbm, ⟨44, _⟩ => ⟨S4x32x2048x2048, .f32⟩
  | .hbm, ⟨45, _⟩ => ⟨S4x32x2048x2048, .f32⟩
  | .hbm, ⟨46, _⟩ => ⟨S_, .f32⟩
  | .hbm, ⟨47, _⟩ => ⟨S_, .f32⟩
  | .hbm, ⟨48, _⟩ => ⟨S4x32x2048x2048, .f32⟩
  | .hbm, ⟨49, _⟩ => ⟨S4x32x2048x2048, .f32⟩
  | .hbm, ⟨50, _⟩ => ⟨S4x32x2048x2048, .f32⟩
  | .hbm, ⟨51, _⟩ => ⟨S_, .f32⟩
  | .hbm, ⟨52, _⟩ => ⟨S4x32x2048x2048, .f32⟩
  | .hbm, ⟨53, _⟩ => ⟨S4x32x2048x2048, .f32⟩
  | .hbm, ⟨54, _⟩ => ⟨S4x32x2048x2048, .f32⟩
  | .hbm, ⟨55, _⟩ => ⟨S4x32x2048x2048, .f32⟩
  | .hbm, ⟨56, _⟩ => ⟨S4x32x2048x2048, .i1⟩
  | .hbm, ⟨57, _⟩ => ⟨S4x32x2048x2048, .f32⟩
  | .hbm, ⟨58, _⟩ => ⟨S4x32x2048x2048, .f32⟩
  | .hbm, ⟨59, _⟩ => ⟨S4x32x2048x2048, .f32⟩
  | .hbm, ⟨60, _⟩ => ⟨S4x32x2048x2048, .f32⟩
  | .hbm, ⟨61, _⟩ => ⟨S4x32x2048x2048, .f32⟩
  | .hbm, ⟨62, _⟩ => ⟨S4x32x2048x2048, .f32⟩
  | .hbm, ⟨63, _⟩ => ⟨S4x32x2048x2048, .f32⟩
  | .hbm, ⟨64, _⟩ => ⟨S4x32x2048x2048, .f32⟩
  | .hbm, ⟨65, _⟩ => ⟨S4x32x2048x2048, .f32⟩
  | .hbm, ⟨66, _⟩ => ⟨S4x32x2048x2048, .f32⟩
  | .hbm, ⟨67, _⟩ => ⟨S4x32x2048x2048, .f32⟩
  | .hbm, ⟨68, _⟩ => ⟨S_, .f32⟩
  | .hbm, ⟨69, _⟩ => ⟨S_, .f32⟩
  | .hbm, ⟨70, _⟩ => ⟨S4x32x2048x2048, .i1⟩
  | .hbm, ⟨71, _⟩ => ⟨S4x32x2048x2048, .f32⟩
  | .hbm, ⟨72, _⟩ => ⟨S4x32x2048x2048, .f32⟩
  | .hbm, ⟨73, _⟩ => ⟨S4x32x128x2048, .f32⟩
  | .hbm, ⟨74, _⟩ => ⟨S4x2048x32x128, .f32⟩
  | .hbm, ⟨75, _⟩ => ⟨S8192x4096, .f32⟩
  | .hbm, ⟨76, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_call2_cst : Ref sig .tc := ⟨.hbm, 46, rfl⟩
abbrev main_call2_v0 : Ref sig .tc := ⟨.hbm, 47, rfl⟩
abbrev main_v22 : Ref sig .tc := ⟨.hbm, 48, rfl⟩
abbrev main_v23 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== Kernel2.lean ====
abbrev S8192x4096 : Shape := ⟨2, ![8192, 4096]⟩
abbrev S16x4096 : Shape := ⟨2, ![16, 4096]⟩
abbrev S4x4096x22016 : Shape := ⟨3, ![4, 4096, 22016]⟩
abbrev S8192x11008 : Shape := ⟨2, ![8192, 11008]⟩
abbrev S16x11008 : Shape := ⟨2, ![16, 11008]⟩
abbrev S1024x4096 : Shape := ⟨2, ![1024, 4096]⟩
abbrev S1x4096x256 : Shape := ⟨3, ![1, 4096, 256]⟩
abbrev S1024x256 : Shape := ⟨2, ![1024, 256]⟩
abbrev S16x256 : Shape := ⟨2, ![16, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4x4096x22016, .f32⟩
  | .hbm, ⟨3, _⟩ => ⟨S8192x11008, .bf16⟩
  | .hbm, ⟨4, _⟩ => ⟨S16x11008, .bf16⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1024x256, .bf16⟩
  | .local _ .vmem, ⟨8, _⟩ => ⟨S1024x256, .bf16⟩
  | .local _ .vmem, ⟨9, _⟩ => ⟨S16x256, .bf16⟩
  | .local _ .vmem, ⟨10, _⟩ => ⟨S16x256, .bf16⟩
  | .local _ .vmem, ⟨11, _⟩ => ⟨S4096x256, .bf16⟩
  | .local _ .vmem, ⟨12, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![43, 9], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x4096 : Shape := ⟨2, ![8192, 4096]⟩
abbrev S16x4096 : Shape := ⟨2, ![16, 4096]⟩
abbrev S4x4096x22016 : Shape := ⟨3, ![4, 4096, 22016]⟩
abbrev S1x4096x22016 : Shape := ⟨3, ![1, 4096, 22016]⟩
abbrev S4096x22016 : Shape := ⟨2, ![4096, 22016]⟩
abbrev S8192x22016 : Shape := ⟨2, ![8192, 22016]⟩
abbrev S8192x11008 : Shape := ⟨2, ![8192, 11008]⟩
abbrev S_ : Shape := ⟨0, ![]⟩
abbrev S16x22016 : Shape := ⟨2, ![16, 22016]⟩
abbrev S16x11008 : Shape := ⟨2, ![16, 11008]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4x4096x22016, .f32⟩
  | .hbm, ⟨3, _⟩ => ⟨S8192x4096, .f32⟩
  | .hbm, ⟨4, _⟩ => ⟨S1x4096x22016, .f32⟩
  | .hbm, ⟨5, _⟩ => ⟨S4096x22016, .f32⟩
  | .hbm, ⟨6, _⟩ => ⟨S8192x22016, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | .hbm, ⟨20, _⟩ => ⟨S16x4096, .f32⟩
  | .hbm, ⟨21, _⟩ => ⟨S1x4096x22016, .f32⟩
  | .hbm, ⟨22, _⟩ => ⟨S4096x22016, .f32⟩
  | .hbm, ⟨23, _⟩ => ⟨S16x22016, .f32⟩
  | .hbm, ⟨24, _⟩ => ⟨S16x11008, .f32⟩
  | .hbm, ⟨25, _⟩ => ⟨S16x11008, .f32⟩
  | .hbm, ⟨26, _⟩ => ⟨S16x11008, .f32⟩
  | .hbm, ⟨27, _⟩ => ⟨S16x11008, .f32⟩
  | .hbm, ⟨28, _⟩ => ⟨S_, .f32⟩
  | .hbm, ⟨29, _⟩ => ⟨S16x11008, .f32⟩
  | .hbm, ⟨30, _⟩ => ⟨S16x11008, .f32⟩
  | .hbm, ⟨31, _⟩ => ⟨S_, .f32⟩
  | .hbm, ⟨32, _⟩ => ⟨S16x11008, .f32⟩
  | .hbm, ⟨33, _⟩ => ⟨S16x11008, .f32⟩
  | .hbm, ⟨34, _⟩ => ⟨S16x11008, .f32⟩
  | .hbm, ⟨35, _⟩ => ⟨S16x11008, .f32⟩
  | .hbm, ⟨36, _⟩ => ⟨S16x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel3.lean ====
abbrev S8192x11008 : Shape := ⟨2, ![8192, 11008]⟩
abbrev S16x11008 : Shape := ⟨2, ![16, 11008]⟩
abbrev S11008x4096 : Shape := ⟨2, ![11008, 4096]⟩
abbrev S8192x4096 : Shape := ⟨2, ![8192, 4096]⟩
abbrev S16x4096 : Shape := ⟨2, ![16, 4096]⟩
abbrev S512x11008 : Shape := ⟨2, ![512, 11008]⟩
abbrev S11008x512 : Shape := ⟨2, ![11008, 512]⟩
abbrev S512x512 : Shape := ⟨2, ![512, 512]⟩
abbrev S16x512 : Shape := ⟨2, ![16, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x11008, .bf16⟩
  | .hbm, ⟨1, _⟩ => ⟨S16x11008, .bf16⟩
  | .hbm, ⟨2, _⟩ => ⟨S11008x4096, .bf16⟩
  | .hbm, ⟨3, _⟩ => ⟨S8192x4096, .f32⟩
  | .hbm, ⟨4, _⟩ => ⟨S16x4096, .f32⟩
  | .hbm, ⟨5, _⟩ => ⟨S8192x4096, .f32⟩
  | .hbm, ⟨6, _⟩ => ⟨S16x4096, .f32⟩
  | .local _ .vmem, ⟨0, _⟩ => ⟨S512x11008, .bf16⟩
  | .local _ .vmem, ⟨1, _⟩ => ⟨S512x11008, .bf16⟩
  | .local _ .vmem, ⟨2, _⟩ => ⟨S16x11008, .bf16⟩
  | .local _ .vmem, ⟨3, _⟩ => ⟨S11008x512, .bf16⟩
  | .local _ .vmem, ⟨4, _⟩ => ⟨S11008x512, .bf16⟩
  | .local _ .vmem, ⟨5, _⟩ => ⟨S512x512, .f32⟩
  | .local _ .vmem, ⟨6, _⟩ => ⟨S512x512, .f32⟩
  | .local _ .vmem, ⟨7, _⟩ => ⟨S16x512, .f32⟩
  | .local _ .vmem, ⟨8, _⟩ => ⟨S16x512, .f32⟩
  | .local _ .vmem, ⟨9, _⟩ => ⟨S512x512, .f32⟩
  | .local _ .vmem, ⟨10, _⟩ => ⟨S512x512, .f32⟩
  | .local _ .vmem, ⟨11, _⟩ => ⟨S16x512, .f32⟩
  | .local _ .vmem, ⟨12, _⟩ => ⟨S16x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .eq arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x11008 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S11008x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x11008 : Shape := ⟨2, ![8192, 11008]⟩
abbrev S16x11008 : Shape := ⟨2, ![16, 11008]⟩
abbrev S11008x4096 : Shape := ⟨2, ![11008, 4096]⟩
abbrev S8192x4096 : Shape := ⟨2, ![8192, 4096]⟩
abbrev S16x4096 : Shape := ⟨2, ![16, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S16x11008, .bf16⟩
  | .hbm, ⟨2, _⟩ => ⟨S11008x4096, .bf16⟩
  | .hbm, ⟨3, _⟩ => ⟨S8192x4096, .f32⟩
  | .hbm, ⟨4, _⟩ => ⟨S16x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x11008, .f32⟩
  | .hbm, ⟨9, _⟩ => ⟨S11008x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S16x4096, .f32⟩
  | .hbm, ⟨14, _⟩ => ⟨S16x4096, .f32⟩
  | .hbm, ⟨15, _⟩ => ⟨S16x11008, .f32⟩
  | .hbm, ⟨16, _⟩ => ⟨S11008x4096, .f32⟩
  | .hbm, ⟨17, _⟩ => ⟨S16x4096, .f32⟩
  | .hbm, ⟨18, _⟩ => ⟨S16x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel4.lean ====
abbrev S8192x4096 : Shape := ⟨2, ![8192, 4096]⟩
abbrev S16x4096 : Shape := ⟨2, ![16, 4096]⟩
abbrev S4096x12288 : Shape := ⟨2, ![4096, 12288]⟩
abbrev S1024x4096 : Shape := ⟨2, ![1024, 4096]⟩
abbrev S4096x1024 : Shape := ⟨2, ![4096, 1024]⟩
abbrev S1024x1024 : Shape := ⟨2, ![1024, 1024]⟩
abbrev S16x1024 : Shape := ⟨2, ![16, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x12288, .bf16⟩
  | .hbm, ⟨3, _⟩ => ⟨S8192x4096, .f32⟩
  | .hbm, ⟨4, _⟩ => ⟨S8192x4096, .bf16⟩
  | .hbm, ⟨5, _⟩ => ⟨S16x4096, .f32⟩
  | .hbm, ⟨6, _⟩ => ⟨S16x4096, .bf16⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S16x1024, .f32⟩
  | .local _ .vmem, ⟨10, _⟩ => ⟨S16x1024, .f32⟩
  | .local _ .vmem, ⟨11, _⟩ => ⟨S16x1024, .bf16⟩
  | .local _ .vmem, ⟨12, _⟩ => ⟨S16x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x4096 : Shape := ⟨2, ![8192, 4096]⟩
abbrev S16x4096 : Shape := ⟨2, ![16, 4096]⟩
abbrev S4096x12288 : Shape := ⟨2, ![4096, 12288]⟩
abbrev S8192x12288 : Shape := ⟨2, ![8192, 12288]⟩
abbrev S8192x3x32x128 : Shape := ⟨4, ![8192, 3, 32, 128]⟩
abbrev S8192x1x32x128 : Shape := ⟨4, ![8192, 1, 32, 128]⟩
abbrev S8192x32x128 : Shape := ⟨3, ![8192, 32, 128]⟩
abbrev S16x12288 : Shape := ⟨2, ![16, 12288]⟩
abbrev S16x3x32x128 : Shape := ⟨4, ![16, 3, 32, 128]⟩
abbrev S16x1x32x128 : Shape := ⟨4, ![16, 1, 32, 128]⟩
abbrev S16x32x128 : Shape := ⟨3, ![16, 32, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x3x32x128, .f32⟩
  | .hbm, ⟨7, _⟩ => ⟨S8192x1x32x128, .f32⟩
  | .hbm, ⟨8, _⟩ => ⟨S8192x32x128, .f32⟩
  | .hbm, ⟨9, _⟩ => ⟨S8192x4096, .f32⟩
  | .hbm, ⟨10, _⟩ => ⟨S16x4096, .f32⟩
  | .hbm, ⟨11, _⟩ => ⟨S4096x12288, .f32⟩
  | .hbm, ⟨12, _⟩ => ⟨S16x12288, .f32⟩
  | .hbm, ⟨13, _⟩ => ⟨S16x3x32x128, .f32⟩
  | .hbm, ⟨14, _⟩ => ⟨S16x1x32x128, .f32⟩
  | .hbm, ⟨15, _⟩ => ⟨S16x32x128, .f32⟩
  | .hbm, ⟨16, _⟩ => ⟨S16x4096, .f32⟩
  | .hbm, ⟨17, _⟩ => ⟨S8192x4096, .bf16⟩
  | .hbm, ⟨18, _⟩ => ⟨S16x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S8192x4096 : Shape := ⟨2, ![8192, 4096]⟩
abbrev S16x4096 : Shape := ⟨2, ![16, 4096]⟩
abbrev S4096x12288 : Shape := ⟨2, ![4096, 12288]⟩
abbrev S1024x4096 : Shape := ⟨2, ![1024, 4096]⟩
abbrev S4096x1024 : Shape := ⟨2, ![4096, 1024]⟩
abbrev S1024x1024 : Shape := ⟨2, ![1024, 1024]⟩
abbrev S16x1024 : Shape := ⟨2, ![16, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x12288, .bf16⟩
  | .hbm, ⟨3, _⟩ => ⟨S8192x4096, .f32⟩
  | .hbm, ⟨4, _⟩ => ⟨S8192x4096, .bf16⟩
  | .hbm, ⟨5, _⟩ => ⟨S16x4096, .f32⟩
  | .hbm, ⟨6, _⟩ => ⟨S16x4096, .bf16⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S16x1024, .f32⟩
  | .local _ .vmem, ⟨10, _⟩ => ⟨S16x1024, .f32⟩
  | .local _ .vmem, ⟨11, _⟩ => ⟨S16x1024, .bf16⟩
  | .local _ .vmem, ⟨12, _⟩ => ⟨S16x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S8192x4096 : Shape := ⟨2, ![8192, 4096]⟩
abbrev S16x4096 : Shape := ⟨2, ![16, 4096]⟩
abbrev S4096x12288 : Shape := ⟨2, ![4096, 12288]⟩
abbrev S8192x12288 : Shape := ⟨2, ![8192, 12288]⟩
abbrev S8192x3x32x128 : Shape := ⟨4, ![8192, 3, 32, 128]⟩
abbrev S8192x1x32x128 : Shape := ⟨4, ![8192, 1, 32, 128]⟩
abbrev S8192x32x128 : Shape := ⟨3, ![8192, 32, 128]⟩
abbrev S16x12288 : Shape := ⟨2, ![16, 12288]⟩
abbrev S16x3x32x128 : Shape := ⟨4, ![16, 3, 32, 128]⟩
abbrev S16x1x32x128 : Shape := ⟨4, ![16, 1, 32, 128]⟩
abbrev S16x32x128 : Shape := ⟨3, ![16, 32, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x3x32x128, .f32⟩
  | .hbm, ⟨7, _⟩ => ⟨S8192x1x32x128, .f32⟩
  | .hbm, ⟨8, _⟩ => ⟨S8192x32x128, .f32⟩
  | .hbm, ⟨9, _⟩ => ⟨S8192x4096, .f32⟩
  | .hbm, ⟨10, _⟩ => ⟨S16x4096, .f32⟩
  | .hbm, ⟨11, _⟩ => ⟨S4096x12288, .f32⟩
  | .hbm, ⟨12, _⟩ => ⟨S16x12288, .f32⟩
  | .hbm, ⟨13, _⟩ => ⟨S16x3x32x128, .f32⟩
  | .hbm, ⟨14, _⟩ => ⟨S16x1x32x128, .f32⟩
  | .hbm, ⟨15, _⟩ => ⟨S16x32x128, .f32⟩
  | .hbm, ⟨16, _⟩ => ⟨S16x4096, .f32⟩
  | .hbm, ⟨17, _⟩ => ⟨S8192x4096, .bf16⟩
  | .hbm, ⟨18, _⟩ => ⟨S16x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S8192x4096 : Shape := ⟨2, ![8192, 4096]⟩
abbrev S16x4096 : Shape := ⟨2, ![16, 4096]⟩
abbrev S4096x12288 : Shape := ⟨2, ![4096, 12288]⟩
abbrev S1024x4096 : Shape := ⟨2, ![1024, 4096]⟩
abbrev S4096x1024 : Shape := ⟨2, ![4096, 1024]⟩
abbrev S1024x1024 : Shape := ⟨2, ![1024, 1024]⟩
abbrev S16x1024 : Shape := ⟨2, ![16, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x12288, .bf16⟩
  | .hbm, ⟨3, _⟩ => ⟨S8192x4096, .f32⟩
  | .hbm, ⟨4, _⟩ => ⟨S8192x4096, .bf16⟩
  | .hbm, ⟨5, _⟩ => ⟨S16x4096, .f32⟩
  | .hbm, ⟨6, _⟩ => ⟨S16x4096, .bf16⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S16x1024, .f32⟩
  | .local _ .vmem, ⟨10, _⟩ => ⟨S16x1024, .f32⟩
  | .local _ .vmem, ⟨11, _⟩ => ⟨S16x1024, .bf16⟩
  | .local _ .vmem, ⟨12, _⟩ => ⟨S16x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8192x4096 : Shape := ⟨2, ![8192, 4096]⟩
abbrev S16x4096 : Shape := ⟨2, ![16, 4096]⟩
abbrev S4096x12288 : Shape := ⟨2, ![4096, 12288]⟩
abbrev S8192x12288 : Shape := ⟨2, ![8192, 12288]⟩
abbrev S8192x3x32x128 : Shape := ⟨4, ![8192, 3, 32, 128]⟩
abbrev S8192x1x32x128 : Shape := ⟨4, ![8192, 1, 32, 128]⟩
abbrev S8192x32x128 : Shape := ⟨3, ![8192, 32, 128]⟩
abbrev S16x12288 : Shape := ⟨2, ![16, 12288]⟩
abbrev S16x3x32x128 : Shape := ⟨4, ![16, 3, 32, 128]⟩
abbrev S16x1x32x128 : Shape := ⟨4, ![16, 1, 32, 128]⟩
abbrev S16x32x128 : Shape := ⟨3, ![16, 32, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x3x32x128, .f32⟩
  | .hbm, ⟨7, _⟩ => ⟨S8192x1x32x128, .f32⟩
  | .hbm, ⟨8, _⟩ => ⟨S8192x32x128, .f32⟩
  | .hbm, ⟨9, _⟩ => ⟨S8192x4096, .f32⟩
  | .hbm, ⟨10, _⟩ => ⟨S16x4096, .f32⟩
  | .hbm, ⟨11, _⟩ => ⟨S4096x12288, .f32⟩
  | .hbm, ⟨12, _⟩ => ⟨S16x12288, .f32⟩
  | .hbm, ⟨13, _⟩ => ⟨S16x3x32x128, .f32⟩
  | .hbm, ⟨14, _⟩ => ⟨S16x1x32x128, .f32⟩
  | .hbm, ⟨15, _⟩ => ⟨S16x32x128, .f32⟩
  | .hbm, ⟨16, _⟩ => ⟨S16x4096, .f32⟩
  | .hbm, ⟨17, _⟩ => ⟨S8192x4096, .bf16⟩
  | .hbm, ⟨18, _⟩ => ⟨S16x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel7.lean ====
abbrev S8192x4096 : Shape := ⟨2, ![8192, 4096]⟩
abbrev S16x4096 : Shape := ⟨2, ![16, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S16x512 : Shape := ⟨2, ![16, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x4096, .bf16⟩
  | .hbm, ⟨3, _⟩ => ⟨S8192x4096, .f32⟩
  | .hbm, ⟨4, _⟩ => ⟨S16x4096, .f32⟩
  | .hbm, ⟨5, _⟩ => ⟨S8192x4096, .f32⟩
  | .hbm, ⟨6, _⟩ => ⟨S16x4096, .f32⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S4096x512, .bf16⟩
  | .local _ .vmem, ⟨4, _⟩ => ⟨S4096x512, .bf16⟩
  | .local _ .vmem, ⟨5, _⟩ => ⟨S1024x512, .f32⟩
  | .local _ .vmem, ⟨6, _⟩ => ⟨S1024x512, .f32⟩
  | .local _ .vmem, ⟨7, _⟩ => ⟨S16x512, .f32⟩
  | .local _ .vmem, ⟨8, _⟩ => ⟨S16x512, .f32⟩
  | .local _ .vmem, ⟨9, _⟩ => ⟨S1024x512, .f32⟩
  | .local _ .vmem, ⟨10, _⟩ => ⟨S1024x512, .f32⟩
  | .local _ .vmem, ⟨11, _⟩ => ⟨S16x512, .f32⟩
  | .local _ .vmem, ⟨12, _⟩ => ⟨S16x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S8192x4096 : Shape := ⟨2, ![8192, 4096]⟩
abbrev S16x4096 : Shape := ⟨2, ![16, 4096]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x4096, .bf16⟩
  | .hbm, ⟨3, _⟩ => ⟨S8192x4096, .f32⟩
  | .hbm, ⟨4, _⟩ => ⟨S16x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S4096x4096, .f32⟩
  | .hbm, ⟨17, _⟩ => ⟨S16x4096, .f32⟩
  | .hbm, ⟨18, _⟩ => ⟨S16x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel8.lean ====
abbrev S8192x1280 : Shape := ⟨2, ![8192, 1280]⟩
abbrev S16x1280 : Shape := ⟨2, ![16, 1280]⟩
abbrev S1280x4096 : Shape := ⟨2, ![1280, 4096]⟩
abbrev S8192x4096 : Shape := ⟨2, ![8192, 4096]⟩
abbrev S16x4096 : Shape := ⟨2, ![16, 4096]⟩
abbrev S1024x1280 : Shape := ⟨2, ![1024, 1280]⟩
abbrev S1280x1024 : Shape := ⟨2, ![1280, 1024]⟩
abbrev S1024x1024 : Shape := ⟨2, ![1024, 1024]⟩
abbrev S16x1024 : Shape := ⟨2, ![16, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x1280, .bf16⟩
  | .hbm, ⟨1, _⟩ => ⟨S16x1280, .bf16⟩
  | .hbm, ⟨2, _⟩ => ⟨S1280x4096, .bf16⟩
  | .hbm, ⟨3, _⟩ => ⟨S8192x4096, .f32⟩
  | .hbm, ⟨4, _⟩ => ⟨S16x4096, .f32⟩
  | .hbm, ⟨5, _⟩ => ⟨S8192x4096, .f32⟩
  | .hbm, ⟨6, _⟩ => ⟨S16x4096, .f32⟩
  | .local _ .vmem, ⟨0, _⟩ => ⟨S1024x1280, .bf16⟩
  | .local _ .vmem, ⟨1, _⟩ => ⟨S1024x1280, .bf16⟩
  | .local _ .vmem, ⟨2, _⟩ => ⟨S16x1280, .bf16⟩
  | .local _ .vmem, ⟨3, _⟩ => ⟨S1280x1024, .bf16⟩
  | .local _ .vmem, ⟨4, _⟩ => ⟨S1280x1024, .bf16⟩
  | .local _ .vmem, ⟨5, _⟩ => ⟨S1024x1024, .f32⟩
  | .local _ .vmem, ⟨6, _⟩ => ⟨S1024x1024, .f32⟩
  | .local _ .vmem, ⟨7, _⟩ => ⟨S16x1024, .f32⟩
  | .local _ .vmem, ⟨8, _⟩ => ⟨S16x1024, .f32⟩
  | .local _ .vmem, ⟨9, _⟩ => ⟨S1024x1024, .f32⟩
  | .local _ .vmem, ⟨10, _⟩ => ⟨S1024x1024, .f32⟩
  | .local _ .vmem, ⟨11, _⟩ => ⟨S16x1024, .f32⟩
  | .local _ .vmem, ⟨12, _⟩ => ⟨S16x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S8192x1280 : Shape := ⟨2, ![8192, 1280]⟩
abbrev S16x1280 : Shape := ⟨2, ![16, 1280]⟩
abbrev S1280x4096 : Shape := ⟨2, ![1280, 4096]⟩
abbrev S8192x4096 : Shape := ⟨2, ![8192, 4096]⟩
abbrev S16x4096 : Shape := ⟨2, ![16, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S16x1280, .bf16⟩
  | .hbm, ⟨2, _⟩ => ⟨S1280x4096, .bf16⟩
  | .hbm, ⟨3, _⟩ => ⟨S8192x4096, .f32⟩
  | .hbm, ⟨4, _⟩ => ⟨S16x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x1280, .f32⟩
  | .hbm, ⟨9, _⟩ => ⟨S1280x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S16x4096, .f32⟩
  | .hbm, ⟨14, _⟩ => ⟨S16x4096, .f32⟩
  | .hbm, ⟨15, _⟩ => ⟨S16x1280, .f32⟩
  | .hbm, ⟨16, _⟩ => ⟨S1280x4096, .f32⟩
  | .hbm, ⟨17, _⟩ => ⟨S16x4096, .f32⟩
  | .hbm, ⟨18, _⟩ => ⟨S16x4096, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel9.lean ====
abbrev S8192x4096 : Shape := ⟨2, ![8192, 4096]⟩
abbrev S16x4096 : Shape := ⟨2, ![16, 4096]⟩
abbrev S4096x11520 : Shape := ⟨2, ![4096, 11520]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S16x1 : Shape := ⟨2, ![16, 1]⟩
abbrev S16x16 : Shape := ⟨2, ![16, 16]⟩
abbrev S16x96 : Shape := ⟨2, ![16, 96]⟩
abbrev S16x128 : Shape := ⟨2, ![16, 128]⟩
abbrev S16x112 : Shape := ⟨2, ![16, 112]⟩
abbrev S8192x11520 : Shape := ⟨2, ![8192, 11520]⟩
abbrev S16x11520 : Shape := ⟨2, ![16, 11520]⟩
abbrev S1024x4096 : Shape := ⟨2, ![1024, 4096]⟩
abbrev S4096x768 : Shape := ⟨2, ![4096, 768]⟩
abbrev S1024x128 : Shape := ⟨2, ![1024, 128]⟩
abbrev S1024x768 : Shape := ⟨2, ![1024, 768]⟩
abbrev S16x768 : Shape := ⟨2, ![16, 768]⟩

abbrev nBuf : Space → Nat
  | .hbm => 67
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x11520, .bf16⟩
  | .hbm, ⟨3, _⟩ => ⟨S2048, .i32⟩
  | .hbm, ⟨4, _⟩ => ⟨S1x2048, .i32⟩
  | .hbm, ⟨5, _⟩ => ⟨S4x2048, .i32⟩
  | .hbm, ⟨6, _⟩ => ⟨S8192, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8192, .f32⟩
  | .hbm, ⟨16, _⟩ => ⟨S8192x1, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x96, .f32⟩
  | .hbm, ⟨25, _⟩ => ⟨S8192x128, .f32⟩
  | .hbm, ⟨26, _⟩ => ⟨S_, .f32⟩
  | .hbm, ⟨27, _⟩ => ⟨S8192x16, .f32⟩
  | .hbm, ⟨28, _⟩ => ⟨S_, .f32⟩
  | .hbm, ⟨29, _⟩ => ⟨S8192x96, .f32⟩
  | .hbm, ⟨30, _⟩ => ⟨S8192x128, .f32⟩
  | .hbm, ⟨31, _⟩ => ⟨S8192x16, .f32⟩
  | .hbm, ⟨32, _⟩ => ⟨S_, .f32⟩
  | .hbm, ⟨33, _⟩ => ⟨S8192x112, .f32⟩
  | .hbm, ⟨34, _⟩ => ⟨S8192x128, .f32⟩
  | .hbm, ⟨35, _⟩ => ⟨S_, .i32⟩
  | .hbm, ⟨36, _⟩ => ⟨S16, .i32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S16x1, .f32⟩
  | .hbm, ⟨47, _⟩ => ⟨S1x16, .f32⟩
  | .hbm, ⟨48, _⟩ => ⟨S16x16, .f32⟩
  | .hbm, ⟨49, _⟩ => ⟨S16x16, .f32⟩
  | .hbm, ⟨50, _⟩ => ⟨S16x16, .f32⟩
  | .hbm, ⟨51, _⟩ => ⟨S16x16, .f32⟩
  | .hbm, ⟨52, _⟩ => ⟨S16x16, .f32⟩
  | .hbm, ⟨53, _⟩ => ⟨S_, .f32⟩
  | .hbm, ⟨54, _⟩ => ⟨S16x96, .f32⟩
  | .hbm, ⟨55, _⟩ => ⟨S16x128, .f32⟩
  | .hbm, ⟨56, _⟩ => ⟨S_, .f32⟩
  | .hbm, ⟨57, _⟩ => ⟨S16x16, .f32⟩
  | .hbm, ⟨58, _⟩ => ⟨S_, .f32⟩
  | .hbm, ⟨59, _⟩ => ⟨S16x96, .f32⟩
  | .hbm, ⟨60, _⟩ => ⟨S16x128, .f32⟩
  | .hbm, ⟨61, _⟩ => ⟨S16x16, .f32⟩
  | .hbm, ⟨62, _⟩ => ⟨S_, .f32⟩
  | .hbm, ⟨63, _⟩ => ⟨S16x112, .f32⟩
  | .hbm, ⟨64, _⟩ => ⟨S16x128, .f32⟩
  | .hbm, ⟨65, _⟩ => ⟨S8192x11520, .f32⟩
  | .hbm, ⟨66, _⟩ => ⟨S16x11520, .f32⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S4096x768, .bf16⟩
  | .local _ .vmem, ⟨4, _⟩ => ⟨S4096x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S1024x768, .f32⟩
  | .local _ .vmem, ⟨15, _⟩ => ⟨S1024x768, .f32⟩
  | .local _ .vmem, ⟨16, _⟩ => ⟨S16x768, .f32⟩
  | .local _ .vmem, ⟨17, _⟩ => ⟨S16x768, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![15, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c10_i32 : BitVec 32 := 10#32
  let v9 : BitVec 1 := Scalar.cmpi .slt arg0 c10_i32
  let v10 : BitVec 32 := Scalar.extui v9
  let c0_i32_5 : BitVec 32 := 0#32
  let v11 : BitVec 1 := Scalar.cmpi .ne v10 c0_i32_5
  v11

def k0_cond3 (i : grid0.Coords) : BitVec 1 :=
  let arg0 : BitVec 32 := BitVec.ofNat 32 (i 0).val
  let c10_i32_6 : BitVec 32 := 10#32
  let v12 : BitVec 1 := Scalar.cmpi .sge arg0 c10_i32_6
  let v13 : BitVec 32 := Scalar.extui v12
  let c0_i32_7 : BitVec 32 := 0#32
  let v14 : BitVec 1 := Scalar.cmpi .ne v13 c0_i32_7
  v14

def k0_cond4 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg0 : BitVec 32 := BitVec.ofNat 32 (i 0).val
  let c10_i32 : BitVec 32 := 10#32
  let v9 : BitVec 1 := Scalar.cmpi .slt arg0 c10_i32
  let v10 : BitVec 32 := Scalar.extui v9
  let c0_i32_5 : BitVec 32 := 0#32
  let v11 : BitVec 1 := Scalar.cmpi .ne v10 c0_i32_5
  v11

def k0_cond6 (i : grid0.Coords) : BitVec 1 :=
  let arg0 : BitVec 32 := BitVec.ofNat 32 (i 0).val
  let c10_i32_6 : BitVec 32 := 10#32
  let v12 : BitVec 1 := Scalar.cmpi .sge arg0 c10_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference9Ideal.lean ====
abbrev S8192x4096 : Shape := ⟨2, ![8192, 4096]⟩
abbrev S16x4096 : Shape := ⟨2, ![16, 4096]⟩
abbrev S4096x11520 : Shape := ⟨2, ![4096, 11520]⟩
abbrev S2048 : Shape := ⟨1, ![2048]⟩
abbrev S4x2048x4096 : Shape := ⟨3, ![4, 2048, 4096]⟩
abbrev S4x2048x11520 : Shape := ⟨3, ![4, 2048, 11520]⟩
abbrev S4x2048x3x30x128 : Shape := ⟨5, ![4, 2048, 3, 30, 128]⟩
abbrev S4x2048x2x30x128 : Shape := ⟨5, ![4, 2048, 2, 30, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x1x1x16 : Shape := ⟨5, ![1, 2048, 1, 1, 16]⟩
abbrev S4x2048x2x30x32 : Shape := ⟨5, ![4, 2048, 2, 30, 32]⟩
abbrev S4x2048x2x30x16 : Shape := ⟨5, ![4, 2048, 2, 30, 16]⟩
abbrev S4x2048x2x30x96 : Shape := ⟨5, ![4, 2048, 2, 30, 96]⟩
abbrev S4x2048x1x30x128 : Shape := ⟨5, ![4, 2048, 1, 30, 128]⟩
abbrev S8192x11520 : Shape := ⟨2, ![8192, 11520]⟩
abbrev S1 : Shape := ⟨1, ![1]⟩
abbrev S16x1x4096 : Shape := ⟨3, ![16, 1, 4096]⟩
abbrev S16x1x11520 : Shape := ⟨3, ![16, 1, 11520]⟩
abbrev S16x1x3x30x128 : Shape := ⟨5, ![16, 1, 3, 30, 128]⟩
abbrev S16x1x2x30x128 : Shape := ⟨5, ![16, 1, 2, 30, 128]⟩
abbrev S1x1 : Shape := ⟨2, ![1, 1]⟩
abbrev S1x1x1x1x16 : Shape := ⟨5, ![1, 1, 1, 1, 16]⟩
abbrev S16x1x2x30x32 : Shape := ⟨5, ![16, 1, 2, 30, 32]⟩
abbrev S16x1x2x30x16 : Shape := ⟨5, ![16, 1, 2, 30, 16]⟩
abbrev S16x1x2x30x96 : Shape := ⟨5, ![16, 1, 2, 30, 96]⟩
abbrev S16x1x1x30x128 : Shape := ⟨5, ![16, 1, 1, 30, 128]⟩
abbrev S16x11520 : Shape := ⟨2, ![16, 11520]⟩

abbrev nBuf : Space → Nat
  | .hbm => 93
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16x4096, .bf16⟩
  | .hbm, ⟨2, _⟩ => ⟨S4096x11520, .bf16⟩
  | .hbm, ⟨3, _⟩ => ⟨S2048, .i32⟩
  | .hbm, ⟨4, _⟩ => ⟨S8192x4096, .f32⟩
  | .hbm, ⟨5, _⟩ => ⟨S4x2048x4096, .f32⟩
  | .hbm, ⟨6, _⟩ => ⟨S4096x11520, .f32⟩
  | .hbm, ⟨7, _⟩ => ⟨S4x2048x11520, .f32⟩
  | .hbm, ⟨8, _⟩ => ⟨S4x2048x3x30x128, .f32⟩
  | .hbm, ⟨9, _⟩ => ⟨S4x2048x2x30x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048, .f32⟩
  | .hbm, ⟨19, _⟩ => ⟨S2048x1, .f32⟩
  | .hbm, ⟨20, _⟩ => ⟨S1x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x1x16, .f32⟩
  | .hbm, ⟨26, _⟩ => ⟨S2048x16, .f32⟩
  | .hbm, ⟨27, _⟩ => ⟨S1x2048x1x1x16, .f32⟩
  | .hbm, ⟨28, _⟩ => ⟨S4x2048x2x30x32, .f32⟩
  | .hbm, ⟨29, _⟩ => ⟨S4x2048x2x30x16, .f32⟩
  | .hbm, ⟨30, _⟩ => ⟨S4x2048x2x30x16, .f32⟩
  | .hbm, ⟨31, _⟩ => ⟨S4x2048x2x30x16, .f32⟩
  | .hbm, ⟨32, _⟩ => ⟨S4x2048x2x30x16, .f32⟩
  | .hbm, ⟨33, _⟩ => ⟨S4x2048x2x30x16, .f32⟩
  | .hbm, ⟨34, _⟩ => ⟨S4x2048x2x30x16, .f32⟩
  | .hbm, ⟨35, _⟩ => ⟨S4x2048x2x30x16, .f32⟩
  | .hbm, ⟨36, _⟩ => ⟨S4x2048x2x30x16, .f32⟩
  | .hbm, ⟨37, _⟩ => ⟨S4x2048x2x30x16, .f32⟩
  | .hbm, ⟨38, _⟩ => ⟨S4x2048x2x30x16, .f32⟩
  | .hbm, ⟨39, _⟩ => ⟨S4x2048x2x30x16, .f32⟩
  | .hbm, ⟨40, _⟩ => ⟨S4x2048x2x30x16, .f32⟩
  | .hbm, ⟨41, _⟩ => ⟨S4x2048x2x30x32, .f32⟩
  | .hbm, ⟨42, _⟩ => ⟨S4x2048x2x30x96, .f32⟩
  | .hbm, ⟨43, _⟩ => ⟨S4x2048x2x30x128, .f32⟩
  | .hbm, ⟨44, _⟩ => ⟨S4x2048x1x30x128, .f32⟩
  | .hbm, ⟨45, _⟩ => ⟨S4x2048x3x30x128, .f32⟩
  | .hbm, ⟨46, _⟩ => ⟨S8192x11520, .f32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S16x4096, .f32⟩
  | .hbm, ⟨52, _⟩ => ⟨S16x1x4096, .f32⟩
  | .hbm, ⟨53, _⟩ => ⟨S4096x11520, .f32⟩
  | .hbm, ⟨54, _⟩ => ⟨S16x1x11520, .f32⟩
  | .hbm, ⟨55, _⟩ => ⟨S16x1x3x30x128, .f32⟩
  | .hbm, ⟨56, _⟩ => ⟨S16x1x2x30x128, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S1, .f32⟩
  | .hbm, ⟨66, _⟩ => ⟨S1x1, .f32⟩
  | .hbm, ⟨67, _⟩ => ⟨S1x16, .f32⟩
  | .hbm, ⟨68, _⟩ => ⟨S1x16, .f32⟩
  | .hbm, ⟨69, _⟩ => ⟨S1x16, .f32⟩
  | .hbm, ⟨70, _⟩ => ⟨S1x16, .f32⟩
  | .hbm, ⟨71, _⟩ => ⟨S1x1x1x1x16, .f32⟩
  | .hbm, ⟨72, _⟩ => ⟨S1x16, .f32⟩
  | .hbm, ⟨73, _⟩ => ⟨S1x1x1x1x16, .f32⟩
  | .hbm, ⟨74, _⟩ => ⟨S16x1x2x30x32, .f32⟩
  | .hbm, ⟨75, _⟩ => ⟨S16x1x2x30x16, .f32⟩
  | .hbm, ⟨76, _⟩ => ⟨S16x1x2x30x16, .f32⟩
  | .hbm, ⟨77, _⟩ => ⟨S16x1x2x30x16, .f32⟩
  | .hbm, ⟨78, _⟩ => ⟨S16x1x2x30x16, .f32⟩
  | .hbm, ⟨79, _⟩ => ⟨S16x1x2x30x16, .f32⟩
  | .hbm, ⟨80, _⟩ => ⟨S16x1x2x30x16, .f32⟩
  | .hbm, ⟨81, _⟩ => ⟨S16x1x2x30x16, .f32⟩
  | .hbm, ⟨82, _⟩ => ⟨S16x1x2x30x16, .f32⟩
  | .hbm, ⟨83, _⟩ => ⟨S16x1x2x30x16, .f32⟩
  | .hbm, ⟨84, _⟩ => ⟨S16x1x2x30x16, .f32⟩
  | .hbm, ⟨85, _⟩ => ⟨S16x1x2x30x16, .f32⟩
  | .hbm, ⟨86, _⟩ => ⟨S16x1x2x30x16, .f32⟩
  | .hbm, ⟨87, _⟩ => ⟨S16x1x2x30x32, .f32⟩
  | .hbm, ⟨88, _⟩ => ⟨S16x1x2x30x96, .f32⟩
  | .hbm, ⟨89, _⟩ => ⟨S16x1x2x30x128, .f32⟩
  | .hbm, ⟨90, _⟩ => ⟨S16x1x1x30x128, .f32⟩
  | .hbm, ⟨91, _⟩ => ⟨S16x1x3x30x128, .f32⟩
  | .hbm, ⟨92, _⟩ => ⟨S16x11520, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_1 : Ref sig .tc := ⟨.hbm, 59, rfl⟩
abbrev main_v53 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩

abbrev nD : Nat := 1
abbrev τ : Topo := Topo.v7x

variable {F : FTy → Type} [FloatOps F]
-- ==== Kernel10.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_4 : BitVec 32 := 16#32
  let v5 : BitVec 32 := Scalar.muli arg6 c16_i32_4
  v5
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_4 : BitVec 32 := 16#32
  let v5 : BitVec 32 := Scalar.muli arg6 c16_i32_4
  let v6 : BitVec 32 := v5
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel11.lean ====
abbrev S16x4096 : Shape := ⟨2, ![16, 4096]⟩
abbrev S4096 : Shape := ⟨1, ![4096]⟩
abbrev S1x4096 : Shape := ⟨2, ![1, 4096]⟩
abbrev S16 : Shape := ⟨1, ![16]⟩
abbrev S16x1 : Shape := ⟨2, ![16, 1]⟩

abbrev nBuf : Space → Nat
  | .hbm => 7
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16x4096, .f32⟩
  | .hbm, ⟨6, _⟩ => ⟨S16x4096, .bf16⟩
  | .local _ .vmem, ⟨0, _⟩ => ⟨S16x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .bf16⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c16_i32 : BitVec 32 := 16#32
  let v4 : BitVec 32 := Scalar.muli c0_i32 c16_i32
  v4
def k0_off1 : Fin 2 → Nat :=
  let c0_i32 : BitVec 32 := 0#32
  let c16_i32 : BitVec 32 := 16#32
  let v4 : BitVec 32 := Scalar.muli c0_i32 c16_i32
  let v5 : BitVec 32 := v4
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference11Ideal.lean ====
abbrev S16x4096 : Shape := ⟨2, ![16, 4096]⟩
abbrev S4096 : Shape := ⟨1, ![4096]⟩
abbrev S_ : Shape := ⟨0, ![]⟩
abbrev S16 : Shape := ⟨1, ![16]⟩
abbrev S16x1 : Shape := ⟨2, ![16, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16, .f32⟩
  | .hbm, ⟨5, _⟩ => ⟨S16x1, .f32⟩
  | .hbm, ⟨6, _⟩ => ⟨S_, .f32⟩
  | .hbm, ⟨7, _⟩ => ⟨S16x1, .f32⟩
  | .hbm, ⟨8, _⟩ => ⟨S16x1, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S_, .f32⟩
  | .hbm, ⟨13, _⟩ => ⟨S16, .f32⟩
  | .hbm, ⟨14, _⟩ => ⟨S16x1, .f32⟩
  | .hbm, ⟨15, _⟩ => ⟨S_, .f32⟩
  | .hbm, ⟨16, _⟩ => ⟨S16x1, .f32⟩
  | .hbm, ⟨17, _⟩ => ⟨S16x1, .f32⟩
  | .hbm, ⟨18, _⟩ => ⟨S16x4096, .f32⟩
  | .hbm, ⟨19, _⟩ => ⟨S16x4096, .f32⟩
  | .hbm, ⟨20, _⟩ => ⟨S_, .f32⟩
  | .hbm, ⟨21, _⟩ => ⟨S16x1, .f32⟩
  | .hbm, ⟨22, _⟩ => ⟨S16x1, .f32⟩
  | .hbm, ⟨23, _⟩ => ⟨S16x1, .f32⟩
  | .hbm, ⟨24, _⟩ => ⟨S16x4096, .f32⟩
  | .hbm, ⟨25, _⟩ => ⟨S16x4096, .f32⟩
  | .hbm, ⟨26, _⟩ => ⟨S1x4096, .f32⟩
  | .hbm, ⟨27, _⟩ => ⟨S16x4096, .f32⟩
  | .hbm, ⟨28, _⟩ => ⟨S16x4096, .f32⟩
  | .hbm, ⟨29, _⟩ => ⟨S1x4096, .f32⟩
  | .hbm, ⟨30, _⟩ => ⟨S16x4096, .f32⟩
  | .hbm, ⟨31, _⟩ => ⟨S16x4096, .f32⟩
  | .hbm, ⟨32, _⟩ => ⟨S16x4096, .bf16⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel12.lean ====
abbrev S16x128x2x10x128 : Shape := ⟨5, ![16, 128, 2, 10, 128]⟩
abbrev S16x2x10x128 : Shape := ⟨4, ![16, 2, 10, 128]⟩
abbrev S16x128x10x2x128 : Shape := ⟨5, ![16, 128, 10, 2, 128]⟩
abbrev S40960x128 : Shape := ⟨2, ![40960, 128]⟩
abbrev S16x10x2x128 : Shape := ⟨4, ![16, 10, 2, 128]⟩
abbrev S320x128 : Shape := ⟨2, ![320, 128]⟩
abbrev S16x20x128 : Shape := ⟨3, ![16, 20, 128]⟩
abbrev S_ : Shape := ⟨0, ![]⟩
abbrev S16x24x128 : Shape := ⟨3, ![16, 24, 128]⟩
abbrev S384x128 : Shape := ⟨2, ![384, 128]⟩
abbrev S2560x128 : Shape := ⟨2, ![2560, 128]⟩
abbrev S40x128 : Shape := ⟨2, ![40, 128]⟩
abbrev S24x128 : Shape := ⟨2, ![24, 128]⟩
abbrev S2540x128 : Shape := ⟨2, ![2540, 128]⟩
abbrev S20x128 : Shape := ⟨2, ![20, 128]⟩

abbrev nBuf : Space → Nat
  | .hbm => 12
  | .vmem => 8
  | .smem => 0
  | _ => 0

abbrev bufTy : (tb : Table) → Fin (tcTables nBuf tb) → BufTy
  | .hbm, ⟨0, _⟩ => ⟨S16x128x2x10x128, .f32⟩
  | .hbm, ⟨1, _⟩ => ⟨S16x2x10x128, .f32⟩
  | .hbm, ⟨2, _⟩ => ⟨S16x128x10x2x128, .f32⟩
  | .hbm, ⟨3, _⟩ => ⟨S40960x128, .f32⟩
  | .hbm, ⟨4, _⟩ => ⟨S16x10x2x128, .f32⟩
  | .hbm, ⟨5, _⟩ => ⟨S320x128, .f32⟩
  | .hbm, ⟨6, _⟩ => ⟨S16x20x128, .f32⟩
  | .hbm, ⟨7, _⟩ => ⟨S_, .i32⟩
  | .hbm, ⟨8, _⟩ => ⟨S_, .f32⟩
  | .hbm, ⟨9, _⟩ => ⟨S16x24x128, .f32⟩
  | .hbm, ⟨10, _⟩ => ⟨S384x128, .f32⟩
  | .hbm, ⟨11, _⟩ => ⟨S40960x128, .f32⟩
  | .local _ .vmem, ⟨0, _⟩ => ⟨S2560x128, .f32⟩
  | .local _ .vmem, ⟨1, _⟩ => ⟨S2560x128, .f32⟩
  | .local _ .vmem, ⟨2, _⟩ => ⟨S40x128, .f32⟩
  | .local _ .vmem, ⟨3, _⟩ => ⟨S40x128, .f32⟩
  | .local _ .vmem, ⟨4, _⟩ => ⟨S24x128, .f32⟩
  | .local _ .vmem, ⟨5, _⟩ => ⟨S24x128, .f32⟩
  | .local _ .vmem, ⟨6, _⟩ => ⟨S2560x128, .f32⟩
  | .local _ .vmem, ⟨7, _⟩ => ⟨S2560x128, .f32⟩
  | _, _ => ⟨S16x128x2x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.addi v1 c1_i32_0
  let c64_i32 : BitVec 32 := 64#32
  let v3 : BitVec 32 := Scalar.muli v2 c64_i32
  let c1023_i32 : BitVec 32 := 1023#32
  let v4 : BitVec 32 := Scalar.minsi v3 c1023_i32
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel12Ideal.lean ====
abbrev S16x128x2x10x128 : Shape := ⟨5, ![16, 128, 2, 10, 128]⟩
abbrev S16x2x10x128 : Shape := ⟨4, ![16, 2, 10, 128]⟩
abbrev S16x128x10x2x128 : Shape := ⟨5, ![16, 128, 10, 2, 128]⟩
abbrev S40960x128 : Shape := ⟨2, ![40960, 128]⟩
abbrev S16x10x2x128 : Shape := ⟨4, ![16, 10, 2, 128]⟩
abbrev S320x128 : Shape := ⟨2, ![320, 128]⟩
abbrev S16x20x128 : Shape := ⟨3, ![16, 20, 128]⟩
abbrev S_ : Shape := ⟨0, ![]⟩
abbrev S16x24x128 : Shape := ⟨3, ![16, 24, 128]⟩
abbrev S384x128 : Shape := ⟨2, ![384, 128]⟩
abbrev S2560x128 : Shape := ⟨2, ![2560, 128]⟩
abbrev S40x128 : Shape := ⟨2, ![40, 128]⟩
abbrev S24x128 : Shape := ⟨2, ![24, 128]⟩
abbrev S2540x128 : Shape := ⟨2, ![2540, 128]⟩
abbrev S20x128 : Shape := ⟨2, ![20, 128]⟩

abbrev nBuf : Space → Nat
  | .hbm => 12
  | .vmem => 8
  | .smem => 0
  | _ => 0

abbrev bufTy : (tb : Table) → Fin (tcTables nBuf tb) → BufTy
  | .hbm, ⟨0, _⟩ => ⟨S16x128x2x10x128, .f32⟩
  | .hbm, ⟨1, _⟩ => ⟨S16x2x10x128, .f32⟩
  | .hbm, ⟨2, _⟩ => ⟨S16x128x10x2x128, .f32⟩
  | .hbm, ⟨3, _⟩ => ⟨S40960x128, .f32⟩
  | .hbm, ⟨4, _⟩ => ⟨S16x10x2x128, .f32⟩
  | .hbm, ⟨5, _⟩ => ⟨S320x128, .f32⟩
  | .hbm, ⟨6, _⟩ => ⟨S16x20x128, .f32⟩
  | .hbm, ⟨7, _⟩ => ⟨S_, .i32⟩
  | .hbm, ⟨8, _⟩ => ⟨S_, .f32⟩
  | .hbm, ⟨9, _⟩ => ⟨S16x24x128, .f32⟩
  | .hbm, ⟨10, _⟩ => ⟨S384x128, .f32⟩
  | .hbm, ⟨11, _⟩ => ⟨S40960x128, .f32⟩
  | .local _ .vmem, ⟨0, _⟩ => ⟨S2560x128, .f32⟩
  | .local _ .vmem, ⟨1, _⟩ => ⟨S2560x128, .f32⟩
  | .local _ .vmem, ⟨2, _⟩ => ⟨S40x128, .f32⟩
  | .local _ .vmem, ⟨3, _⟩ => ⟨S40x128, .f32⟩
  | .local _ .vmem, ⟨4, _⟩ => ⟨S24x128, .f32⟩
  | .local _ .vmem, ⟨5, _⟩ => ⟨S24x128, .f32⟩
  | .local _ .vmem, ⟨6, _⟩ => ⟨S2560x128, .f32⟩
  | .local _ .vmem, ⟨7, _⟩ => ⟨S2560x128, .f32⟩
  | _, _ => ⟨S16x128x2x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.addi v1 c1_i32_0
  let c64_i32 : BitVec 32 := 64#32
  let v3 : BitVec 32 := Scalar.muli v2 c64_i32
  let c1023_i32 : BitVec 32 := 1023#32
  let v4 : BitVec 32 := Scalar.minsi v3 c1023_i32
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16x128x2x10x128 : Shape := ⟨5, ![16, 128, 2, 10, 128]⟩
abbrev S16x2x10x128 : Shape := ⟨4, ![16, 2, 10, 128]⟩
abbrev S16x1x2x10x128 : Shape := ⟨5, ![16, 1, 2, 10, 128]⟩
abbrev S16x129x2x10x128 : Shape := ⟨5, ![16, 129, 2, 10, 128]⟩
abbrev S16x128x10x2x128 : Shape := ⟨5, ![16, 128, 10, 2, 128]⟩
abbrev S40960x128 : Shape := ⟨2, ![40960, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x128x2x10x128, .f32⟩
  | .hbm, ⟨1, _⟩ => ⟨S16x2x10x128, .f32⟩
  | .hbm, ⟨2, _⟩ => ⟨S16x1x2x10x128, .f32⟩
  | .hbm, ⟨3, _⟩ => ⟨S16x129x2x10x128, .f32⟩
  | .hbm, ⟨4, _⟩ => ⟨S16x128x2x10x128, .f32⟩
  | .hbm, ⟨5, _⟩ => ⟨S16x128x10x2x128, .f32⟩
  | .hbm, ⟨6, _⟩ => ⟨S40960x128, .f32⟩
  | _, _ => ⟨S16x128x2x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S16x512x2x10x128 : Shape := ⟨5, ![16, 512, 2, 10, 128]⟩
abbrev S16x2x10x128 : Shape := ⟨4, ![16, 2, 10, 128]⟩
abbrev S16x512x10x2x128 : Shape := ⟨5, ![16, 512, 10, 2, 128]⟩
abbrev S163840x128 : Shape := ⟨2, ![163840, 128]⟩
abbrev S16x10x2x128 : Shape := ⟨4, ![16, 10, 2, 128]⟩
abbrev S320x128 : Shape := ⟨2, ![320, 128]⟩
abbrev S16x20x128 : Shape := ⟨3, ![16, 20, 128]⟩
abbrev S_ : Shape := ⟨0, ![]⟩
abbrev S16x24x128 : Shape := ⟨3, ![16, 24, 128]⟩
abbrev S384x128 : Shape := ⟨2, ![384, 128]⟩
abbrev S2560x128 : Shape := ⟨2, ![2560, 128]⟩
abbrev S40x128 : Shape := ⟨2, ![40, 128]⟩
abbrev S24x128 : Shape := ⟨2, ![24, 128]⟩
abbrev S2540x128 : Shape := ⟨2, ![2540, 128]⟩
abbrev S20x128 : Shape := ⟨2, ![20, 128]⟩

abbrev nBuf : Space → Nat
  | .hbm => 12
  | .vmem => 8
  | .smem => 0
  | _ => 0

abbrev bufTy : (tb : Table) → Fin (tcTables nBuf tb) → BufTy
  | .hbm, ⟨0, _⟩ => ⟨S16x512x2x10x128, .f32⟩
  | .hbm, ⟨1, _⟩ => ⟨S16x2x10x128, .f32⟩
  | .hbm, ⟨2, _⟩ => ⟨S16x512x10x2x128, .f32⟩
  | .hbm, ⟨3, _⟩ => ⟨S163840x128, .f32⟩
  | .hbm, ⟨4, _⟩ => ⟨S16x10x2x128, .f32⟩
  | .hbm, ⟨5, _⟩ => ⟨S320x128, .f32⟩
  | .hbm, ⟨6, _⟩ => ⟨S16x20x128, .f32⟩
  | .hbm, ⟨7, _⟩ => ⟨S_, .i32⟩
  | .hbm, ⟨8, _⟩ => ⟨S_, .f32⟩
  | .hbm, ⟨9, _⟩ => ⟨S16x24x128, .f32⟩
  | .hbm, ⟨10, _⟩ => ⟨S384x128, .f32⟩
  | .hbm, ⟨11, _⟩ => ⟨S163840x128, .f32⟩
  | .local _ .vmem, ⟨0, _⟩ => ⟨S2560x128, .f32⟩
  | .local _ .vmem, ⟨1, _⟩ => ⟨S2560x128, .f32⟩
  | .local _ .vmem, ⟨2, _⟩ => ⟨S40x128, .f32⟩
  | .local _ .vmem, ⟨3, _⟩ => ⟨S40x128, .f32⟩
  | .local _ .vmem, ⟨4, _⟩ => ⟨S24x128, .f32⟩
  | .local _ .vmem, ⟨5, _⟩ => ⟨S24x128, .f32⟩
  | .local _ .vmem, ⟨6, _⟩ => ⟨S2560x128, .f32⟩
  | .local _ .vmem, ⟨7, _⟩ => ⟨S2560x128, .f32⟩
  | _, _ => ⟨S16x512x2x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c4095_i32 : BitVec 32 := 4095#32
  let v4 : BitVec 32 := Scalar.minsi v3 c4095_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel13Ideal.lean ====
abbrev S16x512x2x10x128 : Shape := ⟨5, ![16, 512, 2, 10, 128]⟩
abbrev S16x2x10x128 : Shape := ⟨4, ![16, 2, 10, 128]⟩
abbrev S16x512x10x2x128 : Shape := ⟨5, ![16, 512, 10, 2, 128]⟩
abbrev S163840x128 : Shape := ⟨2, ![163840, 128]⟩
abbrev S16x10x2x128 : Shape := ⟨4, ![16, 10, 2, 128]⟩
abbrev S320x128 : Shape := ⟨2, ![320, 128]⟩
abbrev S16x20x128 : Shape := ⟨3, ![16, 20, 128]⟩
abbrev S_ : Shape := ⟨0, ![]⟩
abbrev S16x24x128 : Shape := ⟨3, ![16, 24, 128]⟩
abbrev S384x128 : Shape := ⟨2, ![384, 128]⟩
abbrev S2560x128 : Shape := ⟨2, ![2560, 128]⟩
abbrev S40x128 : Shape := ⟨2, ![40, 128]⟩
abbrev S24x128 : Shape := ⟨2, ![24, 128]⟩
abbrev S2540x128 : Shape := ⟨2, ![2540, 128]⟩
abbrev S20x128 : Shape := ⟨2, ![20, 128]⟩

abbrev nBuf : Space → Nat
  | .hbm => 12
  | .vmem => 8
  | .smem => 0
  | _ => 0

abbrev bufTy : (tb : Table) → Fin (tcTables nBuf tb) → BufTy
  | .hbm, ⟨0, _⟩ => ⟨S16x512x2x10x128, .f32⟩
  | .hbm, ⟨1, _⟩ => ⟨S16x2x10x128, .f32⟩
  | .hbm, ⟨2, _⟩ => ⟨S16x512x10x2x128, .f32⟩
  | .hbm, ⟨3, _⟩ => ⟨S163840x128, .f32⟩
  | .hbm, ⟨4, _⟩ => ⟨S16x10x2x128, .f32⟩
  | .hbm, ⟨5, _⟩ => ⟨S320x128, .f32⟩
  | .hbm, ⟨6, _⟩ => ⟨S16x20x128, .f32⟩
  | .hbm, ⟨7, _⟩ => ⟨S_, .i32⟩
  | .hbm, ⟨8, _⟩ => ⟨S_, .f32⟩
  | .hbm, ⟨9, _⟩ => ⟨S16x24x128, .f32⟩
  | .hbm, ⟨10, _⟩ => ⟨S384x128, .f32⟩
  | .hbm, ⟨11, _⟩ => ⟨S163840x128, .f32⟩
  | .local _ .vmem, ⟨0, _⟩ => ⟨S2560x128, .f32⟩
  | .local _ .vmem, ⟨1, _⟩ => ⟨S2560x128, .f32⟩
  | .local _ .vmem, ⟨2, _⟩ => ⟨S40x128, .f32⟩
  | .local _ .vmem, ⟨3, _⟩ => ⟨S40x128, .f32⟩
  | .local _ .vmem, ⟨4, _⟩ => ⟨S24x128, .f32⟩
  | .local _ .vmem, ⟨5, _⟩ => ⟨S24x128, .f32⟩
  | .local _ .vmem, ⟨6, _⟩ => ⟨S2560x128, .f32⟩
  | .local _ .vmem, ⟨7, _⟩ => ⟨S2560x128, .f32⟩
  | _, _ => ⟨S16x512x2x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c4095_i32 : BitVec 32 := 4095#32
  let v4 : BitVec 32 := Scalar.minsi v3 c4095_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S16x512x2x10x128 : Shape := ⟨5, ![16, 512, 2, 10, 128]⟩
abbrev S16x2x10x128 : Shape := ⟨4, ![16, 2, 10, 128]⟩
abbrev S16x1x2x10x128 : Shape := ⟨5, ![16, 1, 2, 10, 128]⟩
abbrev S16x513x2x10x128 : Shape := ⟨5, ![16, 513, 2, 10, 128]⟩
abbrev S16x512x10x2x128 : Shape := ⟨5, ![16, 512, 10, 2, 128]⟩
abbrev S163840x128 : Shape := ⟨2, ![163840, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x512x2x10x128, .f32⟩
  | .hbm, ⟨1, _⟩ => ⟨S16x2x10x128, .f32⟩
  | .hbm, ⟨2, _⟩ => ⟨S16x1x2x10x128, .f32⟩
  | .hbm, ⟨3, _⟩ => ⟨S16x513x2x10x128, .f32⟩
  | .hbm, ⟨4, _⟩ => ⟨S16x512x2x10x128, .f32⟩
  | .hbm, ⟨5, _⟩ => ⟨S16x512x10x2x128, .f32⟩
  | .hbm, ⟨6, _⟩ => ⟨S163840x128, .f32⟩
  | _, _ => ⟨S16x512x2x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S16x2048x2x10x128 : Shape := ⟨5, ![16, 2048, 2, 10, 128]⟩
abbrev S16x2x10x128 : Shape := ⟨4, ![16, 2, 10, 128]⟩
abbrev S16x2048x10x2x128 : Shape := ⟨5, ![16, 2048, 10, 2, 128]⟩
abbrev S655360x128 : Shape := ⟨2, ![655360, 128]⟩
abbrev S16x10x2x128 : Shape := ⟨4, ![16, 10, 2, 128]⟩
abbrev S320x128 : Shape := ⟨2, ![320, 128]⟩
abbrev S16x20x128 : Shape := ⟨3, ![16, 20, 128]⟩
abbrev S_ : Shape := ⟨0, ![]⟩
abbrev S16x24x128 : Shape := ⟨3, ![16, 24, 128]⟩
abbrev S384x128 : Shape := ⟨2, ![384, 128]⟩
abbrev S2560x128 : Shape := ⟨2, ![2560, 128]⟩
abbrev S40x128 : Shape := ⟨2, ![40, 128]⟩
abbrev S24x128 : Shape := ⟨2, ![24, 128]⟩
abbrev S2540x128 : Shape := ⟨2, ![2540, 128]⟩
abbrev S20x128 : Shape := ⟨2, ![20, 128]⟩

abbrev nBuf : Space → Nat
  | .hbm => 12
  | .vmem => 8
  | .smem => 0
  | _ => 0

abbrev bufTy : (tb : Table) → Fin (tcTables nBuf tb) → BufTy
  | .hbm, ⟨0, _⟩ => ⟨S16x2048x2x10x128, .f32⟩
  | .hbm, ⟨1, _⟩ => ⟨S16x2x10x128, .f32⟩
  | .hbm, ⟨2, _⟩ => ⟨S16x2048x10x2x128, .f32⟩
  | .hbm, ⟨3, _⟩ => ⟨S655360x128, .f32⟩
  | .hbm, ⟨4, _⟩ => ⟨S16x10x2x128, .f32⟩
  | .hbm, ⟨5, _⟩ => ⟨S320x128, .f32⟩
  | .hbm, ⟨6, _⟩ => ⟨S16x20x128, .f32⟩
  | .hbm, ⟨7, _⟩ => ⟨S_, .i32⟩
  | .hbm, ⟨8, _⟩ => ⟨S_, .f32⟩
  | .hbm, ⟨9, _⟩ => ⟨S16x24x128, .f32⟩
  | .hbm, ⟨10, _⟩ => ⟨S384x128, .f32⟩
  | .hbm, ⟨11, _⟩ => ⟨S655360x128, .f32⟩
  | .local _ .vmem, ⟨0, _⟩ => ⟨S2560x128, .f32⟩
  | .local _ .vmem, ⟨1, _⟩ => ⟨S2560x128, .f32⟩
  | .local _ .vmem, ⟨2, _⟩ => ⟨S40x128, .f32⟩
  | .local _ .vmem, ⟨3, _⟩ => ⟨S40x128, .f32⟩
  | .local _ .vmem, ⟨4, _⟩ => ⟨S24x128, .f32⟩
  | .local _ .vmem, ⟨5, _⟩ => ⟨S24x128, .f32⟩
  | .local _ .vmem, ⟨6, _⟩ => ⟨S2560x128, .f32⟩
  | .local _ .vmem, ⟨7, _⟩ => ⟨S2560x128, .f32⟩
  | _, _ => ⟨S16x2048x2x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c16383_i32 : BitVec 32 := 16383#32
  let v4 : BitVec 32 := Scalar.minsi v3 c16383_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S16x2048x2x10x128 : Shape := ⟨5, ![16, 2048, 2, 10, 128]⟩
abbrev S16x2x10x128 : Shape := ⟨4, ![16, 2, 10, 128]⟩
abbrev S16x1x2x10x128 : Shape := ⟨5, ![16, 1, 2, 10, 128]⟩
abbrev S16x2049x2x10x128 : Shape := ⟨5, ![16, 2049, 2, 10, 128]⟩
abbrev S16x2048x10x2x128 : Shape := ⟨5, ![16, 2048, 10, 2, 128]⟩
abbrev S655360x128 : Shape := ⟨2, ![655360, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x2x10x128, .f32⟩
  | .hbm, ⟨1, _⟩ => ⟨S16x2x10x128, .f32⟩
  | .hbm, ⟨2, _⟩ => ⟨S16x1x2x10x128, .f32⟩
  | .hbm, ⟨3, _⟩ => ⟨S16x2049x2x10x128, .f32⟩
  | .hbm, ⟨4, _⟩ => ⟨S16x2048x2x10x128, .f32⟩
  | .hbm, ⟨5, _⟩ => ⟨S16x2048x10x2x128, .f32⟩
  | .hbm, ⟨6, _⟩ => ⟨S655360x128, .f32⟩
  | _, _ => ⟨S16x2048x2x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.FrameB.lean ====
/- The stick-breaking attention's launch: what one run of the loop over query tiles stores, the body's triple, the
   run of the whole launch naming the output, and the claim that the arguments end unchanged. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One query tile -/

section trip

variable (𝒱 : Variants) (c : Dev nD) (bd : Option 𝒱.V) (i : grid0.Coords)
  (arg2 : Memref sig .tc .smem S32 .f32) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole) (arg1 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)

/-- The buffers a query tile touches: bias, queries, keys and values at their contents, the output at `f`. -/
abbrev Held (f : BufTy.Contents (Elt F) arg6.view.ty) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f))

set_option maxHeartbeats 4000000 in
/-- One query tile: the pieces it stores, whatever the output held. -/
@[irreducible] def trip (k : Fin k0_t1_loop.trips) :
    { L : List (View.Piece (Elt F) S2048x512 .bf16) // ∀ (E : Set ℕ) (acc : Unit) (f : BufTy.Contents (Elt F) arg6.view.ty),
      Held (F := F) c arg2 arg3 arg4 arg5 arg6 X2 X3 X4 X5 f
      ⊢ wp frame (wpE (defs₀ (F := F)) 𝒱 (c : Thread nD τ) bd) E
          (k0_t1_body (F := F) i arg2 harg2 arg3 harg3 arg4 harg4 arg5 harg5 arg6 harg6 arg1 k acc)
          (fun _ => Held (F := F) c arg2 arg3 arg4 arg5 arg6 X2 X3 X4 X5 (arg6.view.writes (Elt F) f L)) } := by
  refine ⟨?_, fun E acc f => ?run⟩
  case run =>
    unfold k0_t1_body
    iintro ⟨H2, H3, H4, H5, H6⟩
    sl_exec
    sl_step
    sl_close

/-- The pieces of one query tile. -/
abbrev tripL (k : Fin k0_t1_loop.trips) : List (View.Piece (Elt F) S2048x512 .bf16) :=
  (trip (F := F) 𝒱 c bd i arg2 harg2 arg3 harg3 arg4 harg4 arg5 harg5 arg6 harg6 arg1 X2 X3 X4 X5 k).1

/-- What tile `k` puts in front of the pieces of the tiles before it. -/
@[irreducible] def pbStep (k : ℕ) (prev : List (View.Piece (Elt F) S2048x512 .bf16)) : List (View.Piece (Elt F) S2048x512 .bf16) :=
  if h : k < k0_t1_loop.trips then
    tripL (F := F) 𝒱 c bd i arg2 harg2 arg3 harg3 arg4 harg4 arg5 harg5 arg6 harg6 arg1 X2 X3 X4 X5 ⟨k, h⟩ ++ prev
  else prev

/-- The pieces of the query tiles before `k`. -/
def pb : ℕ → List (View.Piece (Elt F) S2048x512 .bf16)
  | 0 => []
  | k + 1 => pbStep (F := F) 𝒱 c bd i arg2 harg2 arg3 harg3 arg4 harg4 arg5 harg5 arg6 harg6 arg1 X2 X3 X4 X5 k (pb k)

theorem pb_succ (k : Fin k0_t1_loop.trips) :
    pb (F := F) 𝒱 c bd i arg2 harg2 arg3 harg3 arg4 harg4 arg5 harg5 arg6 harg6 arg1 X2 X3 X4 X5 (k.val + 1)
      = tripL (F := F) 𝒱 c bd i arg2 harg2 arg3 harg3 arg4 harg4 arg5 harg5 arg6 harg6 arg1 X2 X3 X4 X5 k
        ++ pb (F := F) 𝒱 c bd i arg2 harg2 arg3 harg3 arg4 harg4 arg5 harg5 arg6 harg6 arg1 X2 X3 X4 X5 k.val := by
  rw [pb.eq_2]; unfold pbStep; exact dif_pos k.isLt

/-- Before tile `k`: the inputs at their contents and the output at the pieces of the tiles before `k` over `G`. -/
abbrev inv (G : BufTy.Contents (Elt F) arg6.view.ty) (k : ℕ) (acc : Unit) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f)
        ∗ ⌜f = arg6.view.writes (Elt F) G (pb (F := F) 𝒱 c bd i arg2 harg2 arg3 harg3 arg4 harg4 arg5 harg5 arg6 harg6 arg1 X2 X3 X4 X5 k)⌝))

set_option warn.classDefReducibility false in
/-- The loop over query tiles by its invariant. -/
@[sl_loop] def loopInv (E : Set ℕ) (G : BufTy.Contents (Elt F) arg6.view.ty) :
    LoopInvTy_k0_t1 (F := F) Unit ℕ (UR sig nD τ) ℕ 𝒱 c bd E i arg2 harg2 arg3 harg3 arg4 harg4 arg5 harg5 arg6 harg6 arg1 where
  inv := inv (F := F) 𝒱 c bd i arg2 harg2 arg3 harg3 arg4 harg4 arg5 harg5 arg6 harg6 arg1 X2 X3 X4 X5 G
  step k acc := by
    iintro ⟨H2, H3, H4, H5, ⟨%f, H6, %h⟩⟩
    iapply (wp_wand_r Idealize.ShloMosaic.frame (wpE (defs₀ (F := F)) 𝒱 (c : Thread nD τ) bd) E)
    isplitl [H2 H3 H4 H5 H6]
    · iapply ((trip (F := F) 𝒱 c bd i arg2 harg2 arg3 harg3 arg4 harg4 arg5 harg5 arg6 harg6 arg1 X2 X3 X4 X5 k).2 E acc f)
      isplitl [H2]; · iexact H2
      isplitl [H3]; · iexact H3
      isplitl [H4]; · iexact H4
      isplitl [H5]; · iexact H5
      iexact H6
    · iintro %yld ⟨H2, H3, H4, H5, H6⟩
      isplitl [H2]; · iexact H2
      isplitl [H3]; · iexact H3
      isplitl [H4]; · iexact H4
      isplitl [H5]; · iexact H5
      iexists _
      isplitl [H6]; · iexact H6
      ipureintro
      rw [pb_succ, h, ← View.writes_append]

end trip

/-! ## The body -/

set_option maxHeartbeats 1000000 in
/-- The body on whole staging buffers: the inputs come back as they were, and the output holds the query tiles'
    pieces over what it held. -/
theorem bodyRun (c : Dev nD) (i : grid0.Coords)
    (arg2 : Memref sig .tc .smem S32 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S2048x512 .bf16) (harg5 : arg5.IsWhole)
    (arg6 : Memref sig .tc .vmem S2048x512 .bf16) (harg6 : arg6.IsWhole)
    (x0 : Vec F S32 .f32) (x1 x2 x3 : Vec F S2048x512 .bf16) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ (∃ f, owns (c : Thread nD τ) arg6 fullShare (arg6.view.read (Elt F) (arg6.view.writes (Elt F) f
                (pb (F := F) Variants.none c none i arg2 harg2 arg3 harg3 arg4 harg4 arg5 harg5 arg6 harg6 (BitVec.ofNat 32 (i 1).val)
                  (harg2.unread x0) (harg3.unread x1) (harg4.unread x2) (harg5.unread x3) k0_t1_loop.trips))))) -∗ K ⟨⟩))
      ⊢ wp frame (wpE (defs₀ (F := F)) Variants.none c none) E
          (cc0_attn_b_prompt i arg2 harg2 arg3 harg3 arg4 harg4 arg5 harg5 arg6 harg6) K := by
  simp only [cc0_attn_b_prompt_eq_skeleton]; unfold cc0_attn_b_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _, _; isplitr; swap; · iexact H4
  ipureintro; rfl

/-! ## Where the loop works -/

theorem trips1 : k0_t1_loop.trips = 8 := by decide +kernel

theorem off1_eq : ∀ k : Fin k0_t1_loop.trips, k0_off1 k = ![256 * k.val, 0] := by decide +kernel
theorem off2_eq : ∀ k : Fin k0_t1_loop.trips, k0_off2 k = ![256 * k.val, 128] := by decide +kernel
theorem off3_eq : ∀ k : Fin k0_t1_loop.trips, k0_off3 k = ![256 * k.val, 256] := by decide +kernel
theorem off4_eq : ∀ k : Fin k0_t1_loop.trips, k0_off4 k = ![256 * k.val, 384] := by decide +kernel

section cover

variable (𝒱 : Variants) (c : Dev nD) (bd : Option 𝒱.V) (i : grid0.Coords)
  (arg2 : Memref sig .tc .smem S32 .f32) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole) (arg1 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)

/-- One query tile stores four pieces, one per head of the group. -/
theorem tripL_rects (k : Fin k0_t1_loop.trips) : ∃ w1 w2 w3 w4,
    tripL (F := F) 𝒱 c bd i arg2 harg2 arg3 harg3 arg4 harg4 arg5 harg5 arg6 harg6 arg1 X2 X3 X4 X5 k
      = [⟨Rect.unit (s := S2048x512) (k0_off4 k) S256x128.size (k0_off4_inb k), w4⟩,
        ⟨Rect.unit (s := S2048x512) (k0_off3 k) S256x128.size (k0_off3_inb k), w3⟩,
        ⟨Rect.unit (s := S2048x512) (k0_off2 k) S256x128.size (k0_off2_inb k), w2⟩,
        ⟨Rect.unit (s := S2048x512) (k0_off1 k) S256x128.size (k0_off1_inb k), w1⟩] := by
  unfold tripL trip
  exact ⟨_, _, _, _, rfl⟩

/-- Every piece of a tile before `n` is among the pieces of the tiles before `n`. -/
theorem mem_pb (k : Fin k0_t1_loop.trips) (p) (hp : p ∈ tripL (F := F) 𝒱 c bd i arg2 harg2 arg3 harg3 arg4 harg4 arg5 harg5 arg6 harg6 arg1 X2 X3 X4 X5 k) :
    ∀ n : ℕ, k.val < n → n ≤ k0_t1_loop.trips →
      p ∈ pb (F := F) 𝒱 c bd i arg2 harg2 arg3 harg3 arg4 harg4 arg5 harg5 arg6 harg6 arg1 X2 X3 X4 X5 n
  | 0, h, _ => absurd h (Nat.not_lt_zero _)
  | n + 1, h, hn => by
    have e := pb_succ (F := F) 𝒱 c bd i arg2 harg2 arg3 harg3 arg4 harg4 arg5 harg5 arg6 harg6 arg1 X2 X3 X4 X5 ⟨n, hn⟩
    rw [e]
    rcases Nat.lt_succ_iff_lt_or_eq.mp h with h' | h'
    · exact List.mem_append_right _ (mem_pb k p hp n h' (Nat.le_of_succ_le hn))
    · have : k = ⟨n, hn⟩ := Fin.ext h'
      subst this
      exact List.mem_append_left _ hp

/-- Every piece of the tiles before `n` is a piece of one of them. -/
theorem of_mem_pb (p) : ∀ n : ℕ, n ≤ k0_t1_loop.trips →
      p ∈ pb (F := F) 𝒱 c bd i arg2 harg2 arg3 harg3 arg4 harg4 arg5 harg5 arg6 harg6 arg1 X2 X3 X4 X5 n →
      ∃ k : Fin k0_t1_loop.trips, p ∈ tripL (F := F) 𝒱 c bd i arg2 harg2 arg3 harg3 arg4 harg4 arg5 harg5 arg6 harg6 arg1 X2 X3 X4 X5 k
  | 0, _, h => absurd h List.not_mem_nil
  | n + 1, hn, h => by
    have e := pb_succ (F := F) 𝒱 c bd i arg2 harg2 arg3 harg3 arg4 harg4 arg5 harg5 arg6 harg6 arg1 X2 X3 X4 X5 ⟨n, hn⟩
    rw [e] at h
    rcases List.mem_append.mp h with h | h
    · exact ⟨⟨n, hn⟩, h⟩
    · exact of_mem_pb p n (Nat.le_of_succ_le hn) h

/-- The pieces of the eight query tiles cover the output block. -/
theorem cover (y : S2048x512.Idx) :
    ∃ p ∈ pb (F := F) 𝒱 c bd i arg2 harg2 arg3 harg3 arg4 harg4 arg5 harg5 arg6 harg6 arg1 X2 X3 X4 X5 k0_t1_loop.trips,
      y ∈ p.1.set := by
  have h0 : (y 0).val < 2048 := (y 0).isLt
  have h1 : (y 1).val < 512 := (y 1).isLt
  have hk : (y 0).val / 256 < k0_t1_loop.trips := by rw [trips1]; omega
  obtain ⟨w1, w2, w3, w4, e⟩ := tripL_rects (F := F) 𝒱 c bd i arg2 harg2 arg3 harg3 arg4 harg4 arg5 harg5 arg6 harg6 arg1 X2 X3 X4 X5 ⟨(y 0).val / 256, hk⟩
  have hm := fun p hp => mem_pb (F := F) 𝒱 c bd i arg2 harg2 arg3 harg3 arg4 harg4 arg5 harg5 arg6 harg6 arg1 X2 X3 X4 X5 ⟨(y 0).val / 256, hk⟩ p hp k0_t1_loop.trips hk le_rfl
  rw [e] at hm
  have hin : ∀ (off : Fin 2 → ℕ) (inb) (o : ℕ), off = ![256 * ((y 0).val / 256), o] → o ≤ (y 1).val → (y 1).val < o + 128 →
      y ∈ (Rect.unit (s := S2048x512) off S256x128.size inb).set := by
    intro off inb o he ho ho'
    rw [Rect.mem_set_unit]
    subst he
    intro a
    match a with
    | ⟨0, _⟩ => show 256 * ((y 0).val / 256) ≤ (y 0).val ∧ (y 0).val < 256 * ((y 0).val / 256) + 256; omega
    | ⟨1, _⟩ => show o ≤ (y 1).val ∧ (y 1).val < o + 128; omega
  rcases (by omega : (y 1).val < 128 ∨ (128 ≤ (y 1).val ∧ (y 1).val < 256) ∨ (256 ≤ (y 1).val ∧ (y 1).val < 384) ∨ 384 ≤ (y 1).val) with h | h | h | h
  · exact ⟨_, hm ⟨Rect.unit (s := S2048x512) (k0_off1 ⟨(y 0).val / 256, hk⟩) S256x128.size (k0_off1_inb _), w1⟩ (by simp),
      hin _ (k0_off1_inb _) 0 (off1_eq _) (by omega) (by omega)⟩
  · exact ⟨_, hm ⟨Rect.unit (s := S2048x512) (k0_off2 ⟨(y 0).val / 256, hk⟩) S256x128.size (k0_off2_inb _), w2⟩ (by simp),
      hin _ (k0_off2_inb _) 128 (off2_eq _) (by omega) (by omega)⟩
  · exact ⟨_, hm ⟨Rect.unit (s := S2048x512) (k0_off3 ⟨(y 0).val / 256, hk⟩) S256x128.size (k0_off3_inb _), w3⟩ (by simp),
      hin _ (k0_off3_inb _) 256 (off3_eq _) (by omega) (by omega)⟩
  · exact ⟨_, hm ⟨Rect.unit (s := S2048x512) (k0_off4 ⟨(y 0).val / 256, hk⟩) S256x128.size (k0_off4_inb _), w4⟩ (by simp),
      hin _ (k0_off4_inb _) 384 (off4_eq _) (by omega) (by omega)⟩

end cover

/-! ## The launch -/

variable (m : (ℓ : Loc nD τ sig) → Buf (Elt F) ℓ) (ρ : Dev nD → PrngReg)

/-- The pieces the body stores at point `t`, over the blocks of its inputs there. -/
abbrev pieces (c : Dev nD) (t : Fin cfg0.N) : List (View.Piece (Elt F) S2048x512 .bf16) :=
  pb (F := F) Variants.none c none (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (BitVec.ofNat 32 (grid0.coords t 1).val)
    ((hstage0_0 ((cfg0.slots t 0).cast nbuf0_0)).unread (iblk m c 0 t)) ((hstage0_1 ((cfg0.slots t 1).cast nbuf0_1)).unread (iblk m c 1 t))
    ((hstage0_2 ((cfg0.slots t 2).cast nbuf0_2)).unread (iblk m c 2 t)) ((hstage0_3 ((cfg0.slots t 3).cast nbuf0_3)).unread (iblk m c 3 t))
    k0_t1_loop.trips

/-- What the body leaves in the output block at point `t`. -/
def outB (c : Dev nD) (t : Fin cfg0.N) : S2048x512.Idx → Elt F .bf16 := View.canon (pieces m c t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, after0, after1, after2, after3, after4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  iapply (bodyRun c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, ⟨%f, H4⟩⟩
  isplitl [HΦ]; · iexact HΦ
  isplitl [Ho]; · iexact Ho
  isplitl [H0]; · iexact H0
  isplitl [H1]; · iexact H1
  isplitl [H2]; · iexact H2
  isplitl [H3]; · iexact H3
  rw [View.read_writes_eq_canon (h := cover _ _ _ _ _ _ _ _ _ _ _ _ _ _ _ _ _ _ _)]
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends with every input array unchanged, the output at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.KernelIdeal.Tile

end
-- ==== Proof.FrameBBits.lean ====
/- The argument claim of `Kernel`: the program and its idealisation are one text, so the idealisation's claim is its own. -/
module

public import proofs.«01_k».proof.Proof.FrameB
public import proofs.«01_k».proof.Proof.Gen.Kernel.Frame

@[expose] public section

noncomputable section

namespace Cert.Kernel.Tile

open Cert.Kernel Cert.Kernel.Gen
open Idealize.ShloMosaic Idealize.ShloMosaic.TcCoe Idealize.SL.Sem

variable {F : FTy → Type} [FloatOps F]

/-- The two programs' kernels are the same. -/
theorem body_eq : defs₀ (F := F) = Cert.KernelIdeal.defs₀ (F := F) :=
  congrArg Defs.onTc (funext fun ℓ => funext fun a => by
    cases ℓ with | mk v h => match v, h, a with
      | 0, _, (t, s) => exact rfl)

theorem defs_eq : defs (F := F) = Cert.KernelIdeal.defs (F := F) :=
  congrArg (Pipeline.defs Cert.KernelIdeal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Tile.frame_args m ρ

end Cert.Kernel.Tile

end
-- ==== Proof.Common.lean ====
/- What several launches' proofs share: indices with two axes, a store over a whole block, and the section of a projection. -/
module

public import Idealize.ShloMosaic.Lib.Pointwise
public import Idealize.ShloMosaic.Lib.Pipeline.ValueKit

@[expose] public section

noncomputable section

namespace Cert.Common

open Idealize.ShloMosaic Idealize.ShloMosaic.TcCoe Idealize.ShloMosaic.Pointwise

/-- Indices with two axes that agree on both are the same. -/
theorem ext2 {a b : ℕ} {i k : (⟨2, ![a, b]⟩ : Shape).Idx} (h0 : (i 0).val = (k 0).val) (h1 : (i 1).val = (k 1).val) : i = k := by
  funext d
  match d with
  | ⟨0, _⟩ => exact Fin.ext h0
  | ⟨1, _⟩ => exact Fin.ext h1

/-- An index with two axes is the pair of its components. -/
theorem eta2 {a b : ℕ} (x : (⟨2, ![a, b]⟩ : Shape).Idx) : x = ix2 (⟨(x 0).val, (x 0).isLt⟩ : Fin a) (⟨(x 1).val, (x 1).isLt⟩ : Fin b) :=
  ext2 rfl rfl

/-- After a store over a whole block a read of the block is what was stored. -/
theorem read_store {Val : EltTy → Type} [∀ e, Nonempty (Val e)] {sig : RefSig} {κ : Kind} {sp : Space} {S : Shape} {e : EltTy} (v : View sig κ sp S e)
    (f : v.ty.Contents Val) {off : Fin S.rank → ℕ} (h : ∀ a, off a = 0) (inb : ∀ a, off a + S.size a ≤ S.size a) (w : S.Idx → Val e) :
    v.read Val (v.writes Val f [⟨Rect.unit off S.size inb, w⟩]) = w :=
  (View.read_writes_eq_canon v f _ fun y => ⟨_, List.mem_singleton_self _, View.mem_set_unit_zero (View.eq_zero_of_forall h) inb y⟩).trans
    (View.canon_unit_zero (View.eq_zero_of_forall h) inb w)

/-! ## The place of a row's column of section `s` among the columns of all three sections, 32 heads of 128 each -/

def headAt (r l : ℕ) : ℕ := ((r * 4096 + l) / 4096 * 32 + (r * 4096 + l) / 128 % 32) * 128 + (r * 4096 + l) % 128
def fullAt (s r l : ℕ) : ℕ := ((headAt r l / 4096 * 3 + (s + 0)) * 32 + headAt r l / 128 % 32) * 128 + headAt r l % 128

theorem headAt_eq (r l : ℕ) (hl : l < 4096) : headAt r l = r * 4096 + l := by
  unfold headAt
  omega

theorem fullAt_row (s r l : ℕ) (hs : s < 3) (hl : l < 4096) : fullAt s r l / 12288 = r := by
  unfold fullAt
  rw [headAt_eq r l hl]
  omega

theorem fullAt_col (s r l : ℕ) (hs : s < 3) (hl : l < 4096) : fullAt s r l % 12288 = 4096 * s + l := by
  unfold fullAt
  rw [headAt_eq r l hl]
  omega

end Cert.Common
-- ==== Proof.HeadB.lean ====
/- One head of the stick-breaking attention, tile by tile: the functions the kernel's payloads are made of, the carried
   pair of one head after some key tiles, and the stored pieces as the last such pair. -/
module

public import proofs.«01_k».proof.Proof.FrameB
public import Idealize.ShloMosaic.Lib.Pipeline.ValueKit

@[expose] public section

set_option maxRecDepth 16384

noncomputable section

namespace Cert.KernelIdeal.Tile

open Cert.KernelIdeal Cert.KernelIdeal.Gen
open Idealize.ShloMosaic Idealize.ShloMosaic.TcCoe

variable {F : FTy → Type} [FloatOps F]

/-! ## The functions of one tile -/

/-- Scores of a query tile against a key tile. -/
def scores (q k : FVec F S256x128 .bf16) (b : F .f32) : FVec F S256x256 .f32 :=
  addf (mulf (matmul dot_S256x128_S256x128_S256x256_1_1_0_0_n_n none q k (constant S256x256 .f32 0x00000000#32))
    (broadcast S256x256 (Scalar.ofBits .f32 0x3DB504F3#32))) (broadcast S256x256 b)

/-- The logarithm of the logistic function. -/
def lsg (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The logarithm of the part of the stick kept. -/
def keep (z : FVec F S256x256 .f32) : FVec F S256x256 .f32 := subf (lsg z) z

/-- The same on the diagonal tile: zero where the key is not before the query. -/
def keepM (z : FVec F S256x256 .f32) : FVec F S256x256 .f32 :=
  select k0_pay2 (keep z) (broadcast S256x256 (Scalar.ofBits .f32 0x00000000#32))

/-- A tile as its rounded value beside what the rounding dropped. -/
def hilo (l : FVec F S256x256 .f32) : FVec F S256x512 .bf16 :=
  concatenate S256x512 1 [⟨S256x256, truncf .bf16 l bitsLt_bf16_f32⟩,
    ⟨S256x256, truncf .bf16 (subf l (extf .f32 (truncf .bf16 l bitsLt_bf16_f32) bitsLt_bf16_f32)) bitsLt_bf16_f32⟩]
    concatenates_S256x256_S256x256_S256x512_d1

/-- The sum of a tile's entries after each place of its row. -/
def after (l : FVec F S256x256 .f32) : FVec F S256x256 .f32 :=
  matmul dot_S256x512_S512x256_S256x256_1_0_0_1_n_n none (hilo l) k0_pay1 (constant S256x256 .f32 0x00000000#32)

/-- The carried sum, with a whole tile added. -/
def stepC (C : FVec F S256x1 .f32) (l : FVec F S256x256 .f32) : FVec F S256x1 .f32 :=
  addf (addf C (extractStridedSlice S256x1 ![0, 0] (after l) slices_S256x256_o0_0_S256x1))
    (extractStridedSlice S256x1 ![0, 0] l slices_S256x256_o0_0_S256x1)

/-- The weights of a tile. -/
def wts (s l : FVec F S256x256 .f32) (C : FVec F S256x1 .f32) : FVec F S256x256 .f32 :=
  exp (addf (addf s (after l)) (broadcastTo S256x256 C broadcasts_S256x1_S256x256))

/-- The weights of the diagonal tile. -/
def wtsM (s l : FVec F S256x256 .f32) (C : FVec F S256x1 .f32) : FVec F S256x256 .f32 :=
  select k0_pay2 (wts s l C) (broadcast S256x256 (Scalar.ofBits .f32 0x00000000#32))

/-- The carried output, with a tile's weighted values added. -/
def stepO (O : FVec F S256x128 .f32) (w : FVec F S256x256 .f32) (v : FVec F S256x128 .bf16) : FVec F S256x128 .f32 :=
  addf O (matmul dot_S256x256_S256x128_S256x128_1_0_0_1_n_n none (truncf .bf16 w bitsLt_bf16_f32) v
    (constant S256x128 .f32 0x00000000#32))

/-- What one head carries: the sum over the keys taken so far, and the output so far. -/
abbrev CO (F : FTy → Type) : Type := FVec F S256x1 .f32 × FVec F S256x128 .f32

/-- One head past one key tile, -/
def headStep (p : CO F) (q k : FVec F S256x128 .bf16) (b : F .f32) (v : FVec F S256x128 .bf16) : CO F :=
  (stepC p.1 (keep (scores q k b)), stepO p.2 (wts (lsg (scores q k b)) (keep (scores q k b)) p.1) v)

/-- and past the diagonal tile. -/
def headDiag (q k : FVec F S256x128 .bf16) (b : F .f32) (v : FVec F S256x128 .bf16) : CO F :=
  (stepC k0_pay86 (keepM (scores q k b)), stepO k0_pay87 (wtsM (lsg (scores q k b)) (keepM (scores q k b)) k0_pay86) v)

/-- One head past the diagonal tile `a` and the `n` key tiles before it. -/
def headSt (q : FVec F S256x128 .bf16) (K V : ℕ → FVec F S256x128 .bf16) (b : F .f32) (a : ℕ) : ℕ → CO F
  | 0 => headDiag q (K a) b (V a)
  | n + 1 => headStep (headSt q K V b a n) q (K (a - 1 - n)) b (V (a - 1 - n))

/-- The eight carried values of the four heads. -/
abbrev T8 (F : FTy → Type) : Type := FVec F S256x1 .f32 × FVec F S256x128 .f32 × FVec F S256x1 .f32 × FVec F S256x128 .f32
  × FVec F S256x1 .f32 × FVec F S256x128 .f32 × FVec F S256x1 .f32 × FVec F S256x128 .f32

def pack (p0 p1 p2 p3 : CO F) : T8 F := (p0.1, p0.2, p1.1, p1.2, p2.1, p2.2, p3.1, p3.2)

/-! ## Loads -/

/-- Tile `a` of head `h` of a block. -/
def tileOf {α : Type} (x : S2048x512.Idx → α) (a h : ℕ) : S256x128.Idx → α :=
  fun y => x (fun d => match d with
    | ⟨0, _⟩ => (⟨(256 * a + (y 0).val) % 2048, Nat.mod_lt _ (by decide)⟩ : Fin 2048)
    | ⟨1, _⟩ => (⟨(128 * h + (y 1).val) % 512, Nat.mod_lt _ (by decide)⟩ : Fin 512))

theorem ld_tile (M : Memref sig .tc .vmem S2048x512 .bf16) (hM : M.IsWhole) (x : Vec F S2048x512 .bf16)
    (off : Fin 2 → ℕ) (inb) (a h : ℕ) (e : off = ![256 * a, 128 * h]) :
    View.readAt (Elt F) M.view (Rect.unit (s := S2048x512) off S256x128.size inb).toLoadRect (hM.unread x) = tileOf x a h := by
  subst e
  have i0 := inb 0
  have i1 := inb 1
  have i0' : 256 * a + 256 ≤ 2048 := i0
  have i1' : 128 * h + 128 ≤ 512 := i1
  funext y
  have y0 : (y 0).val < 256 := (y 0).isLt
  have y1 : (y 1).val < 128 := (y 1).isLt
  show View.ld (M.view.read (Elt F) (hM.unread x)) _ y = _
  rw [hM.read_unread]
  unfold tileOf
  refine View.ld_unit_apply_of _ _ _ _ y _ fun d => ?_
  match d with
  | ⟨0, _⟩ => show (256 * a + (y 0).val) % 2048 = 256 * a + (y 0).val; omega
  | ⟨1, _⟩ => show (128 * h + (y 1).val) % 512 = 128 * h + (y 1).val; omega

/-- The bias of head `n`. -/
def biasOf {α : Type} (x : S32.Idx → α) (n : ℕ) : α := x (fun d => match d with
    | ⟨0, _⟩ => (⟨n % 32, Nat.mod_lt _ (by decide)⟩ : Fin 32))

theorem ld_bias (M : Memref sig .tc .smem S32 .f32) (hM : M.IsWhole) (x : Vec F S32 .f32)
    (off : Fin 1 → ℕ) (inb) (n : ℕ) (e : off = ![n]) (y) :
    View.readAt (Elt F) M.view (Rect.unit (s := S32) off S1.size inb).toLoadRect (hM.unread x) y = biasOf x n := by
  subst e
  have i0 : n + 1 ≤ 32 := inb 0
  have y0 : (y 0).val < 1 := (y 0).isLt
  show View.ld (M.view.read (Elt F) (hM.unread x)) _ y = _
  rw [hM.read_unread]
  unfold biasOf
  refine View.ld_unit_apply_of _ _ _ _ y _ fun d => ?_
  match d with
  | ⟨0, _⟩ => show n % 32 = n + (y 0).val; omega

theorem trips2 : ∀ k : Fin k0_t1_loop.trips, (k0_t2_loop k).trips = k.val := by decide +kernel
theorem off6_eq : ∀ k : Fin k0_t1_loop.trips, k0_off6 k = ![256 * k.val, 128 * 0] := by decide +kernel
theorem off8_eq : ∀ k : Fin k0_t1_loop.trips, k0_off8 k = ![256 * k.val, 128 * 1] := by decide +kernel
theorem off10_eq : ∀ k : Fin k0_t1_loop.trips, k0_off10 k = ![256 * k.val, 128 * 2] := by decide +kernel
theorem off12_eq : ∀ k : Fin k0_t1_loop.trips, k0_off12 k = ![256 * k.val, 128 * 3] := by decide +kernel
theorem off7_eq : ∀ (k : Fin k0_t1_loop.trips) (j : Fin (k0_t2_loop k).trips), k0_off7 k j = ![256 * (k.val - 1 - j.val), 128 * 0] := by decide +kernel
theorem off9_eq : ∀ (k : Fin k0_t1_loop.trips) (j : Fin (k0_t2_loop k).trips), k0_off9 k j = ![256 * (k.val - 1 - j.val), 128 * 1] := by decide +kernel
theorem off11_eq : ∀ (k : Fin k0_t1_loop.trips) (j : Fin (k0_t2_loop k).trips), k0_off11 k j = ![256 * (k.val - 1 - j.val), 128 * 2] := by decide +kernel
theorem off13_eq : ∀ (k : Fin k0_t1_loop.trips) (j : Fin (k0_t2_loop k).trips), k0_off13 k j = ![256 * (k.val - 1 - j.val), 128 * 3] := by decide +kernel
theorem off5_eq : ∀ (i : grid0.Coords) (h : Fin 4), k0_off5 i (BitVec.ofNat 32 h.val) = ![4 * (i 1).val + h.val] := by decide +kernel
theorem off14_eq : ∀ (i : grid0.Coords) (h : Fin 4), k0_off14 i (BitVec.ofNat 32 h.val) = ![4 * (i 1).val + h.val] := by decide +kernel

/-! ## The loop over key tiles -/

section loop

variable (𝒱 : Variants) (c : Dev nD) (bd : Option 𝒱.V) (i : grid0.Coords)
  (arg2 : Memref sig .tc .smem S32 .f32) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole) (arg1 : BitVec 32)

theorem tripR_heads (X2 : BufTy.Contents (Elt F) arg2.view.ty) (X3 : BufTy.Contents (Elt F) arg3.view.ty)
    (X4 : BufTy.Contents (Elt F) arg4.view.ty) (X5 : BufTy.Contents (Elt F) arg5.view.ty)
    (k : Fin k0_t1_loop.trips) (a7 v28 : BitVec 32) (j : Fin (k0_t2_loop k).trips) (acc : T8 F) :
    tripR_k0_t2 (F := F) 𝒱 c bd i arg2 harg2 arg3 harg3 arg4 harg4 arg5 harg5 arg6 harg6 arg1 k a7 v28 X2 X3 X4 X5 j acc
      = pack
        (headStep (acc.1, acc.2.1)
          (View.readAt (Elt F) arg3.view (Rect.unit (s := S2048x512) (k0_off6 k) S256x128.size (k0_off6_inb k)).toLoadRect X3)
          (View.readAt (Elt F) arg4.view (Rect.unit (s := S2048x512) (k0_off7 k j) S256x128.size (k0_off7_inb k j)).toLoadRect X4)
          (View.readAt (Elt F) arg2.view (Rect.unit (s := S32) (k0_off14 i 0#32) S1.size (k0_off14_inb i 0)).toLoadRect X2 (Shape.Idx.first (by decide +kernel : 0 < S1.numel)))
          (View.readAt (Elt F) arg5.view (Rect.unit (s := S2048x512) (k0_off7 k j) S256x128.size (k0_off7_inb k j)).toLoadRect X5))
        (headStep (acc.2.2.1, acc.2.2.2.1)
          (View.readAt (Elt F) arg3.view (Rect.unit (s := S2048x512) (k0_off8 k) S256x128.size (k0_off8_inb k)).toLoadRect X3)
          (View.readAt (Elt F) arg4.view (Rect.unit (s := S2048x512) (k0_off9 k j) S256x128.size (k0_off9_inb k j)).toLoadRect X4)
          (View.readAt (Elt F) arg2.view (Rect.unit (s := S32) (k0_off14 i 1#32) S1.size (k0_off14_inb i 1)).toLoadRect X2 (Shape.Idx.first (by decide +kernel : 0 < S1.numel)))
          (View.readAt (Elt F) arg5.view (Rect.unit (s := S2048x512) (k0_off9 k j) S256x128.size (k0_off9_inb k j)).toLoadRect X5))
        (headStep (acc.2.2.2.2.1, acc.2.2.2.2.2.1)
          (View.readAt (Elt F) arg3.view (Rect.unit (s := S2048x512) (k0_off10 k) S256x128.size (k0_off10_inb k)).toLoadRect X3)
          (View.readAt (Elt F) arg4.view (Rect.unit (s := S2048x512) (k0_off11 k j) S256x128.size (k0_off11_inb k j)).toLoadRect X4)
          (View.readAt (Elt F) arg2.view (Rect.unit (s := S32) (k0_off14 i 2#32) S1.size (k0_off14_inb i 2)).toLoadRect X2 (Shape.Idx.first (by decide +kernel : 0 < S1.numel)))
          (View.readAt (Elt F) arg5.view (Rect.unit (s := S2048x512) (k0_off11 k j) S256x128.size (k0_off11_inb k j)).toLoadRect X5))
        (headStep (acc.2.2.2.2.2.2.1, acc.2.2.2.2.2.2.2)
          (View.readAt (Elt F) arg3.view (Rect.unit (s := S2048x512) (k0_off12 k) S256x128.size (k0_off12_inb k)).toLoadRect X3)
          (View.readAt (Elt F) arg4.view (Rect.unit (s := S2048x512) (k0_off13 k j) S256x128.size (k0_off13_inb k j)).toLoadRect X4)
          (View.readAt (Elt F) arg2.view (Rect.unit (s := S32) (k0_off14 i 3#32) S1.size (k0_off14_inb i 3)).toLoadRect X2 (Shape.Idx.first (by decide +kernel : 0 < S1.numel)))
          (View.readAt (Elt F) arg5.view (Rect.unit (s := S2048x512) (k0_off13 k j) S256x128.size (k0_off13_inb k j)).toLoadRect X5)) := by
  unfold tripR_k0_t2 trip_k0_t2
  rfl

variable (x2 : Vec F S32 .f32) (x3 x4 x5 : Vec F S2048x512 .bf16)

/-- Head `h` of query tile `k` past the diagonal tile and `n` key tiles before it, over the blocks. -/
abbrev hd (k : ℕ) (h n : ℕ) : CO F :=
  headSt (tileOf x3 k h) (fun a => tileOf x4 a h) (fun a => tileOf x5 a h) (biasOf x2 (4 * (i 1).val + h)) k n

/-- The loop's carried values past `n` key tiles, from the diagonal tile's. -/
theorem st_heads (k : Fin k0_t1_loop.trips) (a7 v28 : BitVec 32) : ∀ n : ℕ, n ≤ (k0_t2_loop k).trips →
    st_k0_t2 (F := F) 𝒱 c bd i arg2 harg2 arg3 harg3 arg4 harg4 arg5 harg5 arg6 harg6 arg1 k a7 v28
        (harg2.unread x2) (harg3.unread x3) (harg4.unread x4) (harg5.unread x5)
        (pack (hd i x2 x3 x4 x5 k.val 0 0) (hd i x2 x3 x4 x5 k.val 1 0) (hd i x2 x3 x4 x5 k.val 2 0) (hd i x2 x3 x4 x5 k.val 3 0)) n
      = pack (hd i x2 x3 x4 x5 k.val 0 n) (hd i x2 x3 x4 x5 k.val 1 n) (hd i x2 x3 x4 x5 k.val 2 n) (hd i x2 x3 x4 x5 k.val 3 n)
  | 0, _ => rfl
  | n + 1, hn => by
    have e := st_k0_t2_succ (F := F) 𝒱 c bd i arg2 harg2 arg3 harg3 arg4 harg4 arg5 harg5 arg6 harg6 arg1 k a7 v28
      (harg2.unread x2) (harg3.unread x3) (harg4.unread x4) (harg5.unread x5)
      (pack (hd i x2 x3 x4 x5 k.val 0 0) (hd i x2 x3 x4 x5 k.val 1 0) (hd i x2 x3 x4 x5 k.val 2 0) (hd i x2 x3 x4 x5 k.val 3 0)) ⟨n, hn⟩
    refine e.trans ?_
    rw [st_heads k a7 v28 n (Nat.le_of_succ_le hn), tripR_heads]
    rw [ld_tile arg3 harg3 x3 _ _ k.val 0 (off6_eq k), ld_tile arg3 harg3 x3 _ _ k.val 1 (off8_eq k),
      ld_tile arg3 harg3 x3 _ _ k.val 2 (off10_eq k), ld_tile arg3 harg3 x3 _ _ k.val 3 (off12_eq k),
      ld_tile arg4 harg4 x4 _ _ _ 0 (off7_eq k ⟨n, hn⟩), ld_tile arg4 harg4 x4 _ _ _ 1 (off9_eq k ⟨n, hn⟩),
      ld_tile arg4 harg4 x4 _ _ _ 2 (off11_eq k ⟨n, hn⟩), ld_tile arg4 harg4 x4 _ _ _ 3 (off13_eq k ⟨n, hn⟩),
      ld_tile arg5 harg5 x5 _ _ _ 0 (off7_eq k ⟨n, hn⟩), ld_tile arg5 harg5 x5 _ _ _ 1 (off9_eq k ⟨n, hn⟩),
      ld_tile arg5 harg5 x5 _ _ _ 2 (off11_eq k ⟨n, hn⟩), ld_tile arg5 harg5 x5 _ _ _ 3 (off13_eq k ⟨n, hn⟩),
      ld_bias arg2 harg2 x2 (k0_off14 i 0#32) _ _ (off14_eq i 0), ld_bias arg2 harg2 x2 (k0_off14 i 1#32) _ _ (off14_eq i 1),
      ld_bias arg2 harg2 x2 (k0_off14 i 2#32) _ _ (off14_eq i 2), ld_bias arg2 harg2 x2 (k0_off14 i 3#32) _ _ (off14_eq i 3)]
    rfl

theorem off1_tile (k : Fin k0_t1_loop.trips) : k0_off1 k = ![256 * k.val, 128 * 0] := off1_eq k
theorem off2_tile (k : Fin k0_t1_loop.trips) : k0_off2 k = ![256 * k.val, 128 * 1] := off2_eq k
theorem off3_tile (k : Fin k0_t1_loop.trips) : k0_off3 k = ![256 * k.val, 128 * 2] := off3_eq k
theorem off4_tile (k : Fin k0_t1_loop.trips) : k0_off4 k = ![256 * k.val, 128 * 3] := off4_eq k

/-- The third loop makes no trip. -/
theorem trips3 : ∀ k : Fin k0_t1_loop.trips, (k0_t3_loop k).trips = 0 := by decide +kernel

/-- The diagonal tile's carried values, on the loads the kernel makes. -/
theorem init_heads (k : Fin k0_t1_loop.trips) :
    pack
        (headDiag
          (View.readAt (Elt F) arg3.view (Rect.unit (s := S2048x512) (k0_off1 k) S256x128.size (k0_off1_inb k)).toLoadRect (harg3.unread x3))
          (View.readAt (Elt F) arg4.view (Rect.unit (s := S2048x512) (k0_off1 k) S256x128.size (k0_off1_inb k)).toLoadRect (harg4.unread x4))
          (View.readAt (Elt F) arg2.view (Rect.unit (s := S32) (k0_off5 i 0#32) S1.size (k0_off5_inb i 0)).toLoadRect (harg2.unread x2) (Shape.Idx.first (by decide +kernel : 0 < S1.numel)))
          (View.readAt (Elt F) arg5.view (Rect.unit (s := S2048x512) (k0_off1 k) S256x128.size (k0_off1_inb k)).toLoadRect (harg5.unread x5)))
        (headDiag
          (View.readAt (Elt F) arg3.view (Rect.unit (s := S2048x512) (k0_off2 k) S256x128.size (k0_off2_inb k)).toLoadRect (harg3.unread x3))
          (View.readAt (Elt F) arg4.view (Rect.unit (s := S2048x512) (k0_off2 k) S256x128.size (k0_off2_inb k)).toLoadRect (harg4.unread x4))
          (View.readAt (Elt F) arg2.view (Rect.unit (s := S32) (k0_off5 i 1#32) S1.size (k0_off5_inb i 1)).toLoadRect (harg2.unread x2) (Shape.Idx.first (by decide +kernel : 0 < S1.numel)))
          (View.readAt (Elt F) arg5.view (Rect.unit (s := S2048x512) (k0_off2 k) S256x128.size (k0_off2_inb k)).toLoadRect (harg5.unread x5)))
        (headDiag
          (View.readAt (Elt F) arg3.view (Rect.unit (s := S2048x512) (k0_off3 k) S256x128.size (k0_off3_inb k)).toLoadRect (harg3.unread x3))
          (View.readAt (Elt F) arg4.view (Rect.unit (s := S2048x512) (k0_off3 k) S256x128.size (k0_off3_inb k)).toLoadRect (harg4.unread x4))
          (View.readAt (Elt F) arg2.view (Rect.unit (s := S32) (k0_off5 i 2#32) S1.size (k0_off5_inb i 2)).toLoadRect (harg2.unread x2) (Shape.Idx.first (by decide +kernel : 0 < S1.numel)))
          (View.readAt (Elt F) arg5.view (Rect.unit (s := S2048x512) (k0_off3 k) S256x128.size (k0_off3_inb k)).toLoadRect (harg5.unread x5)))
        (headDiag
          (View.readAt (Elt F) arg3.view (Rect.unit (s := S2048x512) (k0_off4 k) S256x128.size (k0_off4_inb k)).toLoadRect (harg3.unread x3))
          (View.readAt (Elt F) arg4.view (Rect.unit (s := S2048x512) (k0_off4 k) S256x128.size (k0_off4_inb k)).toLoadRect (harg4.unread x4))
          (View.readAt (Elt F) arg2.view (Rect.unit (s := S32) (k0_off5 i 3#32) S1.size (k0_off5_inb i 3)).toLoadRect (harg2.unread x2) (Shape.Idx.first (by decide +kernel : 0 < S1.numel)))
          (View.readAt (Elt F) arg5.view (Rect.unit (s := S2048x512) (k0_off4 k) S256x128.size (k0_off4_inb k)).toLoadRect (harg5.unread x5)))
      = pack (hd i x2 x3 x4 x5 k.val 0 0) (hd i x2 x3 x4 x5 k.val 1 0) (hd i x2 x3 x4 x5 k.val 2 0) (hd i x2 x3 x4 x5 k.val 3 0) := by
  rw [ld_tile arg3 harg3 x3 _ _ k.val 0 (off1_tile k), ld_tile arg3 harg3 x3 _ _ k.val 1 (off2_tile k),
    ld_tile arg3 harg3 x3 _ _ k.val 2 (off3_tile k), ld_tile arg3 harg3 x3 _ _ k.val 3 (off4_tile k),
    ld_tile arg4 harg4 x4 _ _ k.val 0 (off1_tile k), ld_tile arg4 harg4 x4 _ _ k.val 1 (off2_tile k),
    ld_tile arg4 harg4 x4 _ _ k.val 2 (off3_tile k), ld_tile arg4 harg4 x4 _ _ k.val 3 (off4_tile k),
    ld_tile arg5 harg5 x5 _ _ k.val 0 (off1_tile k), ld_tile arg5 harg5 x5 _ _ k.val 1 (off2_tile k),
    ld_tile arg5 harg5 x5 _ _ k.val 2 (off3_tile k), ld_tile arg5 harg5 x5 _ _ k.val 3 (off4_tile k),
    ld_bias arg2 harg2 x2 (k0_off5 i 0#32) _ _ (off5_eq i 0), ld_bias arg2 harg2 x2 (k0_off5 i 1#32) _ _ (off5_eq i 1),
    ld_bias arg2 harg2 x2 (k0_off5 i 2#32) _ _ (off5_eq i 2), ld_bias arg2 harg2 x2 (k0_off5 i 3#32) _ _ (off5_eq i 3)]
  rfl

/-- The four pieces over the carried values both loops leave. -/
theorem pieces_heads (k : Fin k0_t1_loop.trips) (init : T8 F)
    (hI : init = pack (hd i x2 x3 x4 x5 k.val 0 0) (hd i x2 x3 x4 x5 k.val 1 0) (hd i x2 x3 x4 x5 k.val 2 0) (hd i x2 x3 x4 x5 k.val 3 0))
    (a7 v28 a7' v28' v223 : BitVec 32) (n2 n3 : ℕ) (h2 : n2 = k.val) (h3 : n3 = 0) :
    st_k0_t3 (F := F) 𝒱 c bd i arg2 harg2 arg3 harg3 arg4 harg4 arg5 harg5 arg6 harg6 arg1 k a7' v28' v223
      (harg2.unread x2) (harg3.unread x3) (harg4.unread x4) (harg5.unread x5)
      (st_k0_t2 (F := F) 𝒱 c bd i arg2 harg2 arg3 harg3 arg4 harg4 arg5 harg5 arg6 harg6 arg1 k a7 v28
        (harg2.unread x2) (harg3.unread x3) (harg4.unread x4) (harg5.unread x5) init n2) n3
    = pack (hd i x2 x3 x4 x5 k.val 0 k.val) (hd i x2 x3 x4 x5 k.val 1 k.val) (hd i x2 x3 x4 x5 k.val 2 k.val) (hd i x2 x3 x4 x5 k.val 3 k.val) := by
  subst hI h3
  rw [st_k0_t3_zero, h2]
  exact st_heads 𝒱 c bd i arg2 harg2 arg3 harg3 arg4 harg4 arg5 harg5 arg6 harg6 arg1 x2 x3 x4 x5 k a7 v28 k.val (le_of_eq (trips2 k).symm)

set_option maxHeartbeats 4000000 in
/-- What one query tile stores: each head past all its key tiles, rounded. -/
theorem tripL_heads (k : Fin k0_t1_loop.trips) :
    tripL (F := F) 𝒱 c bd i arg2 harg2 arg3 harg3 arg4 harg4 arg5 harg5 arg6 harg6 arg1
        (harg2.unread x2) (harg3.unread x3) (harg4.unread x4) (harg5.unread x5) k
      = [⟨Rect.unit (s := S2048x512) (k0_off4 k) S256x128.size (k0_off4_inb k), truncf .bf16 (hd i x2 x3 x4 x5 k.val 3 k.val).2 bitsLt_bf16_f32⟩,
        ⟨Rect.unit (s := S2048x512) (k0_off3 k) S256x128.size (k0_off3_inb k), truncf .bf16 (hd i x2 x3 x4 x5 k.val 2 k.val).2 bitsLt_bf16_f32⟩,
        ⟨Rect.unit (s := S2048x512) (k0_off2 k) S256x128.size (k0_off2_inb k), truncf .bf16 (hd i x2 x3 x4 x5 k.val 1 k.val).2 bitsLt_bf16_f32⟩,
        ⟨Rect.unit (s := S2048x512) (k0_off1 k) S256x128.size (k0_off1_inb k), truncf .bf16 (hd i x2 x3 x4 x5 k.val 0 k.val).2 bitsLt_bf16_f32⟩] := by
  have e := pieces_heads (F := F) 𝒱 c bd i arg2 harg2 arg3 harg3 arg4 harg4 arg5 harg5 arg6 harg6 arg1 x2 x3 x4 x5 k _
    (init_heads i arg2 harg2 arg3 harg3 arg4 harg4 arg5 harg5 x2 x3 x4 x5 k) (trip.sl.arg7 k) (trip.sl.v27 k)
    (trip.sl.arg7 k) (trip.sl.v27 k) (trip.sl.v223 k) _ _ (trips2 k) (trips3 k)
  have e0 := congrArg (fun t : T8 F => (truncf .bf16 t.2.1 bitsLt_bf16_f32 : FVec F S256x128 .bf16)) e
  have e1 := congrArg (fun t : T8 F => (truncf .bf16 t.2.2.2.1 bitsLt_bf16_f32 : FVec F S256x128 .bf16)) e
  have e2 := congrArg (fun t : T8 F => (truncf .bf16 t.2.2.2.2.2.1 bitsLt_bf16_f32 : FVec F S256x128 .bf16)) e
  have e3 := congrArg (fun t : T8 F => (truncf .bf16 t.2.2.2.2.2.2.2 bitsLt_bf16_f32 : FVec F S256x128 .bf16)) e
  unfold tripL trip
  dsimp only
  refine congrArg₂ List.cons (Sigma.ext rfl (heq_of_eq ?_)) (congrArg₂ List.cons (Sigma.ext rfl (heq_of_eq ?_))
    (congrArg₂ List.cons (Sigma.ext rfl (heq_of_eq ?_)) (congrArg₂ List.cons (Sigma.ext rfl (heq_of_eq ?_)) rfl)))
  · exact e3
  · exact e2
  · exact e1
  · exact e0

end loop

end Cert.KernelIdeal.Tile

end
-- ==== Proof.SumsB.lean ====
/- Sums over the keys before a query, cut in tiles of 256, and the logarithm of the logistic function over the reals. -/
module

public import Idealize.ShloMosaic.PureOps.Ideal

@[expose] public section

noncomputable section

namespace Cert.Stick

open Finset

variable {M : Type} [AddCommMonoid M]

/-- A part of a tile's sum as a sum over the keys themselves. -/
theorem tile_sum (f : ℕ → M) (c lo hi : ℕ) (h : hi ≤ 256) :
    (∑ x : Fin 256, if lo ≤ x.val ∧ x.val < hi then f (c + x.val) else 0) = ∑ j ∈ Ico (c + lo) (c + hi), f j := by
  rw [Fin.sum_univ_eq_sum_range (fun x => if lo ≤ x ∧ x < hi then f (c + x) else 0) 256, ← sum_filter,
    Nat.add_comm c lo, Nat.add_comm c hi, ← Finset.sum_Ico_add f lo hi c]
  refine sum_congr ?_ fun _ _ => rfl
  ext x
  simp only [mem_filter, mem_range, mem_Ico]
  omega

/-- The part of a tile after a place. -/
theorem tile_after (f : ℕ → M) (c : ℕ) (x : Fin 256) :
    (∑ y : Fin 256, if x.val < y.val then f (c + y.val) else 0) = ∑ j ∈ Ico (c + x.val + 1) (c + 256), f j := by
  rw [Nat.add_assoc, ← tile_sum f c (x.val + 1) 256 le_rfl]
  refine sum_congr rfl fun y _ => if_congr ?_ rfl rfl
  have := y.isLt
  omega

/-- The part of a tile before a place. -/
theorem tile_before (f : ℕ → M) (c : ℕ) (r : Fin 256) :
    (∑ y : Fin 256, if y.val < r.val then f (c + y.val) else 0) = ∑ j ∈ Ico c (c + r.val), f j := by
  have e := tile_sum f c 0 r.val r.isLt.le
  rw [Nat.add_zero] at e
  rw [← e]
  refine sum_congr rfl fun y _ => if_congr ?_ rfl rfl
  omega

/-- The part of a tile between two places. -/
theorem tile_between (f : ℕ → M) (c : ℕ) (x r : Fin 256) :
    (∑ y : Fin 256, if x.val < y.val then (if y.val < r.val then f (c + y.val) else 0) else 0)
      = ∑ j ∈ Ico (c + x.val + 1) (c + r.val), f j := by
  rw [Nat.add_assoc, ← tile_sum f c (x.val + 1) r.val r.isLt.le]
  refine sum_congr rfl fun y _ => ?_
  rw [← ite_and]
  refine if_congr ?_ rfl rfl
  omega

/-- A whole tile in front of the keys after it. -/
theorem tile_whole (f : ℕ → M) (c i : ℕ) (h : c + 256 ≤ i) :
    ∑ j ∈ Ico c i, f j = (∑ x : Fin 256, f (c + x.val)) + ∑ j ∈ Ico (c + 256) i, f j := by
  rw [← sum_Ico_consecutive f (Nat.le_add_right c 256) h]
  congr 1
  have e := tile_sum f c 0 256 le_rfl
  rw [Nat.add_zero] at e
  rw [← e]
  exact sum_congr rfl fun x _ => if_pos ⟨Nat.zero_le _, x.isLt⟩

/-- A sum of reals, as an extended real. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [sum_insert ha, sum_insert ha, EReal.coe_add, ih]

/-! ## The logarithm of the logistic function -/

/-- The logarithm of the logistic function. -/
def lsg (z : ℝ) : ℝ := min z 0 - Real.log (1 + Real.exp (-|z|))

/-- The logarithm of what the stick keeps. -/
def keep (z : ℝ) : ℝ := lsg z - z

theorem keep_eq (z : ℝ) : keep z = -(max z 0 + Real.log (1 + Real.exp (-|z|))) := by
  unfold keep lsg
  rcases le_total z 0 with h | h
  · rw [min_eq_left h, max_eq_right h]; ring
  · rw [min_eq_right h, max_eq_left h]; ring

theorem one_add_exp_pos (z : ℝ) : 0 < 1 + Real.exp z := by positivity

/-- The weight of key `j` for query `i`: its share of the stick left by the keys between them. -/
def wt (z : ℕ → ℝ) (i j : ℕ) : ℝ := Real.exp (lsg (z j) + ∑ l ∈ Ico (j + 1) i, keep (z l))

end Cert.Stick

end
-- ==== Proof.ElemB.lean ====
/- The tile functions over the reals, read at a place. -/
module

public import proofs.«01_k».proof.Proof.HeadB
public import proofs.«01_k».proof.Proof.SumsB
public import Idealize.ShloMosaic.Lib.Pointwise
public import Idealize.ShloMosaic.Lib.WordCmp

@[expose] public section

set_option maxRecDepth 16384

noncomputable section

namespace Cert.KernelIdeal.Tile

open Cert.KernelIdeal Cert.KernelIdeal.Gen
open Idealize.ShloMosaic Idealize.ShloMosaic.TcCoe Idealize.ShloMosaic.Pointwise Idealize.ShloMosaic.WordCmp

theorem pay2_at (r c : Fin 256) : k0_pay2 (ix2 r c) = BitVec.ofBool (decide (c.val < r.val)) := by
  unfold k0_pay2
  pointwise
  exact cmpi_slt_ofNat (w := 32) (by have := c.isLt; omega) (by have := r.isLt; omega)

theorem word_rem : ∀ n : Fin 512, Scalar.select
          (IntOp.andi
            (IntOp.xori
              (IntOp.cmpi CmpIPredicate.slt
                (IntOp.remsi ArithUnit.vector (BitVec.ofNat 32 n.val)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 n.val)
                (Scalar.select (Scalar.cmpi CmpIPredicate.eq 256#32 0#32) 1#32 256#32))
              0#32))
          (IntOp.addi
            (IntOp.remsi ArithUnit.vector (BitVec.ofNat 32 n.val)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 n.val)
            (Scalar.select (Scalar.cmpi CmpIPredicate.eq 256#32 0#32) 1#32 256#32)) = BitVec.ofNat 32 (n.val % 256) := by
  decide +kernel

theorem pay1_at (n : Fin 512) (c : Fin 256) : (k0_pay1 (F := Ideal)) (ix2 n c) = if c.val < n.val % 256 then 1 else 0 := by
  unfold k0_pay1
  pointwise
  rw [word_rem, cmpi_sgt_ofNat (w := 32) (by omega) (by have := c.isLt; omega)]
  by_cases h : c.val < n.val % 256 <;> simp [h, Scalar.select]

theorem scores_at (q k : FVec Ideal S256x128 .bf16) (b : Ideal .f32) (r c : Fin 256) :
    scores q k b (ix2 r c) = (∑ d : Fin 128, q (ix2 r d) * k (ix2 c d)) * Scalar.ofBits (F := Ideal) .f32 0x3DB504F3#32 + b := by
  pointwise [scores]

/-- The scalar the kernel computes, over the reals. -/
theorem lsg_coe (x : ℝ) : min (x : EReal) 0 - Ideal.log (1 + Ideal.exp (0 - max (x : EReal) (-(x : EReal)))) = (Stick.lsg x : EReal) := by
  have h1 : (0 : EReal) - max (x : EReal) (-(x : EReal)) = ((-|x| : ℝ) : EReal) := by
    rw [← EReal.coe_neg, ← EReal.coe_strictMono.monotone.map_max, zero_sub, ← EReal.coe_neg]
    rfl
  have h2 : (1 : EReal) + ((Real.exp (-|x|) : ℝ) : EReal) = ((1 + Real.exp (-|x|) : ℝ) : EReal) := by
    rw [EReal.coe_add, EReal.coe_one]
  have h3 : min (x : EReal) 0 = ((min x 0 : ℝ) : EReal) := by
    rw [← EReal.coe_zero, ← EReal.coe_strictMono.monotone.map_min]
  rw [h1, Ideal.exp_coe, h2, Ideal.log_coe, if_neg (not_le.mpr (Stick.one_add_exp_pos _)), h3, ← EReal.coe_sub]
  rfl

theorem lsg_at (z : FVec Ideal S256x256 .f32) (r c : Fin 256) (x : ℝ) (h : z (ix2 r c) = (x : EReal)) :
    lsg z (ix2 r c) = (Stick.lsg x : EReal) := by
  pointwise [lsg]
  rw [h]
  exact lsg_coe x

theorem keep_at (z : FVec Ideal S256x256 .f32) (r c : Fin 256) (x : ℝ) (h : z (ix2 r c) = (x : EReal)) :
    keep z (ix2 r c) = (Stick.keep x : EReal) := by
  unfold keep
  show lsg z (ix2 r c) - z (ix2 r c) = _
  rw [lsg_at z r c x h, h, ← EReal.coe_sub]
  rfl

theorem keepM_at (z : FVec Ideal S256x256 .f32) (r c : Fin 256) (x : ℝ) (h : z (ix2 r c) = (x : EReal)) :
    keepM z (ix2 r c) = ((if c.val < r.val then Stick.keep x else 0 : ℝ) : EReal) := by
  pointwise [keepM]
  rw [pay2_at, keep_at z r c x h]
  by_cases hc : c.val < r.val <;> simp [hc, Scalar.select]

theorem after_at (l : FVec Ideal S256x256 .f32) (r c : Fin 256) (L : Fin 256 → ℝ) (h : ∀ x, l (ix2 r x) = (L x : EReal)) :
    after l (ix2 r c) = ((∑ x : Fin 256, if c.val < x.val then L x else 0 : ℝ) : EReal) := by
  pointwise [after, hilo]
  simp only [h, pay1_at]
  have h0 : ∀ x : Fin 256, (L x : EReal) - (L x : EReal) = 0 := fun x => by rw [← EReal.coe_sub, sub_self, EReal.coe_zero]
  simp only [h0, zero_mul, Finset.sum_const_zero, add_zero]
  rw [Stick.coe_sum]
  refine Finset.sum_congr rfl fun x _ => ?_
  rw [Nat.mod_eq_of_lt x.isLt]
  by_cases hc : c.val < x.val <;> simp [hc]

theorem stepC_at (C : FVec Ideal S256x1 .f32) (l : FVec Ideal S256x256 .f32) (r : Fin 256) :
    stepC C l (ix2 r 0) = C (ix2 r 0) + after l (ix2 r 0) + l (ix2 r 0) := by
  pointwise [stepC]

theorem wts_at (s l : FVec Ideal S256x256 .f32) (C : FVec Ideal S256x1 .f32)  (r c : Fin 256) :
    wts s l C (ix2 r c) = Ideal.exp (s (ix2 r c) + after l (ix2 r c) + C (ix2 r 0)) := by
  pointwise [wts]

theorem wtsM_at (s l : FVec Ideal S256x256 .f32) (C : FVec Ideal S256x1 .f32)  (r c : Fin 256) :
    wtsM s l C (ix2 r c) = if c.val < r.val then wts s l C (ix2 r c) else 0 := by
  pointwise [wtsM]
  rw [pay2_at]
  by_cases hc : c.val < r.val <;> simp [hc, Scalar.select]

theorem stepO_at (O : FVec Ideal S256x128 .f32) (w : FVec Ideal S256x256 .f32) (v : FVec Ideal S256x128 .bf16) (r : Fin 256) (d : Fin 128) :
    stepO O w v (ix2 r d) = O (ix2 r d) + ∑ c : Fin 256, w (ix2 r c) * v (ix2 c d) := by
  pointwise [stepO]

theorem pay86_at (r : Fin 256) : (k0_pay86 (F := Ideal)) (ix2 r 0) = ((0 : ℝ) : EReal) := by
  unfold k0_pay86
  pointwise
  exact EReal.coe_zero.symm

theorem pay87_at (r : Fin 256) (d : Fin 128) : (k0_pay87 (F := Ideal)) (ix2 r d) = 0 := by
  unfold k0_pay87
  pointwise

/-! ## One row of one head -/

/-- A row of the carried sum past a key tile of real scores. -/
theorem stepC_row (C : FVec Ideal S256x1 .f32) (l : FVec Ideal S256x256 .f32) (r : Fin 256) (C0 : ℝ) (L : Fin 256 → ℝ)
    (hC : C (ix2 r 0) = (C0 : EReal)) (h : ∀ x, l (ix2 r x) = (L x : EReal)) :
    stepC C l (ix2 r 0) = ((∑ x, L x + C0 : ℝ) : EReal) := by
  rw [stepC_at, after_at l r 0 L h, h, hC, ← EReal.coe_add, ← EReal.coe_add, EReal.coe_eq_coe_iff]
  have e : ∑ x, L x = (∑ x : Fin 256, if (0 : Fin 256).val < x.val then L x else 0) + L 0 := by
    rw [Fin.sum_univ_succ, Fin.sum_univ_succ (fun x : Fin 256 => if (0 : Fin 256).val < x.val then L x else 0)]
    simp [add_comm]
  rw [e]; ring

variable (q : FVec Ideal S256x128 .bf16) (K V : ℕ → FVec Ideal S256x128 .bf16) (b : Ideal .f32) (a : ℕ)

/-- A row of one head past the diagonal tile and `n` key tiles before it: the sum and the output over the keys taken. -/
theorem headSt_row (r : Fin 256) (d : Fin 128) (z : ℕ → ℝ) (v : ℕ → EReal)
    (hz : ∀ t, t ≤ a → ∀ x : Fin 256, scores q (K t) b (ix2 r x) = (z (256 * t + x.val) : EReal))
    (hv : ∀ t, t ≤ a → ∀ x : Fin 256, V t (ix2 x d) = v (256 * t + x.val)) : ∀ n, n ≤ a →
    (headSt q K V b a n).1 (ix2 r 0) = ((∑ j ∈ Finset.Ico (256 * (a - n)) (256 * a + r.val), Stick.keep (z j) : ℝ) : EReal)
    ∧ (headSt q K V b a n).2 (ix2 r d)
      = ∑ j ∈ Finset.Ico (256 * (a - n)) (256 * a + r.val), (Stick.wt z (256 * a + r.val) j : EReal) * v j
  | 0, _ => by
    have hk : ∀ x, keepM (scores q (K a) b) (ix2 r x) = ((if x.val < r.val then Stick.keep (z (256 * a + x.val)) else 0 : ℝ) : EReal) :=
      fun x => keepM_at _ r x _ (hz a le_rfl x)
    constructor
    · show stepC k0_pay86 (keepM (scores q (K a) b)) (ix2 r 0) = _
      rw [stepC_row _ _ r 0 _ (pay86_at r) hk, add_zero, Nat.sub_zero,
        Stick.tile_before (fun j => Stick.keep (z j)) (256 * a) r]
    · show stepO k0_pay87 (wtsM (lsg (scores q (K a) b)) (keepM (scores q (K a) b)) k0_pay86) (V a) (ix2 r d) = _
      rw [stepO_at, pay87_at, zero_add, Nat.sub_zero,
        ← Stick.tile_before (fun j => (Stick.wt z (256 * a + r.val) j : EReal) * v j) (256 * a) r]
      refine Finset.sum_congr rfl fun x _ => ?_
      rw [wtsM_at, hv a le_rfl x]
      by_cases hx : x.val < r.val
      · rw [if_pos hx, if_pos hx, wts_at, lsg_at _ r x _ (hz a le_rfl x), after_at _ r x _ hk, pay86_at,
          Stick.tile_between (fun j => Stick.keep (z j)) (256 * a) x r, ← EReal.coe_add, ← EReal.coe_add, add_zero, Ideal.exp_coe]
        rfl
      · rw [if_neg hx, if_neg hx, zero_mul]
  | n + 1, hn => by
    obtain ⟨hC, hO⟩ := headSt_row r d z v hz hv n (Nat.le_of_succ_le hn)
    have ht : a - 1 - n ≤ a := by omega
    have e1 : 256 * (a - (n + 1)) = 256 * (a - 1 - n) := by congr 1; omega
    have e2 : 256 * (a - n) = 256 * (a - 1 - n) + 256 := by omega
    have hle : 256 * (a - 1 - n) + 256 ≤ 256 * a + r.val := by omega
    rw [e1]
    rw [e2] at hC hO
    have hk : ∀ x, keep (scores q (K (a - 1 - n)) b) (ix2 r x) = (Stick.keep (z (256 * (a - 1 - n) + x.val)) : EReal) :=
      fun x => keep_at _ r x _ (hz _ ht x)
    constructor
    · show stepC (headSt q K V b a n).1 (keep (scores q (K (a - 1 - n)) b)) (ix2 r 0) = _
      rw [stepC_row _ _ r _ _ hC hk, Stick.tile_whole (fun j => Stick.keep (z j)) _ _ hle]
    · show stepO (headSt q K V b a n).2 (wts (lsg (scores q (K (a - 1 - n)) b)) (keep (scores q (K (a - 1 - n)) b)) (headSt q K V b a n).1)
        (V (a - 1 - n)) (ix2 r d) = _
      rw [stepO_at, hO, Stick.tile_whole (fun j => (Stick.wt z (256 * a + r.val) j : EReal) * v j) _ _ hle, add_comm]
      congr 1
      refine Finset.sum_congr rfl fun x _ => ?_
      have hx := x.isLt
      rw [wts_at, hv _ ht x, lsg_at _ r x _ (hz _ ht x), after_at _ r x _ hk, hC,
        Stick.tile_after (fun j => Stick.keep (z j)) (256 * (a - 1 - n)) x, ← EReal.coe_add, ← EReal.coe_add, Ideal.exp_coe, add_assoc,
        Finset.sum_Ico_consecutive _ (by omega) hle]
      rfl

end Cert.KernelIdeal.Tile

end
-- ==== Proof.RefB.lean ====
/- The reference read at a place: a weighted sum of the values over the keys before the query. -/
module

public import proofs.«01_k».proof.Proof.SumsB
public import proofs.«01_k».proof.Proof.Gen.ReferenceIdeal.Read
public import Idealize.ShloMosaic.Lib.WordCmp
public import Idealize.ShloMosaic.Lib.IdealHost

@[expose] public section

set_option maxRecDepth 16384

noncomputable section

namespace Cert.Stick

open Idealize.ShloMosaic

/-- An array of 8192 rows and 4096 columns read by two numbers. -/
def at2 {α : Type} (x : (⟨2, ![8192, 4096]⟩ : Shape).Idx → α) (r c : ℕ) : α :=
  x (fun d => match d with
    | ⟨0, _⟩ => (⟨r % 8192, Nat.mod_lt _ (by decide)⟩ : Fin 8192)
    | ⟨1, _⟩ => (⟨c % 4096, Nat.mod_lt _ (by decide)⟩ : Fin 4096))

/-- The biases read by a number. -/
def at1 {α : Type} (x : (⟨1, ![32]⟩ : Shape).Idx → α) (r : ℕ) : α :=
  x (fun d => match d with
    | ⟨0, _⟩ => (⟨r % 32, Nat.mod_lt _ (by decide)⟩ : Fin 32))

/-- The score of query i and key j in head h of sequence b. -/
def score (Q K : (⟨2, ![8192, 4096]⟩ : Shape).Idx → ℝ) (B : (⟨1, ![32]⟩ : Shape).Idx → ℝ) (s : ℝ) (b h i j : ℕ) : ℝ :=
  (∑ d : Fin 128, at2 Q (2048 * b + i) (128 * h + d.val) * at2 K (2048 * b + j) (128 * h + d.val)) * s + at1 B h

/-- The scale is a real number. -/
theorem scale_real : ∃ s : ℝ, Ideal.ofBits .f32 0x3DB504F3#32 = (s : EReal) := by
  refine ⟨(11863283 : ℝ) * (2 ^ 27 : ℝ)⁻¹, ?_⟩
  simp [Ideal.ofBits, Ideal.ieee]

theorem foldl_plus {ι : Type} (g : ι → EReal) (l : List ι) (v : EReal) :
    l.foldl (fun r n => r + g n) v = v + (l.map g).sum := by
  induction l generalizing v with
  | nil => simp
  | cons a l ih => simp [ih, add_assoc]

end Cert.Stick

namespace Cert.ReferenceIdeal.Read

open Cert.ReferenceIdeal Cert.ReferenceIdeal.Gen
open Idealize.ShloMosaic Idealize.ShloMosaic.TcCoe Idealize.ShloMosaic.WordCmp

/-- A place of the array of scores with its last coordinate replaced. -/
def setLast (i : S4x32x2048x2048.Idx) (n : ℕ) : S4x32x2048x2048.Idx := fun a => match a with
  | ⟨0, _⟩ => i 0
  | ⟨1, _⟩ => i 1
  | ⟨2, _⟩ => i 2
  | ⟨3, _⟩ => (⟨n % 2048, Nat.mod_lt _ (by decide)⟩ : Fin 2048)

/-- The window's shape. -/
abbrev SW : Shape := ⟨4, ![1, 1, 1, 2048]⟩

def winEquiv : SW.Idx ≃ Fin 2048 where
  toFun w := w 3
  invFun n := fun a => match a with
    | ⟨0, _⟩ => (0 : Fin 1)
    | ⟨1, _⟩ => (0 : Fin 1)
    | ⟨2, _⟩ => (0 : Fin 1)
    | ⟨3, _⟩ => n
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

/-- The window sum is the sum of what lies at and after the place. -/
theorem window_sum (x : S4x32x2048x2048.Idx → EReal) {u : Shape} (v : u.Idx → EReal) (hu : 0 < u.numel)
    (hv : v (Shape.Idx.first hu) = 0)
    (h : S4x32x2048x2048.ReduceWindows ![1, 1, 1, 2048] ![1, 1, 1, 1] ![0, 0, 0, 0] ![0, 0, 0, 2047] S4x32x2048x2048)
    (i : S4x32x2048x2048.Idx) :
    Host.reduceWindow (· + ·) ![1, 1, 1, 2048] ![1, 1, 1, 1] ![0, 0, 0, 0] ![0, 0, 0, 2047] x v h hu i
      = ∑ n : Fin 2048, if (i 3).val + n.val < 2048 then x (setLast i ((i 3).val + n.val)) else 0 := by
  unfold Host.reduceWindow
  simp only [hv]
  rw [Stick.foldl_plus, zero_add, ← Fin.sum_univ_def]
  refine Fintype.sum_equiv (SW.rowMajor.symm.trans winEquiv) _ _ fun n => ?_
  set w : SW.Idx := SW.rowMajor.symm n with hw
  have e3 : ((SW.rowMajor.symm.trans winEquiv) n).val = (w 3).val := rfl
  rw [e3]
  have w0 : (w 0).val = 0 := by have : (w 0).val < 1 := (w 0).isLt; omega
  have w1 : (w 1).val = 0 := by have : (w 1).val < 1 := (w 1).isLt; omega
  have w2 : (w 2).val = 0 := by have : (w 2).val < 1 := (w 2).isLt; omega
  by_cases hlt : (i 3).val + (w 3).val < 2048
  · rw [if_pos hlt, dif_pos]
    · congr 1
      funext a
      match a with
      | ⟨0, _⟩ => refine Fin.ext ?_; show (i 0).val * 1 + (w 0).val - 0 = (i 0).val; omega
      | ⟨1, _⟩ => refine Fin.ext ?_; show (i 1).val * 1 + (w 1).val - 0 = (i 1).val; omega
      | ⟨2, _⟩ => refine Fin.ext ?_; show (i 2).val * 1 + (w 2).val - 0 = (i 2).val; omega
      | ⟨3, _⟩ => refine Fin.ext ?_; show (i 3).val * 1 + (w 3).val - 0 = ((i 3).val + (w 3).val) % 2048; omega
    · intro a
      match a with
      | ⟨0, _⟩ => exact ⟨Nat.zero_le _, by show (i 0).val * 1 + (w 0).val - 0 < 4; have : (i 0).val < 4 := (i 0).isLt; omega⟩
      | ⟨1, _⟩ => exact ⟨Nat.zero_le _, by show (i 1).val * 1 + (w 1).val - 0 < 32; have : (i 1).val < 32 := (i 1).isLt; omega⟩
      | ⟨2, _⟩ => exact ⟨Nat.zero_le _, by show (i 2).val * 1 + (w 2).val - 0 < 2048; have : (i 2).val < 2048 := (i 2).isLt; omega⟩
      | ⟨3, _⟩ => exact ⟨Nat.zero_le _, by show (i 3).val * 1 + (w 3).val - 0 < 2048; omega⟩
  · rw [if_neg hlt, dif_neg]
    intro hin
    have h3 : (i 3).val * 1 + (w 3).val - 0 < 2048 := (hin 3).2
    omega

/-- The reference's softplus at a real number. -/
theorem softplus_coe (x : ℝ) :
    Scalar.select (FloatOps.cmpf (F := Ideal) (φ := .f32) .une ((x : EReal) - 0) ((x : EReal) - 0)) ((x : EReal) + 0)
        (max (x : EReal) 0 + Ideal.log (1 + Ideal.exp (-(max ((x : EReal) - 0) (-((x : EReal) - 0))))))
      = ((max x 0 + Real.log (1 + Real.exp (-|x|)) : ℝ) : EReal) := by
  have e0 : (x : EReal) - 0 = (x : EReal) := by rw [← EReal.coe_zero, ← EReal.coe_sub, sub_zero]
  have h1 : -(max (x : EReal) (-(x : EReal))) = ((-|x| : ℝ) : EReal) := by
    rw [← EReal.coe_neg, ← EReal.coe_strictMono.monotone.map_max, ← EReal.coe_neg]
    rfl
  have h2 : (1 : EReal) + ((Real.exp (-|x|) : ℝ) : EReal) = ((1 + Real.exp (-|x|) : ℝ) : EReal) := by
    rw [EReal.coe_add, EReal.coe_one]
  have h3 : max (x : EReal) 0 = ((max x 0 : ℝ) : EReal) := by
    rw [← EReal.coe_zero, ← EReal.coe_strictMono.monotone.map_max]
  have h4 : FloatOps.cmpf (F := Ideal) (φ := .f32) .une (x : EReal) (x : EReal) = 0#1 := by
    show Ideal.cmp .une (x : EReal) (x : EReal) = 0#1
    simp [Ideal.cmp]
  rw [e0, h4, h1, Ideal.exp_coe, h2, Ideal.log_coe, if_neg (not_le.mpr (Stick.one_add_exp_pos _)), h3, ← EReal.coe_add]
  rfl

section

variable (x0 x1 x2 : (⟨S8192x4096, .bf16⟩ : BufTy).Contents (Elt Ideal)) (x3 : (⟨S32, .f32⟩ : BufTy).Contents (Elt Ideal))
variable (Q K : S8192x4096.Idx → ℝ) (B : S32.Idx → ℝ) (s : ℝ)
variable (hQ : ∀ i, x0 i = (Q i : EReal)) (hK : ∀ i, x1 i = (K i : EReal)) (hB : ∀ i, x3 i = (B i : EReal))
variable (hs : Ideal.ofBits .f32 0x3DB504F3#32 = (s : EReal))

theorem idx1_eq (y : S4x2048x32x128.Idx) {α : Type} (x : S8192x4096.Idx → α) :
    x (idx_main_v1 y) = Stick.at2 x (2048 * (y 0).val + (y 1).val) (128 * (y 2).val + (y 3).val) := by
  unfold Stick.at2
  congr 1
  have h0 : (y 0).val < 4 := (y 0).isLt
  have h1 : (y 1).val < 2048 := (y 1).isLt
  have h2 : (y 2).val < 32 := (y 2).isLt
  have h3 : (y 3).val < 128 := (y 3).isLt
  funext d
  match d with
  | ⟨0, _⟩ =>
    refine Fin.ext ?_
    show ((((y 0).val * 2048 + (y 1).val) * 32 + (y 2).val) * 128 + (y 3).val) / 4096 = (2048 * (y 0).val + (y 1).val) % 8192
    omega
  | ⟨1, _⟩ =>
    refine Fin.ext ?_
    show ((((y 0).val * 2048 + (y 1).val) * 32 + (y 2).val) * 128 + (y 3).val) % 4096 = (128 * (y 2).val + (y 3).val) % 4096
    omega

/-- An entry, as the score of its coordinates. -/
def zOf (i : S4x32x2048x2048.Idx) : ℝ := Stick.score Q K B s (i 0).val (i 1).val (i 2).val (i 3).val

include hQ hK hB hs in
theorem v11_at (i : S4x32x2048x2048.Idx) : val_main_v11 (F := Ideal) x0 x1 x3 i = (zOf Q K B s i : EReal) := by
  have e7 : val_main_v7 (F := Ideal) x0 x1 i = ((∑ d : Fin 128, Stick.at2 Q (2048 * (i 0).val + (i 2).val) (128 * (i 1).val + d.val) * Stick.at2 K (2048 * (i 0).val + (i 3).val) (128 * (i 1).val + d.val) : ℝ) : EReal) := by
    rw [val_main_v7_apply, Stick.coe_sum]
    refine Finset.sum_congr rfl fun d _ => ?_
    have ea : val_main_v1 (F := Ideal) x0 (lidx_main_v7 i d) = ((Stick.at2 Q (2048 * (i 0).val + (i 2).val) (128 * (i 1).val + d.val) : ℝ) : EReal) := by
      rw [val_main_v1_apply]
      show x0 (idx_main_v1 (lidx_main_v7 i d)) = _
      exact (idx1_eq (lidx_main_v7 i d) (α := EReal) x0).trans (hQ _)
    have eb : val_main_v3 (F := Ideal) x1 (ridx_main_v7 i d) = ((Stick.at2 K (2048 * (i 0).val + (i 3).val) (128 * (i 1).val + d.val) : ℝ) : EReal) := by
      rw [val_main_v3_apply]
      show x1 (idx_main_v1 (ridx_main_v7 i d)) = _
      exact (idx1_eq (ridx_main_v7 i d) (α := EReal) x1).trans (hK _)
    rw [ea, eb, ← EReal.coe_mul]
  have e8 : val_main_v8 (F := Ideal) i = (s : EReal) := by
    rw [val_main_v8_apply]
    exact hs
  have e10 : val_main_v10 (F := Ideal) x3 i = ((Stick.at1 B (i 1).val : ℝ) : EReal) := by
    rw [val_main_v10_apply, val_main_v6_apply, hB]
    unfold Stick.at1
    congr 2
    funext d
    match d with
    | ⟨0, _⟩ =>
      refine Fin.ext ?_
      have h1 : (i 1).val < 32 := (i 1).isLt
      first
        | (show (i 1).val = (i 1).val % 32; omega)
        | (show ((0 * 32 + (i 1).val) * 1 + 0) * 1 + 0 = (i 1).val % 32; omega)
        | (show (((0 * 32 + (i 1).val) * 1 + 0) * 1 + 0) % 32 = (i 1).val % 32; omega)
  rw [val_main_v11_apply, val_main_v9_apply, e7, e8, e10]
  show (_ : EReal) * _ + _ = _
  rw [← EReal.coe_mul, ← EReal.coe_add]
  rfl

theorem mask_at (i : S2048x2048.Idx) :
    val_main_v18 (F := Ideal) i = BitVec.ofBool (decide ((i 1).val < (i 0).val)) := by
  rw [val_main_v18_apply, val_main_v16_apply, val_main_v17_apply, val_main_v13_apply, val_main_v15_apply, val_main_v12_apply, val_main_v14_apply]
  have h0 : (i 0).val < 2048 := (i 0).isLt
  have h1 : (i 1).val < 2048 := (i 1).isLt
  exact cmpi_slt_ofNat (w := 32) (by show (i 1).val < _; omega) (by show (i 0).val < _; omega)

include hQ hK hB hs in
theorem v20_at (i : S4x32x2048x2048.Idx) : val_main_v20 (F := Ideal) x0 x1 x3 i = (Stick.keep (zOf Q K B s i) : EReal) := by
  have e : val_main_call0_v0 (F := Ideal) x0 x1 x3 i = ((zOf Q K B s i : ℝ) : EReal) := by
    rw [val_main_call0_v0_apply, val_main_v19_apply, v11_at x0 x1 x3 Q K B s hQ hK hB hs]
    exact neg_neg _
  have c0 : val_main_call0_call0_v0 (F := Ideal) i = 0 := by
    rw [val_main_call0_call0_v0_apply]; exact Ideal.ofBits_zero_f32
  have c2 : val_main_call0_call0_v2 (F := Ideal) i = 0 := by
    rw [val_main_call0_call0_v2_apply]; exact Ideal.ofBits_zero_f32
  have c5 : val_main_call0_call0_v5 (F := Ideal) i = 0 := by
    rw [val_main_call0_call0_v5_apply]; exact Ideal.ofBits_zero_f32
  rw [val_main_v20_apply, val_main_call0_v1_apply, val_main_call0_call0_v4_apply, val_main_call0_call0_v6_apply,
    val_main_call0_call0_v11_apply, val_main_call0_call0_v1_apply, val_main_call0_call0_v10_apply, val_main_call0_call0_v9_apply,
    val_main_call0_call0_v8_apply, val_main_call0_call0_v7_apply, val_main_call0_call0_v3_apply, e, c0, c2, c5, Stick.keep_eq, EReal.coe_neg]
  exact congrArg (fun t : EReal => -t) (softplus_coe (zOf Q K B s i))

include hQ hK hB hs in
theorem v24_at (i : S4x32x2048x2048.Idx) : val_main_v24 (F := Ideal) x0 x1 x3 i = (Stick.lsg (zOf Q K B s i) : EReal) := by
  have e : val_main_call3_v0 (F := Ideal) x0 x1 x3 i = ((-zOf Q K B s i : ℝ) : EReal) := by
    rw [val_main_call3_v0_apply, v11_at x0 x1 x3 Q K B s hQ hK hB hs, EReal.coe_neg]
    rfl
  have c0 : val_main_call3_call0_v0 (F := Ideal) i = 0 := by
    rw [val_main_call3_call0_v0_apply]; exact Ideal.ofBits_zero_f32
  have c2 : val_main_call3_call0_v2 (F := Ideal) i = 0 := by
    rw [val_main_call3_call0_v2_apply]; exact Ideal.ofBits_zero_f32
  have c5 : val_main_call3_call0_v5 (F := Ideal) i = 0 := by
    rw [val_main_call3_call0_v5_apply]; exact Ideal.ofBits_zero_f32
  have hl : Stick.lsg (zOf Q K B s i) = -(max (-zOf Q K B s i) 0 + Real.log (1 + Real.exp (-|(-zOf Q K B s i)|))) := by
    unfold Stick.lsg
    rw [abs_neg, neg_add, ← min_neg_neg, neg_neg, neg_zero]
    ring
  rw [val_main_v24_apply, val_main_call3_v1_apply, val_main_call3_call0_v4_apply, val_main_call3_call0_v6_apply,
    val_main_call3_call0_v11_apply, val_main_call3_call0_v1_apply, val_main_call3_call0_v10_apply, val_main_call3_call0_v9_apply,
    val_main_call3_call0_v8_apply, val_main_call3_call0_v7_apply, val_main_call3_call0_v3_apply, e, c0, c2, c5, hl, EReal.coe_neg]
  exact congrArg (fun t : EReal => -t) (softplus_coe (-zOf Q K B s i))

include hQ hK hB hs in
theorem v21_at (i : S4x32x2048x2048.Idx) : val_main_v21 (F := Ideal) x0 x1 x3 i
    = ((if (i 3).val < (i 2).val then Stick.keep (zOf Q K B s i) else 0 : ℝ) : EReal) := by
  have c : val_main_call1_v2 (F := Ideal) i = 0 := by
    rw [val_main_call1_v2_apply]; exact Ideal.ofBits_zero_f32
  rw [val_main_v21_apply, val_main_call1_v1_apply, mask_at, v20_at x0 x1 x3 Q K B s hQ hK hB hs, c]
  show Scalar.select (BitVec.ofBool (decide ((i 3).val < (i 2).val))) _ _ = _
  by_cases h : (i 3).val < (i 2).val <;> simp [h, Scalar.select]

/-- The sum of the masked log-keeps from j on is the sum over the keys from j to the query. -/
theorem suffix_real (f : ℕ → ℝ) (i j : ℕ) (hi : i < 2048) :
    (∑ n : Fin 2048, if j + n.val < 2048 then (if j + n.val < i then f (j + n.val) else 0) else 0) = ∑ l ∈ Finset.Ico j i, f l := by
  rw [Fin.sum_univ_eq_sum_range (fun n => if j + n < 2048 then (if j + n < i then f (j + n) else 0) else 0) 2048]
  rw [Finset.sum_Ico_eq_sum_range]
  have hsub : Finset.range (i - j) ⊆ Finset.range 2048 := by
    intro a ha
    rw [Finset.mem_range] at ha ⊢
    omega
  rw [← Finset.sum_subset hsub]
  · refine Finset.sum_congr rfl fun n hn => ?_
    rw [Finset.mem_range] at hn
    rw [if_pos (by omega), if_pos (by omega)]
  · intro n hn hn'
    rw [Finset.mem_range] at hn hn'
    by_cases h : j + n < 2048
    · rw [if_pos h, if_neg (by omega)]
    · rw [if_neg h]

theorem zOf_setLast (i : S4x32x2048x2048.Idx) (n : ℕ) (hn : n < 2048) :
    zOf Q K B s (setLast i n) = Stick.score Q K B s (i 0).val (i 1).val (i 2).val n := by
  unfold zOf
  show Stick.score Q K B s (i 0).val (i 1).val (i 2).val (n % 2048) = _
  rw [Nat.mod_eq_of_lt hn]

include hQ hK hB hs in
theorem v22_at (i : S4x32x2048x2048.Idx) : val_main_v22 (F := Ideal) x0 x1 x3 i
    = ((∑ l ∈ Finset.Ico (i 3).val (i 2).val, Stick.keep (Stick.score Q K B s (i 0).val (i 1).val (i 2).val l) : ℝ) : EReal) := by
  have hi2 : (i 2).val < 2048 := (i 2).isLt
  have e : val_main_v22 (F := Ideal) x0 x1 x3 i
      = ∑ n : Fin 2048, if (i 3).val + n.val < 2048 then val_main_v21 (F := Ideal) x0 x1 x3 (setLast i ((i 3).val + n.val)) else 0 := by
    unfold val_main_v22
    have hv : val_main_call2_v0 (F := Ideal) (Shape.Idx.first h_S_) = 0 := by
      rw [val_main_call2_v0_apply]; exact Ideal.ofBits_zero_f32
    unfold Host.reduceWindowAdd
    rw [Ideal.hostReduceWindowAdd_def, hv]
    generalize val_main_v21 (F := Ideal) x0 x1 x3 = X
    unfold Ideal.hostReduceWindowAdd
    exact window_sum X (fun _ => (0 : EReal)) _ rfl _ i
  rw [e, ← suffix_real (fun l => Stick.keep (Stick.score Q K B s (i 0).val (i 1).val (i 2).val l)) _ _ hi2, Stick.coe_sum]
  refine Finset.sum_congr rfl fun n _ => ?_
  by_cases h : (i 3).val + n.val < 2048
  · rw [if_pos h, if_pos h, v21_at x0 x1 x3 Q K B s hQ hK hB hs, zOf_setLast Q K B s i _ h]
    show ((if ((i 3).val + n.val) % 2048 < (i 2).val then _ else _ : ℝ) : EReal) = _
    rw [Nat.mod_eq_of_lt h]
  · rw [if_neg h, if_neg h, EReal.coe_zero]

include hQ hK hB hs in
theorem v27_at (i : S4x32x2048x2048.Idx) : val_main_v27 (F := Ideal) x0 x1 x3 i
    = ((if (i 3).val < (i 2).val then Stick.wt (Stick.score Q K B s (i 0).val (i 1).val (i 2).val) (i 2).val (i 3).val else 0 : ℝ) : EReal) := by
  have c : val_main_call4_v2 (F := Ideal) i = 0 := by
    rw [val_main_call4_v2_apply]; exact Ideal.ofBits_zero_f32
  rw [val_main_v27_apply, val_main_call4_v1_apply, mask_at, c]
  show Scalar.select (BitVec.ofBool (decide ((i 3).val < (i 2).val))) _ _ = _
  by_cases h : (i 3).val < (i 2).val
  · have hval : val_main_v26 (F := Ideal) x0 x1 x3 i = ((Stick.wt (Stick.score Q K B s (i 0).val (i 1).val (i 2).val) (i 2).val (i 3).val : ℝ) : EReal) := by
      rw [val_main_v26_apply, val_main_v25_apply, val_main_v23_apply, v22_at x0 x1 x3 Q K B s hQ hK hB hs, v21_at x0 x1 x3 Q K B s hQ hK hB hs,
        v24_at x0 x1 x3 Q K B s hQ hK hB hs, if_pos h]
      rw [Ideal.subf_def, Ideal.addf_def, Ideal.hostUnary_exp_def]
      rw [← EReal.coe_sub, ← EReal.coe_add, Ideal.exp_coe]
      unfold Stick.wt
      rw [Finset.sum_eq_sum_Ico_succ_bot h]
      unfold zOf
      rw [add_sub_cancel_left]
    rw [hval]
    simp [h, Scalar.select]
  · simp [h, Scalar.select]

include hQ hK hB hs in
/-- The reference's element: the values weighted by the stick-breaking weights, over the keys before the query. -/
theorem out_at (i : S8192x4096.Idx) (b r h d : ℕ) (hb : b < 4) (hr : r < 2048) (hh : h < 32) (hd : d < 128)
    (e0 : (i 0).val = 2048 * b + r) (e1 : (i 1).val = 128 * h + d) :
    val_main_v31 (F := Ideal) x0 x1 x2 x3 i
      = ∑ j ∈ Finset.Ico 0 r, (Stick.wt (Stick.score Q K B s b h r) r j : EReal) * Stick.at2 x2 (2048 * b + j) (128 * h + d) := by
  rw [val_main_v31_apply, val_main_v30_apply, val_main_v29_apply, val_main_v28_apply]
  show (∑ k : Fin 2048, _ : EReal) = _
  have i0 : ((i 0).val * 4096 + (i 1).val) / 8388608 = b := by omega
  have i1 : ((i 0).val * 4096 + (i 1).val) / 4096 % 2048 = r := by omega
  have i2 : ((i 0).val * 4096 + (i 1).val) / 128 % 32 = h := by omega
  have i3 : ((i 0).val * 4096 + (i 1).val) % 128 = d := by omega
  have hterm : ∀ k : Fin 2048, val_main_v5 (F := Ideal) x2 (lidx_main_v28 (idx_main_v29 (idx_main_v30 i)) k)
        * val_main_v27 (F := Ideal) x0 x1 x3 (ridx_main_v28 (idx_main_v29 (idx_main_v30 i)) k)
      = (fun j : ℕ => if j < r then (Stick.wt (Stick.score Q K B s b h r) r j : EReal) * Stick.at2 x2 (2048 * b + j) (128 * h + d) else 0) k.val := by
    intro k
    have ev : val_main_v5 (F := Ideal) x2 (lidx_main_v28 (idx_main_v29 (idx_main_v30 i)) k) = Stick.at2 x2 (2048 * b + k.val) (128 * h + d) := by
      rw [val_main_v5_apply]
      show x2 (idx_main_v1 (lidx_main_v28 (idx_main_v29 (idx_main_v30 i)) k)) = _
      refine (idx1_eq _ (α := EReal) x2).trans ?_
      show Stick.at2 x2 (2048 * (((i 0).val * 4096 + (i 1).val) / 8388608) + k.val) (128 * (((i 0).val * 4096 + (i 1).val) / 128 % 32) + ((i 0).val * 4096 + (i 1).val) % 128) = _
      rw [i0, i2, i3]
    have ew := v27_at x0 x1 x3 Q K B s hQ hK hB hs (ridx_main_v28 (idx_main_v29 (idx_main_v30 i)) k)
    rw [show ((ridx_main_v28 (idx_main_v29 (idx_main_v30 i)) k) 0).val = b from i0,
      show ((ridx_main_v28 (idx_main_v29 (idx_main_v30 i)) k) 1).val = h from i2,
      show ((ridx_main_v28 (idx_main_v29 (idx_main_v30 i)) k) 2).val = r from i1,
      show ((ridx_main_v28 (idx_main_v29 (idx_main_v30 i)) k) 3).val = k.val from rfl] at ew
    rw [ev, ew]
    show _ = if k.val < r then _ else _
    by_cases hk : k.val < r
    · rw [if_pos hk, if_pos hk, mul_comm]
    · rw [if_neg hk, if_neg hk, EReal.coe_zero, mul_zero]
  rw [Finset.sum_congr rfl fun k _ => hterm k]
  rw [Fin.sum_univ_eq_sum_range (fun j : ℕ => if j < r then (Stick.wt (Stick.score Q K B s b h r) r j : EReal) * Stick.at2 x2 (2048 * b + j) (128 * h + d) else 0) 2048]
  rw [Nat.Ico_zero_eq_range]
  have hsub : Finset.range r ⊆ Finset.range 2048 := by
    intro a ha
    rw [Finset.mem_range] at ha ⊢
    omega
  rw [← Finset.sum_subset hsub]
  · refine Finset.sum_congr rfl fun n hn => ?_
    rw [Finset.mem_range] at hn
    rw [if_pos hn]
  · intro n hn hn'
    rw [Finset.mem_range] at hn hn'
    rw [if_neg hn']

end

end Cert.ReferenceIdeal.Read
-- ==== Proof.OutB.lean ====
/- What the kernel's launch leaves in the output array, under real queries, keys and biases. -/
module

public import proofs.«01_k».proof.Proof.Common
public import proofs.«01_k».proof.Proof.ElemB
public import proofs.«01_k».proof.Proof.RefB
public import Idealize.ShloMosaic.Lib.Pipeline.ValueKit

@[expose] public section

set_option maxRecDepth 16384

noncomputable section

namespace Cert.KernelIdeal.Tile

open Cert.KernelIdeal Cert.KernelIdeal.Gen
open Idealize.ShloMosaic Idealize.ShloMosaic.TcCoe Idealize.ShloMosaic.Pointwise Idealize.ShloMosaic.WordCmp
open Idealize.SL.Sem

/-- The attention's result at row R and column C. -/
def outNum (Q K : S8192x4096.Idx → ℝ) (B : S32.Idx → ℝ) (s : ℝ) (x2 : S8192x4096.Idx → EReal) (R C : ℕ) : EReal :=
  ∑ j ∈ Finset.Ico 0 (R % 2048), (Stick.wt (Stick.score Q K B s (R / 2048) (C / 128) (R % 2048)) (R % 2048) j : EReal)
    * Stick.at2 x2 (2048 * (R / 2048) + j) C

theorem at2_congr {α : Type} (x : S8192x4096.Idx → α) (r c r' c' : ℕ) (hr : r = r') (hc : c = c') : Stick.at2 x r c = Stick.at2 x r' c' := by
  rw [hr, hc]

section

variable (Q K : S8192x4096.Idx → ℝ) (B : S32.Idx → ℝ) (s : ℝ) (v : S8192x4096.Idx → EReal)
variable (hs : Ideal.ofBits .f32 0x3DB504F3#32 = (s : EReal))
variable (i : grid0.Coords)
variable (x2 : FVec Ideal S32 .f32) (x3 x4 x5 : FVec Ideal S2048x512 .bf16)
variable (h2 : ∀ n : ℕ, biasOf x2 n = ((Stick.at1 B n : ℝ) : EReal))
variable (h3 : ∀ y : S2048x512.Idx, x3 y = ((Stick.at2 Q (2048 * (i 0).val + (y 0).val) (512 * (i 1).val + (y 1).val) : ℝ) : EReal))
variable (h4 : ∀ y : S2048x512.Idx, x4 y = ((Stick.at2 K (2048 * (i 0).val + (y 0).val) (512 * (i 1).val + (y 1).val) : ℝ) : EReal))
variable (h5 : ∀ y : S2048x512.Idx, x5 y = Stick.at2 v (2048 * (i 0).val + (y 0).val) (512 * (i 1).val + (y 1).val))

theorem tile_real (A : S8192x4096.Idx → ℝ) (x : FVec Ideal S2048x512 .bf16)
    (hx : ∀ y : S2048x512.Idx, x y = ((Stick.at2 A (2048 * (i 0).val + (y 0).val) (512 * (i 1).val + (y 1).val) : ℝ) : EReal))
    (t h : ℕ) (ht : t < 8) (hh : h < 4) (r : Fin 256) (d : Fin 128) :
    tileOf x t h (ix2 r d) = ((Stick.at2 A (2048 * (i 0).val + (256 * t + r.val)) (128 * (4 * (i 1).val + h) + d.val) : ℝ) : EReal) := by
  have hr := r.isLt
  have hd := d.isLt
  unfold tileOf
  rw [hx]
  refine congrArg _ (at2_congr A _ _ _ _ ?_ ?_)
  · show 2048 * (i 0).val + (256 * t + r.val) % 2048 = _
    omega
  · show 512 * (i 1).val + (128 * h + d.val) % 512 = _
    omega

theorem tile_val (A : S8192x4096.Idx → EReal) (x : FVec Ideal S2048x512 .bf16)
    (hx : ∀ y : S2048x512.Idx, x y = Stick.at2 A (2048 * (i 0).val + (y 0).val) (512 * (i 1).val + (y 1).val))
    (t h : ℕ) (ht : t < 8) (hh : h < 4) (r : Fin 256) (d : Fin 128) :
    tileOf x t h (ix2 r d) = Stick.at2 A (2048 * (i 0).val + (256 * t + r.val)) (128 * (4 * (i 1).val + h) + d.val) := by
  have hr := r.isLt
  have hd := d.isLt
  unfold tileOf
  rw [hx]
  refine at2_congr A _ _ _ _ ?_ ?_
  · show 2048 * (i 0).val + (256 * t + r.val) % 2048 = _
    omega
  · show 512 * (i 1).val + (128 * h + d.val) % 512 = _
    omega

include hs h2 h3 h4 h5 in
/-- A head's result for query tile k, at row r and column d of the tile. -/
theorem hd_at (k h : ℕ) (hk : k < 8) (hh : h < 4) (r : Fin 256) (d : Fin 128) :
    (hd (F := Ideal) i x2 x3 x4 x5 k h k).2 (ix2 r d)
      = outNum Q K B s v (2048 * (i 0).val + (256 * k + r.val)) (512 * (i 1).val + (128 * h + d.val)) := by
  have hr := r.isLt
  have hd' := d.isLt
  have e := (headSt_row (tileOf x3 k h) (fun a => tileOf x4 a h) (fun a => tileOf x5 a h) (biasOf x2 (4 * (i 1).val + h)) k r d
    (Stick.score Q K B s (i 0).val (4 * (i 1).val + h) (256 * k + r.val))
    (fun j => Stick.at2 v (2048 * (i 0).val + j) (128 * (4 * (i 1).val + h) + d.val))
    (fun t ht x => by
      rw [scores_at, h2]
      have e1 : ∀ d' : Fin 128, tileOf x3 k h (ix2 r d') * tileOf x4 t h (ix2 x d')
          = ((Stick.at2 Q (2048 * (i 0).val + (256 * k + r.val)) (128 * (4 * (i 1).val + h) + d'.val)
              * Stick.at2 K (2048 * (i 0).val + (256 * t + x.val)) (128 * (4 * (i 1).val + h) + d'.val) : ℝ) : EReal) := fun d' => by
        rw [tile_real i Q x3 h3 k h hk hh, tile_real i K x4 h4 t h (by omega) hh, ← EReal.coe_mul]
      rw [Finset.sum_congr rfl fun d' _ => e1 d', ← Stick.coe_sum]
      show ((_ : ℝ) : EReal) * Ideal.ofBits .f32 0x3DB504F3#32 + _ = _
      rw [hs, ← EReal.coe_mul, ← EReal.coe_add]
      rfl)
    (fun t ht x => tile_val i v x5 h5 t h (by omega) hh x d) k le_rfl).2
  refine e.trans ?_
  unfold outNum
  have q1 : (2048 * (i 0).val + (256 * k + r.val)) % 2048 = 256 * k + r.val := by omega
  have q2 : (2048 * (i 0).val + (256 * k + r.val)) / 2048 = (i 0).val := by omega
  have q3 : (512 * (i 1).val + (128 * h + d.val)) / 128 = 4 * (i 1).val + h := by omega
  have q4 : 128 * (4 * (i 1).val + h) + d.val = 512 * (i 1).val + (128 * h + d.val) := by omega
  rw [q1, q2, q3, q4, Nat.sub_self, Nat.mul_zero]

end

/-! ## The array -/

variable (m : (ℓ : Loc nD τ sig) → Buf (Elt Ideal) ℓ) (ρ : Dev nD → PrngReg)
variable (Q K : S8192x4096.Idx → ℝ) (B : S32.Idx → ℝ) (s : ℝ)
variable (hs : Ideal.ofBits .f32 0x3DB504F3#32 = (s : EReal)) (c : Dev nD)
variable (hQ : ∀ i : S8192x4096.Idx, (m ((c : Thread nD τ).loc main_arg0) : S8192x4096.Idx → EReal) i = (Q i : EReal))
variable (hK : ∀ i : S8192x4096.Idx, (m ((c : Thread nD τ).loc main_arg1) : S8192x4096.Idx → EReal) i = (K i : EReal))
variable (hB : ∀ i : S32.Idx, (m ((c : Thread nD τ).loc main_arg3) : S32.Idx → EReal) i = (B i : EReal))

theorem idxE (t : Fin cfg0.N) : ((grid0.coords t) 0).val < 4 ∧ ((grid0.coords t) 1).val < 8 :=
  ⟨((grid0.coords t) 0).isLt, ((grid0.coords t) 1).isLt⟩

theorem map1 : ∀ t : Fin cfg0.N, cc0_transform_1 (grid0.coords t) = ![((grid0.coords t) 0).val, ((grid0.coords t) 1).val] := by decide +kernel
theorem map2 : ∀ t : Fin cfg0.N, cc0_transform_2 (grid0.coords t) = ![((grid0.coords t) 0).val, ((grid0.coords t) 1).val] := by decide +kernel
theorem map3 : ∀ t : Fin cfg0.N, cc0_transform_3 (grid0.coords t) = ![((grid0.coords t) 0).val, ((grid0.coords t) 1).val] := by decide +kernel
theorem map4 : ∀ t : Fin cfg0.N, cc0_transform_4 (grid0.coords t) = ![((grid0.coords t) 0).val, ((grid0.coords t) 1).val] := by decide +kernel

theorem blk1_at (t : Fin cfg0.N) (y : S2048x512.Idx) : iblk m c 1 t y
    = Stick.at2 (m ((c : Thread nD τ).loc main_arg0) : S8192x4096.Idx → EReal) (2048 * ((grid0.coords t) 0).val + (y 0).val) (512 * ((grid0.coords t) 1).val + (y 1).val) := by
  have hb := idxE t
  have h0 : (y 0).val < 2048 := (y 0).isLt
  have h1 : (y 1).val < 512 := (y 1).isLt
  have e0 : win0_1.index t 0 = ((grid0.coords t) 0).val := congrFun (map1 t) 0
  have e1 : win0_1.index t 1 = ((grid0.coords t) 1).val := congrFun (map1 t) 1
  blk_simp [iblk]
  exact congrArg (m ((c : Thread nD τ).loc main_arg0)) (Common.ext2 (by blk_simp; rw [e0]; show _ = (2048 * ((grid0.coords t) 0).val + (y 0).val) % 8192; omega) (by blk_simp; rw [e1]; show _ = (512 * ((grid0.coords t) 1).val + (y 1).val) % 4096; omega))

theorem blk2_at (t : Fin cfg0.N) (y : S2048x512.Idx) : iblk m c 2 t y
    = Stick.at2 (m ((c : Thread nD τ).loc main_arg1) : S8192x4096.Idx → EReal) (2048 * ((grid0.coords t) 0).val + (y 0).val) (512 * ((grid0.coords t) 1).val + (y 1).val) := by
  have hb := idxE t
  have h0 : (y 0).val < 2048 := (y 0).isLt
  have h1 : (y 1).val < 512 := (y 1).isLt
  have e0 : win0_2.index t 0 = ((grid0.coords t) 0).val := congrFun (map2 t) 0
  have e1 : win0_2.index t 1 = ((grid0.coords t) 1).val := congrFun (map2 t) 1
  blk_simp [iblk]
  exact congrArg (m ((c : Thread nD τ).loc main_arg1)) (Common.ext2 (by blk_simp; rw [e0]; show _ = (2048 * ((grid0.coords t) 0).val + (y 0).val) % 8192; omega) (by blk_simp; rw [e1]; show _ = (512 * ((grid0.coords t) 1).val + (y 1).val) % 4096; omega))

theorem blk3_at (t : Fin cfg0.N) (y : S2048x512.Idx) : iblk m c 3 t y
    = Stick.at2 (m ((c : Thread nD τ).loc main_arg2) : S8192x4096.Idx → EReal) (2048 * ((grid0.coords t) 0).val + (y 0).val) (512 * ((grid0.coords t) 1).val + (y 1).val) := by
  have hb := idxE t
  have h0 : (y 0).val < 2048 := (y 0).isLt
  have h1 : (y 1).val < 512 := (y 1).isLt
  have e0 : win0_3.index t 0 = ((grid0.coords t) 0).val := congrFun (map3 t) 0
  have e1 : win0_3.index t 1 = ((grid0.coords t) 1).val := congrFun (map3 t) 1
  blk_simp [iblk]
  exact congrArg (m ((c : Thread nD τ).loc main_arg2)) (Common.ext2 (by blk_simp; rw [e0]; show _ = (2048 * ((grid0.coords t) 0).val + (y 0).val) % 8192; omega) (by blk_simp; rw [e1]; show _ = (512 * ((grid0.coords t) 1).val + (y 1).val) % 4096; omega))

theorem blk0_at (t : Fin cfg0.N) (n : ℕ) : biasOf (iblk m c 0 t) n = Stick.at1 (m ((c : Thread nD τ).loc main_arg3) : S32.Idx → EReal) n := by
  unfold biasOf
  blk_simp [iblk]
  refine congrArg (m ((c : Thread nD τ).loc main_arg3)) (funext fun a => Fin.ext ?_)
  match a with
  | ⟨0, _⟩ =>
    show (((win0_0.blk t).view.emb _) 0).val = n % 32
    blk_simp
    show 0 * 32 + n % 32 = n % 32
    omega

/-- A place of a tile as its row and column. -/
theorem tile_ix (x : S256x128.Idx) : x = ix2 (⟨(x 0).val, (x 0).isLt⟩ : Fin 256) (⟨(x 1).val, (x 1).isLt⟩ : Fin 128) :=
  Common.eta2 x

include hs hQ hK hB in
/-- A head's piece is the attention at its places. -/
theorem piece_at (t : Fin cfg0.N) (k : Fin k0_t1_loop.trips) (h : ℕ) (hh : h < 4) (off : Fin 2 → ℕ) (inb)
    (e : off = ![256 * k.val, 128 * h]) (x : S256x128.Idx) :
    (truncf .bf16 (hd (F := Ideal) (grid0.coords t) (iblk m c 0 t) (iblk m c 1 t) (iblk m c 2 t) (iblk m c 3 t) k.val h k.val).2 bitsLt_bf16_f32 : FVec Ideal S256x128 .bf16) x
      = outNum Q K B s (m ((c : Thread nD τ).loc main_arg2))
          (2048 * ((grid0.coords t) 0).val + (((Rect.unit (s := S2048x512) off S256x128.size inb).emb x) 0).val)
          (512 * ((grid0.coords t) 1).val + (((Rect.unit (s := S2048x512) off S256x128.size inb).emb x) 1).val) := by
  subst e
  have hk : k.val < 8 := lt_of_lt_of_eq k.isLt trips1
  have e0 : (((Rect.unit (s := S2048x512) ![256 * k.val, 128 * h] S256x128.size inb).emb x) 0).val = 256 * k.val + (x 0).val := by
    exact ValueKit.rect_emb_unit_val (s := S2048x512) _ _ inb x 0
  have e1 : (((Rect.unit (s := S2048x512) ![256 * k.val, 128 * h] S256x128.size inb).emb x) 1).val = 128 * h + (x 1).val := by
    exact ValueKit.rect_emb_unit_val (s := S2048x512) _ _ inb x 1
  rw [e0, e1]
  have key := hd_at Q K B s (m ((c : Thread nD τ).loc main_arg2)) hs (grid0.coords t) (iblk m c 0 t) (iblk m c 1 t) (iblk m c 2 t) (iblk m c 3 t)
    (fun n => by rw [blk0_at]; exact hB _) (fun y => by rw [blk1_at]; exact hQ _) (fun y => by rw [blk2_at]; exact hK _)
    (fun y => by rw [blk3_at]) k.val h hk hh ⟨(x 0).val, (x 0).isLt⟩ ⟨(x 1).val, (x 1).isLt⟩
  rw [← tile_ix x] at key
  exact key

include hs hQ hK hB in
/-- The output block at a point is the attention at its places. -/
theorem outB_at (t : Fin cfg0.N) (y : S2048x512.Idx) :
    outB m c t y = outNum Q K B s (m ((c : Thread nD τ).loc main_arg2))
      (2048 * ((grid0.coords t) 0).val + (y 0).val) (512 * ((grid0.coords t) 1).val + (y 1).val) := by
  unfold outB
  refine View.canon_apply_of_pieces (Val := Elt Ideal) (e := .bf16) (fun y : S2048x512.Idx => outNum Q K B s (m ((c : Thread nD τ).loc main_arg2))
      (2048 * ((grid0.coords t) 0).val + (y 0).val) (512 * ((grid0.coords t) 1).val + (y 1).val)) (pieces m c t) (fun p hp x => ?_) y
    (cover _ _ _ _ _ _ _ _ _ _ _ _ _ _ _ _ _ _ _ y)
  obtain ⟨k, hk⟩ := of_mem_pb _ _ _ _ _ _ _ _ _ _ _ _ _ _ _ _ _ _ _ p _ le_rfl hp
  rw [tripL_heads] at hk
  simp only [List.mem_cons, List.not_mem_nil, or_false] at hk
  rcases hk with rfl | rfl | rfl | rfl
  · exact piece_at m Q K B s hs c hQ hK hB t k 3 (by omega) (k0_off4 k) (k0_off4_inb k) (off4_tile k) x
  · exact piece_at m Q K B s hs c hQ hK hB t k 2 (by omega) (k0_off3 k) (k0_off3_inb k) (off3_tile k) x
  · exact piece_at m Q K B s hs c hQ hK hB t k 1 (by omega) (k0_off2 k) (k0_off2_inb k) (off2_tile k) x
  · exact piece_at m Q K B s hs c hQ hK hB t k 0 (by omega) (k0_off1 k) (k0_off1_inb k) (off1_tile k) x

include hs hQ hK hB in
/-- The output array after the launch is the attention. -/
theorem arr_out : (dats m 0 c).arrAt 4 cfg0.N
    = fun i : S8192x4096.Idx => outNum Q K B s (m ((c : Thread nD τ).loc main_arg2)) (i 0).val (i 1).val := by
  refine Pipeline.Dat.arrAt_eq_of_covers (dats m 0 c) 4 _ (by decide +kernel) fun t hf y => ?_
  have e0 : win0_4.index t 0 = ((grid0.coords t) 0).val := congrFun (map4 t) 0
  have e1 : win0_4.index t 1 = ((grid0.coords t) 1).val := congrFun (map4 t) 1
  have a0 : (((win0_4.blk t).view.emb y) 0).val = 2048 * ((grid0.coords t) 0).val + (y 0).val := by
    blk_simp
    rw [e0]
    omega
  have a1 : (((win0_4.blk t).view.emb y) 1).val = 512 * ((grid0.coords t) 1).val + (y 1).val := by
    blk_simp
    rw [e1]
    omega
  show _ = outNum Q K B s _ (((win0_4.blk t).view.emb y) 0).val (((win0_4.blk t).view.emb y) 1).val
  rw [a0, a1, ← outB_at m Q K B s hs c hQ hK hB t y, ← after4]
  rfl

end Cert.KernelIdeal.Tile
-- ==== Proof.AlgB.lean ====
/- The attention kernel and its reference agree on finite queries, keys and biases. -/
module

public import proofs.«01_k».proof.Defs
public import proofs.«01_k».proof.Proof.Gen.Pre_finite_scores
public import proofs.«01_k».proof.Proof.OutB
public import Idealize.ShloMosaic.Lib.ReduceAll
public import Idealize.ShloMosaic.Lib.Quiescent

@[expose] public section

set_option maxRecDepth 16384

noncomputable section

namespace Cert.Stick

open Idealize.ShloMosaic Idealize.ShloMosaic.TcCoe
open Idealize.SL.Sem

/-- What lies below infinity in absolute value is a real number. -/
theorem real_of_lt (x : EReal) (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have h' : max x (-x) < ⊤ := by
    by_contra hc
    simp [Ideal.cmp, hc] at h
  have h1 : x ≠ ⊤ := fun e => by rw [e] at h'; simp at h'
  have h2 : x ≠ ⊥ := fun e => by rw [e] at h'; simp at h'
  exact ⟨_, (EReal.coe_toReal h1 h2).symm⟩

theorem and_one : ∀ a b : BitVec 1, IntOp.andi a b = 1#1 → a = 1#1 ∧ b = 1#1 := by decide

instance : Subsingleton (Cert.Pre_finite_scores.S_).Idx := ⟨fun a b => funext fun d => d.elim0⟩

/-- The precondition says that every query, key and bias is a real number. -/
theorem pre_real (x0 x1 x2 : FVec Ideal Cert.Pre_finite_scores.S8192x4096 .bf16) (x3 : FVec Ideal Cert.Pre_finite_scores.S32 .f32)
    (h : Cert.Pre_finite_scores.fn (F := Ideal) x0 x1 x2 x3 = fun _ => 1#1) :
    (∀ i, ∃ r : ℝ, x0 i = (r : EReal)) ∧ (∀ i, ∃ r : ℝ, x1 i = (r : EReal)) ∧ (∀ i, ∃ r : ℝ, x3 i = (r : EReal)) := by
  have e := congrFun h (fun d => d.elim0)
  unfold Cert.Pre_finite_scores.fn at e
  obtain ⟨e01, e3⟩ := and_one _ _ e
  obtain ⟨e0, e1⟩ := and_one _ _ e01
  exact ⟨fun i => real_of_lt _ (Host.reduce_andi_all _ _ _ _ _ e0 i), fun i => real_of_lt _ (Host.reduce_andi_all _ _ _ _ _ e1 i),
    fun i => real_of_lt _ (Host.reduce_andi_all _ _ _ _ _ e3 i)⟩

open Cert.KernelIdeal in
theorem algebraic : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.Gen.facts) := by
  intro m g m' g' hpre hargs
  obtain ⟨s, hs⟩ := scale_real
  refine ⟨fun c => Cert.ReferenceIdeal.Read.val_main_v31 (F := Ideal) (m ((c.tc : Thread nD τ).loc main_arg0))
    (m ((c.tc : Thread nD τ).loc main_arg1))
    (m ((c.tc : Thread nD τ).loc main_arg2))
    (m ((c.tc : Thread nD τ).loc main_arg3)), ?_, ?_⟩
  · refine (θ_run _ _ _).mono (fun r h c => ?_) (θ_run_and (Tile.run m g) (Tile.frame_args m g))
    refine ⟨?_, h.2.1 c⟩
    obtain ⟨r0, r1, r3⟩ := pre_real _ _ _ _ (hpre c)
    choose Q hQ using r0
    choose K hK using r1
    choose B hB using r3
    refine (h.1.out_eq c 4).trans ((Tile.arr_out m Q K B s hs c hQ hK hB).trans (funext fun i => ?_))
    have i0 : (i 0).val < 8192 := (i 0).isLt
    have i1 : (i 1).val < 4096 := (i 1).isLt
    refine Eq.trans ?_ (Cert.ReferenceIdeal.Read.out_at _ _ _ _ Q K B s hQ hK hB hs i ((i 0).val / 2048) ((i 0).val % 2048) ((i 1).val / 128) ((i 1).val % 128)
      (by omega) (by omega) (by omega) (by omega) (by omega) (by omega)).symm
    show Tile.outNum Q K B s _ (i 0).val (i 1).val = _
    unfold Tile.outNum
    rw [show 128 * ((i 1).val / 128) + (i 1).val % 128 = (i 1).val from by omega]
  · refine (θ_run _ _ _).mono (fun r h c => ?_) (Cert.ReferenceIdeal.Value.run m' g')
    obtain ⟨h0, hrest⟩ := h c
    obtain ⟨a0, a1, a2, a3⟩ := hargs c
    refine ⟨h0.trans ?_, hrest⟩
    rw [Cert.ReferenceIdeal.Read.val_main_v31_eq, a0, a1, a2, a3]

open Cert.ReferenceIdeal in
/-- The reference leaves its arguments as they were and every counter at zero. -/
theorem reference_frame (m : (ℓ : Loc nD τ sig) → Buf (Elt Ideal) ℓ)
    (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (Cert.ReferenceIdeal.Value.run m g)

end Cert.Stick
-- ==== Proof.FrameI.lean ====
/- The feed-forward input projections' launch: the body's triple in its three cases, what the two rounded weight tiles
   kept between points and the two outputs hold after every point, the run of the whole launch, and the claim that the
   arguments end unchanged. -/
module

public import proofs.«01_k».proof.Proof.Common
public import proofs.«01_k».proof.Proof.Gen.Kernel2Ideal.Frame
public import proofs.«01_k».proof.Proof.Gen.Kernel2Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel2Ideal.Tile

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- A weight tile rounded to bf16, its leading axis of length one dropped. -/
def castW (x : Vec F S1x4096x256 .f32) : Vec F S4096x256 .bf16 :=
  fun y => FloatOps.truncf .bf16 bitsLt_bf16_f32 (x (Fin.cons ⟨0, Nat.one_pos⟩ y))

section chunks

variable (arg : Memref sig .tc .vmem S1x4096x256 .f32) (harg : arg.IsWhole) (x : Vec F S1x4096x256 .f32)

/-- A chunk of 512 rows as the body stores it is that chunk of the rounded tile. -/
theorem chunk_at (o : Nat) (inb : ∀ a, (![0, o, 0] : Fin 3 → Nat) a + S1x512x256.size a ≤ S1x4096x256.size a)
    (inb' : ∀ a, (![o, 0] : Fin 2 → Nat) a + S512x256.size a ≤ S4096x256.size a) (j : S512x256.Idx) :
    k0_pay1 (View.readAt (Elt F) arg.view (Rect.unit (s := S1x4096x256) ![0, o, 0] S1x512x256.size inb).toLoadRect (harg.unread x)) j
      = castW x ((Rect.unit (s := S4096x256) ![o, 0] S512x256.size inb').emb j) := by
  unfold k0_pay1 castW
  simp only [View.readAt_eq_ld, Memref.IsWhole.read_unread, shapeCast_self]
  show FloatOps.truncf _ _ (shapeCast S512x256 _ _ j) = _
  rw [shapeCast_dropUnit_apply]
  congr 1
  show x _ = x _
  congr 1
  funext a
  refine Fin.ext ?_
  match a with
  | ⟨0, _⟩ => rfl
  | ⟨1, _⟩ => rfl
  | ⟨2, _⟩ => rfl

/-- The eight chunks the body stores one weight tile in, last stored first. -/
def chunks : List (View.Piece (Elt F) S4096x256 .bf16) :=
  [⟨Rect.unit (s := S4096x256) ![3584, 0] S512x256.size inb_S4096x256_S512x256_3584_0,
      k0_pay1 (View.readAt (Elt F) arg.view (Rect.unit (s := S1x4096x256) ![0, 3584, 0] S1x512x256.size inb_S1x4096x256_S1x512x256_0_3584_0).toLoadRect (harg.unread x))⟩,
    ⟨Rect.unit (s := S4096x256) ![3072, 0] S512x256.size inb_S4096x256_S512x256_3072_0,
      k0_pay1 (View.readAt (Elt F) arg.view (Rect.unit (s := S1x4096x256) ![0, 3072, 0] S1x512x256.size inb_S1x4096x256_S1x512x256_0_3072_0).toLoadRect (harg.unread x))⟩,
    ⟨Rect.unit (s := S4096x256) ![2560, 0] S512x256.size inb_S4096x256_S512x256_2560_0,
      k0_pay1 (View.readAt (Elt F) arg.view (Rect.unit (s := S1x4096x256) ![0, 2560, 0] S1x512x256.size inb_S1x4096x256_S1x512x256_0_2560_0).toLoadRect (harg.unread x))⟩,
    ⟨Rect.unit (s := S4096x256) ![2048, 0] S512x256.size inb_S4096x256_S512x256_2048_0,
      k0_pay1 (View.readAt (Elt F) arg.view (Rect.unit (s := S1x4096x256) ![0, 2048, 0] S1x512x256.size inb_S1x4096x256_S1x512x256_0_2048_0).toLoadRect (harg.unread x))⟩,
    ⟨Rect.unit (s := S4096x256) ![1536, 0] S512x256.size inb_S4096x256_S512x256_1536_0,
      k0_pay1 (View.readAt (Elt F) arg.view (Rect.unit (s := S1x4096x256) ![0, 1536, 0] S1x512x256.size inb_S1x4096x256_S1x512x256_0_1536_0).toLoadRect (harg.unread x))⟩,
    ⟨Rect.unit (s := S4096x256) ![1024, 0] S512x256.size inb_S4096x256_S512x256_1024_0,
      k0_pay1 (View.readAt (Elt F) arg.view (Rect.unit (s := S1x4096x256) ![0, 1024, 0] S1x512x256.size inb_S1x4096x256_S1x512x256_0_1024_0).toLoadRect (harg.unread x))⟩,
    ⟨Rect.unit (s := S4096x256) ![512, 0] S512x256.size inb_S4096x256_S512x256_512_0,
      k0_pay1 (View.readAt (Elt F) arg.view (Rect.unit (s := S1x4096x256) ![0, 512, 0] S1x512x256.size inb_S1x4096x256_S1x512x256_0_512_0).toLoadRect (harg.unread x))⟩,
    ⟨Rect.unit (s := S4096x256) ![0, 0] S512x256.size inb_S4096x256_S512x256_0_0,
      k0_pay1 (View.readAt (Elt F) arg.view (Rect.unit (s := S1x4096x256) ![0, 0, 0] S1x512x256.size inb_S1x4096x256_S1x512x256_0_0_0).toLoadRect (harg.unread x))⟩]

theorem chunks_cover (y : S4096x256.Idx) : ∃ p ∈ chunks arg harg x, y ∈ p.1.set := by
  have hy0 : (y 0).val < 4096 := (y 0).isLt
  have hmem : ∀ (o : Nat) (inb' : ∀ a, (![o, 0] : Fin 2 → Nat) a + S512x256.size a ≤ S4096x256.size a), o ≤ (y 0).val → (y 0).val < o + 512 →
      y ∈ (Rect.unit (s := S4096x256) ![o, 0] S512x256.size inb').set := by
    intro o inb' h1 h2
    rw [Rect.mem_set_unit]
    intro a
    match a with
    | ⟨0, _⟩ => exact ⟨h1, h2⟩
    | ⟨1, _⟩ => exact ⟨Nat.zero_le _, by have := (y 1).isLt; show (y 1).val < 0 + 256; exact (Nat.zero_add 256).symm ▸ this⟩
  have h8 : 3584 ≤ (y 0).val ∨ 3072 ≤ (y 0).val ∧ (y 0).val < 3584 ∨ 2560 ≤ (y 0).val ∧ (y 0).val < 3072 ∨ 2048 ≤ (y 0).val ∧ (y 0).val < 2560
      ∨ 1536 ≤ (y 0).val ∧ (y 0).val < 2048 ∨ 1024 ≤ (y 0).val ∧ (y 0).val < 1536 ∨ 512 ≤ (y 0).val ∧ (y 0).val < 1024 ∨ (y 0).val < 512 := by omega
  unfold chunks
  rcases h8 with h | h | h | h | h | h | h | h
  · exact ⟨_, .head _, hmem 3584 inb_S4096x256_S512x256_3584_0 (by omega) (by omega)⟩
  · exact ⟨_, .tail _ (.head _), hmem 3072 inb_S4096x256_S512x256_3072_0 (by omega) (by omega)⟩
  · exact ⟨_, .tail _ (.tail _ (.head _)), hmem 2560 inb_S4096x256_S512x256_2560_0 (by omega) (by omega)⟩
  · exact ⟨_, .tail _ (.tail _ (.tail _ (.head _))), hmem 2048 inb_S4096x256_S512x256_2048_0 (by omega) (by omega)⟩
  · exact ⟨_, .tail _ (.tail _ (.tail _ (.tail _ (.head _)))), hmem 1536 inb_S4096x256_S512x256_1536_0 (by omega) (by omega)⟩
  · exact ⟨_, .tail _ (.tail _ (.tail _ (.tail _ (.tail _ (.head _))))), hmem 1024 inb_S4096x256_S512x256_1024_0 (by omega) (by omega)⟩
  · exact ⟨_, .tail _ (.tail _ (.tail _ (.tail _ (.tail _ (.tail _ (.head _)))))), hmem 512 inb_S4096x256_S512x256_512_0 (by omega) (by omega)⟩
  · exact ⟨_, .tail _ (.tail _ (.tail _ (.tail _ (.tail _ (.tail _ (.tail _ (.head _))))))), hmem 0 inb_S4096x256_S512x256_0_0 (by omega) (by omega)⟩

/-- Together the chunks are the rounded tile. -/
theorem canon_chunks : View.canon (chunks arg harg x) = castW x := by
  funext y
  refine View.canon_apply_of_pieces (castW x) _ (fun p hp j => ?_) y (chunks_cover arg harg x y)
  unfold chunks at hp
  simp only [List.mem_cons, List.mem_nil_iff, _root_.or_false] at hp
  rcases hp with rfl|rfl|rfl|rfl|rfl|rfl|rfl|rfl
  · exact chunk_at arg harg x _ _ inb_S4096x256_S512x256_3584_0 j
  · exact chunk_at arg harg x _ _ inb_S4096x256_S512x256_3072_0 j
  · exact chunk_at arg harg x _ _ inb_S4096x256_S512x256_2560_0 j
  · exact chunk_at arg harg x _ _ inb_S4096x256_S512x256_2048_0 j
  · exact chunk_at arg harg x _ _ inb_S4096x256_S512x256_1536_0 j
  · exact chunk_at arg harg x _ _ inb_S4096x256_S512x256_1024_0 j
  · exact chunk_at arg harg x _ _ inb_S4096x256_S512x256_512_0 j
  · exact chunk_at arg harg x _ _ inb_S4096x256_S512x256_0_0 j

theorem read_chunks (arg' : Memref sig .tc .vmem S4096x256 .bf16) (f) :
    View.read (Elt F) arg'.view (arg'.view.writes (Elt F) f (chunks arg harg x)) = castW x :=
  (View.read_writes_eq_canon _ _ _ (chunks_cover arg harg x)).trans (canon_chunks arg harg x)

theorem readCov_chunks (arg' : Memref sig .tc .vmem S4096x256 .bf16) :
    arg'.view.readCov (Val := Elt F) (chunks arg harg x) (Rect.unit (s := S4096x256) ![0, 0] S4096x256.size inb_S4096x256_S4096x256_0_0).toLoadRect = castW x := by
  rw [View.readCov_eq_canon_ld _ _ _ (chunks_cover arg harg x), canon_chunks]
  exact View.ld_unit_lit _ _ (by decide)

end chunks

section body

variable (c : Dev nD) (i : grid0.Coords)
    (arg2 : Memref sig .tc .vmem S1024x4096 .bf16) (harg2 : arg2.IsWhole)
    (arg3 : Memref sig .tc .vmem S16x4096 .bf16) (harg3 : arg3.IsWhole)
    (arg4 : Memref sig .tc .vmem S1x4096x256 .f32) (harg4 : arg4.IsWhole)
    (arg5 : Memref sig .tc .vmem S1x4096x256 .f32) (harg5 : arg5.IsWhole)
    (arg6 : Memref sig .tc .vmem S1024x256 .bf16) (harg6 : arg6.IsWhole)
    (arg7 : Memref sig .tc .vmem S16x256 .bf16) (harg7 : arg7.IsWhole)
    (arg8 : Memref sig .tc .vmem S4096x256 .bf16) (harg8 : arg8.IsWhole)
    (arg9 : Memref sig .tc .vmem S4096x256 .bf16) (harg9 : arg9.IsWhole)
    (x0 : Vec F S1024x4096 .bf16) (x1 : Vec F S16x4096 .bf16) (x2 x3 : Vec F S1x4096x256 .f32)
    (x4 : Vec F S1024x256 .bf16) (x5 : Vec F S16x256 .bf16) (s8 s9 : Vec F S4096x256 .bf16)

/-- The two outputs and the two kept weight tiles beside the four inputs at their contents. -/
abbrev Held (y4 : Vec F S1024x256 .bf16) (y5 : Vec F S16x256 .bf16) (w8 w9 : Vec F S4096x256 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare y4 ∗ owns (c : Thread nD τ) arg7 fullShare y5
    ∗ owns (c : Thread nD τ) arg8 fullShare w8 ∗ owns (c : Thread nD τ) arg9 fullShare w9)

/-- Whether a point is the first of its column tile. -/
abbrev cond1 (i : grid0.Coords) : BitVec 1 :=
  Scalar.cmpi .ne (Scalar.extui (Scalar.cmpi .eq (BitVec.ofNat 32 (i 1).val) 0#32) : BitVec 32) 0#32

set_option maxHeartbeats 1000000 in
/-- At a later point over a row tile of the prompt, the prompt's output tile is stored from the kept weights. -/
theorem bodyRun_row (h1 : ¬ cond1 i = 1#1) (h2 : k0_cond2 i = 1#1) (h3 : ¬ k0_cond3 i = 1#1) (E : Set ℕ) (K : PUnit → sProp 𝕄) :
    iprop(Held c arg2 arg3 arg4 arg5 arg6 arg7 arg8 arg9 x0 x1 x2 x3 x4 x5 s8 s9
        ∗ (Held c arg2 arg3 arg4 arg5 arg6 arg7 arg8 arg9 x0 x1 x2 x3 (k0_pay2 x0 s8 s9) x5 s8 s9 -∗ K ⟨⟩))
      ⊢ wp frame (wpE (defs₀ (F := F)) Variants.none c none) E
          (cc0_ffn_in i arg2 harg2 arg3 harg3 arg4 harg4 arg5 harg5 arg6 harg6 arg7 harg7 arg8 harg8 arg9 harg9) K := by
  simp only [cc0_ffn_in_eq_skeleton]; unfold cc0_ffn_in_skel
  rw [dif_neg h1, dif_pos h2, dif_neg h3]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := harg2.eq_unread hf0; obtain rfl := harg8.eq_unread hf6; obtain rfl := harg9.eq_unread hf7
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [Common.read_store _ _ (by decide)]
    simp only [View.readAt_eq_ld, Memref.IsWhole.read_unread]
    rw [View.ld_unit_lit _ _ (by decide), View.ld_unit_lit _ _ (by decide), View.ld_unit_lit _ _ (by decide)]
  isplitl [H5]
  · iexists _; isplitr; · ipureintro; exact hf5
    iexact H5
  isplitl [H6]
  · iexists _; isplitr; · ipureintro; exact hf6
    iexact H6
  · iexists _; isplitr; · ipureintro; exact hf7
    iexact H7

set_option maxHeartbeats 1000000 in
/-- At the last point of a column tile, the sample rows' output tile is stored from the kept weights. -/
theorem bodyRun_last (h1 : ¬ cond1 i = 1#1) (h2 : ¬ k0_cond2 i = 1#1) (h3 : k0_cond3 i = 1#1) (E : Set ℕ) (K : PUnit → sProp 𝕄) :
    iprop(Held c arg2 arg3 arg4 arg5 arg6 arg7 arg8 arg9 x0 x1 x2 x3 x4 x5 s8 s9
        ∗ (Held c arg2 arg3 arg4 arg5 arg6 arg7 arg8 arg9 x0 x1 x2 x3 x4 (k0_pay3 x1 s8 s9) s8 s9 -∗ K ⟨⟩))
      ⊢ wp frame (wpE (defs₀ (F := F)) Variants.none c none) E
          (cc0_ffn_in i arg2 harg2 arg3 harg3 arg4 harg4 arg5 harg5 arg6 harg6 arg7 harg7 arg8 harg8 arg9 harg9) K := by
  simp only [cc0_ffn_in_eq_skeleton]; unfold cc0_ffn_in_skel
  rw [dif_neg h1, dif_neg h2, dif_pos h3]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := harg3.eq_unread hf1; obtain rfl := harg8.eq_unread hf6; obtain rfl := harg9.eq_unread hf7
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide), View.ld_unit_lit _ _ (by decide)]
  isplitl [H6]
  · iexists _; isplitr; · ipureintro; exact hf6
    iexact H6
  · iexists _; isplitr; · ipureintro; exact hf7
    iexact H7

set_option maxHeartbeats 4000000 in
/-- At the first point of a column tile, both weight tiles are rounded and kept and the prompt's output tile stored. -/
theorem bodyRun_first (h1 : cond1 i = 1#1) (h2 : k0_cond2 i = 1#1) (h3 : ¬ k0_cond3 i = 1#1) (E : Set ℕ) (K : PUnit → sProp 𝕄) :
    iprop(Held c arg2 arg3 arg4 arg5 arg6 arg7 arg8 arg9 x0 x1 x2 x3 x4 x5 s8 s9
        ∗ (Held c arg2 arg3 arg4 arg5 arg6 arg7 arg8 arg9 x0 x1 x2 x3 (k0_pay2 x0 (castW x2) (castW x3)) x5 (castW x2) (castW x3) -∗ K ⟨⟩))
      ⊢ wp frame (wpE (defs₀ (F := F)) Variants.none c none) E
          (cc0_ffn_in i arg2 harg2 arg3 harg3 arg4 harg4 arg5 harg5 arg6 harg6 arg7 harg7 arg8 harg8 arg9 harg9) K := by
  simp only [cc0_ffn_in_eq_skeleton]; unfold cc0_ffn_in_skel
  rw [dif_pos h1, dif_pos h2, dif_neg h3]
  simp only [k0_part1_eq_skeleton, k0_part2_eq_skeleton, k0_part3_eq_skeleton]; unfold k0_part1_skel k0_part2_skel k0_part3_skel
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := harg2.eq_unread hf0; obtain rfl := harg4.eq_unread hf2; obtain rfl := harg5.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [Common.read_store _ _ (by decide)]
    rw [show bodyRun_first.sl.v10 c arg4 harg4 arg8 x2 = castW x2 from readCov_chunks arg4 harg4 x2 arg8,
      show bodyRun_first.sl.v12 c arg5 harg5 arg9 x3 = castW x3 from readCov_chunks arg5 harg5 x3 arg9]
    simp only [View.readAt_eq_ld, Memref.IsWhole.read_unread]
    rw [View.ld_unit_lit _ _ (by decide)]
  isplitl [H5]
  · iexists _; isplitr; · ipureintro; exact hf5
    iexact H5
  isplitl [H6]
  · iexists _; isplitr; swap; · iexact H6
    ipureintro
    exact read_chunks arg4 harg4 x2 arg8 f6
  · iexists _; isplitr; swap; · iexact H7
    ipureintro
    exact read_chunks arg5 harg5 x3 arg9 f7

end body
/-! ## Which case a point is in -/

theorem cond1_iff : ∀ t : Fin cfg0.N, cond1 (grid0.coords t) = 1#1 ↔ t.val % 9 = 0 := by decide +kernel
theorem cond2_iff : ∀ t : Fin cfg0.N, k0_cond2 (grid0.coords t) = 1#1 ↔ t.val % 9 ≠ 8 := by decide +kernel
theorem cond3_iff : ∀ t : Fin cfg0.N, k0_cond3 (grid0.coords t) = 1#1 ↔ t.val % 9 = 8 := by decide +kernel

theorem not_flush4_pred : ∀ t : Fin cfg0.N, t.val % 9 = 8 →
    (cfg0.win 4).flush ⟨t.val - 1, Nat.lt_of_le_of_lt (Nat.sub_le _ _) t.isLt⟩ = false := by
  intro t h
  rw [Pipeline.Window.flush_eq_flushF]
  revert t; decide +kernel

theorem flush4_last : ∀ t : Fin cfg0.N, t.val % 9 = 8 → (cfg0.win 4).flush t = true := by
  intro t h
  rw [Pipeline.Window.flush_eq_flushF]
  revert t; decide +kernel

/-- The prompt's rows at the last point of a column tile are those of the point before, and the weight tiles are the
    same at all points of a column tile. -/
theorem same0 : ∀ t : Fin cfg0.N, t.val % 9 = 8 → win0_0.index t = win0_0.index ⟨t.val - 1, Nat.lt_of_le_of_lt (Nat.sub_le _ _) t.isLt⟩ := by decide +kernel
theorem same2 : ∀ t : Fin cfg0.N, t.val % 9 ≠ 0 → win0_2.index t = win0_2.index ⟨t.val - 1, Nat.lt_of_le_of_lt (Nat.sub_le _ _) t.isLt⟩ := by decide +kernel
theorem same3 : ∀ t : Fin cfg0.N, t.val % 9 ≠ 0 → win0_3.index t = win0_3.index ⟨t.val - 1, Nat.lt_of_le_of_lt (Nat.sub_le _ _) t.isLt⟩ := by decide +kernel

/-! ## The launch -/

variable (m : (ℓ : Loc nD τ sig) → Buf (Elt F) ℓ) (ρ : Dev nD → PrngReg)

/-- The rounded weight tiles at point `t`. -/
def wG (c : Dev nD) (t : Fin cfg0.N) : Vec F S4096x256 .bf16 := castW (iblk m c 2 t)
def wU (c : Dev nD) (t : Fin cfg0.N) : Vec F S4096x256 .bf16 := castW (iblk m c 3 t)

/-- What the prompt's output block holds after point `t`. -/
def outP (c : Dev nD) (t : Fin cfg0.N) : S1024x256.Idx → Elt F .bf16 := k0_pay2 (iblk m c 0 t) (wG m c t) (wU m c t)

/-- What the sample rows' output block holds when it is written. -/
def outS (c : Dev nD) (t : Fin cfg0.N) : S16x256.Idx → Elt F .bf16 := k0_pay3 (iblk m c 1 t) (wG m c t) (wU m c t)

/-- What the two kept tiles are before point `n`: inside a column tile, the rounded weight tiles of the point before. -/
def Kept (c : Dev nD) (n : Nat) (s8 s9 : Vec F S4096x256 .bf16) : Prop :=
  n % 9 ≠ 0 → ∀ u : Fin cfg0.N, u.val + 1 = n → s8 = wG m c u ∧ s9 = wU m c u

/-- The kept tiles before point `n`, beside the generator's register. -/
def kept (c : Dev nD) (n : Nat) : sProp 𝕄 :=
  iprop(∃ s8 s9, ⌜Kept m c n s8 s9⌝ ∗ owns (c : Thread nD τ) (Memref.whole cc0_scratch0) fullShare s8
    ∗ owns (c : Thread nD τ) (Memref.whole cc0_scratch1) fullShare s9 ∗ ∃ r, prngReg c r)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP m c t
    | ⟨5, _⟩ => outS m c t
  Φ t := kept m c t.val
  q w := Pipeline.shareOf spec0 w
  owed _ := 0

theorem A_eq (c : Dev nD) (w : Fin cfg0.W) : (dats m 0 c).A w = V m c (Pipeline.arrRef spec0 w) := by
  dsimp only [dats]
theorem Φ_eq (c : Dev nD) (t : Fin (cfg0.N + 1)) : (dats m 0 c).Φ t = kept m c t.val := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outP m c t := by dsimp only [dats]
theorem after5 (c : Dev nD) (t : Fin cfg0.N) : (dats m 0 c).after 5 t = outS m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Points whose block indices agree have the same block of each input. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)
theorem iblk3_congr (c : Dev nD) {t t' : Fin cfg0.N} (h : win0_3.index t = win0_3.index t') : iblk m c 3 t = iblk m c 3 t' :=
  (dats m 0 c).fetched_congr 3 h rfl (iblk m c 3 t)

theorem wG_pred (c : Dev nD) (t : Fin cfg0.N) (ht : t.val % 9 ≠ 0) : wG m c t = wG m c ⟨t.val - 1, Nat.lt_of_le_of_lt (Nat.sub_le _ _) t.isLt⟩ := by
  unfold wG; rw [iblk2_congr m c (same2 t ht)]
theorem wU_pred (c : Dev nD) (t : Fin cfg0.N) (ht : t.val % 9 ≠ 0) : wU m c t = wU m c ⟨t.val - 1, Nat.lt_of_le_of_lt (Nat.sub_le _ _) t.isLt⟩ := by
  unfold wU; rw [iblk3_congr m c (same3 t ht)]

/-- The last point of a column tile finds the prompt's output block as the point before left it. -/
theorem before4_last (c : Dev nD) (t : Fin cfg0.N) (ht : t.val % 9 = 8) (d) : (dats m 0 c).before 4 t d = outP m c t := by
  have h0 : t.val ≠ 0 := by omega
  rw [(dats m 0 c).before_of_pos 4 t h0 ((cfg0.win 4).fetch_out rfl t), not_flush4_pred t ht, if_neg Bool.false_ne_true]
  unfold Dat.left
  have hi : cfg0.idle 4 (cfg0.grid.coords ⟨t.val - 1, Nat.lt_of_le_of_lt (Nat.sub_le _ _) t.isLt⟩) = false := by
    have := (cond2_iff ⟨t.val - 1, Nat.lt_of_le_of_lt (Nat.sub_le _ _) t.isLt⟩).mpr (by simp only; omega)
    show (!(k0_cond2 _ == 1#1)) = false
    rw [this]; rfl
  rw [hi]
  have e : (dats m 0 c).after 4 ⟨t.val - 1, Nat.lt_of_le_of_lt (Nat.sub_le _ _) t.isLt⟩ = outP m c t := by
    rw [after4]; unfold outP
    rw [iblk0_congr m c (same0 t ht), wG_pred m c t (by omega), wU_pred m c t (by omega)]
  exact e

/-- Inside a column tile the kept tiles are this point's own. -/
theorem kept_here (c : Dev nD) (t : Fin cfg0.N) (ht : t.val % 9 ≠ 0) {s8 s9 : Vec F S4096x256 .bf16}
    (hs : Kept m c t.castSucc.val s8 s9) : wG m c t = s8 ∧ wU m c t = s9 := by
  obtain ⟨e8, e9⟩ := hs ht ⟨t.val - 1, Nat.lt_of_le_of_lt (Nat.sub_le _ _) t.isLt⟩ (Nat.sub_add_cancel (by omega))
  exact ⟨(wG_pred m c t ht).trans e8.symm, (wU_pred m c t ht).trans e9.symm⟩

theorem kept_next (c : Dev nD) (t : Fin cfg0.N) : Kept m c t.succ.val (wG m c t) (wU m c t) := by
  intro _ u hu
  have : u = t := Fin.ext (Nat.succ.inj (hu.trans (Fin.val_succ t)))
  subst this
  exact ⟨rfl, rfl⟩

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((dats m 0 c).before 5 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
theorem sound_first (c : Dev nD) (t : Fin cfg0.N) (ht : t.val % 9 = 0) :
    bodyPre m c t ⊢ wp frame (wpE (defs₀ (F := F)) Variants.none c none) Set.univ (bodyAt0 t) (fun _ => postRow m c t) := by
  unfold bodyPre postRow bodyAt0
  simp only [before0, before1, before2, before3, after0, after1, after2, after3, after4]
  rw [Φ_eq, Φ_eq, show (dats m 0 c).owesAt () t.succ = (dats m 0 c).owesAt () t.castSucc from rfl]
  unfold kept
  iintro ⟨⟨%s8, %s9, %hs, Hs8, Hs9, Hr⟩, Ho, ⟨%d0, H0⟩, ⟨%d1, H1⟩, ⟨%d2, H2⟩, ⟨%d3, H3⟩, ⟨%d4, H4⟩, ⟨%d5, H5⟩⟩
  iapply (bodyRun_first c (grid0.coords t) _ _ _ _ _ _ _ _ _ _ _ _ _ _ _ _ (iblk m c 0 t) (iblk m c 1 t) (iblk m c 2 t) (iblk m c 3 t)
    ((dats m 0 c).before 4 t d4) ((dats m 0 c).before 5 t d5) s8 s9
    ((cond1_iff t).mpr ht) ((cond2_iff t).mpr (by omega)) (fun h => absurd ((cond3_iff t).mp h) (by omega)) Set.univ _)
  unfold Held
  isplitl [H0 H1 H2 H3 H4 H5 Hs8 Hs9]
  · isplitl [H0]; · iexact H0
    isplitl [H1]; · iexact H1
    isplitl [H2]; · iexact H2
    isplitl [H3]; · iexact H3
    isplitl [H4]; · iexact H4
    isplitl [H5]; · iexact H5
    isplitl [Hs8]; · iexact Hs8
    iexact Hs9
  iintro ⟨H0, H1, H2, H3, H4, H5, Hs8, Hs9⟩
  isplitl [Hs8 Hs9 Hr]
  · iexists _; iexists _
    isplitr
    · ipureintro; exact kept_next m c t
    isplitl [Hs8]; · iexact Hs8
    isplitl [Hs9]; · iexact Hs9
    iexact Hr
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
theorem sound_row (c : Dev nD) (t : Fin cfg0.N) (ht0 : t.val % 9 ≠ 0) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, before3, after0, after1, after2, after3, after4]
  rw [Φ_eq, Φ_eq, show (dats m 0 c).owesAt () t.succ = (dats m 0 c).owesAt () t.castSucc from rfl]
  unfold kept
  iintro ⟨⟨%s8, %s9, %hs, Hs8, Hs9, Hr⟩, Ho, ⟨%d0, H0⟩, ⟨%d1, H1⟩, ⟨%d2, H2⟩, ⟨%d3, H3⟩, ⟨%d4, H4⟩, ⟨%d5, H5⟩⟩
  obtain ⟨rfl, rfl⟩ := kept_here m c t ht0 hs
  iapply (bodyRun_row c (grid0.coords t) _ _ _ _ _ _ _ _ _ _ _ _ _ _ _ _ (iblk m c 0 t) (iblk m c 1 t) (iblk m c 2 t) (iblk m c 3 t)
    ((dats m 0 c).before 4 t d4) ((dats m 0 c).before 5 t d5) (wG m c t) (wU m c t)
    (fun h => ht0 ((cond1_iff t).mp h)) ((cond2_iff t).mpr ht) (fun h => ht ((cond3_iff t).mp h)) Set.univ _)
  unfold Held
  isplitl [H0 H1 H2 H3 H4 H5 Hs8 Hs9]
  · isplitl [H0]; · iexact H0
    isplitl [H1]; · iexact H1
    isplitl [H2]; · iexact H2
    isplitl [H3]; · iexact H3
    isplitl [H4]; · iexact H4
    isplitl [H5]; · iexact H5
    isplitl [Hs8]; · iexact Hs8
    iexact Hs9
  iintro ⟨H0, H1, H2, H3, H4, H5, Hs8, Hs9⟩
  isplitl [Hs8 Hs9 Hr]
  · iexists _; iexists _
    isplitr
    · ipureintro; exact kept_next m c t
    isplitl [Hs8]; · iexact Hs8
    isplitl [Hs9]; · iexact Hs9
    iexact Hr
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3, before4_last m c t ht, after0, after1, after2, after3, after4, after5]
  rw [Φ_eq, Φ_eq, show (dats m 0 c).owesAt () t.succ = (dats m 0 c).owesAt () t.castSucc from rfl]
  unfold kept
  iintro ⟨⟨%s8, %s9, %hs, Hs8, Hs9, Hr⟩, Ho, ⟨%d0, H0⟩, ⟨%d1, H1⟩, ⟨%d2, H2⟩, ⟨%d3, H3⟩, ⟨%d4, H4⟩, ⟨%d5, H5⟩⟩
  obtain ⟨rfl, rfl⟩ := kept_here m c t (by omega) hs
  iapply (bodyRun_last c (grid0.coords t) _ _ _ _ _ _ _ _ _ _ _ _ _ _ _ _ (iblk m c 0 t) (iblk m c 1 t) (iblk m c 2 t) (iblk m c 3 t)
    (outP m c t) ((dats m 0 c).before 5 t d5) (wG m c t) (wU m c t)
    (fun h => absurd ((cond1_iff t).mp h) (by omega)) (fun h => (cond2_iff t).mp h ht) ((cond3_iff t).mpr ht) Set.univ _)
  unfold Held
  isplitl [H0 H1 H2 H3 H4 H5 Hs8 Hs9]
  · isplitl [H0]; · iexact H0
    isplitl [H1]; · iexact H1
    isplitl [H2]; · iexact H2
    isplitl [H3]; · iexact H3
    isplitl [H4]; · iexact H4
    isplitl [H5]; · iexact H5
    isplitl [Hs8]; · iexact Hs8
    iexact Hs9
  iintro ⟨H0, H1, H2, H3, H4, H5, Hs8, Hs9⟩
  isplitl [Hs8 Hs9 Hr]
  · iexists _; iexists _
    isplitr
    · ipureintro; exact kept_next m c t
    isplitl [Hs8]; · iexact Hs8
    isplitl [Hs9]; · iexact Hs9
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem idle4 (t : Fin cfg0.N) : idle0 4 (grid0.coords t) = decide (t.val % 9 = 8) := by
  revert t; decide +kernel
theorem idle5 (t : Fin cfg0.N) : idle0 5 (grid0.coords t) = !decide (t.val % 9 = 8) := by
  revert t; decide +kernel

theorem flush5_row (t : Fin cfg0.N) (ht : t.val % 9 ≠ 8) : (cfg0.win 5).flush t = false := by
  cases h : (cfg0.win 5).flush t
  · rfl
  · exact absurd ((flush0_5 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i4 : idle0 4 (grid0.coords t) = true := by rw [idle4, ht]; rfl
    have i5 : idle0 5 (grid0.coords t) = false := by rw [idle5, ht]; rfl
    simp only [i4, i5, flush4_last t ht]
    exact triple_restated (sound_last m c t ht) rfl .rfl fun _ => .rfl
  · have i4 : idle0 4 (grid0.coords t) = false := by rw [idle4, decide_eq_false ht]
    have i5 : idle0 5 (grid0.coords t) = true := by rw [idle5, decide_eq_false ht]; rfl
    simp only [i4, i5, flush5_row t ht]
    by_cases ht0 : t.val % 9 = 0
    · exact triple_restated (sound_first m c t ht0) rfl .rfl fun _ => .rfl
    · exact triple_restated (sound_row m c t ht0 ht) rfl .rfl fun _ => .rfl

/-- Before the first point the kept tiles hold anything, -/
theorem kept_first (c : Dev nD) : Pipeline.ΦA spec0 c ⊢ kept (F := F) m c 0 := by
  unfold Pipeline.ΦA kept
  rw [scopedRest0_eq]
  iintro ⟨⟨⟨%f8, H8⟩, ⟨%f9, H9⟩⟩, Hr⟩
  iexists f8; iexists f9
  isplitr
  · ipureintro; exact fun h => absurd rfl h
  rw [owns_whole, owns_whole]
  isplitl [H8]; · iexact H8
  isplitl [H9]; · iexact H9
  iexact Hr

/-- and after the last what they hold is forgotten. -/
theorem kept_last (c : Dev nD) (n : Nat) : kept (F := F) m c n ⊢ Pipeline.ΦA spec0 c := by
  unfold Pipeline.ΦA kept
  rw [scopedRest0_eq]
  simp only [owns_whole]
  iintro ⟨%s8, %s9, -, H8, H9, Hr⟩
  isplitr [Hr]
  · isplitl [H8]
    · iexists s8; iexact H8
    · iexists s9; iexact H9
  iexact Hr

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := kept_first m)
    (hout := fun c => kept_last m c _)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel2Ideal.Tile

end
-- ==== Proof.FrameIBits.lean ====
/- The argument claim of `Kernel2`: the program and its idealisation are one text, so the idealisation's claim is its own. -/
module

public import proofs.«01_k».proof.Proof.FrameI
public import proofs.«01_k».proof.Proof.Gen.Kernel2.Frame

@[expose] public section

noncomputable section

namespace Cert.Kernel2.Tile

open Cert.Kernel2 Cert.Kernel2.Gen
open Idealize.ShloMosaic Idealize.ShloMosaic.TcCoe Idealize.SL.Sem

variable {F : FTy → Type} [FloatOps F]

/-- The two programs' kernels are the same. -/
theorem body_eq : defs₀ (F := F) = Cert.Kernel2Ideal.defs₀ (F := F) :=
  congrArg Defs.onTc (funext fun ℓ => funext fun a => by
    cases ℓ with | mk v h => match v, h, a with
      | 0, _, (t, s) => exact rfl)

theorem defs_eq : defs (F := F) = Cert.Kernel2Ideal.defs (F := F) :=
  congrArg (Pipeline.defs Cert.Kernel2Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel2Ideal.Tile.frame_args m ρ

end Cert.Kernel2.Tile

end
-- ==== Proof.ElemI.lean ====
/- The feed-forward input projections' launch against its reference: every tile the kernel stores is the reference's. -/
module

public import proofs.«01_k».proof.Proof.Common
public import proofs.«01_k».proof.Proof.FrameI
public import proofs.«01_k».proof.Proof.Gen.Reference2Ideal.Read
public import Idealize.ShloMosaic.Lib.Pointwise

@[expose] public section

set_option maxRecDepth 16384

noncomputable section

namespace Cert.Kernel2Ideal.Tile

open Cert.Kernel2Ideal Cert.Kernel2Ideal.Gen
open Idealize.ShloMosaic Idealize.ShloMosaic.TcCoe Idealize.ShloMosaic.Pointwise Idealize.ShloMosaic.WordCmp
open Idealize.SL.Sem

/-- The gated unit on a gate and an up projection. -/
def swi (g u : EReal) : EReal := g * Ideal.logistic g * u

theorem swi_sub (g u : EReal) : g * Ideal.div (Ideal.ofBits .f32 0x3F800000#32) (Ideal.ofBits .f32 0x3F800000#32 + Ideal.exp (Ideal.ofBits .f32 0x00000000#32 - g)) * u = swi g u := by
  unfold swi Ideal.logistic
  rw [Ideal.ofBits_one_f32, Ideal.ofBits_zero_f32, sub_eq_add_neg, zero_add]

theorem swi_neg (g u : EReal) : g * Ideal.div (Ideal.ofBits .f32 0x3F800000#32) (Ideal.ofBits .f32 0x3F800000#32 + Ideal.exp (-g)) * u = swi g u := by
  unfold swi Ideal.logistic
  rw [Ideal.ofBits_one_f32]

/-- A tile of the prompt's output at a row and a column. -/
theorem pay2_at (v9 : FVec Ideal S1024x4096 .bf16) (v10 v12 : FVec Ideal S4096x256 .bf16) (r : Fin 1024) (c : Fin 256) :
    k0_pay2 (F := Ideal) v9 v10 v12 (ix2 r c)
      = swi (∑ k : Fin 4096, v9 (ix2 r k) * v10 (ix2 k c)) (∑ k : Fin 4096, v9 (ix2 r k) * v12 (ix2 k c)) := by
  rw [← swi_sub]
  pointwise [k0_pay2]

/-- A tile of the sample rows' output at a row and a column. -/
theorem pay3_at (v9 : FVec Ideal S16x4096 .bf16) (v10 v12 : FVec Ideal S4096x256 .bf16) (r : Fin 16) (c : Fin 256) :
    k0_pay3 (F := Ideal) v9 v10 v12 (ix2 r c)
      = swi (∑ k : Fin 4096, v9 (ix2 r k) * v10 (ix2 k c)) (∑ k : Fin 4096, v9 (ix2 r k) * v12 (ix2 k c)) := by
  rw [← swi_sub]
  pointwise [k0_pay3]

open Cert.Reference2Ideal.Read in
/-- The reference's prompt result at an index. -/
theorem ref8_at (x0 : FVec Ideal S8192x4096 .bf16) (x2 : FVec Ideal S4x4096x22016 .f32) (z : S8192x11008.Idx) :
    val_main_v8 (F := Ideal) x0 x2 z
      = swi (∑ k : Fin 4096, x0 (lidx_main_v3 (idx_main_v4 z) k) * x2 (idx_main_v1 (idx_main_v2 (ridx_main_v3 (idx_main_v4 z) k))))
          (∑ k : Fin 4096, x0 (lidx_main_v3 (idx_main_v5 z) k) * x2 (idx_main_v1 (idx_main_v2 (ridx_main_v3 (idx_main_v5 z) k)))) := by
  have h : ∀ i, val_main_v3 (F := Ideal) x0 x2 i = ∑ k : Fin 4096, x0 (lidx_main_v3 i k) * x2 (idx_main_v1 (idx_main_v2 (ridx_main_v3 i k))) := by
    intro i
    rw [val_main_v3_apply]
    refine Finset.sum_congr rfl fun k _ => ?_
    rw [val_main_v2_apply, val_main_v1_apply]
    rfl
  rw [← swi_neg, ← h, ← h, val_main_v8_apply, val_main_v7_apply, val_main_v6_apply, val_main_call0_v5_apply, val_main_call0_v3_apply, val_main_call0_v4_apply, val_main_call0_v2_apply,
    val_main_call0_v1_apply, val_main_call0_v0_apply, val_main_v4_apply, val_main_v5_apply]
  rfl

open Cert.Reference2Ideal.Read in
/-- The reference's sample result at an index. -/
theorem ref17_at (x1 : FVec Ideal S16x4096 .bf16) (x2 : FVec Ideal S4x4096x22016 .f32) (z : S16x11008.Idx) :
    val_main_v17 (F := Ideal) x1 x2 z
      = swi (∑ k : Fin 4096, x1 (lidx_main_v12 (idx_main_v13 z) k) * x2 (idx_main_v10 (idx_main_v11 (ridx_main_v12 (idx_main_v13 z) k))))
          (∑ k : Fin 4096, x1 (lidx_main_v12 (idx_main_v14 z) k) * x2 (idx_main_v10 (idx_main_v11 (ridx_main_v12 (idx_main_v14 z) k)))) := by
  have h : ∀ i, val_main_v12 (F := Ideal) x1 x2 i = ∑ k : Fin 4096, x1 (lidx_main_v12 i k) * x2 (idx_main_v10 (idx_main_v11 (ridx_main_v12 i k))) := by
    intro i
    rw [val_main_v12_apply]
    refine Finset.sum_congr rfl fun k _ => ?_
    rw [val_main_v11_apply, val_main_v10_apply]
    rfl
  rw [← swi_neg, ← h, ← h, val_main_v17_apply, val_main_v16_apply, val_main_v15_apply, val_main_call1_v5_apply, val_main_call1_v3_apply, val_main_call1_v4_apply, val_main_call1_v2_apply,
    val_main_call1_v1_apply, val_main_call1_v0_apply, val_main_v13_apply, val_main_v14_apply]
  rfl

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, 0, ((grid0.coords t) 0).val] := by decide +kernel
theorem map3 : ∀ t : Fin cfg0.N, cc0_transform_3 (grid0.coords t) = ![0, 0, ((grid0.coords t) 0).val + 43] := by decide +kernel
theorem map4 : ∀ t : Fin cfg0.N, cc0_transform_4 (grid0.coords t) = ![min ((grid0.coords t) 1).val 7, ((grid0.coords t) 0).val] := by decide +kernel
theorem map5 : ∀ t : Fin cfg0.N, cc0_transform_5 (grid0.coords t) = ![0, ((grid0.coords t) 0).val] := by decide +kernel

theorem blk0_at (t : Fin cfg0.N) (y : S1024x4096.Idx) (z : S8192x4096.Idx)
    (h0 : (z 0).val = 1024 * min ((grid0.coords t) 1).val 7 + (y 0).val) (h1 : (z 1).val = (y 1).val) :
    iblk m c 0 t y = (m ((c : Thread nD τ).loc main_arg0) : S8192x4096.Idx → EReal) z := by
  have e0 : win0_0.index t 0 = min ((grid0.coords t) 1).val 7 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x4096.Idx) (z : S16x4096.Idx)
    (h0 : (z 0).val = (y 0).val) (h1 : (z 1).val = (y 1).val) :
    iblk m c 1 t y = (m ((c : Thread nD τ).loc main_arg1) : S16x4096.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S1x4096x256.Idx) (z : S4x4096x22016.Idx)
    (h0 : (z 0).val = (y 0).val) (h1 : (z 1).val = (y 1).val) (h2 : (z 2).val = 256 * ((grid0.coords t) 0).val + (y 2).val) :
    iblk m c 2 t y = (m ((c : Thread nD τ).loc main_arg2) : S4x4096x22016.Idx → EReal) z := by
  have e0 : win0_2.index t 0 = 0 := congrFun (map2 t) 0
  have e1 : win0_2.index t 1 = 0 := congrFun (map2 t) 1
  have e2 : win0_2.index t 2 = ((grid0.coords t) 0).val := congrFun (map2 t) 2
  blk_simp [iblk]
  refine congrArg (m ((c : Thread nD τ).loc main_arg2)) (funext fun a => Fin.ext ?_)
  match a with
  | ⟨0, _⟩ =>
    show (((win0_2.blk t).view.emb y) 0).val = (z 0).val
    blk_simp
    rw [e0, h0]
    have hb : (y 0).val < 1 := (y 0).isLt
    omega
  | ⟨1, _⟩ =>
    show (((win0_2.blk t).view.emb y) 1).val = (z 1).val
    blk_simp
    rw [e1, h1]
    have hb : (y 0).val < 1 := (y 0).isLt
    omega
  | ⟨2, _⟩ =>
    show (((win0_2.blk t).view.emb y) 2).val = (z 2).val
    blk_simp
    rw [e2, h2]
    have hb : (y 0).val < 1 := (y 0).isLt
    omega

theorem blk3_at (t : Fin cfg0.N) (y : S1x4096x256.Idx) (z : S4x4096x22016.Idx)
    (h0 : (z 0).val = (y 0).val) (h1 : (z 1).val = (y 1).val) (h2 : (z 2).val = 256 * (((grid0.coords t) 0).val + 43) + (y 2).val) :
    iblk m c 3 t y = (m ((c : Thread nD τ).loc main_arg2) : S4x4096x22016.Idx → EReal) z := by
  have e0 : win0_3.index t 0 = 0 := congrFun (map3 t) 0
  have e1 : win0_3.index t 1 = 0 := congrFun (map3 t) 1
  have e2 : win0_3.index t 2 = ((grid0.coords t) 0).val + 43 := congrFun (map3 t) 2
  blk_simp [iblk]
  refine congrArg (m ((c : Thread nD τ).loc main_arg2)) (funext fun a => Fin.ext ?_)
  match a with
  | ⟨0, _⟩ =>
    show (((win0_3.blk t).view.emb y) 0).val = (z 0).val
    blk_simp
    rw [e0, h0]
    have hb : (y 0).val < 1 := (y 0).isLt
    omega
  | ⟨1, _⟩ =>
    show (((win0_3.blk t).view.emb y) 1).val = (z 1).val
    blk_simp
    rw [e1, h1]
    have hb : (y 0).val < 1 := (y 0).isLt
    omega
  | ⟨2, _⟩ =>
    show (((win0_3.blk t).view.emb y) 2).val = (z 2).val
    blk_simp
    rw [e2, h2]
    have hb : (y 0).val < 1 := (y 0).isLt
    omega

theorem wG_at (t : Fin cfg0.N) (k : Fin 4096) (q : Fin 256) (z : S4x4096x22016.Idx)
    (h0 : (z 0).val = 0) (h1 : (z 1).val = k.val) (h2 : (z 2).val = 256 * ((grid0.coords t) 0).val + q.val) :
    wG m c t (ix2 k q) = (m ((c : Thread nD τ).loc main_arg2) : S4x4096x22016.Idx → EReal) z := by
  have e : wG m c t (ix2 k q) = iblk m c 2 t (Fin.cons ⟨0, Nat.one_pos⟩ (ix2 k q)) := rfl
  rw [e]
  exact blk2_at m c t _ z h0 h1 h2

theorem wU_at (t : Fin cfg0.N) (k : Fin 4096) (q : Fin 256) (z : S4x4096x22016.Idx)
    (h0 : (z 0).val = 0) (h1 : (z 1).val = k.val) (h2 : (z 2).val = 256 * (((grid0.coords t) 0).val + 43) + q.val) :
    wU m c t (ix2 k q) = (m ((c : Thread nD τ).loc main_arg2) : S4x4096x22016.Idx → EReal) z := by
  have e : wU m c t (ix2 k q) = iblk m c 3 t (Fin.cons ⟨0, Nat.one_pos⟩ (ix2 k q)) := rfl
  rw [e]
  exact blk3_at m c t _ z h0 h1 h2

theorem wrow1 (i : Cert.Reference2Ideal.S4096x22016.Idx) : ((Cert.Reference2Ideal.Read.idx_main_v1 (Cert.Reference2Ideal.Read.idx_main_v2 i)) 1).val = (i 0).val := by
  have h0 : (i 0).val < 4096 := (i 0).isLt
  have h1 : (i 1).val < 22016 := (i 1).isLt
  show ((i 0).val * 22016 + (i 1).val) / 22016 % 4096 = (i 0).val
  omega

theorem wcol1 (i : Cert.Reference2Ideal.S4096x22016.Idx) : ((Cert.Reference2Ideal.Read.idx_main_v1 (Cert.Reference2Ideal.Read.idx_main_v2 i)) 2).val = (i 1).val := by
  have h1 : (i 1).val < 22016 := (i 1).isLt
  show ((i 0).val * 22016 + (i 1).val) % 22016 = (i 1).val
  omega

theorem wrow10 (i : Cert.Reference2Ideal.S4096x22016.Idx) : ((Cert.Reference2Ideal.Read.idx_main_v10 (Cert.Reference2Ideal.Read.idx_main_v11 i)) 1).val = (i 0).val := by
  have h0 : (i 0).val < 4096 := (i 0).isLt
  have h1 : (i 1).val < 22016 := (i 1).isLt
  show ((i 0).val * 22016 + (i 1).val) / 22016 % 4096 = (i 0).val
  omega

theorem wcol10 (i : Cert.Reference2Ideal.S4096x22016.Idx) : ((Cert.Reference2Ideal.Read.idx_main_v10 (Cert.Reference2Ideal.Read.idx_main_v11 i)) 2).val = (i 1).val := by
  have h1 : (i 1).val < 22016 := (i 1).isLt
  show ((i 0).val * 22016 + (i 1).val) % 22016 = (i 1).val
  omega

theorem ix1024 (x : S1024x256.Idx) : x = ix2 (⟨(x 0).val, (x 0).isLt⟩ : Fin 1024) (⟨(x 1).val, (x 1).isLt⟩ : Fin 256) :=
  Common.eta2 x

theorem ix16 (x : S16x256.Idx) : x = ix2 (⟨(x 0).val, (x 0).isLt⟩ : Fin 16) (⟨(x 1).val, (x 1).isLt⟩ : Fin 256) :=
  Common.eta2 x

/-- The prompt's tile after a point is the reference at its places. -/
theorem outP_at (t : Fin cfg0.N) (y : S1024x256.Idx) (z : S8192x11008.Idx)
    (h0 : (z 0).val = 1024 * min ((grid0.coords t) 1).val 7 + (y 0).val) (h1 : (z 1).val = 256 * ((grid0.coords t) 0).val + (y 1).val) :
    outP m c t y = Cert.Reference2Ideal.Read.val_main_v8 (F := Ideal) (m ((c : Thread nD τ).loc main_arg0)) (m ((c : Thread nD τ).loc main_arg2)) z := by
  have hz : (z 1).val < 11008 := (z 1).isLt
  rw [ref8_at]
  unfold outP
  rw [ix1024 y, pay2_at]
  refine congrArg₂ swi (Finset.sum_congr rfl fun k _ => ?_) (Finset.sum_congr rfl fun k _ => ?_)
  · have hk : k.val < 4096 := k.isLt
    rw [← blk0_at m c t (ix2 _ k) (Cert.Reference2Ideal.Read.lidx_main_v3 (Cert.Reference2Ideal.Read.idx_main_v4 z) k) (by exact h0) rfl,
      ← wG_at m c t k (⟨(y 1).val, (y 1).isLt⟩ : Fin 256) (Cert.Reference2Ideal.Read.idx_main_v1 (Cert.Reference2Ideal.Read.idx_main_v2 (Cert.Reference2Ideal.Read.ridx_main_v3 (Cert.Reference2Ideal.Read.idx_main_v4 z) k))) rfl
        (wrow1 _) ((wcol1 _).trans (by show (z 1).val = 256 * ((grid0.coords t) 0).val + (y 1).val; omega))]
    rfl
  · have hk : k.val < 4096 := k.isLt
    rw [← blk0_at m c t (ix2 _ k) (Cert.Reference2Ideal.Read.lidx_main_v3 (Cert.Reference2Ideal.Read.idx_main_v5 z) k) (by exact h0) rfl,
      ← wU_at m c t k (⟨(y 1).val, (y 1).isLt⟩ : Fin 256) (Cert.Reference2Ideal.Read.idx_main_v1 (Cert.Reference2Ideal.Read.idx_main_v2 (Cert.Reference2Ideal.Read.ridx_main_v3 (Cert.Reference2Ideal.Read.idx_main_v5 z) k))) rfl
        (wrow1 _) ((wcol1 _).trans (by show 11008 + (z 1).val = 256 * (((grid0.coords t) 0).val + 43) + (y 1).val; omega))]
    rfl

/-- The sample rows' tile after a point is the reference at its places. -/
theorem outS_at (t : Fin cfg0.N) (y : S16x256.Idx) (z : S16x11008.Idx)
    (h0 : (z 0).val = (y 0).val) (h1 : (z 1).val = 256 * ((grid0.coords t) 0).val + (y 1).val) :
    outS m c t y = Cert.Reference2Ideal.Read.val_main_v17 (F := Ideal) (m ((c : Thread nD τ).loc main_arg1)) (m ((c : Thread nD τ).loc main_arg2)) z := by
  have hz : (z 1).val < 11008 := (z 1).isLt
  rw [ref17_at]
  unfold outS
  rw [ix16 y, pay3_at]
  refine congrArg₂ swi (Finset.sum_congr rfl fun k _ => ?_) (Finset.sum_congr rfl fun k _ => ?_)
  · have hk : k.val < 4096 := k.isLt
    rw [← blk1_at m c t (ix2 _ k) (Cert.Reference2Ideal.Read.lidx_main_v12 (Cert.Reference2Ideal.Read.idx_main_v13 z) k) (by exact h0) rfl,
      ← wG_at m c t k (⟨(y 1).val, (y 1).isLt⟩ : Fin 256) (Cert.Reference2Ideal.Read.idx_main_v10 (Cert.Reference2Ideal.Read.idx_main_v11 (Cert.Reference2Ideal.Read.ridx_main_v12 (Cert.Reference2Ideal.Read.idx_main_v13 z) k))) rfl
        (wrow10 _) ((wcol10 _).trans (by show (z 1).val = 256 * ((grid0.coords t) 0).val + (y 1).val; omega))]
    rfl
  · have hk : k.val < 4096 := k.isLt
    rw [← blk1_at m c t (ix2 _ k) (Cert.Reference2Ideal.Read.lidx_main_v12 (Cert.Reference2Ideal.Read.idx_main_v14 z) k) (by exact h0) rfl,
      ← wU_at m c t k (⟨(y 1).val, (y 1).isLt⟩ : Fin 256) (Cert.Reference2Ideal.Read.idx_main_v10 (Cert.Reference2Ideal.Read.idx_main_v11 (Cert.Reference2Ideal.Read.ridx_main_v12 (Cert.Reference2Ideal.Read.idx_main_v14 z) k))) rfl
        (wrow10 _) ((wcol10 _).trans (by show 11008 + (z 1).val = 256 * (((grid0.coords t) 0).val + 43) + (y 1).val; omega))]
    rfl

/-- The prompt's output array after the launch is the reference's. -/
theorem arr_out4 : (dats m 0 c).arrAt 4 cfg0.N
    = Cert.Reference2Ideal.Read.val_main_v8 (F := Ideal) (m ((c : Thread nD τ).loc main_arg0)) (m ((c : Thread nD τ).loc main_arg2)) := by
  refine Pipeline.Dat.arrAt_eq_of_covers (dats m 0 c) 4 _ (by decide +kernel) fun t hf y => ?_
  have e0 : win0_4.index t 0 = min ((grid0.coords t) 1).val 7 := congrFun (map4 t) 0
  have e1 : win0_4.index t 1 = ((grid0.coords t) 0).val := congrFun (map4 t) 1
  have a0 : (((win0_4.blk t).view.emb y) 0).val = 1024 * min ((grid0.coords t) 1).val 7 + (y 0).val := by
    blk_simp
    rw [e0]
    omega
  have a1 : (((win0_4.blk t).view.emb y) 1).val = 256 * ((grid0.coords t) 0).val + (y 1).val := by
    blk_simp
    rw [e1]
    omega
  refine Eq.trans ?_ (outP_at m c t y ((win0_4.blk t).view.emb y) a0 a1)
  rw [← after4]
  rfl

/-- The sample rows' output array after the launch is the reference's. -/
theorem arr_out5 : (dats m 0 c).arrAt 5 cfg0.N
    = Cert.Reference2Ideal.Read.val_main_v17 (F := Ideal) (m ((c : Thread nD τ).loc main_arg1)) (m ((c : Thread nD τ).loc main_arg2)) := by
  refine Pipeline.Dat.arrAt_eq_of_covers (dats m 0 c) 5 _ (by decide +kernel) fun t hf y => ?_
  have e0 : win0_5.index t 0 = 0 := congrFun (map5 t) 0
  have e1 : win0_5.index t 1 = ((grid0.coords t) 0).val := congrFun (map5 t) 1
  have a0 : (((win0_5.blk t).view.emb y) 0).val = (y 0).val := by
    blk_simp
    rw [e0]
    omega
  have a1 : (((win0_5.blk t).view.emb y) 1).val = 256 * ((grid0.coords t) 0).val + (y 1).val := by
    blk_simp
    rw [e1]
    omega
  refine Eq.trans ?_ (outS_at m c t y ((win0_5.blk t).view.emb y) a0 a1)
  rw [← after5]
  rfl

end Cert.Kernel2Ideal.Tile
-- ==== Proof.AlgI.lean ====
/- The feed-forward input projections and its reference agree. -/
module

public import proofs.«01_k».proof.Defs
public import proofs.«01_k».proof.Proof.ElemI
public import Idealize.ShloMosaic.Lib.Quiescent

@[expose] public section

set_option maxRecDepth 16384

noncomputable section

namespace Cert.FfnIn

open Idealize.ShloMosaic Idealize.ShloMosaic.TcCoe
open Idealize.SL.Sem

open Cert.Kernel2Ideal in
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => Cert.Reference2Ideal.Read.val_main_v8 (F := Ideal) (m ((c.tc : Thread nD τ).loc main_arg0)) (m ((c.tc : Thread nD τ).loc main_arg2)),
    fun c => Cert.Reference2Ideal.Read.val_main_v17 (F := Ideal) (m ((c.tc : Thread nD τ).loc main_arg1)) (m ((c.tc : Thread nD τ).loc main_arg2)), ?_, ?_⟩
  · refine (θ_run _ _ _).mono (fun r h c => ?_) (θ_run_and (Tile.run m g) (Tile.frame_args m g))
    exact ⟨(h.1.out_eq c 4).trans (Tile.arr_out4 m c), (h.1.out_eq c 5).trans (Tile.arr_out5 m c), h.2.1 c⟩
  · refine (θ_run _ _ _).mono (fun r h c => ?_) (Cert.Reference2Ideal.Value.run m' g')
    obtain ⟨h0, h1, hrest⟩ := h c
    obtain ⟨a0, a1, a2⟩ := hargs c
    refine ⟨h0.trans ?_, h1.trans ?_, hrest⟩
    · rw [Cert.Reference2Ideal.Read.val_main_v8_eq, a0, a2]
    · rw [Cert.Reference2Ideal.Read.val_main_v17_eq, a1, a2]

open Cert.Reference2Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Cert.Reference2Ideal.Value.run m g)

end Cert.FfnIn
-- ==== Proof.FrameO.lean ====
/- The feed-forward output projection's launch: the body's triple in its two cases, what the two outputs hold after
   every point, the run of the whole launch, and the claim that the arguments end unchanged. -/
module

public import proofs.«01_k».proof.Proof.Common
public import proofs.«01_k».proof.Proof.Gen.Kernel3Ideal.Frame
public import proofs.«01_k».proof.Proof.Gen.Kernel3Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel3Ideal.Tile

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body

variable (c : Dev nD) (i : grid0.Coords)
    (arg2 : Memref sig .tc .vmem S512x11008 .bf16) (harg2 : arg2.IsWhole)
    (arg3 : Memref sig .tc .vmem S16x11008 .bf16) (harg3 : arg3.IsWhole)
    (arg4 : Memref sig .tc .vmem S11008x512 .bf16) (harg4 : arg4.IsWhole)
    (arg5 : Memref sig .tc .vmem S512x512 .f32) (harg5 : arg5.IsWhole)
    (arg6 : Memref sig .tc .vmem S16x512 .f32) (harg6 : arg6.IsWhole)
    (arg7 : Memref sig .tc .vmem S512x512 .f32) (harg7 : arg7.IsWhole)
    (arg8 : Memref sig .tc .vmem S16x512 .f32) (harg8 : arg8.IsWhole)
    (x0 : Vec F S512x11008 .bf16) (x1 : Vec F S16x11008 .bf16) (x2 : Vec F S11008x512 .bf16)
    (x3 : Vec F S512x512 .f32) (x4 : Vec F S16x512 .f32) (x6 : Vec F S512x512 .f32) (x7 : Vec F S16x512 .f32)

/-- The two outputs beside the five inputs at their contents. -/
abbrev Held (y5 : Vec F S512x512 .f32) (y6 : Vec F S16x512 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare y5
    ∗ owns (c : Thread nD τ) arg8 fullShare y6)

set_option maxHeartbeats 1000000 in
/-- At a point over a row tile of the prompt, the prompt's output tile is stored and the other output left alone. -/
theorem bodyRun_row (h1 : k0_cond1 i = 1#1) (h2 : ¬ k0_cond2 i = 1#1) (E : Set ℕ) (K : PUnit → sProp 𝕄) :
    iprop(Held c arg2 arg3 arg4 arg5 arg6 arg7 arg8 x0 x1 x2 x3 x4 x6 x7
        ∗ (Held c arg2 arg3 arg4 arg5 arg6 arg7 arg8 x0 x1 x2 x3 x4 (k0_pay1 x0 x2 x3) x7 -∗ K ⟨⟩))
      ⊢ wp frame (wpE (defs₀ (F := F)) Variants.none c none) E
          (cc0_ffn_out i arg2 harg2 arg3 harg3 arg4 harg4 arg5 harg5 arg6 harg6 arg7 harg7 arg8 harg8) K := by
  simp only [cc0_ffn_out_eq_skeleton]; unfold cc0_ffn_out_skel
  rw [dif_pos h1, dif_neg h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg2.eq_unread hf0; obtain rfl := harg4.eq_unread hf2; obtain rfl := harg5.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide), View.ld_unit_lit _ _ (by decide)]
  · iexists _; isplitr; · ipureintro; exact hf6
    iexact H6

set_option maxHeartbeats 1000000 in
/-- At the last point of a column tile, the sample rows' output tile is stored and the other output left alone. -/
theorem bodyRun_last (h1 : ¬ k0_cond1 i = 1#1) (h2 : k0_cond2 i = 1#1) (E : Set ℕ) (K : PUnit → sProp 𝕄) :
    iprop(Held c arg2 arg3 arg4 arg5 arg6 arg7 arg8 x0 x1 x2 x3 x4 x6 x7
        ∗ (Held c arg2 arg3 arg4 arg5 arg6 arg7 arg8 x0 x1 x2 x3 x4 x6 (k0_pay2 x1 x2 x4) -∗ K ⟨⟩))
      ⊢ wp frame (wpE (defs₀ (F := F)) Variants.none c none) E
          (cc0_ffn_out i arg2 harg2 arg3 harg3 arg4 harg4 arg5 harg5 arg6 harg6 arg7 harg7 arg8 harg8) K := by
  simp only [cc0_ffn_out_eq_skeleton]; unfold cc0_ffn_out_skel
  rw [dif_neg h1, dif_pos h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg3.eq_unread hf1; obtain rfl := harg4.eq_unread hf2; obtain rfl := harg6.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  · iexists _; isplitr; swap; · iexact H6
    ipureintro
    rw [Common.read_store _ _ (by decide)]
    simp only [View.readAt_eq_ld, Memref.IsWhole.read_unread]
    rw [View.ld_unit_lit _ _ (by decide), View.ld_unit_lit _ _ (by decide), View.ld_unit_lit _ _ (by decide)]

end body

/-! ## Which case a point is in -/

theorem cond1_iff : ∀ t : Fin cfg0.N, k0_cond1 (grid0.coords t) = 1#1 ↔ t.val % 17 ≠ 16 := by decide +kernel
theorem cond2_iff : ∀ t : Fin cfg0.N, k0_cond2 (grid0.coords t) = 1#1 ↔ t.val % 17 = 16 := by decide +kernel

theorem not_flush5_pred : ∀ t : Fin cfg0.N, t.val % 17 = 16 →
    (cfg0.win 5).flush ⟨t.val - 1, Nat.lt_of_le_of_lt (Nat.sub_le _ _) t.isLt⟩ = false := by
  intro t h
  rw [Pipeline.Window.flush_eq_flushF]
  revert t; decide +kernel

theorem flush5_last : ∀ t : Fin cfg0.N, t.val % 17 = 16 → (cfg0.win 5).flush t = true := by
  intro t h
  rw [Pipeline.Window.flush_eq_flushF]
  revert t; decide +kernel

/-- The rows and columns window 0, 2 and 3 take at the last point of a column tile are those of the point before. -/
theorem same0 : ∀ t : Fin cfg0.N, t.val % 17 = 16 → win0_0.index t = win0_0.index ⟨t.val - 1, Nat.lt_of_le_of_lt (Nat.sub_le _ _) t.isLt⟩ := by decide +kernel
theorem same2 : ∀ t : Fin cfg0.N, t.val % 17 = 16 → win0_2.index t = win0_2.index ⟨t.val - 1, Nat.lt_of_le_of_lt (Nat.sub_le _ _) t.isLt⟩ := by decide +kernel
theorem same3 : ∀ t : Fin cfg0.N, t.val % 17 = 16 → win0_3.index t = win0_3.index ⟨t.val - 1, Nat.lt_of_le_of_lt (Nat.sub_le _ _) t.isLt⟩ := by decide +kernel

/-! ## The launch -/

variable (m : (ℓ : Loc nD τ sig) → Buf (Elt F) ℓ) (ρ : Dev nD → PrngReg)

/-- What the prompt's output block holds after point `t`. -/
def outP (c : Dev nD) (t : Fin cfg0.N) : S512x512.Idx → Elt F .f32 := k0_pay1 (iblk m c 0 t) (iblk m c 2 t) (iblk m c 3 t)

/-- What the sample rows' output block holds when it is written. -/
def outS (c : Dev nD) (t : Fin cfg0.N) : S16x512.Idx → Elt F .f32 := k0_pay2 (iblk m c 1 t) (iblk m c 2 t) (iblk m c 4 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP m c t
    | ⟨6, _⟩ => outS m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outP m c t := by dsimp only [dats]
theorem after6 (c : Dev nD) (t : Fin cfg0.N) : (dats m 0 c).after 6 t = outS m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)
theorem iblk3_congr (c : Dev nD) {t t' : Fin cfg0.N} (h : win0_3.index t = win0_3.index t') : iblk m c 3 t = iblk m c 3 t' :=
  (dats m 0 c).fetched_congr 3 h rfl (iblk m c 3 t)

/-- The last point of a column tile finds the prompt's output block as the point before left it. -/
theorem before5_last (c : Dev nD) (t : Fin cfg0.N) (ht : t.val % 17 = 16) (d) : (dats m 0 c).before 5 t d = outP m c t := by
  have h0 : t.val ≠ 0 := by omega
  rw [(dats m 0 c).before_of_pos 5 t h0 ((cfg0.win 5).fetch_out rfl t), not_flush5_pred t ht, if_neg Bool.false_ne_true]
  unfold Dat.left
  have hi : cfg0.idle 5 (cfg0.grid.coords ⟨t.val - 1, Nat.lt_of_le_of_lt (Nat.sub_le _ _) t.isLt⟩) = false := by
    have := (cond1_iff ⟨t.val - 1, Nat.lt_of_le_of_lt (Nat.sub_le _ _) t.isLt⟩).mpr (by simp only; omega)
    show (!(k0_cond1 _ == 1#1)) = false
    rw [this]; rfl
  rw [hi]
  have e : (dats m 0 c).after 5 ⟨t.val - 1, Nat.lt_of_le_of_lt (Nat.sub_le _ _) t.isLt⟩ = outP m c t := by
    rw [after5]; unfold outP
    rw [iblk0_congr m c (same0 t ht), iblk2_congr m c (same2 t ht), iblk3_congr m c (same3 t ht)]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_row (c : Dev nD) (t : Fin cfg0.N) (ht : t.val % 17 ≠ 16) :
    bodyPre m c t ⊢ wp frame (wpE (defs₀ (F := F)) Variants.none c none) Set.univ (bodyAt0 t) (fun _ => postRow m c t) := by
  unfold bodyPre postRow bodyAt0
  simp only [before0, before1, before2, before3, before4, after0, after1, after2, after3, after4, after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_row c (grid0.coords t) _ _ _ _ _ _ _ _ _ _ _ _ _ _ (iblk m c 0 t) (iblk m c 1 t) (iblk m c 2 t) (iblk m c 3 t) (iblk m c 4 t)
    ((dats m 0 c).before 5 t d5) ((dats m 0 c).before 6 t d6)
    ((cond1_iff t).mpr ht) (fun h => ht ((cond2_iff t).mp h)) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 800000 in
theorem sound_last (c : Dev nD) (t : Fin cfg0.N) (ht : t.val % 17 = 16) :
    bodyPre m c t ⊢ wp frame (wpE (defs₀ (F := F)) Variants.none c none) Set.univ (bodyAt0 t) (fun _ => postLast m c t) := by
  unfold bodyPre postLast bodyAt0
  simp only [before0, before1, before2, before3, before4, before5_last m c t ht, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_last c (grid0.coords t) _ _ _ _ _ _ _ _ _ _ _ _ _ _ (iblk m c 0 t) (iblk m c 1 t) (iblk m c 2 t) (iblk m c 3 t) (iblk m c 4 t)
    (outP m c t) ((dats m 0 c).before 6 t d6)
    (fun h => (cond1_iff t).mp h ht) ((cond2_iff t).mpr ht) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle5 (t : Fin cfg0.N) : idle0 5 (grid0.coords t) = decide (t.val % 17 = 16) := by
  revert t; decide +kernel
theorem idle6 (t : Fin cfg0.N) : idle0 6 (grid0.coords t) = !decide (t.val % 17 = 16) := by
  revert t; decide +kernel

theorem flush6_row (t : Fin cfg0.N) (ht : t.val % 17 ≠ 16) : (cfg0.win 6).flush t = false := by
  cases h : (cfg0.win 6).flush t
  · rfl
  · exact absurd ((flush0_6 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 17 = 16
  · have i5 : idle0 5 (grid0.coords t) = true := by rw [idle5, ht]; rfl
    have i6 : idle0 6 (grid0.coords t) = false := by rw [idle6, ht]; rfl
    simp only [i5, i6, flush5_last t ht]
    exact triple_restated (sound_last m c t ht) rfl .rfl fun _ => .rfl
  · have i5 : idle0 5 (grid0.coords t) = false := by rw [idle5, decide_eq_false ht]
    have i6 : idle0 6 (grid0.coords t) = true := by rw [idle6, decide_eq_false ht]; rfl
    simp only [i5, i6, flush6_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Kernel3Ideal.Tile

end
-- ==== Proof.FrameOBits.lean ====
/- The argument claim of `Kernel3`: the program and its idealisation are one text, so the idealisation's claim is its own. -/
module

public import proofs.«01_k».proof.Proof.FrameO
public import proofs.«01_k».proof.Proof.Gen.Kernel3.Frame

@[expose] public section

noncomputable section

namespace Cert.Kernel3.Tile

open Cert.Kernel3 Cert.Kernel3.Gen
open Idealize.ShloMosaic Idealize.ShloMosaic.TcCoe Idealize.SL.Sem

variable {F : FTy → Type} [FloatOps F]

/-- The two programs' kernels are the same. -/
theorem body_eq : defs₀ (F := F) = Cert.Kernel3Ideal.defs₀ (F := F) :=
  congrArg Defs.onTc (funext fun ℓ => funext fun a => by
    cases ℓ with | mk v h => match v, h, a with
      | 0, _, (t, s) => exact rfl)

theorem defs_eq : defs (F := F) = Cert.Kernel3Ideal.defs (F := F) :=
  congrArg (Pipeline.defs Cert.Kernel3Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.Kernel3Ideal.Tile.frame_args m ρ

end Cert.Kernel3.Tile

end
-- ==== Proof.ElemO.lean ====
/- The feed-forward output projection's launch against its reference: every tile the kernel stores is the reference's. -/
module

public import proofs.«01_k».proof.Proof.Common
public import proofs.«01_k».proof.Proof.FrameO
public import proofs.«01_k».proof.Proof.Gen.Reference3Ideal.Read
public import Idealize.ShloMosaic.Lib.Pointwise

@[expose] public section

set_option maxRecDepth 16384

noncomputable section

namespace Cert.Kernel3Ideal.Tile

open Cert.Kernel3Ideal Cert.Kernel3Ideal.Gen
open Idealize.ShloMosaic Idealize.ShloMosaic.TcCoe Idealize.ShloMosaic.Pointwise Idealize.ShloMosaic.WordCmp
open Idealize.SL.Sem

/-- A tile of the prompt's output at a row and a column. -/
theorem pay1_at (v6 : FVec Ideal S512x11008 .bf16) (v7 : FVec Ideal S11008x512 .bf16) (v9 : FVec Ideal S512x512 .f32) (r c : Fin 512) :
    k0_pay1 (F := Ideal) v6 v7 v9 (ix2 r c)
      = Ideal.ofBits .f32 0x3FD744FD#32 * v9 (ix2 r c) + ∑ k : Fin 11008, v6 (ix2 r k) * v7 (ix2 k c) := by
  pointwise [k0_pay1]

/-- A tile of the sample rows' output at a row and a column. -/
theorem pay2_at (v6 : FVec Ideal S16x11008 .bf16) (v7 : FVec Ideal S11008x512 .bf16) (v9 : FVec Ideal S16x512 .f32) (r : Fin 16) (c : Fin 512) :
    k0_pay2 (F := Ideal) v6 v7 v9 (ix2 r c)
      = Ideal.ofBits .f32 0x3FD744FD#32 * v9 (ix2 r c) + ∑ k : Fin 11008, v6 (ix2 r k) * v7 (ix2 k c) := by
  pointwise [k0_pay2]

variable (m : (ℓ : Loc nD τ sig) → Buf (Elt Ideal) ℓ) (ρ : Dev nD → PrngReg) (c : Dev nD)

theorem idxE (t : Fin cfg0.N) : ((grid0.coords t) 0).val < 8 ∧ ((grid0.coords t) 1).val < 17 :=
  ⟨((grid0.coords t) 0).isLt, ((grid0.coords t) 1).isLt⟩

theorem map0 : ∀ t : Fin cfg0.N, cc0_transform_0 (grid0.coords t) = ![min ((grid0.coords t) 1).val 15, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val] := by decide +kernel
theorem map3 : ∀ t : Fin cfg0.N, cc0_transform_3 (grid0.coords t) = ![min ((grid0.coords t) 1).val 15, ((grid0.coords t) 0).val] := by decide +kernel
theorem map4 : ∀ t : Fin cfg0.N, cc0_transform_4 (grid0.coords t) = ![0, ((grid0.coords t) 0).val] := by decide +kernel
theorem map5 : ∀ t : Fin cfg0.N, cc0_transform_5 (grid0.coords t) = ![min ((grid0.coords t) 1).val 15, ((grid0.coords t) 0).val] := by decide +kernel
theorem map6 : ∀ t : Fin cfg0.N, cc0_transform_6 (grid0.coords t) = ![0, ((grid0.coords t) 0).val] := by decide +kernel

theorem blk0_at (t : Fin cfg0.N) (y : S512x11008.Idx) (z : S8192x11008.Idx)
    (h0 : (z 0).val = 512 * min ((grid0.coords t) 1).val 15 + (y 0).val) (h1 : (z 1).val = (y 1).val) :
    iblk m c 0 t y = (m ((c : Thread nD τ).loc main_arg0) : S8192x11008.Idx → EReal) z := by
  have e0 : win0_0.index t 0 = min ((grid0.coords t) 1).val 15 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x11008.Idx) (z : S16x11008.Idx)
    (h0 : (z 0).val = (y 0).val) (h1 : (z 1).val = (y 1).val) :
    iblk m c 1 t y = (m ((c : Thread nD τ).loc main_arg1) : S16x11008.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S11008x512.Idx) (z : S11008x4096.Idx)
    (h0 : (z 0).val = (y 0).val) (h1 : (z 1).val = 512 * ((grid0.coords t) 0).val + (y 1).val) :
    iblk m c 2 t y = (m ((c : Thread nD τ).loc main_arg2) : S11008x4096.Idx → EReal) z := by
  have e0 : win0_2.index t 0 = 0 := congrFun (map2 t) 0
  have e1 : win0_2.index t 1 = ((grid0.coords t) 0).val := congrFun (map2 t) 1
  blk_simp [iblk]
  exact congrArg (m ((c : Thread nD τ).loc main_arg2)) (Common.ext2 (by blk_simp; rw [e0, h0]; omega) (by blk_simp; rw [e1, h1]; omega))

theorem blk3_at (t : Fin cfg0.N) (y : S512x512.Idx) (z : S8192x4096.Idx)
    (h0 : (z 0).val = 512 * min ((grid0.coords t) 1).val 15 + (y 0).val) (h1 : (z 1).val = 512 * ((grid0.coords t) 0).val + (y 1).val) :
    iblk m c 3 t y = (m ((c : Thread nD τ).loc main_arg3) : S8192x4096.Idx → EReal) z := by
  have e0 : win0_3.index t 0 = min ((grid0.coords t) 1).val 15 := congrFun (map3 t) 0
  have e1 : win0_3.index t 1 = ((grid0.coords t) 0).val := congrFun (map3 t) 1
  blk_simp [iblk]
  exact congrArg (m ((c : Thread nD τ).loc main_arg3)) (Common.ext2 (by blk_simp; rw [e0, h0]; omega) (by blk_simp; rw [e1, h1]; omega))

theorem blk4_at (t : Fin cfg0.N) (y : S16x512.Idx) (z : S16x4096.Idx)
    (h0 : (z 0).val = (y 0).val) (h1 : (z 1).val = 512 * ((grid0.coords t) 0).val + (y 1).val) :
    iblk m c 4 t y = (m ((c : Thread nD τ).loc main_arg4) : S16x4096.Idx → EReal) z := by
  have e0 : win0_4.index t 0 = 0 := congrFun (map4 t) 0
  have e1 : win0_4.index t 1 = ((grid0.coords t) 0).val := congrFun (map4 t) 1
  blk_simp [iblk]
  exact congrArg (m ((c : Thread nD τ).loc main_arg4)) (Common.ext2 (by blk_simp; rw [e0, h0]; omega) (by blk_simp; rw [e1, h1]; omega))

open Cert.Reference3Ideal.Read in
/-- The reference's prompt result at an index. -/
theorem ref5_at (x0 : FVec Ideal S8192x11008 .bf16) (x2 : FVec Ideal S11008x4096 .bf16) (x3 : FVec Ideal S8192x4096 .f32) (z : S8192x4096.Idx) :
    val_main_v5 (F := Ideal) x0 x2 x3 z
      = Ideal.ofBits .f32 0x3FD744FD#32 * x3 z + ∑ k : Fin 11008, x0 (lidx_main_v4 z k) * x2 (ridx_main_v4 z k) := by
  rw [val_main_v5_apply, val_main_v4_apply, val_main_v1_apply, val_main_v0_apply, val_main_cst_apply]
  rfl

open Cert.Reference3Ideal.Read in
/-- The reference's sample result at an index. -/
theorem ref11_at (x1 : FVec Ideal S16x11008 .bf16) (x2 : FVec Ideal S11008x4096 .bf16) (x4 : FVec Ideal S16x4096 .f32) (z : S16x4096.Idx) :
    val_main_v11 (F := Ideal) x1 x2 x4 z
      = Ideal.ofBits .f32 0x3FD744FD#32 * x4 z + ∑ k : Fin 11008, x1 (lidx_main_v10 z k) * x2 (ridx_main_v10 z k) := by
  rw [val_main_v11_apply, val_main_v10_apply, val_main_v7_apply, val_main_v6_apply, val_main_cst_0_apply]
  rfl

theorem ix512 (x : S512x512.Idx) : x = ix2 (⟨(x 0).val, (x 0).isLt⟩ : Fin 512) (⟨(x 1).val, (x 1).isLt⟩ : Fin 512) :=
  Common.eta2 x

theorem ix16 (x : S16x512.Idx) : x = ix2 (⟨(x 0).val, (x 0).isLt⟩ : Fin 16) (⟨(x 1).val, (x 1).isLt⟩ : Fin 512) :=
  Common.eta2 x

/-- The prompt's tile after a point is the reference at its places. -/
theorem outP_at (t : Fin cfg0.N) (y : S512x512.Idx) (z : S8192x4096.Idx)
    (h0 : (z 0).val = 512 * min ((grid0.coords t) 1).val 15 + (y 0).val) (h1 : (z 1).val = 512 * ((grid0.coords t) 0).val + (y 1).val) :
    outP m c t y = Cert.Reference3Ideal.Read.val_main_v5 (F := Ideal) (m ((c : Thread nD τ).loc main_arg0)) (m ((c : Thread nD τ).loc main_arg2)) (m ((c : Thread nD τ).loc main_arg3)) z := by
  rw [ref5_at]
  unfold outP
  rw [ix512 y, pay1_at]
  rw [← blk3_at m c t (ix2 _ _) z (by exact h0) (by exact h1)]
  refine congrArg₂ _ rfl (Finset.sum_congr rfl fun k _ => ?_)
  rw [← blk0_at m c t (ix2 _ k) (Cert.Reference3Ideal.Read.lidx_main_v4 z k) (by exact h0) rfl,
    ← blk2_at m c t (ix2 k _) (Cert.Reference3Ideal.Read.ridx_main_v4 z k) rfl (by exact h1)]
  rfl

/-- The sample rows' tile is the reference at its places. -/
theorem outS_at (t : Fin cfg0.N) (y : S16x512.Idx) (z : S16x4096.Idx)
    (h0 : (z 0).val = (y 0).val) (h1 : (z 1).val = 512 * ((grid0.coords t) 0).val + (y 1).val) :
    outS m c t y = Cert.Reference3Ideal.Read.val_main_v11 (F := Ideal) (m ((c : Thread nD τ).loc main_arg1)) (m ((c : Thread nD τ).loc main_arg2)) (m ((c : Thread nD τ).loc main_arg4)) z := by
  rw [ref11_at]
  unfold outS
  rw [ix16 y, pay2_at]
  rw [← blk4_at m c t (ix2 _ _) z (by exact h0) (by exact h1)]
  refine congrArg₂ _ rfl (Finset.sum_congr rfl fun k _ => ?_)
  rw [← blk1_at m c t (ix2 _ k) (Cert.Reference3Ideal.Read.lidx_main_v10 z k) (by exact h0) rfl,
    ← blk2_at m c t (ix2 k _) (Cert.Reference3Ideal.Read.ridx_main_v10 z k) rfl (by exact h1)]
  rfl

/-- The prompt's output array after the launch is the reference's. -/
theorem arr_out5 : (dats m 0 c).arrAt 5 cfg0.N
    = Cert.Reference3Ideal.Read.val_main_v5 (F := Ideal) (m ((c : Thread nD τ).loc main_arg0)) (m ((c : Thread nD τ).loc main_arg2)) (m ((c : Thread nD τ).loc main_arg3)) := by
  refine Pipeline.Dat.arrAt_eq_of_covers (dats m 0 c) 5 _ (by decide +kernel) fun t hf y => ?_
  have e0 : win0_5.index t 0 = min ((grid0.coords t) 1).val 15 := congrFun (map5 t) 0
  have e1 : win0_5.index t 1 = ((grid0.coords t) 0).val := congrFun (map5 t) 1
  have a0 : (((win0_5.blk t).view.emb y) 0).val = 512 * min ((grid0.coords t) 1).val 15 + (y 0).val := by
    blk_simp
    rw [e0]
    omega
  have a1 : (((win0_5.blk t).view.emb y) 1).val = 512 * ((grid0.coords t) 0).val + (y 1).val := by
    blk_simp
    rw [e1]
    omega
  refine Eq.trans ?_ (outP_at m c t y ((win0_5.blk t).view.emb y) a0 a1)
  rw [← after5]
  rfl

/-- The sample rows' output array after the launch is the reference's. -/
theorem arr_out6 : (dats m 0 c).arrAt 6 cfg0.N
    = Cert.Reference3Ideal.Read.val_main_v11 (F := Ideal) (m ((c : Thread nD τ).loc main_arg1)) (m ((c : Thread nD τ).loc main_arg2)) (m ((c : Thread nD τ).loc main_arg4)) := by
  refine Pipeline.Dat.arrAt_eq_of_covers (dats m 0 c) 6 _ (by decide +kernel) fun t hf y => ?_
  have e0 : win0_6.index t 0 = 0 := congrFun (map6 t) 0
  have e1 : win0_6.index t 1 = ((grid0.coords t) 0).val := congrFun (map6 t) 1
  have a0 : (((win0_6.blk t).view.emb y) 0).val = (y 0).val := by
    blk_simp
    rw [e0]
    omega
  have a1 : (((win0_6.blk t).view.emb y) 1).val = 512 * ((grid0.coords t) 0).val + (y 1).val := by
    blk_simp
    rw [e1]
    omega
  refine Eq.trans ?_ (outS_at m c t y ((win0_6.blk t).view.emb y) a0 a1)
  rw [← after6]
  rfl

end Cert.Kernel3Ideal.Tile
-- ==== Proof.AlgO.lean ====
/- The feed-forward output projection and its reference agree. -/
module

public import proofs.«01_k».proof.Defs
public import proofs.«01_k».proof.Proof.ElemO
public import Idealize.ShloMosaic.Lib.Quiescent

@[expose] public section

set_option maxRecDepth 16384

noncomputable section

namespace Cert.FfnOut

open Idealize.ShloMosaic Idealize.ShloMosaic.TcCoe
open Idealize.SL.Sem

open Cert.Kernel3Ideal in
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => Cert.Reference3Ideal.Read.val_main_v5 (F := Ideal) (m ((c.tc : Thread nD τ).loc main_arg0)) (m ((c.tc : Thread nD τ).loc main_arg2)) (m ((c.tc : Thread nD τ).loc main_arg3)),
    fun c => Cert.Reference3Ideal.Read.val_main_v11 (F := Ideal) (m ((c.tc : Thread nD τ).loc main_arg1)) (m ((c.tc : Thread nD τ).loc main_arg2)) (m ((c.tc : Thread nD τ).loc main_arg4)), ?_, ?_⟩
  · refine (θ_run _ _ _).mono (fun r h c => ?_) (θ_run_and (Tile.run m g) (Tile.frame_args m g))
    exact ⟨(h.1.out_eq c 5).trans (Tile.arr_out5 m c), (h.1.out_eq c 6).trans (Tile.arr_out6 m c), h.2.1 c⟩
  · refine (θ_run _ _ _).mono (fun r h c => ?_) (Cert.Reference3Ideal.Value.run m' g')
    obtain ⟨h0, h1, hrest⟩ := h c
    obtain ⟨a0, a1, a2, a3, a4⟩ := hargs c
    refine ⟨h0.trans ?_, h1.trans ?_, hrest⟩
    · rw [Cert.Reference3Ideal.Read.val_main_v5_eq, a0, a2, a3]
    · rw [Cert.Reference3Ideal.Read.val_main_v11_eq, a1, a2, a4]

open Cert.Reference3Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) r.2⟩) (Cert.Reference3Ideal.Value.run m g)

end Cert.FfnOut
-- ==== Proof.FrameQryB.lean ====
/- The launch that projects the attention's queries: the body's triple in its two cases, what the four outputs
   hold after every point, the run of the whole launch, and the claim that the arguments end unchanged. -/
module

public import proofs.«01_k».proof.Proof.Common
public import proofs.«01_k».proof.Proof.Gen.Kernel4Ideal.Frame
public import proofs.«01_k».proof.Proof.Gen.Kernel4Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel4Ideal.Tile

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body

variable (c : Dev nD) (i : grid0.Coords)
    (arg2 : Memref sig .tc .vmem S1024x4096 .bf16) (harg2 : arg2.IsWhole)
    (arg3 : Memref sig .tc .vmem S16x4096 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .bf16) (harg6 : arg6.IsWhole)
    (arg7 : Memref sig .tc .vmem S16x1024 .f32) (harg7 : arg7.IsWhole)
    (arg8 : Memref sig .tc .vmem S16x1024 .bf16) (harg8 : arg8.IsWhole)
    (x0 : Vec F S1024x4096 .bf16) (x1 : Vec F S16x4096 .bf16) (x2 : Vec F S4096x1024 .bf16) (x3 : Vec F S1024x1024 .f32) (x4 : Vec F S1024x1024 .bf16) (x5 : Vec F S16x1024 .f32) (x6 : Vec F S16x1024 .bf16)

/-- The four outputs beside the three inputs at their contents. -/
abbrev Held (y3 : Vec F S1024x1024 .f32) (y4 : Vec F S1024x1024 .bf16) (y5 : Vec F S16x1024 .f32) (y6 : Vec F S16x1024 .bf16) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare y3
    ∗ owns (c : Thread nD τ) arg6 fullShare y4
    ∗ owns (c : Thread nD τ) arg7 fullShare y5
    ∗ owns (c : Thread nD τ) arg8 fullShare y6)

set_option maxHeartbeats 1000000 in
/-- At a point over a row tile of the prompt, the prompt's output tiles are stored and the other outputs left alone. -/
theorem bodyRun_row (h1 : k0_cond1 i = 1#1) (h2 : ¬ k0_cond2 i = 1#1) (E : Set ℕ) (K : PUnit → sProp 𝕄) :
    iprop(Held c arg2 arg3 arg4 arg5 arg6 arg7 arg8 x0 x1 x2 x3 x4 x5 x6
        ∗ (Held c arg2 arg3 arg4 arg5 arg6 arg7 arg8 x0 x1 x2 (k0_pay1 x0 x2) (k0_pay2 x0 x2) x5 x6 -∗ K ⟨⟩))
      ⊢ wp frame (wpE (defs₀ (F := F)) Variants.none c none) E
          (cc0_qkv_b i arg2 harg2 arg3 harg3 arg4 harg4 arg5 harg5 arg6 harg6 arg7 harg7 arg8 harg8) K := by
  simp only [cc0_qkv_b_eq_skeleton]; unfold cc0_qkv_b_skel
  rw [dif_pos h1, dif_neg h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg2.eq_unread hf0; obtain rfl := harg4.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    rw [Common.read_store _ _ (by decide)]
    simp only [View.readAt_eq_ld, Memref.IsWhole.read_unread]
    rw [View.ld_unit_lit _ _ (by decide), View.ld_unit_lit _ _ (by decide)]
  isplitl [H4]
  · iexists _; isplitr; swap; · iexact H4
    ipureintro
    rw [Common.read_store _ _ (by decide)]
    simp only [View.readAt_eq_ld, Memref.IsWhole.read_unread]
    rw [View.ld_unit_lit _ _ (by decide), View.ld_unit_lit _ _ (by decide)]
  isplitl [H5]
  · iexists _; isplitr; · ipureintro; exact hf5
    iexact H5
  · iexists _; isplitr; · ipureintro; exact hf6
    iexact H6

set_option maxHeartbeats 1000000 in
/-- At the last point of a column tile, the sample rows' output tiles are stored and the other outputs left alone. -/
theorem bodyRun_last (h1 : ¬ k0_cond1 i = 1#1) (h2 : k0_cond2 i = 1#1) (E : Set ℕ) (K : PUnit → sProp 𝕄) :
    iprop(Held c arg2 arg3 arg4 arg5 arg6 arg7 arg8 x0 x1 x2 x3 x4 x5 x6
        ∗ (Held c arg2 arg3 arg4 arg5 arg6 arg7 arg8 x0 x1 x2 x3 x4 (k0_pay3 x1 x2) (k0_pay4 x1 x2) -∗ K ⟨⟩))
      ⊢ wp frame (wpE (defs₀ (F := F)) Variants.none c none) E
          (cc0_qkv_b i arg2 harg2 arg3 harg3 arg4 harg4 arg5 harg5 arg6 harg6 arg7 harg7 arg8 harg8) K := by
  simp only [cc0_qkv_b_eq_skeleton]; unfold cc0_qkv_b_skel
  rw [dif_neg h1, dif_pos h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg3.eq_unread hf1; obtain rfl := harg4.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide)]
  · iexists _; isplitr; swap; · iexact H6
    ipureintro
    rw [Common.read_store _ _ (by decide)]
    simp only [View.readAt_eq_ld, Memref.IsWhole.read_unread]
    rw [View.ld_unit_lit _ _ (by decide), View.ld_unit_lit _ _ (by decide)]

end body

/-! ## Which case a point is in -/

theorem cond1_iff : ∀ t : Fin cfg0.N, k0_cond1 (grid0.coords t) = 1#1 ↔ t.val % 9 ≠ 8 := by decide +kernel
theorem cond2_iff : ∀ t : Fin cfg0.N, k0_cond2 (grid0.coords t) = 1#1 ↔ t.val % 9 = 8 := by decide +kernel

/-- The point before. -/
abbrev prev (t : Fin cfg0.N) : Fin cfg0.N := ⟨t.val - 1, Nat.lt_of_le_of_lt (Nat.sub_le _ _) t.isLt⟩

theorem not_flush3_pred : ∀ t : Fin cfg0.N, t.val % 9 = 8 → (cfg0.win 3).flush (prev t) = false := by
  intro t h
  rw [Pipeline.Window.flush_eq_flushF]
  revert t; decide +kernel

theorem flush3_last : ∀ t : Fin cfg0.N, t.val % 9 = 8 → (cfg0.win 3).flush t = true := by
  intro t h
  rw [Pipeline.Window.flush_eq_flushF]
  revert t; decide +kernel

theorem not_flush4_pred : ∀ t : Fin cfg0.N, t.val % 9 = 8 → (cfg0.win 4).flush (prev t) = false := by
  intro t h
  rw [Pipeline.Window.flush_eq_flushF]
  revert t; decide +kernel

theorem flush4_last : ∀ t : Fin cfg0.N, t.val % 9 = 8 → (cfg0.win 4).flush t = true := by
  intro t h
  rw [Pipeline.Window.flush_eq_flushF]
  revert t; decide +kernel

/-- The rows and columns windows 0 and 2 take at the last point of a column tile are those of the point before. -/
theorem same0 : ∀ t : Fin cfg0.N, t.val % 9 = 8 → win0_0.index t = win0_0.index (prev t) := by decide +kernel
theorem same2 : ∀ t : Fin cfg0.N, t.val % 9 = 8 → win0_2.index t = win0_2.index (prev t) := by decide +kernel

/-! ## The launch -/

variable (m : (ℓ : Loc nD τ sig) → Buf (Elt F) ℓ) (ρ : Dev nD → PrngReg)

/-- What the prompt's output blocks hold after point `t`, in f32 and in bf16. -/
def outP (c : Dev nD) (t : Fin cfg0.N) : S1024x1024.Idx → Elt F .f32 := k0_pay1 (iblk m c 0 t) (iblk m c 2 t)
def outPB (c : Dev nD) (t : Fin cfg0.N) : S1024x1024.Idx → Elt F .bf16 := k0_pay2 (iblk m c 0 t) (iblk m c 2 t)

/-- What the sample rows' output blocks hold when they are written. -/
def outS (c : Dev nD) (t : Fin cfg0.N) : S16x1024.Idx → Elt F .f32 := k0_pay3 (iblk m c 1 t) (iblk m c 2 t)
def outSB (c : Dev nD) (t : Fin cfg0.N) : S16x1024.Idx → Elt F .bf16 := k0_pay4 (iblk m c 1 t) (iblk m c 2 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outPB m c t
    | ⟨5, _⟩ => outS m c t
    | ⟨6, _⟩ => outSB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outPB m c t := by dsimp only [dats]
theorem after5 (c : Dev nD) (t : Fin cfg0.N) : (dats m 0 c).after 5 t = outS m c t := by dsimp only [dats]
theorem after6 (c : Dev nD) (t : Fin cfg0.N) : (dats m 0 c).after 6 t = outSB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)

/-- The last point of a column tile finds the prompt's output block as the point before left it. -/
theorem before3_last (c : Dev nD) (t : Fin cfg0.N) (ht : t.val % 9 = 8) (d) : (dats m 0 c).before 3 t d = outP m c t := by
  have h0 : t.val ≠ 0 := by omega
  rw [(dats m 0 c).before_of_pos 3 t h0 ((cfg0.win 3).fetch_out rfl t), not_flush3_pred t ht, if_neg Bool.false_ne_true]
  unfold Dat.left
  have hi : cfg0.idle 3 (cfg0.grid.coords (prev t)) = false := by
    have := (cond1_iff (prev t)).mpr (by simp only; omega)
    show (!(k0_cond1 _ == 1#1)) = false
    rw [this]; rfl
  rw [hi]
  have e : (dats m 0 c).after 3 (prev t) = outP m c t := by
    rw [after3]; unfold outP
    rw [iblk0_congr m c (same0 t ht), iblk2_congr m c (same2 t ht)]
  exact e

/-- The last point of a column tile finds the prompt's output block as the point before left it. -/
theorem before4_last (c : Dev nD) (t : Fin cfg0.N) (ht : t.val % 9 = 8) (d) : (dats m 0 c).before 4 t d = outPB m c t := by
  have h0 : t.val ≠ 0 := by omega
  rw [(dats m 0 c).before_of_pos 4 t h0 ((cfg0.win 4).fetch_out rfl t), not_flush4_pred t ht, if_neg Bool.false_ne_true]
  unfold Dat.left
  have hi : cfg0.idle 4 (cfg0.grid.coords (prev t)) = false := by
    have := (cond1_iff (prev t)).mpr (by simp only; omega)
    show (!(k0_cond1 _ == 1#1)) = false
    rw [this]; rfl
  rw [hi]
  have e : (dats m 0 c).after 4 (prev t) = outPB m c t := by
    rw [after4]; unfold outPB
    rw [iblk0_congr m c (same0 t ht), iblk2_congr m c (same2 t ht)]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((dats m 0 c).before 5 t d))
    ∗ (∃ d, owns (c : Thread nD τ) (st0_6 t) fullShare ((dats m 0 c).before 6 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_row (c : Dev nD) (t : Fin cfg0.N) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, after0, after1, after2, after3, after4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_row c (grid0.coords t) _ _ _ _ _ _ _ _ _ _ _ _ _ _ (iblk m c 0 t) (iblk m c 1 t) (iblk m c 2 t)
    ((dats m 0 c).before 3 t d3) ((dats m 0 c).before 4 t d4) ((dats m 0 c).before 5 t d5) ((dats m 0 c).before 6 t d6)
    ((cond1_iff t).mpr ht) (fun h => ht ((cond2_iff t).mp h)) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 800000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3_last m c t ht, before4_last m c t ht, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_last c (grid0.coords t) _ _ _ _ _ _ _ _ _ _ _ _ _ _ (iblk m c 0 t) (iblk m c 1 t) (iblk m c 2 t)
    (outP m c t) (outPB m c t) ((dats m 0 c).before 5 t d5) ((dats m 0 c).before 6 t d6)
    (fun h => (cond1_iff t).mp h ht) ((cond2_iff t).mpr ht) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle3 (t : Fin cfg0.N) : idle0 3 (grid0.coords t) = decide (t.val % 9 = 8) := by
  revert t; decide +kernel
theorem idle4 (t : Fin cfg0.N) : idle0 4 (grid0.coords t) = decide (t.val % 9 = 8) := by
  revert t; decide +kernel
theorem idle5 (t : Fin cfg0.N) : idle0 5 (grid0.coords t) = !decide (t.val % 9 = 8) := by
  revert t; decide +kernel
theorem idle6 (t : Fin cfg0.N) : idle0 6 (grid0.coords t) = !decide (t.val % 9 = 8) := by
  revert t; decide +kernel

theorem flush5_row (t : Fin cfg0.N) (ht : t.val % 9 ≠ 8) : (cfg0.win 5).flush t = false := by
  cases h : (cfg0.win 5).flush t
  · rfl
  · exact absurd ((flush0_5 t).mp h) ht

theorem flush6_row (t : Fin cfg0.N) (ht : t.val % 9 ≠ 8) : (cfg0.win 6).flush t = false := by
  cases h : (cfg0.win 6).flush t
  · rfl
  · exact absurd ((flush0_6 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i3 : idle0 3 (grid0.coords t) = true := by rw [idle3, ht]; rfl
    have i4 : idle0 4 (grid0.coords t) = true := by rw [idle4, ht]; rfl
    have i5 : idle0 5 (grid0.coords t) = false := by rw [idle5, ht]; rfl
    have i6 : idle0 6 (grid0.coords t) = false := by rw [idle6, ht]; rfl
    simp only [i3, i4, i5, i6, flush3_last t ht, flush4_last t ht]
    exact triple_restated (sound_last m c t ht) rfl .rfl fun _ => .rfl
  · have i3 : idle0 3 (grid0.coords t) = false := by rw [idle3, decide_eq_false ht]
    have i4 : idle0 4 (grid0.coords t) = false := by rw [idle4, decide_eq_false ht]
    have i5 : idle0 5 (grid0.coords t) = true := by rw [idle5, decide_eq_false ht]; rfl
    have i6 : idle0 6 (grid0.coords t) = true := by rw [idle6, decide_eq_false ht]; rfl
    simp only [i3, i4, i5, i6, flush5_row t ht, flush6_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel4Ideal.Tile

end
-- ==== Proof.FrameQryBBits.lean ====
/- The argument claim of `Kernel4`: the program and its idealisation are one text, so the idealisation's claim is its own. -/
module

public import proofs.«01_k».proof.Proof.FrameQryB
public import proofs.«01_k».proof.Proof.Gen.Kernel4.Frame

@[expose] public section

noncomputable section

namespace Cert.Kernel4.Tile

open Cert.Kernel4 Cert.Kernel4.Gen
open Idealize.ShloMosaic Idealize.ShloMosaic.TcCoe Idealize.SL.Sem

variable {F : FTy → Type} [FloatOps F]

/-- The two programs' kernels are the same. -/
theorem body_eq : defs₀ (F := F) = Cert.Kernel4Ideal.defs₀ (F := F) :=
  congrArg Defs.onTc (funext fun ℓ => funext fun a => by
    cases ℓ with | mk v h => match v, h, a with
      | 0, _, (t, s) => exact rfl)

theorem defs_eq : defs (F := F) = Cert.Kernel4Ideal.defs (F := F) :=
  congrArg (Pipeline.defs Cert.Kernel4Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel4Ideal.Tile.frame_args m ρ

end Cert.Kernel4.Tile

end
-- ==== Proof.ElemQryB.lean ====
/- The launch that projects the attention's queries against its reference: every tile the kernel stores is the reference's. -/
module

public import proofs.«01_k».proof.Proof.Common
public import proofs.«01_k».proof.Proof.FrameQryB
public import proofs.«01_k».proof.Proof.Gen.Reference4Ideal.Read
public import Idealize.ShloMosaic.Lib.Pointwise

@[expose] public section

set_option maxRecDepth 16384

noncomputable section

namespace Cert.Kernel4Ideal.Tile

open Cert.Kernel4Ideal Cert.Kernel4Ideal.Gen
open Idealize.ShloMosaic Idealize.ShloMosaic.TcCoe Idealize.ShloMosaic.Pointwise Idealize.ShloMosaic.WordCmp
open Idealize.SL.Sem

/-- A tile of the prompt's output at a row and a column, in f32 and in bf16. -/
theorem pay1_at (v6 : FVec Ideal S1024x4096 .bf16) (v7 : FVec Ideal S4096x1024 .bf16) (r : Fin 1024) (c : Fin 1024) :
    k0_pay1 (F := Ideal) v6 v7 (ix2 r c) = ∑ k : Fin 4096, v6 (ix2 r k) * v7 (ix2 k c) := by
  pointwise [k0_pay1]

theorem pay2_at (v6 : FVec Ideal S1024x4096 .bf16) (v7 : FVec Ideal S4096x1024 .bf16) (x : S1024x1024.Idx) :
    k0_pay2 (F := Ideal) v6 v7 x = k0_pay1 (F := Ideal) v6 v7 x := rfl

/-- A tile of the sample rows' output at a row and a column, in f32 and in bf16. -/
theorem pay3_at (v6 : FVec Ideal S16x4096 .bf16) (v7 : FVec Ideal S4096x1024 .bf16) (r : Fin 16) (c : Fin 1024) :
    k0_pay3 (F := Ideal) v6 v7 (ix2 r c) = ∑ k : Fin 4096, v6 (ix2 r k) * v7 (ix2 k c) := by
  pointwise [k0_pay3]

theorem pay4_at (v6 : FVec Ideal S16x4096 .bf16) (v7 : FVec Ideal S4096x1024 .bf16) (x : S16x1024.Idx) :
    k0_pay4 (F := Ideal) v6 v7 x = k0_pay3 (F := Ideal) v6 v7 x := rfl

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val] := by decide +kernel
theorem map3 : ∀ t : Fin cfg0.N, cc0_transform_3 (grid0.coords t) = ![min ((grid0.coords t) 1).val 7, ((grid0.coords t) 0).val] := by decide +kernel
theorem map4 : ∀ t : Fin cfg0.N, cc0_transform_4 (grid0.coords t) = ![min ((grid0.coords t) 1).val 7, ((grid0.coords t) 0).val] := by decide +kernel
theorem map5 : ∀ t : Fin cfg0.N, cc0_transform_5 (grid0.coords t) = ![0, ((grid0.coords t) 0).val] := by decide +kernel
theorem map6 : ∀ t : Fin cfg0.N, cc0_transform_6 (grid0.coords t) = ![0, ((grid0.coords t) 0).val] := by decide +kernel

theorem blk0_at (t : Fin cfg0.N) (y : S1024x4096.Idx) (z : S8192x4096.Idx)
    (h0 : (z 0).val = 1024 * min ((grid0.coords t) 1).val 7 + (y 0).val) (h1 : (z 1).val = (y 1).val) :
    iblk m c 0 t y = (m ((c : Thread nD τ).loc main_arg0) : S8192x4096.Idx → EReal) z := by
  have e0 : win0_0.index t 0 = min ((grid0.coords t) 1).val 7 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x4096.Idx) (z : S16x4096.Idx)
    (h0 : (z 0).val = (y 0).val) (h1 : (z 1).val = (y 1).val) :
    iblk m c 1 t y = (m ((c : Thread nD τ).loc main_arg1) : S16x4096.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S4096x1024.Idx) (z : S4096x12288.Idx)
    (h0 : (z 0).val = (y 0).val) (h1 : (z 1).val = 1024 * ((grid0.coords t) 0).val + (y 1).val) :
    iblk m c 2 t y = (m ((c : Thread nD τ).loc main_arg2) : S4096x12288.Idx → EReal) z := by
  have e0 : win0_2.index t 0 = 0 := congrFun (map2 t) 0
  have e1 : win0_2.index t 1 = ((grid0.coords t) 0).val := congrFun (map2 t) 1
  blk_simp [iblk]
  exact congrArg (m ((c : Thread nD τ).loc main_arg2)) (Common.ext2 (by blk_simp; rw [e0, h0]; omega) (by blk_simp; rw [e1, h1]; omega))

open Cert.Reference4Ideal.Read in
/-- The place in the projection of the whole weights that a place of the prompt's section is. -/
def fullP (z : S8192x4096.Idx) : Cert.Reference4Ideal.S8192x12288.Idx := (idx_main_v3 (idx_main_v4 (idx_main_v5 (idx_main_v6 z))))

open Cert.Reference4Ideal.Read in
theorem fullP_0 (z : S8192x4096.Idx) : ((fullP z) 0).val = (z 0).val :=
  Common.fullAt_row 0 (z 0).val (z 1).val (by decide) (z 1).isLt

open Cert.Reference4Ideal.Read in
theorem fullP_1 (z : S8192x4096.Idx) : ((fullP z) 1).val = 0 + (z 1).val :=
  Common.fullAt_col 0 (z 0).val (z 1).val (by decide) (z 1).isLt

open Cert.Reference4Ideal.Read in
/-- The reference's result for the prompt at an index. -/
theorem refP_at (x0 : FVec Ideal S8192x4096 .bf16) (x2 : FVec Ideal S4096x12288 .bf16) (z : S8192x4096.Idx) :
    val_main_v6 (F := Ideal) x0 x2 z = ∑ k : Fin 4096, x0 (lidx_main_v2 (fullP z) k) * x2 (ridx_main_v2 (fullP z) k) := by
  rw [val_main_v6_apply, val_main_v5_apply, val_main_v4_apply, val_main_v3_apply, val_main_v2_apply]
  rfl

open Cert.Reference4Ideal.Read in
/-- The place in the projection of the whole weights that a place of the sample rows' section is. -/
def fullS (z : S16x4096.Idx) : Cert.Reference4Ideal.S16x12288.Idx := (idx_main_v10 (idx_main_v11 (idx_main_v12 (idx_main_v13 z))))

open Cert.Reference4Ideal.Read in
theorem fullS_0 (z : S16x4096.Idx) : ((fullS z) 0).val = (z 0).val :=
  Common.fullAt_row 0 (z 0).val (z 1).val (by decide) (z 1).isLt

open Cert.Reference4Ideal.Read in
theorem fullS_1 (z : S16x4096.Idx) : ((fullS z) 1).val = 0 + (z 1).val :=
  Common.fullAt_col 0 (z 0).val (z 1).val (by decide) (z 1).isLt

open Cert.Reference4Ideal.Read in
/-- The reference's result for the sample rows at an index. -/
theorem refS_at (x1 : FVec Ideal S16x4096 .bf16) (x2 : FVec Ideal S4096x12288 .bf16) (z : S16x4096.Idx) :
    val_main_v13 (F := Ideal) x1 x2 z = ∑ k : Fin 4096, x1 (lidx_main_v9 (fullS z) k) * x2 (ridx_main_v9 (fullS z) k) := by
  rw [val_main_v13_apply, val_main_v12_apply, val_main_v11_apply, val_main_v10_apply, val_main_v9_apply]
  rfl

theorem ixRow (x : S1024x1024.Idx) : x = ix2 (⟨(x 0).val, (x 0).isLt⟩ : Fin 1024) (⟨(x 1).val, (x 1).isLt⟩ : Fin 1024) :=
  Common.eta2 x

theorem ix16 (x : S16x1024.Idx) : x = ix2 (⟨(x 0).val, (x 0).isLt⟩ : Fin 16) (⟨(x 1).val, (x 1).isLt⟩ : Fin 1024) :=
  Common.eta2 x

/-- The prompt's tile after a point is the reference at its places. -/
theorem outP_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outP m c t y = Cert.Reference4Ideal.Read.val_main_v6 (F := Ideal) (m ((c : Thread nD τ).loc main_arg0)) (m ((c : Thread nD τ).loc main_arg2)) z := by
  rw [refP_at]
  unfold outP
  rw [ixRow y, pay1_at]
  refine Finset.sum_congr rfl fun k _ => ?_
  rw [← blk0_at m c t (ix2 _ k) (Cert.Reference4Ideal.Read.lidx_main_v2 (fullP z) k) ((fullP_0 z).trans h0) rfl,
    ← blk2_at m c t (ix2 k (⟨(y 1).val, (y 1).isLt⟩ : Fin 1024)) (Cert.Reference4Ideal.Read.ridx_main_v2 (fullP z) k) rfl
      ((fullP_1 z).trans (by show 0 + (z 1).val = 1024 * ((grid0.coords t) 0).val + (y 1).val; omega))]
  rfl

theorem outPB_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outPB m c t y = Cert.Reference4Ideal.Read.val_main_v14 (F := Ideal) (m ((c : Thread nD τ).loc main_arg0)) (m ((c : Thread nD τ).loc main_arg2)) z :=
  (pay2_at _ _ y).trans (outP_at m c t y z h0 h1)

/-- The prompt's output array after the launch is the reference's. -/
theorem arr_out3 : (dats m 0 c).arrAt 3 cfg0.N
    = Cert.Reference4Ideal.Read.val_main_v6 (F := Ideal) (m ((c : Thread nD τ).loc main_arg0)) (m ((c : Thread nD τ).loc main_arg2)) := by
  refine Pipeline.Dat.arrAt_eq_of_covers (dats m 0 c) 3 _ (by decide +kernel) fun t hf y => ?_
  have e0 : win0_3.index t 0 = min ((grid0.coords t) 1).val 7 := congrFun (map3 t) 0
  have e1 : win0_3.index t 1 = ((grid0.coords t) 0).val := congrFun (map3 t) 1
  have a0 : (((win0_3.blk t).view.emb y) 0).val = 1024 * min ((grid0.coords t) 1).val 7 + (y 0).val := by
    blk_simp
    rw [e0]
    omega
  have a1 : (((win0_3.blk t).view.emb y) 1).val = 1024 * ((grid0.coords t) 0).val + (y 1).val := by
    blk_simp
    rw [e1]
    omega
  refine Eq.trans ?_ (outP_at m c t y ((win0_3.blk t).view.emb y) a0 a1)
  rw [← after3]
  rfl

/-- The prompt's output array after the launch is the reference's. -/
theorem arr_out4 : (dats m 0 c).arrAt 4 cfg0.N
    = Cert.Reference4Ideal.Read.val_main_v14 (F := Ideal) (m ((c : Thread nD τ).loc main_arg0)) (m ((c : Thread nD τ).loc main_arg2)) := by
  refine Pipeline.Dat.arrAt_eq_of_covers (dats m 0 c) 4 _ (by decide +kernel) fun t hf y => ?_
  have e0 : win0_4.index t 0 = min ((grid0.coords t) 1).val 7 := congrFun (map4 t) 0
  have e1 : win0_4.index t 1 = ((grid0.coords t) 0).val := congrFun (map4 t) 1
  have a0 : (((win0_4.blk t).view.emb y) 0).val = 1024 * min ((grid0.coords t) 1).val 7 + (y 0).val := by
    blk_simp
    rw [e0]
    omega
  have a1 : (((win0_4.blk t).view.emb y) 1).val = 1024 * ((grid0.coords t) 0).val + (y 1).val := by
    blk_simp
    rw [e1]
    omega
  refine Eq.trans ?_ (outPB_at m c t y ((win0_4.blk t).view.emb y) a0 a1)
  rw [← after4]
  rfl

/-- The sample rows' tile after a point is the reference at its places. -/
theorem outS_at (t : Fin cfg0.N) (y : S16x1024.Idx) (z : S16x4096.Idx)
    (h0 : (z 0).val = (y 0).val) (h1 : (z 1).val = 1024 * ((grid0.coords t) 0).val + (y 1).val) :
    outS m c t y = Cert.Reference4Ideal.Read.val_main_v13 (F := Ideal) (m ((c : Thread nD τ).loc main_arg1)) (m ((c : Thread nD τ).loc main_arg2)) z := by
  rw [refS_at]
  unfold outS
  rw [ix16 y, pay3_at]
  refine Finset.sum_congr rfl fun k _ => ?_
  rw [← blk1_at m c t (ix2 _ k) (Cert.Reference4Ideal.Read.lidx_main_v9 (fullS z) k) ((fullS_0 z).trans h0) rfl,
    ← blk2_at m c t (ix2 k (⟨(y 1).val, (y 1).isLt⟩ : Fin 1024)) (Cert.Reference4Ideal.Read.ridx_main_v9 (fullS z) k) rfl
      ((fullS_1 z).trans (by show 0 + (z 1).val = 1024 * ((grid0.coords t) 0).val + (y 1).val; omega))]
  rfl

theorem outSB_at (t : Fin cfg0.N) (y : S16x1024.Idx) (z : S16x4096.Idx)
    (h0 : (z 0).val = (y 0).val) (h1 : (z 1).val = 1024 * ((grid0.coords t) 0).val + (y 1).val) :
    outSB m c t y = Cert.Reference4Ideal.Read.val_main_v15 (F := Ideal) (m ((c : Thread nD τ).loc main_arg1)) (m ((c : Thread nD τ).loc main_arg2)) z :=
  (pay4_at _ _ y).trans (outS_at m c t y z h0 h1)

/-- The sample rows' output array after the launch is the reference's. -/
theorem arr_out5 : (dats m 0 c).arrAt 5 cfg0.N
    = Cert.Reference4Ideal.Read.val_main_v13 (F := Ideal) (m ((c : Thread nD τ).loc main_arg1)) (m ((c : Thread nD τ).loc main_arg2)) := by
  refine Pipeline.Dat.arrAt_eq_of_covers (dats m 0 c) 5 _ (by decide +kernel) fun t hf y => ?_
  have e0 : win0_5.index t 0 = 0 := congrFun (map5 t) 0
  have e1 : win0_5.index t 1 = ((grid0.coords t) 0).val := congrFun (map5 t) 1
  have a0 : (((win0_5.blk t).view.emb y) 0).val = (y 0).val := by
    blk_simp
    rw [e0]
    omega
  have a1 : (((win0_5.blk t).view.emb y) 1).val = 1024 * ((grid0.coords t) 0).val + (y 1).val := by
    blk_simp
    rw [e1]
    omega
  refine Eq.trans ?_ (outS_at m c t y ((win0_5.blk t).view.emb y) a0 a1)
  rw [← after5]
  rfl

/-- The sample rows' output array after the launch is the reference's. -/
theorem arr_out6 : (dats m 0 c).arrAt 6 cfg0.N
    = Cert.Reference4Ideal.Read.val_main_v15 (F := Ideal) (m ((c : Thread nD τ).loc main_arg1)) (m ((c : Thread nD τ).loc main_arg2)) := by
  refine Pipeline.Dat.arrAt_eq_of_covers (dats m 0 c) 6 _ (by decide +kernel) fun t hf y => ?_
  have e0 : win0_6.index t 0 = 0 := congrFun (map6 t) 0
  have e1 : win0_6.index t 1 = ((grid0.coords t) 0).val := congrFun (map6 t) 1
  have a0 : (((win0_6.blk t).view.emb y) 0).val = (y 0).val := by
    blk_simp
    rw [e0]
    omega
  have a1 : (((win0_6.blk t).view.emb y) 1).val = 1024 * ((grid0.coords t) 0).val + (y 1).val := by
    blk_simp
    rw [e1]
    omega
  refine Eq.trans ?_ (outSB_at m c t y ((win0_6.blk t).view.emb y) a0 a1)
  rw [← after6]
  rfl

end Cert.Kernel4Ideal.Tile
-- ==== Proof.AlgQryB.lean ====
/- The launch that projects the attention's queries and its reference agree. -/
module

public import proofs.«01_k».proof.Defs
public import proofs.«01_k».proof.Proof.ElemQryB
public import Idealize.ShloMosaic.Lib.Quiescent

@[expose] public section

set_option maxRecDepth 16384

noncomputable section

namespace Cert.QryB

open Idealize.ShloMosaic Idealize.ShloMosaic.TcCoe
open Idealize.SL.Sem

open Cert.Kernel4Ideal in
theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => Cert.Reference4Ideal.Read.val_main_v6 (F := Ideal) (m ((c.tc : Thread nD τ).loc main_arg0)) (m ((c.tc : Thread nD τ).loc main_arg2)),
    fun c => Cert.Reference4Ideal.Read.val_main_v14 (F := Ideal) (m ((c.tc : Thread nD τ).loc main_arg0)) (m ((c.tc : Thread nD τ).loc main_arg2)),
    fun c => Cert.Reference4Ideal.Read.val_main_v13 (F := Ideal) (m ((c.tc : Thread nD τ).loc main_arg1)) (m ((c.tc : Thread nD τ).loc main_arg2)),
    fun c => Cert.Reference4Ideal.Read.val_main_v15 (F := Ideal) (m ((c.tc : Thread nD τ).loc main_arg1)) (m ((c.tc : Thread nD τ).loc main_arg2)), ?_, ?_⟩
  · refine (θ_run _ _ _).mono (fun r h c => ?_) (θ_run_and (Tile.run m g) (Tile.frame_args m g))
    exact ⟨(h.1.out_eq c 3).trans (Tile.arr_out3 m c), (h.1.out_eq c 4).trans (Tile.arr_out4 m c),
      (h.1.out_eq c 5).trans (Tile.arr_out5 m c), (h.1.out_eq c 6).trans (Tile.arr_out6 m c), h.2.1 c⟩
  · refine (θ_run _ _ _).mono (fun r h c => ?_) (Cert.Reference4Ideal.Value.run m' g')
    obtain ⟨h0, h1, h2, h3, hrest⟩ := h c
    obtain ⟨a0, a1, a2⟩ := hargs c
    refine ⟨h0.trans ?_, h1.trans ?_, h2.trans ?_, h3.trans ?_, hrest⟩
    · rw [Cert.Reference4Ideal.Read.val_main_v6_eq, a0, a2]
    · rw [Cert.Reference4Ideal.Read.val_main_v14_eq, a0, a2]
    · rw [Cert.Reference4Ideal.Read.val_main_v13_eq, a1, a2]
    · rw [Cert.Reference4Ideal.Read.val_main_v15_eq, a1, a2]

open Cert.Reference4Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2.2, sem_eq_zero_of_no_sems (by decide) r.2⟩) (Cert.Reference4Ideal.Value.run m g)

end Cert.QryB
-- ==== Proof.FrameKeyB.lean ====
/- The launch that projects the attention's keys: the body's triple in its two cases, what the four outputs
   hold after every point, the run of the whole launch, and the claim that the arguments end unchanged. -/
module

public import proofs.«01_k».proof.Proof.Common
public import proofs.«01_k».proof.Proof.Gen.Kernel5Ideal.Frame
public import proofs.«01_k».proof.Proof.Gen.Kernel5Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel5Ideal.Tile

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body

variable (c : Dev nD) (i : grid0.Coords)
    (arg2 : Memref sig .tc .vmem S1024x4096 .bf16) (harg2 : arg2.IsWhole)
    (arg3 : Memref sig .tc .vmem S16x4096 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .bf16) (harg6 : arg6.IsWhole)
    (arg7 : Memref sig .tc .vmem S16x1024 .f32) (harg7 : arg7.IsWhole)
    (arg8 : Memref sig .tc .vmem S16x1024 .bf16) (harg8 : arg8.IsWhole)
    (x0 : Vec F S1024x4096 .bf16) (x1 : Vec F S16x4096 .bf16) (x2 : Vec F S4096x1024 .bf16) (x3 : Vec F S1024x1024 .f32) (x4 : Vec F S1024x1024 .bf16) (x5 : Vec F S16x1024 .f32) (x6 : Vec F S16x1024 .bf16)

/-- The four outputs beside the three inputs at their contents. -/
abbrev Held (y3 : Vec F S1024x1024 .f32) (y4 : Vec F S1024x1024 .bf16) (y5 : Vec F S16x1024 .f32) (y6 : Vec F S16x1024 .bf16) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare y3
    ∗ owns (c : Thread nD τ) arg6 fullShare y4
    ∗ owns (c : Thread nD τ) arg7 fullShare y5
    ∗ owns (c : Thread nD τ) arg8 fullShare y6)

set_option maxHeartbeats 1000000 in
/-- At a point over a row tile of the prompt, the prompt's output tiles are stored and the other outputs left alone. -/
theorem bodyRun_row (h1 : k0_cond1 i = 1#1) (h2 : ¬ k0_cond2 i = 1#1) (E : Set ℕ) (K : PUnit → sProp 𝕄) :
    iprop(Held c arg2 arg3 arg4 arg5 arg6 arg7 arg8 x0 x1 x2 x3 x4 x5 x6
        ∗ (Held c arg2 arg3 arg4 arg5 arg6 arg7 arg8 x0 x1 x2 (k0_pay1 x0 x2) (k0_pay2 x0 x2) x5 x6 -∗ K ⟨⟩))
      ⊢ wp frame (wpE (defs₀ (F := F)) Variants.none c none) E
          (cc0_qkv_b i arg2 harg2 arg3 harg3 arg4 harg4 arg5 harg5 arg6 harg6 arg7 harg7 arg8 harg8) K := by
  simp only [cc0_qkv_b_eq_skeleton]; unfold cc0_qkv_b_skel
  rw [dif_pos h1, dif_neg h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg2.eq_unread hf0; obtain rfl := harg4.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    rw [Common.read_store _ _ (by decide)]
    simp only [View.readAt_eq_ld, Memref.IsWhole.read_unread]
    rw [View.ld_unit_lit _ _ (by decide), View.ld_unit_lit _ _ (by decide)]
  isplitl [H4]
  · iexists _; isplitr; swap; · iexact H4
    ipureintro
    rw [Common.read_store _ _ (by decide)]
    simp only [View.readAt_eq_ld, Memref.IsWhole.read_unread]
    rw [View.ld_unit_lit _ _ (by decide), View.ld_unit_lit _ _ (by decide)]
  isplitl [H5]
  · iexists _; isplitr; · ipureintro; exact hf5
    iexact H5
  · iexists _; isplitr; · ipureintro; exact hf6
    iexact H6

set_option maxHeartbeats 1000000 in
/-- At the last point of a column tile, the sample rows' output tiles are stored and the other outputs left alone. -/
theorem bodyRun_last (h1 : ¬ k0_cond1 i = 1#1) (h2 : k0_cond2 i = 1#1) (E : Set ℕ) (K : PUnit → sProp 𝕄) :
    iprop(Held c arg2 arg3 arg4 arg5 arg6 arg7 arg8 x0 x1 x2 x3 x4 x5 x6
        ∗ (Held c arg2 arg3 arg4 arg5 arg6 arg7 arg8 x0 x1 x2 x3 x4 (k0_pay3 x1 x2) (k0_pay4 x1 x2) -∗ K ⟨⟩))
      ⊢ wp frame (wpE (defs₀ (F := F)) Variants.none c none) E
          (cc0_qkv_b i arg2 harg2 arg3 harg3 arg4 harg4 arg5 harg5 arg6 harg6 arg7 harg7 arg8 harg8) K := by
  simp only [cc0_qkv_b_eq_skeleton]; unfold cc0_qkv_b_skel
  rw [dif_neg h1, dif_pos h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg3.eq_unread hf1; obtain rfl := harg4.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide)]
  · iexists _; isplitr; swap; · iexact H6
    ipureintro
    rw [Common.read_store _ _ (by decide)]
    simp only [View.readAt_eq_ld, Memref.IsWhole.read_unread]
    rw [View.ld_unit_lit _ _ (by decide), View.ld_unit_lit _ _ (by decide)]

end body

/-! ## Which case a point is in -/

theorem cond1_iff : ∀ t : Fin cfg0.N, k0_cond1 (grid0.coords t) = 1#1 ↔ t.val % 9 ≠ 8 := by decide +kernel
theorem cond2_iff : ∀ t : Fin cfg0.N, k0_cond2 (grid0.coords t) = 1#1 ↔ t.val % 9 = 8 := by decide +kernel

/-- The point before. -/
abbrev prev (t : Fin cfg0.N) : Fin cfg0.N := ⟨t.val - 1, Nat.lt_of_le_of_lt (Nat.sub_le _ _) t.isLt⟩

theorem not_flush3_pred : ∀ t : Fin cfg0.N, t.val % 9 = 8 → (cfg0.win 3).flush (prev t) = false := by
  intro t h
  rw [Pipeline.Window.flush_eq_flushF]
  revert t; decide +kernel

theorem flush3_last : ∀ t : Fin cfg0.N, t.val % 9 = 8 → (cfg0.win 3).flush t = true := by
  intro t h
  rw [Pipeline.Window.flush_eq_flushF]
  revert t; decide +kernel

theorem not_flush4_pred : ∀ t : Fin cfg0.N, t.val % 9 = 8 → (cfg0.win 4).flush (prev t) = false := by
  intro t h
  rw [Pipeline.Window.flush_eq_flushF]
  revert t; decide +kernel

theorem flush4_last : ∀ t : Fin cfg0.N, t.val % 9 = 8 → (cfg0.win 4).flush t = true := by
  intro t h
  rw [Pipeline.Window.flush_eq_flushF]
  revert t; decide +kernel

/-- The rows and columns windows 0 and 2 take at the last point of a column tile are those of the point before. -/
theorem same0 : ∀ t : Fin cfg0.N, t.val % 9 = 8 → win0_0.index t = win0_0.index (prev t) := by decide +kernel
theorem same2 : ∀ t : Fin cfg0.N, t.val % 9 = 8 → win0_2.index t = win0_2.index (prev t) := by decide +kernel

/-! ## The launch -/

variable (m : (ℓ : Loc nD τ sig) → Buf (Elt F) ℓ) (ρ : Dev nD → PrngReg)

/-- What the prompt's output blocks hold after point `t`, in f32 and in bf16. -/
def outP (c : Dev nD) (t : Fin cfg0.N) : S1024x1024.Idx → Elt F .f32 := k0_pay1 (iblk m c 0 t) (iblk m c 2 t)
def outPB (c : Dev nD) (t : Fin cfg0.N) : S1024x1024.Idx → Elt F .bf16 := k0_pay2 (iblk m c 0 t) (iblk m c 2 t)

/-- What the sample rows' output blocks hold when they are written. -/
def outS (c : Dev nD) (t : Fin cfg0.N) : S16x1024.Idx → Elt F .f32 := k0_pay3 (iblk m c 1 t) (iblk m c 2 t)
def outSB (c : Dev nD) (t : Fin cfg0.N) : S16x1024.Idx → Elt F .bf16 := k0_pay4 (iblk m c 1 t) (iblk m c 2 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outPB m c t
    | ⟨5, _⟩ => outS m c t
    | ⟨6, _⟩ => outSB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outPB m c t := by dsimp only [dats]
theorem after5 (c : Dev nD) (t : Fin cfg0.N) : (dats m 0 c).after 5 t = outS m c t := by dsimp only [dats]
theorem after6 (c : Dev nD) (t : Fin cfg0.N) : (dats m 0 c).after 6 t = outSB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)

/-- The last point of a column tile finds the prompt's output block as the point before left it. -/
theorem before3_last (c : Dev nD) (t : Fin cfg0.N) (ht : t.val % 9 = 8) (d) : (dats m 0 c).before 3 t d = outP m c t := by
  have h0 : t.val ≠ 0 := by omega
  rw [(dats m 0 c).before_of_pos 3 t h0 ((cfg0.win 3).fetch_out rfl t), not_flush3_pred t ht, if_neg Bool.false_ne_true]
  unfold Dat.left
  have hi : cfg0.idle 3 (cfg0.grid.coords (prev t)) = false := by
    have := (cond1_iff (prev t)).mpr (by simp only; omega)
    show (!(k0_cond1 _ == 1#1)) = false
    rw [this]; rfl
  rw [hi]
  have e : (dats m 0 c).after 3 (prev t) = outP m c t := by
    rw [after3]; unfold outP
    rw [iblk0_congr m c (same0 t ht), iblk2_congr m c (same2 t ht)]
  exact e

/-- The last point of a column tile finds the prompt's output block as the point before left it. -/
theorem before4_last (c : Dev nD) (t : Fin cfg0.N) (ht : t.val % 9 = 8) (d) : (dats m 0 c).before 4 t d = outPB m c t := by
  have h0 : t.val ≠ 0 := by omega
  rw [(dats m 0 c).before_of_pos 4 t h0 ((cfg0.win 4).fetch_out rfl t), not_flush4_pred t ht, if_neg Bool.false_ne_true]
  unfold Dat.left
  have hi : cfg0.idle 4 (cfg0.grid.coords (prev t)) = false := by
    have := (cond1_iff (prev t)).mpr (by simp only; omega)
    show (!(k0_cond1 _ == 1#1)) = false
    rw [this]; rfl
  rw [hi]
  have e : (dats m 0 c).after 4 (prev t) = outPB m c t := by
    rw [after4]; unfold outPB
    rw [iblk0_congr m c (same0 t ht), iblk2_congr m c (same2 t ht)]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((dats m 0 c).before 5 t d))
    ∗ (∃ d, owns (c : Thread nD τ) (st0_6 t) fullShare ((dats m 0 c).before 6 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_row (c : Dev nD) (t : Fin cfg0.N) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, after0, after1, after2, after3, after4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_row c (grid0.coords t) _ _ _ _ _ _ _ _ _ _ _ _ _ _ (iblk m c 0 t) (iblk m c 1 t) (iblk m c 2 t)
    ((dats m 0 c).before 3 t d3) ((dats m 0 c).before 4 t d4) ((dats m 0 c).before 5 t d5) ((dats m 0 c).before 6 t d6)
    ((cond1_iff t).mpr ht) (fun h => ht ((cond2_iff t).mp h)) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 800000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3_last m c t ht, before4_last m c t ht, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_last c (grid0.coords t) _ _ _ _ _ _ _ _ _ _ _ _ _ _ (iblk m c 0 t) (iblk m c 1 t) (iblk m c 2 t)
    (outP m c t) (outPB m c t) ((dats m 0 c).before 5 t d5) ((dats m 0 c).before 6 t d6)
    (fun h => (cond1_iff t).mp h ht) ((cond2_iff t).mpr ht) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle3 (t : Fin cfg0.N) : idle0 3 (grid0.coords t) = decide (t.val % 9 = 8) := by
  revert t; decide +kernel
theorem idle4 (t : Fin cfg0.N) : idle0 4 (grid0.coords t) = decide (t.val % 9 = 8) := by
  revert t; decide +kernel
theorem idle5 (t : Fin cfg0.N) : idle0 5 (grid0.coords t) = !decide (t.val % 9 = 8) := by
  revert t; decide +kernel
theorem idle6 (t : Fin cfg0.N) : idle0 6 (grid0.coords t) = !decide (t.val % 9 = 8) := by
  revert t; decide +kernel

theorem flush5_row (t : Fin cfg0.N) (ht : t.val % 9 ≠ 8) : (cfg0.win 5).flush t = false := by
  cases h : (cfg0.win 5).flush t
  · rfl
  · exact absurd ((flush0_5 t).mp h) ht

theorem flush6_row (t : Fin cfg0.N) (ht : t.val % 9 ≠ 8) : (cfg0.win 6).flush t = false := by
  cases h : (cfg0.win 6).flush t
  · rfl
  · exact absurd ((flush0_6 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i3 : idle0 3 (grid0.coords t) = true := by rw [idle3, ht]; rfl
    have i4 : idle0 4 (grid0.coords t) = true := by rw [idle4, ht]; rfl
    have i5 : idle0 5 (grid0.coords t) = false := by rw [idle5, ht]; rfl
    have i6 : idle0 6 (grid0.coords t) = false := by rw [idle6, ht]; rfl
    simp only [i3, i4, i5, i6, flush3_last t ht, flush4_last t ht]
    exact triple_restated (sound_last m c t ht) rfl .rfl fun _ => .rfl
  · have i3 : idle0 3 (grid0.coords t) = false := by rw [idle3, decide_eq_false ht]
    have i4 : idle0 4 (grid0.coords t) = false := by rw [idle4, decide_eq_false ht]
    have i5 : idle0 5 (grid0.coords t) = true := by rw [idle5, decide_eq_false ht]; rfl
    have i6 : idle0 6 (grid0.coords t) = true := by rw [idle6, decide_eq_false ht]; rfl
    simp only [i3, i4, i5, i6, flush5_row t ht, flush6_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel5Ideal.Tile

end
-- ==== Proof.FrameKeyBBits.lean ====
/- The argument claim of `Kernel5`: the program and its idealisation are one text, so the idealisation's claim is its own. -/
module

public import proofs.«01_k».proof.Proof.FrameKeyB
public import proofs.«01_k».proof.Proof.Gen.Kernel5.Frame

@[expose] public section

noncomputable section

namespace Cert.Kernel5.Tile

open Cert.Kernel5 Cert.Kernel5.Gen
open Idealize.ShloMosaic Idealize.ShloMosaic.TcCoe Idealize.SL.Sem

variable {F : FTy → Type} [FloatOps F]

/-- The two programs' kernels are the same. -/
theorem body_eq : defs₀ (F := F) = Cert.Kernel5Ideal.defs₀ (F := F) :=
  congrArg Defs.onTc (funext fun ℓ => funext fun a => by
    cases ℓ with | mk v h => match v, h, a with
      | 0, _, (t, s) => exact rfl)

theorem defs_eq : defs (F := F) = Cert.Kernel5Ideal.defs (F := F) :=
  congrArg (Pipeline.defs Cert.Kernel5Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel5Ideal.Tile.frame_args m ρ

end Cert.Kernel5.Tile

end
-- ==== Proof.ElemKeyB.lean ====
/- The launch that projects the attention's keys against its reference: every tile the kernel stores is the reference's. -/
module

public import proofs.«01_k».proof.Proof.Common
public import proofs.«01_k».proof.Proof.FrameKeyB
public import proofs.«01_k».proof.Proof.Gen.Reference5Ideal.Read
public import Idealize.ShloMosaic.Lib.Pointwise

@[expose] public section

set_option maxRecDepth 16384

noncomputable section

namespace Cert.Kernel5Ideal.Tile

open Cert.Kernel5Ideal Cert.Kernel5Ideal.Gen
open Idealize.ShloMosaic Idealize.ShloMosaic.TcCoe Idealize.ShloMosaic.Pointwise Idealize.ShloMosaic.WordCmp
open Idealize.SL.Sem

/-- A tile of the prompt's output at a row and a column, in f32 and in bf16. -/
theorem pay1_at (v6 : FVec Ideal S1024x4096 .bf16) (v7 : FVec Ideal S4096x1024 .bf16) (r : Fin 1024) (c : Fin 1024) :
    k0_pay1 (F := Ideal) v6 v7 (ix2 r c) = ∑ k : Fin 4096, v6 (ix2 r k) * v7 (ix2 k c) := by
  pointwise [k0_pay1]

theorem pay2_at (v6 : FVec Ideal S1024x4096 .bf16) (v7 : FVec Ideal S4096x1024 .bf16) (x : S1024x1024.Idx) :
    k0_pay2 (F := Ideal) v6 v7 x = k0_pay1 (F := Ideal) v6 v7 x := rfl

/-- A tile of the sample rows' output at a row and a column, in f32 and in bf16. -/
theorem pay3_at (v6 : FVec Ideal S16x4096 .bf16) (v7 : FVec Ideal S4096x1024 .bf16) (r : Fin 16) (c : Fin 1024) :
    k0_pay3 (F := Ideal) v6 v7 (ix2 r c) = ∑ k : Fin 4096, v6 (ix2 r k) * v7 (ix2 k c) := by
  pointwise [k0_pay3]

theorem pay4_at (v6 : FVec Ideal S16x4096 .bf16) (v7 : FVec Ideal S4096x1024 .bf16) (x : S16x1024.Idx) :
    k0_pay4 (F := Ideal) v6 v7 x = k0_pay3 (F := Ideal) v6 v7 x := rfl

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val + 4] := by decide +kernel
theorem map3 : ∀ t : Fin cfg0.N, cc0_transform_3 (grid0.coords t) = ![min ((grid0.coords t) 1).val 7, ((grid0.coords t) 0).val] := by decide +kernel
theorem map4 : ∀ t : Fin cfg0.N, cc0_transform_4 (grid0.coords t) = ![min ((grid0.coords t) 1).val 7, ((grid0.coords t) 0).val] := by decide +kernel
theorem map5 : ∀ t : Fin cfg0.N, cc0_transform_5 (grid0.coords t) = ![0, ((grid0.coords t) 0).val] := by decide +kernel
theorem map6 : ∀ t : Fin cfg0.N, cc0_transform_6 (grid0.coords t) = ![0, ((grid0.coords t) 0).val] := by decide +kernel

theorem blk0_at (t : Fin cfg0.N) (y : S1024x4096.Idx) (z : S8192x4096.Idx)
    (h0 : (z 0).val = 1024 * min ((grid0.coords t) 1).val 7 + (y 0).val) (h1 : (z 1).val = (y 1).val) :
    iblk m c 0 t y = (m ((c : Thread nD τ).loc main_arg0) : S8192x4096.Idx → EReal) z := by
  have e0 : win0_0.index t 0 = min ((grid0.coords t) 1).val 7 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x4096.Idx) (z : S16x4096.Idx)
    (h0 : (z 0).val = (y 0).val) (h1 : (z 1).val = (y 1).val) :
    iblk m c 1 t y = (m ((c : Thread nD τ).loc main_arg1) : S16x4096.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S4096x1024.Idx) (z : S4096x12288.Idx)
    (h0 : (z 0).val = (y 0).val) (h1 : (z 1).val = 1024 * (((grid0.coords t) 0).val + 4) + (y 1).val) :
    iblk m c 2 t y = (m ((c : Thread nD τ).loc main_arg2) : S4096x12288.Idx → EReal) z := by
  have e0 : win0_2.index t 0 = 0 := congrFun (map2 t) 0
  have e1 : win0_2.index t 1 = ((grid0.coords t) 0).val + 4 := congrFun (map2 t) 1
  blk_simp [iblk]
  exact congrArg (m ((c : Thread nD τ).loc main_arg2)) (Common.ext2 (by blk_simp; rw [e0, h0]; omega) (by blk_simp; rw [e1, h1]; omega))

open Cert.Reference5Ideal.Read in
/-- The place in the projection of the whole weights that a place of the prompt's section is. -/
def fullP (z : S8192x4096.Idx) : Cert.Reference5Ideal.S8192x12288.Idx := (idx_main_v3 (idx_main_v4 (idx_main_v5 (idx_main_v6 z))))

open Cert.Reference5Ideal.Read in
theorem fullP_0 (z : S8192x4096.Idx) : ((fullP z) 0).val = (z 0).val :=
  Common.fullAt_row 1 (z 0).val (z 1).val (by decide) (z 1).isLt

open Cert.Reference5Ideal.Read in
theorem fullP_1 (z : S8192x4096.Idx) : ((fullP z) 1).val = 4096 + (z 1).val :=
  Common.fullAt_col 1 (z 0).val (z 1).val (by decide) (z 1).isLt

open Cert.Reference5Ideal.Read in
/-- The reference's result for the prompt at an index. -/
theorem refP_at (x0 : FVec Ideal S8192x4096 .bf16) (x2 : FVec Ideal S4096x12288 .bf16) (z : S8192x4096.Idx) :
    val_main_v6 (F := Ideal) x0 x2 z = ∑ k : Fin 4096, x0 (lidx_main_v2 (fullP z) k) * x2 (ridx_main_v2 (fullP z) k) := by
  rw [val_main_v6_apply, val_main_v5_apply, val_main_v4_apply, val_main_v3_apply, val_main_v2_apply]
  rfl

open Cert.Reference5Ideal.Read in
/-- The place in the projection of the whole weights that a place of the sample rows' section is. -/
def fullS (z : S16x4096.Idx) : Cert.Reference5Ideal.S16x12288.Idx := (idx_main_v10 (idx_main_v11 (idx_main_v12 (idx_main_v13 z))))

open Cert.Reference5Ideal.Read in
theorem fullS_0 (z : S16x4096.Idx) : ((fullS z) 0).val = (z 0).val :=
  Common.fullAt_row 1 (z 0).val (z 1).val (by decide) (z 1).isLt

open Cert.Reference5Ideal.Read in
theorem fullS_1 (z : S16x4096.Idx) : ((fullS z) 1).val = 4096 + (z 1).val :=
  Common.fullAt_col 1 (z 0).val (z 1).val (by decide) (z 1).isLt

open Cert.Reference5Ideal.Read in
/-- The reference's result for the sample rows at an index. -/
theorem refS_at (x1 : FVec Ideal S16x4096 .bf16) (x2 : FVec Ideal S4096x12288 .bf16) (z : S16x4096.Idx) :
    val_main_v13 (F := Ideal) x1 x2 z = ∑ k : Fin 4096, x1 (lidx_main_v9 (fullS z) k) * x2 (ridx_main_v9 (fullS z) k) := by
  rw [val_main_v13_apply, val_main_v12_apply, val_main_v11_apply, val_main_v10_apply, val_main_v9_apply]
  rfl

theorem ixRow (x : S1024x1024.Idx) : x = ix2 (⟨(x 0).val, (x 0).isLt⟩ : Fin 1024) (⟨(x 1).val, (x 1).isLt⟩ : Fin 1024) :=
  Common.eta2 x

theorem ix16 (x : S16x1024.Idx) : x = ix2 (⟨(x 0).val, (x 0).isLt⟩ : Fin 16) (⟨(x 1).val, (x 1).isLt⟩ : Fin 1024) :=
  Common.eta2 x

/-- The prompt's tile after a point is the reference at its places. -/
theorem outP_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outP m c t y = Cert.Reference5Ideal.Read.val_main_v6 (F := Ideal) (m ((c : Thread nD τ).loc main_arg0)) (m ((c : Thread nD τ).loc main_arg2)) z := by
  rw [refP_at]
  unfold outP
  rw [ixRow y, pay1_at]
  refine Finset.sum_congr rfl fun k _ => ?_
  rw [← blk0_at m c t (ix2 _ k) (Cert.Reference5Ideal.Read.lidx_main_v2 (fullP z) k) ((fullP_0 z).trans h0) rfl,
    ← blk2_at m c t (ix2 k (⟨(y 1).val, (y 1).isLt⟩ : Fin 1024)) (Cert.Reference5Ideal.Read.ridx_main_v2 (fullP z) k) rfl
      ((fullP_1 z).trans (by show 4096 + (z 1).val = 1024 * (((grid0.coords t) 0).val + 4) + (y 1).val; omega))]
  rfl

theorem outPB_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outPB m c t y = Cert.Reference5Ideal.Read.val_main_v14 (F := Ideal) (m ((c : Thread nD τ).loc main_arg0)) (m ((c : Thread nD τ).loc main_arg2)) z :=
  (pay2_at _ _ y).trans (outP_at m c t y z h0 h1)

/-- The prompt's output array after the launch is the reference's. -/
theorem arr_out3 : (dats m 0 c).arrAt 3 cfg0.N
    = Cert.Reference5Ideal.Read.val_main_v6 (F := Ideal) (m ((c : Thread nD τ).loc main_arg0)) (m ((c : Thread nD τ).loc main_arg2)) := by
  refine Pipeline.Dat.arrAt_eq_of_covers (dats m 0 c) 3 _ (by decide +kernel) fun t hf y => ?_
  have e0 : win0_3.index t 0 = min ((grid0.coords t) 1).val 7 := congrFun (map3 t) 0
  have e1 : win0_3.index t 1 = ((grid0.coords t) 0).val := congrFun (map3 t) 1
  have a0 : (((win0_3.blk t).view.emb y) 0).val = 1024 * min ((grid0.coords t) 1).val 7 + (y 0).val := by
    blk_simp
    rw [e0]
    omega
  have a1 : (((win0_3.blk t).view.emb y) 1).val = 1024 * ((grid0.coords t) 0).val + (y 1).val := by
    blk_simp
    rw [e1]
    omega
  refine Eq.trans ?_ (outP_at m c t y ((win0_3.blk t).view.emb y) a0 a1)
  rw [← after3]
  rfl

/-- The prompt's output array after the launch is the reference's. -/
theorem arr_out4 : (dats m 0 c).arrAt 4 cfg0.N
    = Cert.Reference5Ideal.Read.val_main_v14 (F := Ideal) (m ((c : Thread nD τ).loc main_arg0)) (m ((c : Thread nD τ).loc main_arg2)) := by
  refine Pipeline.Dat.arrAt_eq_of_covers (dats m 0 c) 4 _ (by decide +kernel) fun t hf y => ?_
  have e0 : win0_4.index t 0 = min ((grid0.coords t) 1).val 7 := congrFun (map4 t) 0
  have e1 : win0_4.index t 1 = ((grid0.coords t) 0).val := congrFun (map4 t) 1
  have a0 : (((win0_4.blk t).view.emb y) 0).val = 1024 * min ((grid0.coords t) 1).val 7 + (y 0).val := by
    blk_simp
    rw [e0]
    omega
  have a1 : (((win0_4.blk t).view.emb y) 1).val = 1024 * ((grid0.coords t) 0).val + (y 1).val := by
    blk_simp
    rw [e1]
    omega
  refine Eq.trans ?_ (outPB_at m c t y ((win0_4.blk t).view.emb y) a0 a1)
  rw [← after4]
  rfl

/-- The sample rows' tile after a point is the reference at its places. -/
theorem outS_at (t : Fin cfg0.N) (y : S16x1024.Idx) (z : S16x4096.Idx)
    (h0 : (z 0).val = (y 0).val) (h1 : (z 1).val = 1024 * ((grid0.coords t) 0).val + (y 1).val) :
    outS m c t y = Cert.Reference5Ideal.Read.val_main_v13 (F := Ideal) (m ((c : Thread nD τ).loc main_arg1)) (m ((c : Thread nD τ).loc main_arg2)) z := by
  rw [refS_at]
  unfold outS
  rw [ix16 y, pay3_at]
  refine Finset.sum_congr rfl fun k _ => ?_
  rw [← blk1_at m c t (ix2 _ k) (Cert.Reference5Ideal.Read.lidx_main_v9 (fullS z) k) ((fullS_0 z).trans h0) rfl,
    ← blk2_at m c t (ix2 k (⟨(y 1).val, (y 1).isLt⟩ : Fin 1024)) (Cert.Reference5Ideal.Read.ridx_main_v9 (fullS z) k) rfl
      ((fullS_1 z).trans (by show 4096 + (z 1).val = 1024 * (((grid0.coords t) 0).val + 4) + (y 1).val; omega))]
  rfl

theorem outSB_at (t : Fin cfg0.N) (y : S16x1024.Idx) (z : S16x4096.Idx)
    (h0 : (z 0).val = (y 0).val) (h1 : (z 1).val = 1024 * ((grid0.coords t) 0).val + (y 1).val) :
    outSB m c t y = Cert.Reference5Ideal.Read.val_main_v15 (F := Ideal) (m ((c : Thread nD τ).loc main_arg1)) (m ((c : Thread nD τ).loc main_arg2)) z :=
  (pay4_at _ _ y).trans (outS_at m c t y z h0 h1)

/-- The sample rows' output array after the launch is the reference's. -/
theorem arr_out5 : (dats m 0 c).arrAt 5 cfg0.N
    = Cert.Reference5Ideal.Read.val_main_v13 (F := Ideal) (m ((c : Thread nD τ).loc main_arg1)) (m ((c : Thread nD τ).loc main_arg2)) := by
  refine Pipeline.Dat.arrAt_eq_of_covers (dats m 0 c) 5 _ (by decide +kernel) fun t hf y => ?_
  have e0 : win0_5.index t 0 = 0 := congrFun (map5 t) 0
  have e1 : win0_5.index t 1 = ((grid0.coords t) 0).val := congrFun (map5 t) 1
  have a0 : (((win0_5.blk t).view.emb y) 0).val = (y 0).val := by
    blk_simp
    rw [e0]
    omega
  have a1 : (((win0_5.blk t).view.emb y) 1).val = 1024 * ((grid0.coords t) 0).val + (y 1).val := by
    blk_simp
    rw [e1]
    omega
  refine Eq.trans ?_ (outS_at m c t y ((win0_5.blk t).view.emb y) a0 a1)
  rw [← after5]
  rfl

/-- The sample rows' output array after the launch is the reference's. -/
theorem arr_out6 : (dats m 0 c).arrAt 6 cfg0.N
    = Cert.Reference5Ideal.Read.val_main_v15 (F := Ideal) (m ((c : Thread nD τ).loc main_arg1)) (m ((c : Thread nD τ).loc main_arg2)) := by
  refine Pipeline.Dat.arrAt_eq_of_covers (dats m 0 c) 6 _ (by decide +kernel) fun t hf y => ?_
  have e0 : win0_6.index t 0 = 0 := congrFun (map6 t) 0
  have e1 : win0_6.index t 1 = ((grid0.coords t) 0).val := congrFun (map6 t) 1
  have a0 : (((win0_6.blk t).view.emb y) 0).val = (y 0).val := by
    blk_simp
    rw [e0]
    omega
  have a1 : (((win0_6.blk t).view.emb y) 1).val = 1024 * ((grid0.coords t) 0).val + (y 1).val := by
    blk_simp
    rw [e1]
    omega
  refine Eq.trans ?_ (outSB_at m c t y ((win0_6.blk t).view.emb y) a0 a1)
  rw [← after6]
  rfl

end Cert.Kernel5Ideal.Tile
-- ==== Proof.AlgKeyB.lean ====
/- The launch that projects the attention's keys and its reference agree. -/
module

public import proofs.«01_k».proof.Defs
public import proofs.«01_k».proof.Proof.ElemKeyB
public import Idealize.ShloMosaic.Lib.Quiescent

@[expose] public section

set_option maxRecDepth 16384

noncomputable section

namespace Cert.KeyB

open Idealize.ShloMosaic Idealize.ShloMosaic.TcCoe
open Idealize.SL.Sem

open Cert.Kernel5Ideal in
theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => Cert.Reference5Ideal.Read.val_main_v6 (F := Ideal) (m ((c.tc : Thread nD τ).loc main_arg0)) (m ((c.tc : Thread nD τ).loc main_arg2)),
    fun c => Cert.Reference5Ideal.Read.val_main_v14 (F := Ideal) (m ((c.tc : Thread nD τ).loc main_arg0)) (m ((c.tc : Thread nD τ).loc main_arg2)),
    fun c => Cert.Reference5Ideal.Read.val_main_v13 (F := Ideal) (m ((c.tc : Thread nD τ).loc main_arg1)) (m ((c.tc : Thread nD τ).loc main_arg2)),
    fun c => Cert.Reference5Ideal.Read.val_main_v15 (F := Ideal) (m ((c.tc : Thread nD τ).loc main_arg1)) (m ((c.tc : Thread nD τ).loc main_arg2)), ?_, ?_⟩
  · refine (θ_run _ _ _).mono (fun r h c => ?_) (θ_run_and (Tile.run m g) (Tile.frame_args m g))
    exact ⟨(h.1.out_eq c 3).trans (Tile.arr_out3 m c), (h.1.out_eq c 4).trans (Tile.arr_out4 m c),
      (h.1.out_eq c 5).trans (Tile.arr_out5 m c), (h.1.out_eq c 6).trans (Tile.arr_out6 m c), h.2.1 c⟩
  · refine (θ_run _ _ _).mono (fun r h c => ?_) (Cert.Reference5Ideal.Value.run m' g')
    obtain ⟨h0, h1, h2, h3, hrest⟩ := h c
    obtain ⟨a0, a1, a2⟩ := hargs c
    refine ⟨h0.trans ?_, h1.trans ?_, h2.trans ?_, h3.trans ?_, hrest⟩
    · rw [Cert.Reference5Ideal.Read.val_main_v6_eq, a0, a2]
    · rw [Cert.Reference5Ideal.Read.val_main_v14_eq, a0, a2]
    · rw [Cert.Reference5Ideal.Read.val_main_v13_eq, a1, a2]
    · rw [Cert.Reference5Ideal.Read.val_main_v15_eq, a1, a2]

open Cert.Reference5Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2.2, sem_eq_zero_of_no_sems (by decide) r.2⟩) (Cert.Reference5Ideal.Value.run m g)

end Cert.KeyB
-- ==== Proof.FrameValB.lean ====
/- The launch that projects the attention's values: the body's triple in its two cases, what the four outputs
   hold after every point, the run of the whole launch, and the claim that the arguments end unchanged. -/
module

public import proofs.«01_k».proof.Proof.Common
public import proofs.«01_k».proof.Proof.Gen.Kernel6Ideal.Frame
public import proofs.«01_k».proof.Proof.Gen.Kernel6Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel6Ideal.Tile

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body

variable (c : Dev nD) (i : grid0.Coords)
    (arg2 : Memref sig .tc .vmem S1024x4096 .bf16) (harg2 : arg2.IsWhole)
    (arg3 : Memref sig .tc .vmem S16x4096 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .bf16) (harg6 : arg6.IsWhole)
    (arg7 : Memref sig .tc .vmem S16x1024 .f32) (harg7 : arg7.IsWhole)
    (arg8 : Memref sig .tc .vmem S16x1024 .bf16) (harg8 : arg8.IsWhole)
    (x0 : Vec F S1024x4096 .bf16) (x1 : Vec F S16x4096 .bf16) (x2 : Vec F S4096x1024 .bf16) (x3 : Vec F S1024x1024 .f32) (x4 : Vec F S1024x1024 .bf16) (x5 : Vec F S16x1024 .f32) (x6 : Vec F S16x1024 .bf16)

/-- The four outputs beside the three inputs at their contents. -/
abbrev Held (y3 : Vec F S1024x1024 .f32) (y4 : Vec F S1024x1024 .bf16) (y5 : Vec F S16x1024 .f32) (y6 : Vec F S16x1024 .bf16) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare y3
    ∗ owns (c : Thread nD τ) arg6 fullShare y4
    ∗ owns (c : Thread nD τ) arg7 fullShare y5
    ∗ owns (c : Thread nD τ) arg8 fullShare y6)

set_option maxHeartbeats 1000000 in
/-- At a point over a row tile of the prompt, the prompt's output tiles are stored and the other outputs left alone. -/
theorem bodyRun_row (h1 : k0_cond1 i = 1#1) (h2 : ¬ k0_cond2 i = 1#1) (E : Set ℕ) (K : PUnit → sProp 𝕄) :
    iprop(Held c arg2 arg3 arg4 arg5 arg6 arg7 arg8 x0 x1 x2 x3 x4 x5 x6
        ∗ (Held c arg2 arg3 arg4 arg5 arg6 arg7 arg8 x0 x1 x2 (k0_pay1 x0 x2) (k0_pay2 x0 x2) x5 x6 -∗ K ⟨⟩))
      ⊢ wp frame (wpE (defs₀ (F := F)) Variants.none c none) E
          (cc0_qkv_b i arg2 harg2 arg3 harg3 arg4 harg4 arg5 harg5 arg6 harg6 arg7 harg7 arg8 harg8) K := by
  simp only [cc0_qkv_b_eq_skeleton]; unfold cc0_qkv_b_skel
  rw [dif_pos h1, dif_neg h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg2.eq_unread hf0; obtain rfl := harg4.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    rw [Common.read_store _ _ (by decide)]
    simp only [View.readAt_eq_ld, Memref.IsWhole.read_unread]
    rw [View.ld_unit_lit _ _ (by decide), View.ld_unit_lit _ _ (by decide)]
  isplitl [H4]
  · iexists _; isplitr; swap; · iexact H4
    ipureintro
    rw [Common.read_store _ _ (by decide)]
    simp only [View.readAt_eq_ld, Memref.IsWhole.read_unread]
    rw [View.ld_unit_lit _ _ (by decide), View.ld_unit_lit _ _ (by decide)]
  isplitl [H5]
  · iexists _; isplitr; · ipureintro; exact hf5
    iexact H5
  · iexists _; isplitr; · ipureintro; exact hf6
    iexact H6

set_option maxHeartbeats 1000000 in
/-- At the last point of a column tile, the sample rows' output tiles are stored and the other outputs left alone. -/
theorem bodyRun_last (h1 : ¬ k0_cond1 i = 1#1) (h2 : k0_cond2 i = 1#1) (E : Set ℕ) (K : PUnit → sProp 𝕄) :
    iprop(Held c arg2 arg3 arg4 arg5 arg6 arg7 arg8 x0 x1 x2 x3 x4 x5 x6
        ∗ (Held c arg2 arg3 arg4 arg5 arg6 arg7 arg8 x0 x1 x2 x3 x4 (k0_pay3 x1 x2) (k0_pay4 x1 x2) -∗ K ⟨⟩))
      ⊢ wp frame (wpE (defs₀ (F := F)) Variants.none c none) E
          (cc0_qkv_b i arg2 harg2 arg3 harg3 arg4 harg4 arg5 harg5 arg6 harg6 arg7 harg7 arg8 harg8) K := by
  simp only [cc0_qkv_b_eq_skeleton]; unfold cc0_qkv_b_skel
  rw [dif_neg h1, dif_pos h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg3.eq_unread hf1; obtain rfl := harg4.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide)]
  · iexists _; isplitr; swap; · iexact H6
    ipureintro
    rw [Common.read_store _ _ (by decide)]
    simp only [View.readAt_eq_ld, Memref.IsWhole.read_unread]
    rw [View.ld_unit_lit _ _ (by decide), View.ld_unit_lit _ _ (by decide)]

end body

/-! ## Which case a point is in -/

theorem cond1_iff : ∀ t : Fin cfg0.N, k0_cond1 (grid0.coords t) = 1#1 ↔ t.val % 9 ≠ 8 := by decide +kernel
theorem cond2_iff : ∀ t : Fin cfg0.N, k0_cond2 (grid0.coords t) = 1#1 ↔ t.val % 9 = 8 := by decide +kernel

/-- The point before. -/
abbrev prev (t : Fin cfg0.N) : Fin cfg0.N := ⟨t.val - 1, Nat.lt_of_le_of_lt (Nat.sub_le _ _) t.isLt⟩

theorem not_flush3_pred : ∀ t : Fin cfg0.N, t.val % 9 = 8 → (cfg0.win 3).flush (prev t) = false := by
  intro t h
  rw [Pipeline.Window.flush_eq_flushF]
  revert t; decide +kernel

theorem flush3_last : ∀ t : Fin cfg0.N, t.val % 9 = 8 → (cfg0.win 3).flush t = true := by
  intro t h
  rw [Pipeline.Window.flush_eq_flushF]
  revert t; decide +kernel

theorem not_flush4_pred : ∀ t : Fin cfg0.N, t.val % 9 = 8 → (cfg0.win 4).flush (prev t) = false := by
  intro t h
  rw [Pipeline.Window.flush_eq_flushF]
  revert t; decide +kernel

theorem flush4_last : ∀ t : Fin cfg0.N, t.val % 9 = 8 → (cfg0.win 4).flush t = true := by
  intro t h
  rw [Pipeline.Window.flush_eq_flushF]
  revert t; decide +kernel

/-- The rows and columns windows 0 and 2 take at the last point of a column tile are those of the point before. -/
theorem same0 : ∀ t : Fin cfg0.N, t.val % 9 = 8 → win0_0.index t = win0_0.index (prev t) := by decide +kernel
theorem same2 : ∀ t : Fin cfg0.N, t.val % 9 = 8 → win0_2.index t = win0_2.index (prev t) := by decide +kernel

/-! ## The launch -/

variable (m : (ℓ : Loc nD τ sig) → Buf (Elt F) ℓ) (ρ : Dev nD → PrngReg)

/-- What the prompt's output blocks hold after point `t`, in f32 and in bf16. -/
def outP (c : Dev nD) (t : Fin cfg0.N) : S1024x1024.Idx → Elt F .f32 := k0_pay1 (iblk m c 0 t) (iblk m c 2 t)
def outPB (c : Dev nD) (t : Fin cfg0.N) : S1024x1024.Idx → Elt F .bf16 := k0_pay2 (iblk m c 0 t) (iblk m c 2 t)

/-- What the sample rows' output blocks hold when they are written. -/
def outS (c : Dev nD) (t : Fin cfg0.N) : S16x1024.Idx → Elt F .f32 := k0_pay3 (iblk m c 1 t) (iblk m c 2 t)
def outSB (c : Dev nD) (t : Fin cfg0.N) : S16x1024.Idx → Elt F .bf16 := k0_pay4 (iblk m c 1 t) (iblk m c 2 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP m c t
    | ⟨4, _⟩ => outPB m c t
    | ⟨5, _⟩ => outS m c t
    | ⟨6, _⟩ => outSB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP m c t := by dsimp only [dats]
theorem after4 (c : Dev nD) (t : Fin cfg0.N) : (dats m 0 c).after 4 t = outPB m c t := by dsimp only [dats]
theorem after5 (c : Dev nD) (t : Fin cfg0.N) : (dats m 0 c).after 5 t = outS m c t := by dsimp only [dats]
theorem after6 (c : Dev nD) (t : Fin cfg0.N) : (dats m 0 c).after 6 t = outSB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)

/-- The last point of a column tile finds the prompt's output block as the point before left it. -/
theorem before3_last (c : Dev nD) (t : Fin cfg0.N) (ht : t.val % 9 = 8) (d) : (dats m 0 c).before 3 t d = outP m c t := by
  have h0 : t.val ≠ 0 := by omega
  rw [(dats m 0 c).before_of_pos 3 t h0 ((cfg0.win 3).fetch_out rfl t), not_flush3_pred t ht, if_neg Bool.false_ne_true]
  unfold Dat.left
  have hi : cfg0.idle 3 (cfg0.grid.coords (prev t)) = false := by
    have := (cond1_iff (prev t)).mpr (by simp only; omega)
    show (!(k0_cond1 _ == 1#1)) = false
    rw [this]; rfl
  rw [hi]
  have e : (dats m 0 c).after 3 (prev t) = outP m c t := by
    rw [after3]; unfold outP
    rw [iblk0_congr m c (same0 t ht), iblk2_congr m c (same2 t ht)]
  exact e

/-- The last point of a column tile finds the prompt's output block as the point before left it. -/
theorem before4_last (c : Dev nD) (t : Fin cfg0.N) (ht : t.val % 9 = 8) (d) : (dats m 0 c).before 4 t d = outPB m c t := by
  have h0 : t.val ≠ 0 := by omega
  rw [(dats m 0 c).before_of_pos 4 t h0 ((cfg0.win 4).fetch_out rfl t), not_flush4_pred t ht, if_neg Bool.false_ne_true]
  unfold Dat.left
  have hi : cfg0.idle 4 (cfg0.grid.coords (prev t)) = false := by
    have := (cond1_iff (prev t)).mpr (by simp only; omega)
    show (!(k0_cond1 _ == 1#1)) = false
    rw [this]; rfl
  rw [hi]
  have e : (dats m 0 c).after 4 (prev t) = outPB m c t := by
    rw [after4]; unfold outPB
    rw [iblk0_congr m c (same0 t ht), iblk2_congr m c (same2 t ht)]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((dats m 0 c).before 5 t d))
    ∗ (∃ d, owns (c : Thread nD τ) (st0_6 t) fullShare ((dats m 0 c).before 6 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_row (c : Dev nD) (t : Fin cfg0.N) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, after0, after1, after2, after3, after4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_row c (grid0.coords t) _ _ _ _ _ _ _ _ _ _ _ _ _ _ (iblk m c 0 t) (iblk m c 1 t) (iblk m c 2 t)
    ((dats m 0 c).before 3 t d3) ((dats m 0 c).before 4 t d4) ((dats m 0 c).before 5 t d5) ((dats m 0 c).before 6 t d6)
    ((cond1_iff t).mpr ht) (fun h => ht ((cond2_iff t).mp h)) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 800000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3_last m c t ht, before4_last m c t ht, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_last c (grid0.coords t) _ _ _ _ _ _ _ _ _ _ _ _ _ _ (iblk m c 0 t) (iblk m c 1 t) (iblk m c 2 t)
    (outP m c t) (outPB m c t) ((dats m 0 c).before 5 t d5) ((dats m 0 c).before 6 t d6)
    (fun h => (cond1_iff t).mp h ht) ((cond2_iff t).mpr ht) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle3 (t : Fin cfg0.N) : idle0 3 (grid0.coords t) = decide (t.val % 9 = 8) := by
  revert t; decide +kernel
theorem idle4 (t : Fin cfg0.N) : idle0 4 (grid0.coords t) = decide (t.val % 9 = 8) := by
  revert t; decide +kernel
theorem idle5 (t : Fin cfg0.N) : idle0 5 (grid0.coords t) = !decide (t.val % 9 = 8) := by
  revert t; decide +kernel
theorem idle6 (t : Fin cfg0.N) : idle0 6 (grid0.coords t) = !decide (t.val % 9 = 8) := by
  revert t; decide +kernel

theorem flush5_row (t : Fin cfg0.N) (ht : t.val % 9 ≠ 8) : (cfg0.win 5).flush t = false := by
  cases h : (cfg0.win 5).flush t
  · rfl
  · exact absurd ((flush0_5 t).mp h) ht

theorem flush6_row (t : Fin cfg0.N) (ht : t.val % 9 ≠ 8) : (cfg0.win 6).flush t = false := by
  cases h : (cfg0.win 6).flush t
  · rfl
  · exact absurd ((flush0_6 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i3 : idle0 3 (grid0.coords t) = true := by rw [idle3, ht]; rfl
    have i4 : idle0 4 (grid0.coords t) = true := by rw [idle4, ht]; rfl
    have i5 : idle0 5 (grid0.coords t) = false := by rw [idle5, ht]; rfl
    have i6 : idle0 6 (grid0.coords t) = false := by rw [idle6, ht]; rfl
    simp only [i3, i4, i5, i6, flush3_last t ht, flush4_last t ht]
    exact triple_restated (sound_last m c t ht) rfl .rfl fun _ => .rfl
  · have i3 : idle0 3 (grid0.coords t) = false := by rw [idle3, decide_eq_false ht]
    have i4 : idle0 4 (grid0.coords t) = false := by rw [idle4, decide_eq_false ht]
    have i5 : idle0 5 (grid0.coords t) = true := by rw [idle5, decide_eq_false ht]; rfl
    have i6 : idle0 6 (grid0.coords t) = true := by rw [idle6, decide_eq_false ht]; rfl
    simp only [i3, i4, i5, i6, flush5_row t ht, flush6_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel6Ideal.Tile

end
-- ==== Proof.FrameValBBits.lean ====
/- The argument claim of `Kernel6`: the program and its idealisation are one text, so the idealisation's claim is its own. -/
module

public import proofs.«01_k».proof.Proof.FrameValB
public import proofs.«01_k».proof.Proof.Gen.Kernel6.Frame

@[expose] public section

noncomputable section

namespace Cert.Kernel6.Tile

open Cert.Kernel6 Cert.Kernel6.Gen
open Idealize.ShloMosaic Idealize.ShloMosaic.TcCoe Idealize.SL.Sem

variable {F : FTy → Type} [FloatOps F]

/-- The two programs' kernels are the same. -/
theorem body_eq : defs₀ (F := F) = Cert.Kernel6Ideal.defs₀ (F := F) :=
  congrArg Defs.onTc (funext fun ℓ => funext fun a => by
    cases ℓ with | mk v h => match v, h, a with
      | 0, _, (t, s) => exact rfl)

theorem defs_eq : defs (F := F) = Cert.Kernel6Ideal.defs (F := F) :=
  congrArg (Pipeline.defs Cert.Kernel6Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel6Ideal.Tile.frame_args m ρ

end Cert.Kernel6.Tile

end
-- ==== Proof.ElemValB.lean ====
/- The launch that projects the attention's values against its reference: every tile the kernel stores is the reference's. -/
module

public import proofs.«01_k».proof.Proof.Common
public import proofs.«01_k».proof.Proof.FrameValB
public import proofs.«01_k».proof.Proof.Gen.Reference6Ideal.Read
public import Idealize.ShloMosaic.Lib.Pointwise

@[expose] public section

set_option maxRecDepth 16384

noncomputable section

namespace Cert.Kernel6Ideal.Tile

open Cert.Kernel6Ideal Cert.Kernel6Ideal.Gen
open Idealize.ShloMosaic Idealize.ShloMosaic.TcCoe Idealize.ShloMosaic.Pointwise Idealize.ShloMosaic.WordCmp
open Idealize.SL.Sem

/-- A tile of the prompt's output at a row and a column, in f32 and in bf16. -/
theorem pay1_at (v6 : FVec Ideal S1024x4096 .bf16) (v7 : FVec Ideal S4096x1024 .bf16) (r : Fin 1024) (c : Fin 1024) :
    k0_pay1 (F := Ideal) v6 v7 (ix2 r c) = ∑ k : Fin 4096, v6 (ix2 r k) * v7 (ix2 k c) := by
  pointwise [k0_pay1]

theorem pay2_at (v6 : FVec Ideal S1024x4096 .bf16) (v7 : FVec Ideal S4096x1024 .bf16) (x : S1024x1024.Idx) :
    k0_pay2 (F := Ideal) v6 v7 x = k0_pay1 (F := Ideal) v6 v7 x := rfl

/-- A tile of the sample rows' output at a row and a column, in f32 and in bf16. -/
theorem pay3_at (v6 : FVec Ideal S16x4096 .bf16) (v7 : FVec Ideal S4096x1024 .bf16) (r : Fin 16) (c : Fin 1024) :
    k0_pay3 (F := Ideal) v6 v7 (ix2 r c) = ∑ k : Fin 4096, v6 (ix2 r k) * v7 (ix2 k c) := by
  pointwise [k0_pay3]

theorem pay4_at (v6 : FVec Ideal S16x4096 .bf16) (v7 : FVec Ideal S4096x1024 .bf16) (x : S16x1024.Idx) :
    k0_pay4 (F := Ideal) v6 v7 x = k0_pay3 (F := Ideal) v6 v7 x := rfl

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val + 8] := by decide +kernel
theorem map3 : ∀ t : Fin cfg0.N, cc0_transform_3 (grid0.coords t) = ![min ((grid0.coords t) 1).val 7, ((grid0.coords t) 0).val] := by decide +kernel
theorem map4 : ∀ t : Fin cfg0.N, cc0_transform_4 (grid0.coords t) = ![min ((grid0.coords t) 1).val 7, ((grid0.coords t) 0).val] := by decide +kernel
theorem map5 : ∀ t : Fin cfg0.N, cc0_transform_5 (grid0.coords t) = ![0, ((grid0.coords t) 0).val] := by decide +kernel
theorem map6 : ∀ t : Fin cfg0.N, cc0_transform_6 (grid0.coords t) = ![0, ((grid0.coords t) 0).val] := by decide +kernel

theorem blk0_at (t : Fin cfg0.N) (y : S1024x4096.Idx) (z : S8192x4096.Idx)
    (h0 : (z 0).val = 1024 * min ((grid0.coords t) 1).val 7 + (y 0).val) (h1 : (z 1).val = (y 1).val) :
    iblk m c 0 t y = (m ((c : Thread nD τ).loc main_arg0) : S8192x4096.Idx → EReal) z := by
  have e0 : win0_0.index t 0 = min ((grid0.coords t) 1).val 7 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x4096.Idx) (z : S16x4096.Idx)
    (h0 : (z 0).val = (y 0).val) (h1 : (z 1).val = (y 1).val) :
    iblk m c 1 t y = (m ((c : Thread nD τ).loc main_arg1) : S16x4096.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S4096x1024.Idx) (z : S4096x12288.Idx)
    (h0 : (z 0).val = (y 0).val) (h1 : (z 1).val = 1024 * (((grid0.coords t) 0).val + 8) + (y 1).val) :
    iblk m c 2 t y = (m ((c : Thread nD τ).loc main_arg2) : S4096x12288.Idx → EReal) z := by
  have e0 : win0_2.index t 0 = 0 := congrFun (map2 t) 0
  have e1 : win0_2.index t 1 = ((grid0.coords t) 0).val + 8 := congrFun (map2 t) 1
  blk_simp [iblk]
  exact congrArg (m ((c : Thread nD τ).loc main_arg2)) (Common.ext2 (by blk_simp; rw [e0, h0]; omega) (by blk_simp; rw [e1, h1]; omega))

open Cert.Reference6Ideal.Read in
/-- The place in the projection of the whole weights that a place of the prompt's section is. -/
def fullP (z : S8192x4096.Idx) : Cert.Reference6Ideal.S8192x12288.Idx := (idx_main_v3 (idx_main_v4 (idx_main_v5 (idx_main_v6 z))))

open Cert.Reference6Ideal.Read in
theorem fullP_0 (z : S8192x4096.Idx) : ((fullP z) 0).val = (z 0).val :=
  Common.fullAt_row 2 (z 0).val (z 1).val (by decide) (z 1).isLt

open Cert.Reference6Ideal.Read in
theorem fullP_1 (z : S8192x4096.Idx) : ((fullP z) 1).val = 8192 + (z 1).val :=
  Common.fullAt_col 2 (z 0).val (z 1).val (by decide) (z 1).isLt

open Cert.Reference6Ideal.Read in
/-- The reference's result for the prompt at an index. -/
theorem refP_at (x0 : FVec Ideal S8192x4096 .bf16) (x2 : FVec Ideal S4096x12288 .bf16) (z : S8192x4096.Idx) :
    val_main_v6 (F := Ideal) x0 x2 z = ∑ k : Fin 4096, x0 (lidx_main_v2 (fullP z) k) * x2 (ridx_main_v2 (fullP z) k) := by
  rw [val_main_v6_apply, val_main_v5_apply, val_main_v4_apply, val_main_v3_apply, val_main_v2_apply]
  rfl

open Cert.Reference6Ideal.Read in
/-- The place in the projection of the whole weights that a place of the sample rows' section is. -/
def fullS (z : S16x4096.Idx) : Cert.Reference6Ideal.S16x12288.Idx := (idx_main_v10 (idx_main_v11 (idx_main_v12 (idx_main_v13 z))))

open Cert.Reference6Ideal.Read in
theorem fullS_0 (z : S16x4096.Idx) : ((fullS z) 0).val = (z 0).val :=
  Common.fullAt_row 2 (z 0).val (z 1).val (by decide) (z 1).isLt

open Cert.Reference6Ideal.Read in
theorem fullS_1 (z : S16x4096.Idx) : ((fullS z) 1).val = 8192 + (z 1).val :=
  Common.fullAt_col 2 (z 0).val (z 1).val (by decide) (z 1).isLt

open Cert.Reference6Ideal.Read in
/-- The reference's result for the sample rows at an index. -/
theorem refS_at (x1 : FVec Ideal S16x4096 .bf16) (x2 : FVec Ideal S4096x12288 .bf16) (z : S16x4096.Idx) :
    val_main_v13 (F := Ideal) x1 x2 z = ∑ k : Fin 4096, x1 (lidx_main_v9 (fullS z) k) * x2 (ridx_main_v9 (fullS z) k) := by
  rw [val_main_v13_apply, val_main_v12_apply, val_main_v11_apply, val_main_v10_apply, val_main_v9_apply]
  rfl

theorem ixRow (x : S1024x1024.Idx) : x = ix2 (⟨(x 0).val, (x 0).isLt⟩ : Fin 1024) (⟨(x 1).val, (x 1).isLt⟩ : Fin 1024) :=
  Common.eta2 x

theorem ix16 (x : S16x1024.Idx) : x = ix2 (⟨(x 0).val, (x 0).isLt⟩ : Fin 16) (⟨(x 1).val, (x 1).isLt⟩ : Fin 1024) :=
  Common.eta2 x

/-- The prompt's tile after a point is the reference at its places. -/
theorem outP_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outP m c t y = Cert.Reference6Ideal.Read.val_main_v6 (F := Ideal) (m ((c : Thread nD τ).loc main_arg0)) (m ((c : Thread nD τ).loc main_arg2)) z := by
  rw [refP_at]
  unfold outP
  rw [ixRow y, pay1_at]
  refine Finset.sum_congr rfl fun k _ => ?_
  rw [← blk0_at m c t (ix2 _ k) (Cert.Reference6Ideal.Read.lidx_main_v2 (fullP z) k) ((fullP_0 z).trans h0) rfl,
    ← blk2_at m c t (ix2 k (⟨(y 1).val, (y 1).isLt⟩ : Fin 1024)) (Cert.Reference6Ideal.Read.ridx_main_v2 (fullP z) k) rfl
      ((fullP_1 z).trans (by show 8192 + (z 1).val = 1024 * (((grid0.coords t) 0).val + 8) + (y 1).val; omega))]
  rfl

theorem outPB_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outPB m c t y = Cert.Reference6Ideal.Read.val_main_v14 (F := Ideal) (m ((c : Thread nD τ).loc main_arg0)) (m ((c : Thread nD τ).loc main_arg2)) z :=
  (pay2_at _ _ y).trans (outP_at m c t y z h0 h1)

/-- The prompt's output array after the launch is the reference's. -/
theorem arr_out3 : (dats m 0 c).arrAt 3 cfg0.N
    = Cert.Reference6Ideal.Read.val_main_v6 (F := Ideal) (m ((c : Thread nD τ).loc main_arg0)) (m ((c : Thread nD τ).loc main_arg2)) := by
  refine Pipeline.Dat.arrAt_eq_of_covers (dats m 0 c) 3 _ (by decide +kernel) fun t hf y => ?_
  have e0 : win0_3.index t 0 = min ((grid0.coords t) 1).val 7 := congrFun (map3 t) 0
  have e1 : win0_3.index t 1 = ((grid0.coords t) 0).val := congrFun (map3 t) 1
  have a0 : (((win0_3.blk t).view.emb y) 0).val = 1024 * min ((grid0.coords t) 1).val 7 + (y 0).val := by
    blk_simp
    rw [e0]
    omega
  have a1 : (((win0_3.blk t).view.emb y) 1).val = 1024 * ((grid0.coords t) 0).val + (y 1).val := by
    blk_simp
    rw [e1]
    omega
  refine Eq.trans ?_ (outP_at m c t y ((win0_3.blk t).view.emb y) a0 a1)
  rw [← after3]
  rfl

/-- The prompt's output array after the launch is the reference's. -/
theorem arr_out4 : (dats m 0 c).arrAt 4 cfg0.N
    = Cert.Reference6Ideal.Read.val_main_v14 (F := Ideal) (m ((c : Thread nD τ).loc main_arg0)) (m ((c : Thread nD τ).loc main_arg2)) := by
  refine Pipeline.Dat.arrAt_eq_of_covers (dats m 0 c) 4 _ (by decide +kernel) fun t hf y => ?_
  have e0 : win0_4.index t 0 = min ((grid0.coords t) 1).val 7 := congrFun (map4 t) 0
  have e1 : win0_4.index t 1 = ((grid0.coords t) 0).val := congrFun (map4 t) 1
  have a0 : (((win0_4.blk t).view.emb y) 0).val = 1024 * min ((grid0.coords t) 1).val 7 + (y 0).val := by
    blk_simp
    rw [e0]
    omega
  have a1 : (((win0_4.blk t).view.emb y) 1).val = 1024 * ((grid0.coords t) 0).val + (y 1).val := by
    blk_simp
    rw [e1]
    omega
  refine Eq.trans ?_ (outPB_at m c t y ((win0_4.blk t).view.emb y) a0 a1)
  rw [← after4]
  rfl

/-- The sample rows' tile after a point is the reference at its places. -/
theorem outS_at (t : Fin cfg0.N) (y : S16x1024.Idx) (z : S16x4096.Idx)
    (h0 : (z 0).val = (y 0).val) (h1 : (z 1).val = 1024 * ((grid0.coords t) 0).val + (y 1).val) :
    outS m c t y = Cert.Reference6Ideal.Read.val_main_v13 (F := Ideal) (m ((c : Thread nD τ).loc main_arg1)) (m ((c : Thread nD τ).loc main_arg2)) z := by
  rw [refS_at]
  unfold outS
  rw [ix16 y, pay3_at]
  refine Finset.sum_congr rfl fun k _ => ?_
  rw [← blk1_at m c t (ix2 _ k) (Cert.Reference6Ideal.Read.lidx_main_v9 (fullS z) k) ((fullS_0 z).trans h0) rfl,
    ← blk2_at m c t (ix2 k (⟨(y 1).val, (y 1).isLt⟩ : Fin 1024)) (Cert.Reference6Ideal.Read.ridx_main_v9 (fullS z) k) rfl
      ((fullS_1 z).trans (by show 8192 + (z 1).val = 1024 * (((grid0.coords t) 0).val + 8) + (y 1).val; omega))]
  rfl

theorem outSB_at (t : Fin cfg0.N) (y : S16x1024.Idx) (z : S16x4096.Idx)
    (h0 : (z 0).val = (y 0).val) (h1 : (z 1).val = 1024 * ((grid0.coords t) 0).val + (y 1).val) :
    outSB m c t y = Cert.Reference6Ideal.Read.val_main_v15 (F := Ideal) (m ((c : Thread nD τ).loc main_arg1)) (m ((c : Thread nD τ).loc main_arg2)) z :=
  (pay4_at _ _ y).trans (outS_at m c t y z h0 h1)

/-- The sample rows' output array after the launch is the reference's. -/
theorem arr_out5 : (dats m 0 c).arrAt 5 cfg0.N
    = Cert.Reference6Ideal.Read.val_main_v13 (F := Ideal) (m ((c : Thread nD τ).loc main_arg1)) (m ((c : Thread nD τ).loc main_arg2)) := by
  refine Pipeline.Dat.arrAt_eq_of_covers (dats m 0 c) 5 _ (by decide +kernel) fun t hf y => ?_
  have e0 : win0_5.index t 0 = 0 := congrFun (map5 t) 0
  have e1 : win0_5.index t 1 = ((grid0.coords t) 0).val := congrFun (map5 t) 1
  have a0 : (((win0_5.blk t).view.emb y) 0).val = (y 0).val := by
    blk_simp
    rw [e0]
    omega
  have a1 : (((win0_5.blk t).view.emb y) 1).val = 1024 * ((grid0.coords t) 0).val + (y 1).val := by
    blk_simp
    rw [e1]
    omega
  refine Eq.trans ?_ (outS_at m c t y ((win0_5.blk t).view.emb y) a0 a1)
  rw [← after5]
  rfl

/-- The sample rows' output array after the launch is the reference's. -/
theorem arr_out6 : (dats m 0 c).arrAt 6 cfg0.N
    = Cert.Reference6Ideal.Read.val_main_v15 (F := Ideal) (m ((c : Thread nD τ).loc main_arg1)) (m ((c : Thread nD τ).loc main_arg2)) := by
  refine Pipeline.Dat.arrAt_eq_of_covers (dats m 0 c) 6 _ (by decide +kernel) fun t hf y => ?_
  have e0 : win0_6.index t 0 = 0 := congrFun (map6 t) 0
  have e1 : win0_6.index t 1 = ((grid0.coords t) 0).val := congrFun (map6 t) 1
  have a0 : (((win0_6.blk t).view.emb y) 0).val = (y 0).val := by
    blk_simp
    rw [e0]
    omega
  have a1 : (((win0_6.blk t).view.emb y) 1).val = 1024 * ((grid0.coords t) 0).val + (y 1).val := by
    blk_simp
    rw [e1]
    omega
  refine Eq.trans ?_ (outSB_at m c t y ((win0_6.blk t).view.emb y) a0 a1)
  rw [← after6]
  rfl

end Cert.Kernel6Ideal.Tile
-- ==== Proof.AlgValB.lean ====
/- The launch that projects the attention's values and its reference agree. -/
module

public import proofs.«01_k».proof.Defs
public import proofs.«01_k».proof.Proof.ElemValB
public import Idealize.ShloMosaic.Lib.Quiescent

@[expose] public section

set_option maxRecDepth 16384

noncomputable section

namespace Cert.ValB

open Idealize.ShloMosaic Idealize.ShloMosaic.TcCoe
open Idealize.SL.Sem

open Cert.Kernel6Ideal in
theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => Cert.Reference6Ideal.Read.val_main_v6 (F := Ideal) (m ((c.tc : Thread nD τ).loc main_arg0)) (m ((c.tc : Thread nD τ).loc main_arg2)),
    fun c => Cert.Reference6Ideal.Read.val_main_v14 (F := Ideal) (m ((c.tc : Thread nD τ).loc main_arg0)) (m ((c.tc : Thread nD τ).loc main_arg2)),
    fun c => Cert.Reference6Ideal.Read.val_main_v13 (F := Ideal) (m ((c.tc : Thread nD τ).loc main_arg1)) (m ((c.tc : Thread nD τ).loc main_arg2)),
    fun c => Cert.Reference6Ideal.Read.val_main_v15 (F := Ideal) (m ((c.tc : Thread nD τ).loc main_arg1)) (m ((c.tc : Thread nD τ).loc main_arg2)), ?_, ?_⟩
  · refine (θ_run _ _ _).mono (fun r h c => ?_) (θ_run_and (Tile.run m g) (Tile.frame_args m g))
    exact ⟨(h.1.out_eq c 3).trans (Tile.arr_out3 m c), (h.1.out_eq c 4).trans (Tile.arr_out4 m c),
      (h.1.out_eq c 5).trans (Tile.arr_out5 m c), (h.1.out_eq c 6).trans (Tile.arr_out6 m c), h.2.1 c⟩
  · refine (θ_run _ _ _).mono (fun r h c => ?_) (Cert.Reference6Ideal.Value.run m' g')
    obtain ⟨h0, h1, h2, h3, hrest⟩ := h c
    obtain ⟨a0, a1, a2⟩ := hargs c
    refine ⟨h0.trans ?_, h1.trans ?_, h2.trans ?_, h3.trans ?_, hrest⟩
    · rw [Cert.Reference6Ideal.Read.val_main_v6_eq, a0, a2]
    · rw [Cert.Reference6Ideal.Read.val_main_v14_eq, a0, a2]
    · rw [Cert.Reference6Ideal.Read.val_main_v13_eq, a1, a2]
    · rw [Cert.Reference6Ideal.Read.val_main_v15_eq, a1, a2]

open Cert.Reference6Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2.2, sem_eq_zero_of_no_sems (by decide) r.2⟩) (Cert.Reference6Ideal.Value.run m g)

end Cert.ValB
-- ==== Proof.FrameMixB.lean ====
/- The attention's output projection's launch: the body's triple in its two cases, what the two outputs hold after
   every point, the run of the whole launch, and the claim that the arguments end unchanged. -/
module

public import proofs.«01_k».proof.Proof.Common
public import proofs.«01_k».proof.Proof.Gen.Kernel7Ideal.Frame
public import proofs.«01_k».proof.Proof.Gen.Kernel7Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel7Ideal.Tile

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body

variable (c : Dev nD) (i : grid0.Coords)
    (arg2 : Memref sig .tc .vmem S1024x4096 .bf16) (harg2 : arg2.IsWhole)
    (arg3 : Memref sig .tc .vmem S16x4096 .bf16) (harg3 : arg3.IsWhole)
    (arg4 : Memref sig .tc .vmem S4096x512 .bf16) (harg4 : arg4.IsWhole)
    (arg5 : Memref sig .tc .vmem S1024x512 .f32) (harg5 : arg5.IsWhole)
    (arg6 : Memref sig .tc .vmem S16x512 .f32) (harg6 : arg6.IsWhole)
    (arg7 : Memref sig .tc .vmem S1024x512 .f32) (harg7 : arg7.IsWhole)
    (arg8 : Memref sig .tc .vmem S16x512 .f32) (harg8 : arg8.IsWhole)
    (x0 : Vec F S1024x4096 .bf16) (x1 : Vec F S16x4096 .bf16) (x2 : Vec F S4096x512 .bf16)
    (x3 : Vec F S1024x512 .f32) (x4 : Vec F S16x512 .f32) (x6 : Vec F S1024x512 .f32) (x7 : Vec F S16x512 .f32)

/-- The two outputs beside the five inputs at their contents. -/
abbrev Held (y5 : Vec F S1024x512 .f32) (y6 : Vec F S16x512 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare y5
    ∗ owns (c : Thread nD τ) arg8 fullShare y6)

set_option maxHeartbeats 1000000 in
/-- At a point over a row tile of the prompt, the prompt's output tile is stored and the other output left alone. -/
theorem bodyRun_row (h1 : k0_cond1 i = 1#1) (h2 : ¬ k0_cond2 i = 1#1) (E : Set ℕ) (K : PUnit → sProp 𝕄) :
    iprop(Held c arg2 arg3 arg4 arg5 arg6 arg7 arg8 x0 x1 x2 x3 x4 x6 x7
        ∗ (Held c arg2 arg3 arg4 arg5 arg6 arg7 arg8 x0 x1 x2 x3 x4 (k0_pay1 x0 x2 x3) x7 -∗ K ⟨⟩))
      ⊢ wp frame (wpE (defs₀ (F := F)) Variants.none c none) E
          (cc0_o_b i arg2 harg2 arg3 harg3 arg4 harg4 arg5 harg5 arg6 harg6 arg7 harg7 arg8 harg8) K := by
  simp only [cc0_o_b_eq_skeleton]; unfold cc0_o_b_skel
  rw [dif_pos h1, dif_neg h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg2.eq_unread hf0; obtain rfl := harg4.eq_unread hf2; obtain rfl := harg5.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide), View.ld_unit_lit _ _ (by decide)]
  · iexists _; isplitr; · ipureintro; exact hf6
    iexact H6

set_option maxHeartbeats 1000000 in
/-- At the last point of a column tile, the sample rows' output tile is stored and the other output left alone. -/
theorem bodyRun_last (h1 : ¬ k0_cond1 i = 1#1) (h2 : k0_cond2 i = 1#1) (E : Set ℕ) (K : PUnit → sProp 𝕄) :
    iprop(Held c arg2 arg3 arg4 arg5 arg6 arg7 arg8 x0 x1 x2 x3 x4 x6 x7
        ∗ (Held c arg2 arg3 arg4 arg5 arg6 arg7 arg8 x0 x1 x2 x3 x4 x6 (k0_pay2 x1 x2 x4) -∗ K ⟨⟩))
      ⊢ wp frame (wpE (defs₀ (F := F)) Variants.none c none) E
          (cc0_o_b i arg2 harg2 arg3 harg3 arg4 harg4 arg5 harg5 arg6 harg6 arg7 harg7 arg8 harg8) K := by
  simp only [cc0_o_b_eq_skeleton]; unfold cc0_o_b_skel
  rw [dif_neg h1, dif_pos h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg3.eq_unread hf1; obtain rfl := harg4.eq_unread hf2; obtain rfl := harg6.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  · iexists _; isplitr; swap; · iexact H6
    ipureintro
    rw [Common.read_store _ _ (by decide)]
    simp only [View.readAt_eq_ld, Memref.IsWhole.read_unread]
    rw [View.ld_unit_lit _ _ (by decide), View.ld_unit_lit _ _ (by decide), View.ld_unit_lit _ _ (by decide)]

end body

/-! ## Which case a point is in -/

theorem cond1_iff : ∀ t : Fin cfg0.N, k0_cond1 (grid0.coords t) = 1#1 ↔ t.val % 9 ≠ 8 := by decide +kernel
theorem cond2_iff : ∀ t : Fin cfg0.N, k0_cond2 (grid0.coords t) = 1#1 ↔ t.val % 9 = 8 := by decide +kernel

theorem not_flush5_pred : ∀ t : Fin cfg0.N, t.val % 9 = 8 →
    (cfg0.win 5).flush ⟨t.val - 1, Nat.lt_of_le_of_lt (Nat.sub_le _ _) t.isLt⟩ = false := by
  intro t h
  rw [Pipeline.Window.flush_eq_flushF]
  revert t; decide +kernel

theorem flush5_last : ∀ t : Fin cfg0.N, t.val % 9 = 8 → (cfg0.win 5).flush t = true := by
  intro t h
  rw [Pipeline.Window.flush_eq_flushF]
  revert t; decide +kernel

/-- The rows and columns window 0, 2 and 3 take at the last point of a column tile are those of the point before. -/
theorem same0 : ∀ t : Fin cfg0.N, t.val % 9 = 8 → win0_0.index t = win0_0.index ⟨t.val - 1, Nat.lt_of_le_of_lt (Nat.sub_le _ _) t.isLt⟩ := by decide +kernel
theorem same2 : ∀ t : Fin cfg0.N, t.val % 9 = 8 → win0_2.index t = win0_2.index ⟨t.val - 1, Nat.lt_of_le_of_lt (Nat.sub_le _ _) t.isLt⟩ := by decide +kernel
theorem same3 : ∀ t : Fin cfg0.N, t.val % 9 = 8 → win0_3.index t = win0_3.index ⟨t.val - 1, Nat.lt_of_le_of_lt (Nat.sub_le _ _) t.isLt⟩ := by decide +kernel

/-! ## The launch -/

variable (m : (ℓ : Loc nD τ sig) → Buf (Elt F) ℓ) (ρ : Dev nD → PrngReg)

/-- What the prompt's output block holds after point `t`. -/
def outP (c : Dev nD) (t : Fin cfg0.N) : S1024x512.Idx → Elt F .f32 := k0_pay1 (iblk m c 0 t) (iblk m c 2 t) (iblk m c 3 t)

/-- What the sample rows' output block holds when it is written. -/
def outS (c : Dev nD) (t : Fin cfg0.N) : S16x512.Idx → Elt F .f32 := k0_pay2 (iblk m c 1 t) (iblk m c 2 t) (iblk m c 4 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP m c t
    | ⟨6, _⟩ => outS m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outP m c t := by dsimp only [dats]
theorem after6 (c : Dev nD) (t : Fin cfg0.N) : (dats m 0 c).after 6 t = outS m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)
theorem iblk3_congr (c : Dev nD) {t t' : Fin cfg0.N} (h : win0_3.index t = win0_3.index t') : iblk m c 3 t = iblk m c 3 t' :=
  (dats m 0 c).fetched_congr 3 h rfl (iblk m c 3 t)

/-- The last point of a column tile finds the prompt's output block as the point before left it. -/
theorem before5_last (c : Dev nD) (t : Fin cfg0.N) (ht : t.val % 9 = 8) (d) : (dats m 0 c).before 5 t d = outP m c t := by
  have h0 : t.val ≠ 0 := by omega
  rw [(dats m 0 c).before_of_pos 5 t h0 ((cfg0.win 5).fetch_out rfl t), not_flush5_pred t ht, if_neg Bool.false_ne_true]
  unfold Dat.left
  have hi : cfg0.idle 5 (cfg0.grid.coords ⟨t.val - 1, Nat.lt_of_le_of_lt (Nat.sub_le _ _) t.isLt⟩) = false := by
    have := (cond1_iff ⟨t.val - 1, Nat.lt_of_le_of_lt (Nat.sub_le _ _) t.isLt⟩).mpr (by simp only; omega)
    show (!(k0_cond1 _ == 1#1)) = false
    rw [this]; rfl
  rw [hi]
  have e : (dats m 0 c).after 5 ⟨t.val - 1, Nat.lt_of_le_of_lt (Nat.sub_le _ _) t.isLt⟩ = outP m c t := by
    rw [after5]; unfold outP
    rw [iblk0_congr m c (same0 t ht), iblk2_congr m c (same2 t ht), iblk3_congr m c (same3 t ht)]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_row (c : Dev nD) (t : Fin cfg0.N) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, before3, before4, after0, after1, after2, after3, after4, after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_row c (grid0.coords t) _ _ _ _ _ _ _ _ _ _ _ _ _ _ (iblk m c 0 t) (iblk m c 1 t) (iblk m c 2 t) (iblk m c 3 t) (iblk m c 4 t)
    ((dats m 0 c).before 5 t d5) ((dats m 0 c).before 6 t d6)
    ((cond1_iff t).mpr ht) (fun h => ht ((cond2_iff t).mp h)) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 800000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3, before4, before5_last m c t ht, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_last c (grid0.coords t) _ _ _ _ _ _ _ _ _ _ _ _ _ _ (iblk m c 0 t) (iblk m c 1 t) (iblk m c 2 t) (iblk m c 3 t) (iblk m c 4 t)
    (outP m c t) ((dats m 0 c).before 6 t d6)
    (fun h => (cond1_iff t).mp h ht) ((cond2_iff t).mpr ht) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle5 (t : Fin cfg0.N) : idle0 5 (grid0.coords t) = decide (t.val % 9 = 8) := by
  revert t; decide +kernel
theorem idle6 (t : Fin cfg0.N) : idle0 6 (grid0.coords t) = !decide (t.val % 9 = 8) := by
  revert t; decide +kernel

theorem flush6_row (t : Fin cfg0.N) (ht : t.val % 9 ≠ 8) : (cfg0.win 6).flush t = false := by
  cases h : (cfg0.win 6).flush t
  · rfl
  · exact absurd ((flush0_6 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i5 : idle0 5 (grid0.coords t) = true := by rw [idle5, ht]; rfl
    have i6 : idle0 6 (grid0.coords t) = false := by rw [idle6, ht]; rfl
    simp only [i5, i6, flush5_last t ht]
    exact triple_restated (sound_last m c t ht) rfl .rfl fun _ => .rfl
  · have i5 : idle0 5 (grid0.coords t) = false := by rw [idle5, decide_eq_false ht]
    have i6 : idle0 6 (grid0.coords t) = true := by rw [idle6, decide_eq_false ht]; rfl
    simp only [i5, i6, flush6_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Kernel7Ideal.Tile

end
-- ==== Proof.FrameMixBBits.lean ====
/- The argument claim of `Kernel7`: the program and its idealisation are one text, so the idealisation's claim is its own. -/
module

public import proofs.«01_k».proof.Proof.FrameMixB
public import proofs.«01_k».proof.Proof.Gen.Kernel7.Frame

@[expose] public section

noncomputable section

namespace Cert.Kernel7.Tile

open Cert.Kernel7 Cert.Kernel7.Gen
open Idealize.ShloMosaic Idealize.ShloMosaic.TcCoe Idealize.SL.Sem

variable {F : FTy → Type} [FloatOps F]

/-- The two programs' kernels are the same. -/
theorem body_eq : defs₀ (F := F) = Cert.Kernel7Ideal.defs₀ (F := F) :=
  congrArg Defs.onTc (funext fun ℓ => funext fun a => by
    cases ℓ with | mk v h => match v, h, a with
      | 0, _, (t, s) => exact rfl)

theorem defs_eq : defs (F := F) = Cert.Kernel7Ideal.defs (F := F) :=
  congrArg (Pipeline.defs Cert.Kernel7Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.Kernel7Ideal.Tile.frame_args m ρ

end Cert.Kernel7.Tile

end
-- ==== Proof.ElemMixB.lean ====
/- The attention's output projection's launch against its reference: every tile the kernel stores is the reference's. -/
module

public import proofs.«01_k».proof.Proof.Common
public import proofs.«01_k».proof.Proof.FrameMixB
public import proofs.«01_k».proof.Proof.Gen.Reference7Ideal.Read
public import Idealize.ShloMosaic.Lib.Pointwise

@[expose] public section

set_option maxRecDepth 16384

noncomputable section

namespace Cert.Kernel7Ideal.Tile

open Cert.Kernel7Ideal Cert.Kernel7Ideal.Gen
open Idealize.ShloMosaic Idealize.ShloMosaic.TcCoe Idealize.ShloMosaic.Pointwise Idealize.ShloMosaic.WordCmp
open Idealize.SL.Sem

/-- A tile of the prompt's output at a row and a column. -/
theorem pay1_at (v6 : FVec Ideal S1024x4096 .bf16) (v7 : FVec Ideal S4096x512 .bf16) (v9 : FVec Ideal S1024x512 .f32) (r : Fin 1024) (c : Fin 512) :
    k0_pay1 (F := Ideal) v6 v7 v9 (ix2 r c)
      = Ideal.ofBits .f32 0x3FD744FD#32 * v9 (ix2 r c) + ∑ k : Fin 4096, v6 (ix2 r k) * v7 (ix2 k c) := by
  pointwise [k0_pay1]

/-- A tile of the sample rows' output at a row and a column. -/
theorem pay2_at (v6 : FVec Ideal S16x4096 .bf16) (v7 : FVec Ideal S4096x512 .bf16) (v9 : FVec Ideal S16x512 .f32) (r : Fin 16) (c : Fin 512) :
    k0_pay2 (F := Ideal) v6 v7 v9 (ix2 r c)
      = Ideal.ofBits .f32 0x3FD744FD#32 * v9 (ix2 r c) + ∑ k : Fin 4096, v6 (ix2 r k) * v7 (ix2 k c) := by
  pointwise [k0_pay2]

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val] := by decide +kernel
theorem map3 : ∀ t : Fin cfg0.N, cc0_transform_3 (grid0.coords t) = ![min ((grid0.coords t) 1).val 7, ((grid0.coords t) 0).val] := by decide +kernel
theorem map4 : ∀ t : Fin cfg0.N, cc0_transform_4 (grid0.coords t) = ![0, ((grid0.coords t) 0).val] := by decide +kernel
theorem map5 : ∀ t : Fin cfg0.N, cc0_transform_5 (grid0.coords t) = ![min ((grid0.coords t) 1).val 7, ((grid0.coords t) 0).val] := by decide +kernel
theorem map6 : ∀ t : Fin cfg0.N, cc0_transform_6 (grid0.coords t) = ![0, ((grid0.coords t) 0).val] := by decide +kernel

theorem blk0_at (t : Fin cfg0.N) (y : S1024x4096.Idx) (z : S8192x4096.Idx)
    (h0 : (z 0).val = 1024 * min ((grid0.coords t) 1).val 7 + (y 0).val) (h1 : (z 1).val = (y 1).val) :
    iblk m c 0 t y = (m ((c : Thread nD τ).loc main_arg0) : S8192x4096.Idx → EReal) z := by
  have e0 : win0_0.index t 0 = min ((grid0.coords t) 1).val 7 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x4096.Idx) (z : S16x4096.Idx)
    (h0 : (z 0).val = (y 0).val) (h1 : (z 1).val = (y 1).val) :
    iblk m c 1 t y = (m ((c : Thread nD τ).loc main_arg1) : S16x4096.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S4096x512.Idx) (z : S4096x4096.Idx)
    (h0 : (z 0).val = (y 0).val) (h1 : (z 1).val = 512 * ((grid0.coords t) 0).val + (y 1).val) :
    iblk m c 2 t y = (m ((c : Thread nD τ).loc main_arg2) : S4096x4096.Idx → EReal) z := by
  have e0 : win0_2.index t 0 = 0 := congrFun (map2 t) 0
  have e1 : win0_2.index t 1 = ((grid0.coords t) 0).val := congrFun (map2 t) 1
  blk_simp [iblk]
  exact congrArg (m ((c : Thread nD τ).loc main_arg2)) (Common.ext2 (by blk_simp; rw [e0, h0]; omega) (by blk_simp; rw [e1, h1]; omega))

theorem blk3_at (t : Fin cfg0.N) (y : S1024x512.Idx) (z : S8192x4096.Idx)
    (h0 : (z 0).val = 1024 * min ((grid0.coords t) 1).val 7 + (y 0).val) (h1 : (z 1).val = 512 * ((grid0.coords t) 0).val + (y 1).val) :
    iblk m c 3 t y = (m ((c : Thread nD τ).loc main_arg3) : S8192x4096.Idx → EReal) z := by
  have e0 : win0_3.index t 0 = min ((grid0.coords t) 1).val 7 := congrFun (map3 t) 0
  have e1 : win0_3.index t 1 = ((grid0.coords t) 0).val := congrFun (map3 t) 1
  blk_simp [iblk]
  exact congrArg (m ((c : Thread nD τ).loc main_arg3)) (Common.ext2 (by blk_simp; rw [e0, h0]; omega) (by blk_simp; rw [e1, h1]; omega))

theorem blk4_at (t : Fin cfg0.N) (y : S16x512.Idx) (z : S16x4096.Idx)
    (h0 : (z 0).val = (y 0).val) (h1 : (z 1).val = 512 * ((grid0.coords t) 0).val + (y 1).val) :
    iblk m c 4 t y = (m ((c : Thread nD τ).loc main_arg4) : S16x4096.Idx → EReal) z := by
  have e0 : win0_4.index t 0 = 0 := congrFun (map4 t) 0
  have e1 : win0_4.index t 1 = ((grid0.coords t) 0).val := congrFun (map4 t) 1
  blk_simp [iblk]
  exact congrArg (m ((c : Thread nD τ).loc main_arg4)) (Common.ext2 (by blk_simp; rw [e0, h0]; omega) (by blk_simp; rw [e1, h1]; omega))

open Cert.Reference7Ideal.Read in
/-- The reference's prompt result at an index. -/
theorem ref5_at (x0 : FVec Ideal S8192x4096 .bf16) (x2 : FVec Ideal S4096x4096 .bf16) (x3 : FVec Ideal S8192x4096 .f32) (z : S8192x4096.Idx) :
    val_main_v5 (F := Ideal) x0 x2 x3 z
      = Ideal.ofBits .f32 0x3FD744FD#32 * x3 z + ∑ k : Fin 4096, x0 (lidx_main_v4 z k) * x2 (ridx_main_v4 z k) := by
  rw [val_main_v5_apply, val_main_v4_apply, val_main_v1_apply, val_main_v0_apply, val_main_cst_apply]
  rfl

open Cert.Reference7Ideal.Read in
/-- The reference's sample result at an index. -/
theorem ref11_at (x1 : FVec Ideal S16x4096 .bf16) (x2 : FVec Ideal S4096x4096 .bf16) (x4 : FVec Ideal S16x4096 .f32) (z : S16x4096.Idx) :
    val_main_v11 (F := Ideal) x1 x2 x4 z
      = Ideal.ofBits .f32 0x3FD744FD#32 * x4 z + ∑ k : Fin 4096, x1 (lidx_main_v10 z k) * x2 (ridx_main_v10 z k) := by
  rw [val_main_v11_apply, val_main_v10_apply, val_main_v7_apply, val_main_v6_apply, val_main_cst_0_apply]
  rfl

theorem ixRow (x : S1024x512.Idx) : x = ix2 (⟨(x 0).val, (x 0).isLt⟩ : Fin 1024) (⟨(x 1).val, (x 1).isLt⟩ : Fin 512) :=
  Common.eta2 x

theorem ix16 (x : S16x512.Idx) : x = ix2 (⟨(x 0).val, (x 0).isLt⟩ : Fin 16) (⟨(x 1).val, (x 1).isLt⟩ : Fin 512) :=
  Common.eta2 x

/-- The prompt's tile after a point is the reference at its places. -/
theorem outP_at (t : Fin cfg0.N) (y : S1024x512.Idx) (z : S8192x4096.Idx)
    (h0 : (z 0).val = 1024 * min ((grid0.coords t) 1).val 7 + (y 0).val) (h1 : (z 1).val = 512 * ((grid0.coords t) 0).val + (y 1).val) :
    outP m c t y = Cert.Reference7Ideal.Read.val_main_v5 (F := Ideal) (m ((c : Thread nD τ).loc main_arg0)) (m ((c : Thread nD τ).loc main_arg2)) (m ((c : Thread nD τ).loc main_arg3)) z := by
  rw [ref5_at]
  unfold outP
  rw [ixRow y, pay1_at]
  rw [← blk3_at m c t (ix2 _ _) z (by exact h0) (by exact h1)]
  refine congrArg₂ _ rfl (Finset.sum_congr rfl fun k _ => ?_)
  rw [← blk0_at m c t (ix2 _ k) (Cert.Reference7Ideal.Read.lidx_main_v4 z k) (by exact h0) rfl,
    ← blk2_at m c t (ix2 k _) (Cert.Reference7Ideal.Read.ridx_main_v4 z k) rfl (by exact h1)]
  rfl

/-- The sample rows' tile is the reference at its places. -/
theorem outS_at (t : Fin cfg0.N) (y : S16x512.Idx) (z : S16x4096.Idx)
    (h0 : (z 0).val = (y 0).val) (h1 : (z 1).val = 512 * ((grid0.coords t) 0).val + (y 1).val) :
    outS m c t y = Cert.Reference7Ideal.Read.val_main_v11 (F := Ideal) (m ((c : Thread nD τ).loc main_arg1)) (m ((c : Thread nD τ).loc main_arg2)) (m ((c : Thread nD τ).loc main_arg4)) z := by
  rw [ref11_at]
  unfold outS
  rw [ix16 y, pay2_at]
  rw [← blk4_at m c t (ix2 _ _) z (by exact h0) (by exact h1)]
  refine congrArg₂ _ rfl (Finset.sum_congr rfl fun k _ => ?_)
  rw [← blk1_at m c t (ix2 _ k) (Cert.Reference7Ideal.Read.lidx_main_v10 z k) (by exact h0) rfl,
    ← blk2_at m c t (ix2 k _) (Cert.Reference7Ideal.Read.ridx_main_v10 z k) rfl (by exact h1)]
  rfl

/-- The prompt's output array after the launch is the reference's. -/
theorem arr_out5 : (dats m 0 c).arrAt 5 cfg0.N
    = Cert.Reference7Ideal.Read.val_main_v5 (F := Ideal) (m ((c : Thread nD τ).loc main_arg0)) (m ((c : Thread nD τ).loc main_arg2)) (m ((c : Thread nD τ).loc main_arg3)) := by
  refine Pipeline.Dat.arrAt_eq_of_covers (dats m 0 c) 5 _ (by decide +kernel) fun t hf y => ?_
  have e0 : win0_5.index t 0 = min ((grid0.coords t) 1).val 7 := congrFun (map5 t) 0
  have e1 : win0_5.index t 1 = ((grid0.coords t) 0).val := congrFun (map5 t) 1
  have a0 : (((win0_5.blk t).view.emb y) 0).val = 1024 * min ((grid0.coords t) 1).val 7 + (y 0).val := by
    blk_simp
    rw [e0]
    omega
  have a1 : (((win0_5.blk t).view.emb y) 1).val = 512 * ((grid0.coords t) 0).val + (y 1).val := by
    blk_simp
    rw [e1]
    omega
  refine Eq.trans ?_ (outP_at m c t y ((win0_5.blk t).view.emb y) a0 a1)
  rw [← after5]
  rfl

/-- The sample rows' output array after the launch is the reference's. -/
theorem arr_out6 : (dats m 0 c).arrAt 6 cfg0.N
    = Cert.Reference7Ideal.Read.val_main_v11 (F := Ideal) (m ((c : Thread nD τ).loc main_arg1)) (m ((c : Thread nD τ).loc main_arg2)) (m ((c : Thread nD τ).loc main_arg4)) := by
  refine Pipeline.Dat.arrAt_eq_of_covers (dats m 0 c) 6 _ (by decide +kernel) fun t hf y => ?_
  have e0 : win0_6.index t 0 = 0 := congrFun (map6 t) 0
  have e1 : win0_6.index t 1 = ((grid0.coords t) 0).val := congrFun (map6 t) 1
  have a0 : (((win0_6.blk t).view.emb y) 0).val = (y 0).val := by
    blk_simp
    rw [e0]
    omega
  have a1 : (((win0_6.blk t).view.emb y) 1).val = 512 * ((grid0.coords t) 0).val + (y 1).val := by
    blk_simp
    rw [e1]
    omega
  refine Eq.trans ?_ (outS_at m c t y ((win0_6.blk t).view.emb y) a0 a1)
  rw [← after6]
  rfl

end Cert.Kernel7Ideal.Tile
-- ==== Proof.AlgMixB.lean ====
/- The attention's output projection and its reference agree. -/
module

public import proofs.«01_k».proof.Defs
public import proofs.«01_k».proof.Proof.ElemMixB
public import Idealize.ShloMosaic.Lib.Quiescent

@[expose] public section

set_option maxRecDepth 16384

noncomputable section

namespace Cert.MixB

open Idealize.ShloMosaic Idealize.ShloMosaic.TcCoe
open Idealize.SL.Sem

open Cert.Kernel7Ideal in
theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => Cert.Reference7Ideal.Read.val_main_v5 (F := Ideal) (m ((c.tc : Thread nD τ).loc main_arg0)) (m ((c.tc : Thread nD τ).loc main_arg2)) (m ((c.tc : Thread nD τ).loc main_arg3)),
    fun c => Cert.Reference7Ideal.Read.val_main_v11 (F := Ideal) (m ((c.tc : Thread nD τ).loc main_arg1)) (m ((c.tc : Thread nD τ).loc main_arg2)) (m ((c.tc : Thread nD τ).loc main_arg4)), ?_, ?_⟩
  · refine (θ_run _ _ _).mono (fun r h c => ?_) (θ_run_and (Tile.run m g) (Tile.frame_args m g))
    exact ⟨(h.1.out_eq c 5).trans (Tile.arr_out5 m c), (h.1.out_eq c 6).trans (Tile.arr_out6 m c), h.2.1 c⟩
  · refine (θ_run _ _ _).mono (fun r h c => ?_) (Cert.Reference7Ideal.Value.run m' g')
    obtain ⟨h0, h1, hrest⟩ := h c
    obtain ⟨a0, a1, a2, a3, a4⟩ := hargs c
    refine ⟨h0.trans ?_, h1.trans ?_, hrest⟩
    · rw [Cert.Reference7Ideal.Read.val_main_v5_eq, a0, a2, a3]
    · rw [Cert.Reference7Ideal.Read.val_main_v11_eq, a1, a2, a4]

open Cert.Reference7Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) r.2⟩) (Cert.Reference7Ideal.Value.run m g)

end Cert.MixB
-- ==== Proof.FrameMixA.lean ====
/- The dilated attention's output projection's launch: the body's triple in its two cases, what the two outputs hold after
   every point, the run of the whole launch, and the claim that the arguments end unchanged. -/
module

public import proofs.«01_k».proof.Proof.Common
public import proofs.«01_k».proof.Proof.Gen.Kernel8Ideal.Frame
public import proofs.«01_k».proof.Proof.Gen.Kernel8Ideal.Skeleton
public import Idealize.ShloMosaic.Lib.Claim
public import Idealize.ShloMosaic.Lib.Pipeline.TableIdle
public import Idealize.ShloMosaic.Lib.Pipeline.ValueKit

@[expose] public section

set_option maxRecDepth 16384

noncomputable section

namespace Cert.Kernel8Ideal.Tile

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body

variable (c : Dev nD) (i : grid0.Coords)
    (arg2 : Memref sig .tc .vmem S1024x1280 .bf16) (harg2 : arg2.IsWhole)
    (arg3 : Memref sig .tc .vmem S16x1280 .bf16) (harg3 : arg3.IsWhole)
    (arg4 : Memref sig .tc .vmem S1280x1024 .bf16) (harg4 : arg4.IsWhole)
    (arg5 : Memref sig .tc .vmem S1024x1024 .f32) (harg5 : arg5.IsWhole)
    (arg6 : Memref sig .tc .vmem S16x1024 .f32) (harg6 : arg6.IsWhole)
    (arg7 : Memref sig .tc .vmem S1024x1024 .f32) (harg7 : arg7.IsWhole)
    (arg8 : Memref sig .tc .vmem S16x1024 .f32) (harg8 : arg8.IsWhole)
    (x0 : Vec F S1024x1280 .bf16) (x1 : Vec F S16x1280 .bf16) (x2 : Vec F S1280x1024 .bf16)
    (x3 : Vec F S1024x1024 .f32) (x4 : Vec F S16x1024 .f32) (x6 : Vec F S1024x1024 .f32) (x7 : Vec F S16x1024 .f32)

/-- The two outputs beside the five inputs at their contents. -/
abbrev Held (y5 : Vec F S1024x1024 .f32) (y6 : Vec F S16x1024 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare y5
    ∗ owns (c : Thread nD τ) arg8 fullShare y6)

set_option maxHeartbeats 1000000 in
/-- At a point over a row tile of the prompt, the prompt's output tile is stored and the other output left alone. -/
theorem bodyRun_row (h1 : k0_cond1 i = 1#1) (h2 : ¬ k0_cond2 i = 1#1) (E : Set ℕ) (K : PUnit → sProp 𝕄) :
    iprop(Held c arg2 arg3 arg4 arg5 arg6 arg7 arg8 x0 x1 x2 x3 x4 x6 x7
        ∗ (Held c arg2 arg3 arg4 arg5 arg6 arg7 arg8 x0 x1 x2 x3 x4 (k0_pay1 x0 x2 x3) x7 -∗ K ⟨⟩))
      ⊢ wp frame (wpE (defs₀ (F := F)) Variants.none c none) E
          (cc0_o_a i arg2 harg2 arg3 harg3 arg4 harg4 arg5 harg5 arg6 harg6 arg7 harg7 arg8 harg8) K := by
  simp only [cc0_o_a_eq_skeleton]; unfold cc0_o_a_skel
  rw [dif_pos h1, dif_neg h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg2.eq_unread hf0; obtain rfl := harg4.eq_unread hf2; obtain rfl := harg5.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [Common.read_store _ _ (by decide)]
    simp only [View.readAt_eq_ld, Memref.IsWhole.read_unread]
    rw [View.ld_unit_lit _ _ (by decide), View.ld_unit_lit _ _ (by decide), View.ld_unit_lit _ _ (by decide)]
  · iexists _; isplitr; · ipureintro; exact hf6
    iexact H6

set_option maxHeartbeats 1000000 in
/-- At the last point of a column tile, the sample rows' output tile is stored and the other output left alone. -/
theorem bodyRun_last (h1 : ¬ k0_cond1 i = 1#1) (h2 : k0_cond2 i = 1#1) (E : Set ℕ) (K : PUnit → sProp 𝕄) :
    iprop(Held c arg2 arg3 arg4 arg5 arg6 arg7 arg8 x0 x1 x2 x3 x4 x6 x7
        ∗ (Held c arg2 arg3 arg4 arg5 arg6 arg7 arg8 x0 x1 x2 x3 x4 x6 (k0_pay2 x1 x2 x4) -∗ K ⟨⟩))
      ⊢ wp frame (wpE (defs₀ (F := F)) Variants.none c none) E
          (cc0_o_a i arg2 harg2 arg3 harg3 arg4 harg4 arg5 harg5 arg6 harg6 arg7 harg7 arg8 harg8) K := by
  simp only [cc0_o_a_eq_skeleton]; unfold cc0_o_a_skel
  rw [dif_neg h1, dif_pos h2]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg3.eq_unread hf1; obtain rfl := harg4.eq_unread hf2; obtain rfl := harg6.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  · iexists _; isplitr; swap; · iexact H6
    ipureintro
    rw [Common.read_store _ _ (by decide)]
    simp only [View.readAt_eq_ld, Memref.IsWhole.read_unread]
    rw [View.ld_unit_lit _ _ (by decide), View.ld_unit_lit _ _ (by decide), View.ld_unit_lit _ _ (by decide)]

end body

/-! ## Which case a point is in -/

theorem cond1_iff : ∀ t : Fin cfg0.N, k0_cond1 (grid0.coords t) = 1#1 ↔ t.val % 9 ≠ 8 := by decide +kernel
theorem cond2_iff : ∀ t : Fin cfg0.N, k0_cond2 (grid0.coords t) = 1#1 ↔ t.val % 9 = 8 := by decide +kernel

theorem not_flush5_pred : ∀ t : Fin cfg0.N, t.val % 9 = 8 →
    (cfg0.win 5).flush ⟨t.val - 1, Nat.lt_of_le_of_lt (Nat.sub_le _ _) t.isLt⟩ = false := by
  intro t h
  rw [Pipeline.Window.flush_eq_flushF]
  revert t; decide +kernel

theorem flush5_last : ∀ t : Fin cfg0.N, t.val % 9 = 8 → (cfg0.win 5).flush t = true := by
  intro t h
  rw [Pipeline.Window.flush_eq_flushF]
  revert t; decide +kernel

/-- The rows and columns window 0, 2 and 3 take at the last point of a column tile are those of the point before. -/
theorem same0 : ∀ t : Fin cfg0.N, t.val % 9 = 8 → win0_0.index t = win0_0.index ⟨t.val - 1, Nat.lt_of_le_of_lt (Nat.sub_le _ _) t.isLt⟩ := by decide +kernel
theorem same2 : ∀ t : Fin cfg0.N, t.val % 9 = 8 → win0_2.index t = win0_2.index ⟨t.val - 1, Nat.lt_of_le_of_lt (Nat.sub_le _ _) t.isLt⟩ := by decide +kernel
theorem same3 : ∀ t : Fin cfg0.N, t.val % 9 = 8 → win0_3.index t = win0_3.index ⟨t.val - 1, Nat.lt_of_le_of_lt (Nat.sub_le _ _) t.isLt⟩ := by decide +kernel

/-! ## The launch -/

variable (m : (ℓ : Loc nD τ sig) → Buf (Elt F) ℓ) (ρ : Dev nD → PrngReg)

/-- What the prompt's output block holds after point `t`. -/
def outP (c : Dev nD) (t : Fin cfg0.N) : S1024x1024.Idx → Elt F .f32 := k0_pay1 (iblk m c 0 t) (iblk m c 2 t) (iblk m c 3 t)

/-- What the sample rows' output block holds when it is written. -/
def outS (c : Dev nD) (t : Fin cfg0.N) : S16x1024.Idx → Elt F .f32 := k0_pay2 (iblk m c 1 t) (iblk m c 2 t) (iblk m c 4 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP m c t
    | ⟨6, _⟩ => outS m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outP m c t := by dsimp only [dats]
theorem after6 (c : Dev nD) (t : Fin cfg0.N) : (dats m 0 c).after 6 t = outS m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)
theorem iblk3_congr (c : Dev nD) {t t' : Fin cfg0.N} (h : win0_3.index t = win0_3.index t') : iblk m c 3 t = iblk m c 3 t' :=
  (dats m 0 c).fetched_congr 3 h rfl (iblk m c 3 t)

/-- The last point of a column tile finds the prompt's output block as the point before left it. -/
theorem before5_last (c : Dev nD) (t : Fin cfg0.N) (ht : t.val % 9 = 8) (d) : (dats m 0 c).before 5 t d = outP m c t := by
  have h0 : t.val ≠ 0 := by omega
  rw [(dats m 0 c).before_of_pos 5 t h0 ((cfg0.win 5).fetch_out rfl t), not_flush5_pred t ht, if_neg Bool.false_ne_true]
  unfold Dat.left
  have hi : cfg0.idle 5 (cfg0.grid.coords ⟨t.val - 1, Nat.lt_of_le_of_lt (Nat.sub_le _ _) t.isLt⟩) = false := by
    have := (cond1_iff ⟨t.val - 1, Nat.lt_of_le_of_lt (Nat.sub_le _ _) t.isLt⟩).mpr (by simp only; omega)
    show (!(k0_cond1 _ == 1#1)) = false
    rw [this]; rfl
  rw [hi]
  have e : (dats m 0 c).after 5 ⟨t.val - 1, Nat.lt_of_le_of_lt (Nat.sub_le _ _) t.isLt⟩ = outP m c t := by
    rw [after5]; unfold outP
    rw [iblk0_congr m c (same0 t ht), iblk2_congr m c (same2 t ht), iblk3_congr m c (same3 t ht)]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_row (c : Dev nD) (t : Fin cfg0.N) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, before3, before4, after0, after1, after2, after3, after4, after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_row c (grid0.coords t) _ _ _ _ _ _ _ _ _ _ _ _ _ _ (iblk m c 0 t) (iblk m c 1 t) (iblk m c 2 t) (iblk m c 3 t) (iblk m c 4 t)
    ((dats m 0 c).before 5 t d5) ((dats m 0 c).before 6 t d6)
    ((cond1_iff t).mpr ht) (fun h => ht ((cond2_iff t).mp h)) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 800000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3, before4, before5_last m c t ht, after0, after1, after2, after3, after4, after5, after6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun_last c (grid0.coords t) _ _ _ _ _ _ _ _ _ _ _ _ _ _ (iblk m c 0 t) (iblk m c 1 t) (iblk m c 2 t) (iblk m c 3 t) (iblk m c 4 t)
    (outP m c t) ((dats m 0 c).before 6 t d6)
    (fun h => (cond1_iff t).mp h ht) ((cond2_iff t).mpr ht) Set.univ _)
  unfold Held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle5 (t : Fin cfg0.N) : idle0 5 (grid0.coords t) = decide (t.val % 9 = 8) := by
  revert t; decide +kernel
theorem idle6 (t : Fin cfg0.N) : idle0 6 (grid0.coords t) = !decide (t.val % 9 = 8) := by
  revert t; decide +kernel

theorem flush6_row (t : Fin cfg0.N) (ht : t.val % 9 ≠ 8) : (cfg0.win 6).flush t = false := by
  cases h : (cfg0.win 6).flush t
  · rfl
  · exact absurd ((flush0_6 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i5 : idle0 5 (grid0.coords t) = true := by rw [idle5, ht]; rfl
    have i6 : idle0 6 (grid0.coords t) = false := by rw [idle6, ht]; rfl
    simp only [i5, i6, flush5_last t ht]
    exact triple_restated (sound_last m c t ht) rfl .rfl fun _ => .rfl
  · have i5 : idle0 5 (grid0.coords t) = false := by rw [idle5, decide_eq_false ht]
    have i6 : idle0 6 (grid0.coords t) = true := by rw [idle6, decide_eq_false ht]; rfl
    simp only [i5, i6, flush6_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Kernel8Ideal.Tile

end
-- ==== Proof.FrameMixABits.lean ====
/- The argument claim of `Kernel8`: the program and its idealisation are one text, so the idealisation's claim is its own. -/
module

public import proofs.«01_k».proof.Proof.FrameMixA
public import proofs.«01_k».proof.Proof.Gen.Kernel8.Frame

@[expose] public section

noncomputable section

namespace Cert.Kernel8.Tile

open Cert.Kernel8 Cert.Kernel8.Gen
open Idealize.ShloMosaic Idealize.ShloMosaic.TcCoe Idealize.SL.Sem

variable {F : FTy → Type} [FloatOps F]

/-- The two programs' kernels are the same. -/
theorem body_eq : defs₀ (F := F) = Cert.Kernel8Ideal.defs₀ (F := F) :=
  congrArg Defs.onTc (funext fun ℓ => funext fun a => by
    cases ℓ with | mk v h => match v, h, a with
      | 0, _, (t, s) => exact rfl)

theorem defs_eq : defs (F := F) = Cert.Kernel8Ideal.defs (F := F) :=
  congrArg (Pipeline.defs Cert.Kernel8Ideal.pcfgs) body_eq

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.Kernel8Ideal.Tile.frame_args m ρ

end Cert.Kernel8.Tile

end
-- ==== Proof.ElemMixA.lean ====
/- The dilated attention's output projection's launch against its reference: every tile the kernel stores is the reference's. -/
module

public import proofs.«01_k».proof.Proof.Common
public import proofs.«01_k».proof.Proof.FrameMixA
public import proofs.«01_k».proof.Proof.Gen.Reference8Ideal.Read
public import Idealize.ShloMosaic.Lib.Pointwise

@[expose] public section

set_option maxRecDepth 16384

noncomputable section

namespace Cert.Kernel8Ideal.Tile

open Cert.Kernel8Ideal Cert.Kernel8Ideal.Gen
open Idealize.ShloMosaic Idealize.ShloMosaic.TcCoe Idealize.ShloMosaic.Pointwise Idealize.ShloMosaic.WordCmp
open Idealize.SL.Sem

/-- A tile of the prompt's output at a row and a column. -/
theorem pay1_at (v6 : FVec Ideal S1024x1280 .bf16) (v7 : FVec Ideal S1280x1024 .bf16) (v9 : FVec Ideal S1024x1024 .f32) (r : Fin 1024) (c : Fin 1024) :
    k0_pay1 (F := Ideal) v6 v7 v9 (ix2 r c)
      = Ideal.ofBits .f32 0x3FD744FD#32 * v9 (ix2 r c) + ∑ k : Fin 1280, v6 (ix2 r k) * v7 (ix2 k c) := by
  pointwise [k0_pay1]

/-- A tile of the sample rows' output at a row and a column. -/
theorem pay2_at (v6 : FVec Ideal S16x1280 .bf16) (v7 : FVec Ideal S1280x1024 .bf16) (v9 : FVec Ideal S16x1024 .f32) (r : Fin 16) (c : Fin 1024) :
    k0_pay2 (F := Ideal) v6 v7 v9 (ix2 r c)
      = Ideal.ofBits .f32 0x3FD744FD#32 * v9 (ix2 r c) + ∑ k : Fin 1280, v6 (ix2 r k) * v7 (ix2 k c) := by
  pointwise [k0_pay2]

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val] := by decide +kernel
theorem map3 : ∀ t : Fin cfg0.N, cc0_transform_3 (grid0.coords t) = ![min ((grid0.coords t) 1).val 7, ((grid0.coords t) 0).val] := by decide +kernel
theorem map4 : ∀ t : Fin cfg0.N, cc0_transform_4 (grid0.coords t) = ![0, ((grid0.coords t) 0).val] := by decide +kernel
theorem map5 : ∀ t : Fin cfg0.N, cc0_transform_5 (grid0.coords t) = ![min ((grid0.coords t) 1).val 7, ((grid0.coords t) 0).val] := by decide +kernel
theorem map6 : ∀ t : Fin cfg0.N, cc0_transform_6 (grid0.coords t) = ![0, ((grid0.coords t) 0).val] := by decide +kernel

theorem blk0_at (t : Fin cfg0.N) (y : S1024x1280.Idx) (z : S8192x1280.Idx)
    (h0 : (z 0).val = 1024 * min ((grid0.coords t) 1).val 7 + (y 0).val) (h1 : (z 1).val = (y 1).val) :
    iblk m c 0 t y = (m ((c : Thread nD τ).loc main_arg0) : S8192x1280.Idx → EReal) z := by
  have e0 : win0_0.index t 0 = min ((grid0.coords t) 1).val 7 := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (y : S16x1280.Idx) (z : S16x1280.Idx)
    (h0 : (z 0).val = (y 0).val) (h1 : (z 1).val = (y 1).val) :
    iblk m c 1 t y = (m ((c : Thread nD τ).loc main_arg1) : S16x1280.Idx → EReal) z := by
  have e0 : win0_1.index t 0 = 0 := congrFun (map1 t) 0
  have e1 : win0_1.index t 1 = 0 := congrFun (map1 t) 1
  blk_simp [iblk]
  exact congrArg (m ((c : Thread nD τ).loc main_arg1)) (Common.ext2 (by blk_simp; rw [e0, h0]; omega) (by blk_simp; rw [e1, h1]; omega))

theorem blk2_at (t : Fin cfg0.N) (y : S1280x1024.Idx) (z : S1280x4096.Idx)
    (h0 : (z 0).val = (y 0).val) (h1 : (z 1).val = 1024 * ((grid0.coords t) 0).val + (y 1).val) :
    iblk m c 2 t y = (m ((c : Thread nD τ).loc main_arg2) : S1280x4096.Idx → EReal) z := by
  have e0 : win0_2.index t 0 = 0 := congrFun (map2 t) 0
  have e1 : win0_2.index t 1 = ((grid0.coords t) 0).val := congrFun (map2 t) 1
  blk_simp [iblk]
  exact congrArg (m ((c : Thread nD τ).loc main_arg2)) (Common.ext2 (by blk_simp; rw [e0, h0]; omega) (by blk_simp; rw [e1, h1]; omega))

theorem blk3_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    iblk m c 3 t y = (m ((c : Thread nD τ).loc main_arg3) : S8192x4096.Idx → EReal) z := by
  have e0 : win0_3.index t 0 = min ((grid0.coords t) 1).val 7 := congrFun (map3 t) 0
  have e1 : win0_3.index t 1 = ((grid0.coords t) 0).val := congrFun (map3 t) 1
  blk_simp [iblk]
  exact congrArg (m ((c : Thread nD τ).loc main_arg3)) (Common.ext2 (by blk_simp; rw [e0, h0]; omega) (by blk_simp; rw [e1, h1]; omega))

theorem blk4_at (t : Fin cfg0.N) (y : S16x1024.Idx) (z : S16x4096.Idx)
    (h0 : (z 0).val = (y 0).val) (h1 : (z 1).val = 1024 * ((grid0.coords t) 0).val + (y 1).val) :
    iblk m c 4 t y = (m ((c : Thread nD τ).loc main_arg4) : S16x4096.Idx → EReal) z := by
  have e0 : win0_4.index t 0 = 0 := congrFun (map4 t) 0
  have e1 : win0_4.index t 1 = ((grid0.coords t) 0).val := congrFun (map4 t) 1
  blk_simp [iblk]
  exact congrArg (m ((c : Thread nD τ).loc main_arg4)) (Common.ext2 (by blk_simp; rw [e0, h0]; omega) (by blk_simp; rw [e1, h1]; omega))

open Cert.Reference8Ideal.Read in
/-- The reference's prompt result at an index. -/
theorem ref5_at (x0 : FVec Ideal S8192x1280 .bf16) (x2 : FVec Ideal S1280x4096 .bf16) (x3 : FVec Ideal S8192x4096 .f32) (z : S8192x4096.Idx) :
    val_main_v5 (F := Ideal) x0 x2 x3 z
      = Ideal.ofBits .f32 0x3FD744FD#32 * x3 z + ∑ k : Fin 1280, x0 (lidx_main_v4 z k) * x2 (ridx_main_v4 z k) := by
  rw [val_main_v5_apply, val_main_v4_apply, val_main_v1_apply, val_main_v0_apply, val_main_cst_apply]
  rfl

open Cert.Reference8Ideal.Read in
/-- The reference's sample result at an index. -/
theorem ref11_at (x1 : FVec Ideal S16x1280 .bf16) (x2 : FVec Ideal S1280x4096 .bf16) (x4 : FVec Ideal S16x4096 .f32) (z : S16x4096.Idx) :
    val_main_v11 (F := Ideal) x1 x2 x4 z
      = Ideal.ofBits .f32 0x3FD744FD#32 * x4 z + ∑ k : Fin 1280, x1 (lidx_main_v10 z k) * x2 (ridx_main_v10 z k) := by
  rw [val_main_v11_apply, val_main_v10_apply, val_main_v7_apply, val_main_v6_apply, val_main_cst_0_apply]
  rfl

theorem ixRow (x : S1024x1024.Idx) : x = ix2 (⟨(x 0).val, (x 0).isLt⟩ : Fin 1024) (⟨(x 1).val, (x 1).isLt⟩ : Fin 1024) :=
  Common.eta2 x

theorem ix16 (x : S16x1024.Idx) : x = ix2 (⟨(x 0).val, (x 0).isLt⟩ : Fin 16) (⟨(x 1).val, (x 1).isLt⟩ : Fin 1024) :=
  Common.eta2 x

/-- The prompt's tile after a point is the reference at its places. -/
theorem outP_at (t : Fin cfg0.N) (y : S1024x1024.Idx) (z : S8192x4096.Idx)
    (h0 : (z 0).val = 1024 * min ((grid0.coords t) 1).val 7 + (y 0).val) (h1 : (z 1).val = 1024 * ((grid0.coords t) 0).val + (y 1).val) :
    outP m c t y = Cert.Reference8Ideal.Read.val_main_v5 (F := Ideal) (m ((c : Thread nD τ).loc main_arg0)) (m ((c : Thread nD τ).loc main_arg2)) (m ((c : Thread nD τ).loc main_arg3)) z := by
  rw [ref5_at]
  unfold outP
  rw [ixRow y, pay1_at]
  rw [← blk3_at m c t (ix2 _ _) z (by exact h0) (by exact h1)]
  refine congrArg₂ _ rfl (Finset.sum_congr rfl fun k _ => ?_)
  rw [← blk0_at m c t (ix2 _ k) (Cert.Reference8Ideal.Read.lidx_main_v4 z k) (by exact h0) rfl,
    ← blk2_at m c t (ix2 k _) (Cert.Reference8Ideal.Read.ridx_main_v4 z k) rfl (by exact h1)]
  rfl

/-- The sample rows' tile is the reference at its places. -/
theorem outS_at (t : Fin cfg0.N) (y : S16x1024.Idx) (z : S16x4096.Idx)
    (h0 : (z 0).val = (y 0).val) (h1 : (z 1).val = 1024 * ((grid0.coords t) 0).val + (y 1).val) :
    outS m c t y = Cert.Reference8Ideal.Read.val_main_v11 (F := Ideal) (m ((c : Thread nD τ).loc main_arg1)) (m ((c : Thread nD τ).loc main_arg2)) (m ((c : Thread nD τ).loc main_arg4)) z := by
  rw [ref11_at]
  unfold outS
  rw [ix16 y, pay2_at]
  rw [← blk4_at m c t (ix2 _ _) z (by exact h0) (by exact h1)]
  refine congrArg₂ _ rfl (Finset.sum_congr rfl fun k _ => ?_)
  rw [← blk1_at m c t (ix2 _ k) (Cert.Reference8Ideal.Read.lidx_main_v10 z k) (by exact h0) rfl,
    ← blk2_at m c t (ix2 k _) (Cert.Reference8Ideal.Read.ridx_main_v10 z k) rfl (by exact h1)]
  rfl

/-- The prompt's output array after the launch is the reference's. -/
theorem arr_out5 : (dats m 0 c).arrAt 5 cfg0.N
    = Cert.Reference8Ideal.Read.val_main_v5 (F := Ideal) (m ((c : Thread nD τ).loc main_arg0)) (m ((c : Thread nD τ).loc main_arg2)) (m ((c : Thread nD τ).loc main_arg3)) := by
  refine Pipeline.Dat.arrAt_eq_of_covers (dats m 0 c) 5 _ (by decide +kernel) fun t hf y => ?_
  have e0 : win0_5.index t 0 = min ((grid0.coords t) 1).val 7 := congrFun (map5 t) 0
  have e1 : win0_5.index t 1 = ((grid0.coords t) 0).val := congrFun (map5 t) 1
  have a0 : (((win0_5.blk t).view.emb y) 0).val = 1024 * min ((grid0.coords t) 1).val 7 + (y 0).val := by
    blk_simp
    rw [e0]
    omega
  have a1 : (((win0_5.blk t).view.emb y) 1).val = 1024 * ((grid0.coords t) 0).val + (y 1).val := by
    blk_simp
    rw [e1]
    omega
  refine Eq.trans ?_ (outP_at m c t y ((win0_5.blk t).view.emb y) a0 a1)
  rw [← after5]
  rfl

/-- The sample rows' output array after the launch is the reference's. -/
theorem arr_out6 : (dats m 0 c).arrAt 6 cfg0.N
    = Cert.Reference8Ideal.Read.val_main_v11 (F := Ideal) (m ((c : Thread nD τ).loc main_arg1)) (m ((c : Thread nD τ).loc main_arg2)) (m ((c : Thread nD τ).loc main_arg4)) := by
  refine Pipeline.Dat.arrAt_eq_of_covers (dats m 0 c) 6 _ (by decide +kernel) fun t hf y => ?_
  have e0 : win0_6.index t 0 = 0 := congrFun (map6 t) 0
  have e1 : win0_6.index t 1 = ((grid0.coords t) 0).val := congrFun (map6 t) 1
  have a0 : (((win0_6.blk t).view.emb y) 0).val = (y 0).val := by
    blk_simp
    rw [e0]
    omega
  have a1 : (((win0_6.blk t).view.emb y) 1).val = 1024 * ((grid0.coords t) 0).val + (y 1).val := by
    blk_simp
    rw [e1]
    omega
  refine Eq.trans ?_ (outS_at m c t y ((win0_6.blk t).view.emb y) a0 a1)
  rw [← after6]
  rfl

end Cert.Kernel8Ideal.Tile
-- ==== Proof.AlgMixA.lean ====
/- The dilated attention's output projection and its reference agree. -/
module

public import proofs.«01_k».proof.Defs
public import proofs.«01_k».proof.Proof.ElemMixA
public import Idealize.ShloMosaic.Lib.Quiescent

@[expose] public section

set_option maxRecDepth 16384

noncomputable section

namespace Cert.MixA

open Idealize.ShloMosaic Idealize.ShloMosaic.TcCoe
open Idealize.SL.Sem

open Cert.Kernel8Ideal in
theorem algebraic : Cert.algebraic_Kernel8Ideal_Reference8Ideal (hKernel8Ideal := Cert.Kernel8Ideal.Gen.facts) (hReference8Ideal := Cert.Reference8Ideal.Gen.facts) := by
  intro m g m' g' _ hargs
  refine ⟨fun c => Cert.Reference8Ideal.Read.val_main_v5 (F := Ideal) (m ((c.tc : Thread nD τ).loc main_arg0)) (m ((c.tc : Thread nD τ).loc main_arg2)) (m ((c.tc : Thread nD τ).loc main_arg3)),
    fun c => Cert.Reference8Ideal.Read.val_main_v11 (F := Ideal) (m ((c.tc : Thread nD τ).loc main_arg1)) (m ((c.tc : Thread nD τ).loc main_arg2)) (m ((c.tc : Thread nD τ).loc main_arg4)), ?_, ?_⟩
  · refine (θ_run _ _ _).mono (fun r h c => ?_) (θ_run_and (Tile.run m g) (Tile.frame_args m g))
    exact ⟨(h.1.out_eq c 5).trans (Tile.arr_out5 m c), (h.1.out_eq c 6).trans (Tile.arr_out6 m c), h.2.1 c⟩
  · refine (θ_run _ _ _).mono (fun r h c => ?_) (Cert.Reference8Ideal.Value.run m' g')
    obtain ⟨h0, h1, hrest⟩ := h c
    obtain ⟨a0, a1, a2, a3, a4⟩ := hargs c
    refine ⟨h0.trans ?_, h1.trans ?_, hrest⟩
    · rw [Cert.Reference8Ideal.Read.val_main_v5_eq, a0, a2, a3]
    · rw [Cert.Reference8Ideal.Read.val_main_v11_eq, a1, a2, a4]

open Cert.Reference8Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) r.2⟩) (Cert.Reference8Ideal.Value.run m g)

end Cert.MixA
-- ==== Proof.FrameRot.lean ====
/- The launch that projects and rotates the first attention's queries, keys and values: the body's triple in its
   two cases, what the two outputs hold after every point, the run of the launch, and the claim that the arguments
   end unchanged. -/
module

public import proofs.«01_k».proof.Proof.Common
public import proofs.«01_k».proof.Proof.Gen.Kernel9Ideal.Frame
public import proofs.«01_k».proof.Proof.Gen.Kernel9Ideal.Skeleton
public import Idealize.ShloMosaic.Lib.Claim
public import Idealize.ShloMosaic.Lib.KernelVsHost
public import Idealize.ShloMosaic.Lib.Pointwise
public import Idealize.ShloMosaic.Lib.Pipeline.TableIdle
public import Idealize.ShloMosaic.Lib.Pipeline.ValueKit

@[expose] public section

set_option maxRecDepth 16384

noncomputable section

namespace Cert.Kernel9Ideal.Tile

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-! ## The body -/

/-! ## A rotated tile and the six chunks it is stored in -/

/-- A tile of six heads with each head's lanes rotated: every lane times the first table, plus the lane sixteen to the
    left times the second, plus the lane sixteen to the right times the third, around the ends of the head. -/
def rotT {n : Nat} (p : FVec F ⟨2, ![n, 768]⟩ .f32) (a b d : FVec F ⟨2, ![n, 128]⟩ .f32) : FVec F ⟨2, ![n, 768]⟩ .f32 := fun y =>
  have hy : (y 1).val < 768 := (y 1).isLt
  let r : Fin n := y 0
  let q : Fin 128 := ⟨(y 1).val % 128, Nat.mod_lt _ (by decide)⟩
  FloatOps.addf (FloatOps.addf (FloatOps.mulf (p y) (a (ix2 r q)))
      (FloatOps.mulf (p (ix2 r (⟨(y 1).val / 128 * 128 + ((y 1).val % 128 + 112) % 128, by omega⟩ : Fin 768))) (b (ix2 r q))))
    (FloatOps.mulf (p (ix2 r (⟨(y 1).val / 128 * 128 + ((y 1).val % 128 + 16) % 128, by omega⟩ : Fin 768))) (d (ix2 r q)))

section chunks

variable {n : Nat} (p : FVec F ⟨2, ![n, 768]⟩ .f32) (a b d : FVec F ⟨2, ![n, 128]⟩ .f32)

/-- A lane rotated by `k` inside the chunk of columns at `128 * o` is that column of the tile. -/
theorem turn_at (o : Nat) (h : (⟨2, ![n, 768]⟩ : Shape).Slices ![0, 128 * o] ⟨2, ![n, 128]⟩) (hr : (⟨2, ![n, 128]⟩ : Shape).Rotates 1 none) (k : BitVec 32) (hk : k.toNat < 128)
    (j : (⟨2, ![n, 128]⟩ : Shape).Idx) (z : (⟨2, ![n, 768]⟩ : Shape).Idx) (h0 : (z 0).val = (j 0).val) (h1 : (z 1).val = 128 * o + ((j 1).val + 128 - k.toNat) % 128) :
    dynamicRotate 1 k none (extractStridedSlice ⟨2, ![n, 128]⟩ ![0, 128 * o] p h) hr j = p z := by
  rw [dynamicRotate_apply 1 k _ hr j (ix2 (j 0) (⟨((j 1).val + 128 - k.toNat) % 128, Nat.mod_lt _ (by decide)⟩ : Fin 128)) (fun x => by
    match x with
    | ⟨0, _⟩ => rfl
    | ⟨1, _⟩ => show _ = ((j 1).val + 128 - k.toNat % 128) % 128; rw [Nat.mod_eq_of_lt hk]; rfl)]
  refine extractStridedSlice_apply _ _ _ _ _ fun x => ?_
  match x with
  | ⟨0, _⟩ => exact h0.trans (Nat.zero_add _).symm
  | ⟨1, _⟩ => exact h1

/-- A chunk of 128 columns as the body stores it is that chunk of the rotated tile. -/
theorem chunk_at (o : Nat) (ho : o < 6) (h : (⟨2, ![n, 768]⟩ : Shape).Slices ![0, 128 * o] ⟨2, ![n, 128]⟩) (hr : (⟨2, ![n, 128]⟩ : Shape).Rotates 1 none)
    (inb : ∀ a, (![0, 128 * o] : Fin 2 → Nat) a + (⟨2, ![n, 128]⟩ : Shape).size a ≤ (⟨2, ![n, 768]⟩ : Shape).size a) (j : (⟨2, ![n, 128]⟩ : Shape).Idx) :
    addf (addf (mulf (extractStridedSlice ⟨2, ![n, 128]⟩ ![0, 128 * o] p h) a)
        (mulf (dynamicRotate 1 16#32 none (extractStridedSlice ⟨2, ![n, 128]⟩ ![0, 128 * o] p h) hr) b))
      (mulf (dynamicRotate 1 112#32 none (extractStridedSlice ⟨2, ![n, 128]⟩ ![0, 128 * o] p h) hr) d) j
      = rotT p a b d ((Rect.unit (s := ⟨2, ![n, 768]⟩) ![0, 128 * o] (⟨2, ![n, 128]⟩ : Shape).size inb).emb j) := by
  have hj : (j 1).val < 128 := (j 1).isLt
  have e0 : (((Rect.unit (s := ⟨2, ![n, 768]⟩) ![0, 128 * o] (⟨2, ![n, 128]⟩ : Shape).size inb).emb j) 0).val = (j 0).val := by
    show 0 + 1 * (j 0).val = _; omega
  have e1 : (((Rect.unit (s := ⟨2, ![n, 768]⟩) ![0, 128 * o] (⟨2, ![n, 128]⟩ : Shape).size inb).emb j) 1).val = 128 * o + (j 1).val := by
    show 128 * o + 1 * (j 1).val = _; omega
  generalize (Rect.unit (s := ⟨2, ![n, 768]⟩) ![0, 128 * o] (⟨2, ![n, 128]⟩ : Shape).size inb).emb j = y at e0 e1
  have ej : ix2 (y 0) (⟨(y 1).val % 128, Nat.mod_lt _ (by decide)⟩ : Fin 128) = j := by
    funext x
    match x with
    | ⟨0, _⟩ => exact Fin.ext e0
    | ⟨1, _⟩ => exact Fin.ext (by show (y 1).val % 128 = (j 1).val; omega)
  unfold rotT
  show FloatOps.addf (FloatOps.addf (FloatOps.mulf _ _) (FloatOps.mulf _ _)) (FloatOps.mulf _ _) = _
  rw [turn_at p o h hr 16#32 (by decide) j (ix2 (y 0) (⟨(y 1).val / 128 * 128 + ((y 1).val % 128 + 112) % 128, by omega⟩ : Fin 768)) e0
      (by show (y 1).val / 128 * 128 + ((y 1).val % 128 + 112) % 128 = 128 * o + ((j 1).val + 128 - 16) % 128; omega),
    turn_at p o h hr 112#32 (by decide) j (ix2 (y 0) (⟨(y 1).val / 128 * 128 + ((y 1).val % 128 + 16) % 128, by omega⟩ : Fin 768)) e0
      (by show (y 1).val / 128 * 128 + ((y 1).val % 128 + 16) % 128 = 128 * o + ((j 1).val + 128 - 112) % 128; omega),
    extractStridedSlice_apply _ p h j y (fun x => by
      match x with
      | ⟨0, _⟩ => exact e0.trans (Nat.zero_add _).symm
      | ⟨1, _⟩ => exact e1)]
  exact congrArg (fun k => FloatOps.addf (FloatOps.addf (FloatOps.mulf (p y) (a k)) (FloatOps.mulf _ (b k))) (FloatOps.mulf _ (d k))) ej.symm

/-- A tile stored in six chunks of 128 columns reads as what each chunk is a part of. -/
theorem read_six (arg : Memref sig .tc .vmem ⟨2, ![n, 768]⟩ .f32) (f) (g : FVec F ⟨2, ![n, 768]⟩ .f32) (u : Fin 6 → FVec F ⟨2, ![n, 128]⟩ .f32)
    (inb : ∀ o : Fin 6, ∀ a, (![0, 128 * o.val] : Fin 2 → Nat) a + (⟨2, ![n, 128]⟩ : Shape).size a ≤ (⟨2, ![n, 768]⟩ : Shape).size a)
    (hu : ∀ (o : Fin 6) j, u o j = g ((Rect.unit (s := ⟨2, ![n, 768]⟩) ![0, 128 * o.val] (⟨2, ![n, 128]⟩ : Shape).size (inb o)).emb j)) :
    View.read (Elt F) arg.view (arg.view.writes (Elt F) f ([5, 4, 3, 2, 1, 0].map fun o : Fin 6 =>
      (⟨Rect.unit (s := ⟨2, ![n, 768]⟩) ![0, 128 * o.val] (⟨2, ![n, 128]⟩ : Shape).size (inb o), u o⟩ : View.Piece (Elt F) ⟨2, ![n, 768]⟩ .f32))) = g := by
  have hc : ∀ y : (⟨2, ![n, 768]⟩ : Shape).Idx, ∃ q ∈ ([5, 4, 3, 2, 1, 0].map fun o : Fin 6 =>
      (⟨Rect.unit (s := ⟨2, ![n, 768]⟩) ![0, 128 * o.val] (⟨2, ![n, 128]⟩ : Shape).size (inb o), u o⟩ : View.Piece (Elt F) ⟨2, ![n, 768]⟩ .f32)), y ∈ q.1.set := by
    intro y
    have hy : (y 1).val < 768 := (y 1).isLt
    refine ⟨_, List.mem_map.mpr ⟨(⟨(y 1).val / 128, by omega⟩ : Fin 6), ?_, rfl⟩, ?_⟩
    · generalize (⟨(y 1).val / 128, _⟩ : Fin 6) = o
      revert o; decide
    · rw [Rect.mem_set_unit]
      intro x
      match x with
      | ⟨0, _⟩ => exact ⟨Nat.zero_le _, by show (y 0).val < 0 + n; rw [Nat.zero_add]; exact (y 0).isLt⟩
      | ⟨1, _⟩ => exact ⟨by show 128 * ((y 1).val / 128) ≤ (y 1).val; omega, by show (y 1).val < 128 * ((y 1).val / 128) + 128; omega⟩
  rw [View.read_writes_eq_canon _ _ _ hc]
  funext y
  refine View.canon_apply_of_pieces g _ (fun q hq j => ?_) y (hc y)
  obtain ⟨o, _, rfl⟩ := List.mem_map.mp hq
  exact hu o j

end chunks

section body

variable (c : Dev nD) (i : grid0.Coords)
    (arg2 : Memref sig .tc .vmem S1024x4096 .bf16) (harg2 : arg2.IsWhole)
    (arg3 : Memref sig .tc .vmem S16x4096 .bf16) (harg3 : arg3.IsWhole)
    (arg4 : Memref sig .tc .vmem S4096x768 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S16x128 .f32) (harg8 : arg8.IsWhole)
    (arg9 : Memref sig .tc .vmem S16x128 .f32) (harg9 : arg9.IsWhole)
    (arg10 : Memref sig .tc .vmem S16x128 .f32) (harg10 : arg10.IsWhole)
    (arg11 : Memref sig .tc .vmem S1024x768 .f32) (harg11 : arg11.IsWhole)
    (arg12 : Memref sig .tc .vmem S16x768 .f32) (harg12 : arg12.IsWhole)
    (x0 : Vec F S1024x4096 .bf16) (x1 : Vec F S16x4096 .bf16) (x2 : Vec F S4096x768 .bf16) (x3 : Vec F S1024x128 .f32) (x4 : Vec F S1024x128 .f32) (x5 : Vec F S1024x128 .f32) (x6 : Vec F S16x128 .f32) (x7 : Vec F S16x128 .f32) (x8 : Vec F S16x128 .f32) (x9 : Vec F S1024x768 .f32) (x10 : Vec F S16x768 .f32)

/-- The prompt's tile and the sample rows' tile as stored: rotated in the columns of the queries and keys. -/
def rotP : Vec F S1024x768 .f32 := if k0_cond2 i = 1#1 then rotT (k0_pay1 x0 x2) x3 x4 x5 else k0_pay1 x0 x2
def rotS : Vec F S16x768 .f32 := if k0_cond5 i = 1#1 then rotT (k0_pay5 x1 x2) x6 x7 x8 else k0_pay5 x1 x2

/-- The two outputs beside the nine inputs at their contents. -/
abbrev Held (y9 : Vec F S1024x768 .f32) (y10 : Vec F S16x768 .f32) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare y9
    ∗ owns (c : Thread nD τ) arg12 fullShare y10)

set_option maxHeartbeats 4000000 in
/-- At a point over a row tile of the prompt, the prompt's output tile is stored. -/
theorem bodyRun_row (h1 : k0_cond1 i = 1#1) (h4 : ¬ k0_cond4 i = 1#1) (hx : k0_cond3 i = 1#1 ↔ ¬ k0_cond2 i = 1#1) (E : Set ℕ) (K : PUnit → sProp 𝕄) :
    iprop(Held c arg2 arg3 arg4 arg5 arg6 arg7 arg8 arg9 arg10 arg11 arg12 x0 x1 x2 x3 x4 x5 x6 x7 x8 x9 x10
        ∗ (Held c arg2 arg3 arg4 arg5 arg6 arg7 arg8 arg9 arg10 arg11 arg12 x0 x1 x2 x3 x4 x5 x6 x7 x8 (rotP i x0 x2 x3 x4 x5) x10 -∗ K ⟨⟩))
      ⊢ wp frame (wpE (defs₀ (F := F)) Variants.none c none) E
          (cc0_qkv_a i arg2 harg2 arg3 harg3 arg4 harg4 arg5 harg5 arg6 harg6 arg7 harg7 arg8 harg8 arg9 harg9 arg10 harg10 arg11 harg11 arg12 harg12) K := by
  simp only [cc0_qkv_a_eq_skeleton]; unfold cc0_qkv_a_skel
  rw [dif_pos h1, dif_neg h4]
  by_cases h : k0_cond2 i = 1#1
  · have hn : ¬ k0_cond3 i = 1#1 := fun e => (hx.mp e) h
    simp only [dif_pos h, dif_neg hn]
    simp only [k0_part1_eq_skeleton]; unfold k0_part1_skel
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg2.eq_unread hf0; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; swap; · iexact H9
      ipureintro
      rw [rotP, if_pos h]
      simp only [View.readAt_eq_ld, Memref.IsWhole.read_unread]
      rw [View.ld_unit_lit _ _ (by decide), View.ld_unit_lit _ _ (by decide), View.ld_unit_lit _ _ (by decide), View.ld_unit_lit _ _ (by decide), View.ld_unit_lit _ _ (by decide)]
      refine read_six arg11 f9 (rotT (k0_pay1 x0 x2) x3 x4 x5) ![k0_pay12 (k0_pay1 x0 x2) x3 x4 x5,
        k0_pay13 (k0_pay1 x0 x2) x3 x4 x5,
        k0_pay14 (k0_pay1 x0 x2) x3 x4 x5,
        k0_pay2 (k0_pay11 x5) (k0_pay15 (k0_pay1 x0 x2)) (k0_pay16 (k0_pay1 x0 x2) x3 x4),
        k0_pay3 x0 x2 (k0_pay9 x3) (k0_pay10 x4) (k0_pay11 x5),
        k0_pay4 x0 x2 (k0_pay9 x3) (k0_pay10 x4) (k0_pay11 x5)]
        (fun o => match o with
          | ⟨0, _⟩ => inb_S1024x768_S1024x128_0_0
          | ⟨1, _⟩ => inb_S1024x768_S1024x128_0_128
          | ⟨2, _⟩ => inb_S1024x768_S1024x128_0_256
          | ⟨3, _⟩ => inb_S1024x768_S1024x128_0_384
          | ⟨4, _⟩ => inb_S1024x768_S1024x128_0_512
          | ⟨5, _⟩ => inb_S1024x768_S1024x128_0_640) fun o j => ?_
      match o with
      | ⟨0, _⟩ =>
        show (k0_pay12 (k0_pay1 x0 x2) x3 x4 x5) j = _
        unfold k0_pay12
        simp only [k0_pay9, k0_pay10, k0_pay11, shapeCast_self]
        exact chunk_at (k0_pay1 x0 x2) x3 x4 x5 0 (by decide) slices_S1024x768_o0_0_S1024x128 rotates_S1024x128_d1 inb_S1024x768_S1024x128_0_0 j
      | ⟨1, _⟩ =>
        show (k0_pay13 (k0_pay1 x0 x2) x3 x4 x5) j = _
        unfold k0_pay13
        simp only [k0_pay9, k0_pay10, k0_pay11, shapeCast_self]
        exact chunk_at (k0_pay1 x0 x2) x3 x4 x5 1 (by decide) slices_S1024x768_o0_128_S1024x128 rotates_S1024x128_d1 inb_S1024x768_S1024x128_0_128 j
      | ⟨2, _⟩ =>
        show (k0_pay14 (k0_pay1 x0 x2) x3 x4 x5) j = _
        unfold k0_pay14
        simp only [k0_pay9, k0_pay10, k0_pay11, shapeCast_self]
        exact chunk_at (k0_pay1 x0 x2) x3 x4 x5 2 (by decide) slices_S1024x768_o0_256_S1024x128 rotates_S1024x128_d1 inb_S1024x768_S1024x128_0_256 j
      | ⟨3, _⟩ =>
        show (k0_pay2 (k0_pay11 x5) (k0_pay15 (k0_pay1 x0 x2)) (k0_pay16 (k0_pay1 x0 x2) x3 x4)) j = _
        unfold k0_pay2 k0_pay16
        simp only [k0_pay15, k0_pay9, k0_pay10, k0_pay11, shapeCast_self]
        exact chunk_at (k0_pay1 x0 x2) x3 x4 x5 3 (by decide) slices_S1024x768_o0_384_S1024x128 rotates_S1024x128_d1 inb_S1024x768_S1024x128_0_384 j
      | ⟨4, _⟩ =>
        show (k0_pay3 x0 x2 (k0_pay9 x3) (k0_pay10 x4) (k0_pay11 x5)) j = _
        unfold k0_pay3
        simp only [k0_pay9, k0_pay10, k0_pay11, shapeCast_self]
        exact chunk_at (k0_pay1 x0 x2) x3 x4 x5 4 (by decide) slices_S1024x768_o0_512_S1024x128 rotates_S1024x128_d1 inb_S1024x768_S1024x128_0_512 j
      | ⟨5, _⟩ =>
        show (k0_pay4 x0 x2 (k0_pay9 x3) (k0_pay10 x4) (k0_pay11 x5)) j = _
        unfold k0_pay4
        simp only [k0_pay9, k0_pay10, k0_pay11, shapeCast_self]
        exact chunk_at (k0_pay1 x0 x2) x3 x4 x5 5 (by decide) slices_S1024x768_o0_640_S1024x128 rotates_S1024x128_d1 inb_S1024x768_S1024x128_0_640 j
    · iexists _; isplitr; · ipureintro; exact hf10
      iexact H10
  · have hn : k0_cond3 i = 1#1 := hx.mpr h
    simp only [dif_neg h, dif_pos hn]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg2.eq_unread hf0; obtain rfl := harg4.eq_unread hf2
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; swap; · iexact H9
      ipureintro
      rw [Common.read_store _ _ (by decide)]
      simp only [View.readAt_eq_ld, Memref.IsWhole.read_unread]
      rw [View.ld_unit_lit _ _ (by decide), View.ld_unit_lit _ _ (by decide)]
      exact (if_neg h).symm
    · iexists _; isplitr; · ipureintro; exact hf10
      iexact H10

set_option maxHeartbeats 4000000 in
/-- At the last point of a column tile, the sample rows' output tile is stored. -/
theorem bodyRun_last (h1 : ¬ k0_cond1 i = 1#1) (h4 : k0_cond4 i = 1#1) (hx : k0_cond6 i = 1#1 ↔ ¬ k0_cond5 i = 1#1) (E : Set ℕ) (K : PUnit → sProp 𝕄) :
    iprop(Held c arg2 arg3 arg4 arg5 arg6 arg7 arg8 arg9 arg10 arg11 arg12 x0 x1 x2 x3 x4 x5 x6 x7 x8 x9 x10
        ∗ (Held c arg2 arg3 arg4 arg5 arg6 arg7 arg8 arg9 arg10 arg11 arg12 x0 x1 x2 x3 x4 x5 x6 x7 x8 x9 (rotS i x1 x2 x6 x7 x8) -∗ K ⟨⟩))
      ⊢ wp frame (wpE (defs₀ (F := F)) Variants.none c none) E
          (cc0_qkv_a i arg2 harg2 arg3 harg3 arg4 harg4 arg5 harg5 arg6 harg6 arg7 harg7 arg8 harg8 arg9 harg9 arg10 harg10 arg11 harg11 arg12 harg12) K := by
  simp only [cc0_qkv_a_eq_skeleton]; unfold cc0_qkv_a_skel
  rw [dif_neg h1, dif_pos h4]
  by_cases h : k0_cond5 i = 1#1
  · have hn : ¬ k0_cond6 i = 1#1 := fun e => (hx.mp e) h
    simp only [dif_pos h, dif_neg hn]
    simp only [k0_part2_eq_skeleton]; unfold k0_part2_skel
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg3.eq_unread hf1; obtain rfl := harg4.eq_unread hf2; obtain rfl := harg8.eq_unread hf6; obtain rfl := harg9.eq_unread hf7; obtain rfl := harg10.eq_unread hf8
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    · iexists _; isplitr; swap; · iexact H10
      ipureintro
      rw [rotS, if_pos h]
      simp only [View.readAt_eq_ld, Memref.IsWhole.read_unread]
      rw [View.ld_unit_lit _ _ (by decide), View.ld_unit_lit _ _ (by decide), View.ld_unit_lit _ _ (by decide), View.ld_unit_lit _ _ (by decide), View.ld_unit_lit _ _ (by decide)]
      refine read_six arg12 f10 (rotT (k0_pay5 x1 x2) x6 x7 x8) ![k0_pay20 (k0_pay5 x1 x2) x6 x7 x8,
        k0_pay21 (k0_pay5 x1 x2) x6 x7 x8,
        k0_pay22 (k0_pay5 x1 x2) x6 x7 x8,
        k0_pay6 (k0_pay19 x8) (k0_pay23 (k0_pay5 x1 x2)) (k0_pay24 (k0_pay5 x1 x2) x6 x7),
        k0_pay7 x1 x2 (k0_pay17 x6) (k0_pay18 x7) (k0_pay19 x8),
        k0_pay8 x1 x2 (k0_pay17 x6) (k0_pay18 x7) (k0_pay19 x8)]
        (fun o => match o with
          | ⟨0, _⟩ => inb_S16x768_S16x128_0_0
          | ⟨1, _⟩ => inb_S16x768_S16x128_0_128
          | ⟨2, _⟩ => inb_S16x768_S16x128_0_256
          | ⟨3, _⟩ => inb_S16x768_S16x128_0_384
          | ⟨4, _⟩ => inb_S16x768_S16x128_0_512
          | ⟨5, _⟩ => inb_S16x768_S16x128_0_640) fun o j => ?_
      match o with
      | ⟨0, _⟩ =>
        show (k0_pay20 (k0_pay5 x1 x2) x6 x7 x8) j = _
        unfold k0_pay20
        simp only [k0_pay17, k0_pay18, k0_pay19, shapeCast_self]
        exact chunk_at (k0_pay5 x1 x2) x6 x7 x8 0 (by decide) slices_S16x768_o0_0_S16x128 rotates_S16x128_d1 inb_S16x768_S16x128_0_0 j
      | ⟨1, _⟩ =>
        show (k0_pay21 (k0_pay5 x1 x2) x6 x7 x8) j = _
        unfold k0_pay21
        simp only [k0_pay17, k0_pay18, k0_pay19, shapeCast_self]
        exact chunk_at (k0_pay5 x1 x2) x6 x7 x8 1 (by decide) slices_S16x768_o0_128_S16x128 rotates_S16x128_d1 inb_S16x768_S16x128_0_128 j
      | ⟨2, _⟩ =>
        show (k0_pay22 (k0_pay5 x1 x2) x6 x7 x8) j = _
        unfold k0_pay22
        simp only [k0_pay17, k0_pay18, k0_pay19, shapeCast_self]
        exact chunk_at (k0_pay5 x1 x2) x6 x7 x8 2 (by decide) slices_S16x768_o0_256_S16x128 rotates_S16x128_d1 inb_S16x768_S16x128_0_256 j
      | ⟨3, _⟩ =>
        show (k0_pay6 (k0_pay19 x8) (k0_pay23 (k0_pay5 x1 x2)) (k0_pay24 (k0_pay5 x1 x2) x6 x7)) j = _
        unfold k0_pay6 k0_pay24
        simp only [k0_pay23, k0_pay17, k0_pay18, k0_pay19, shapeCast_self]
        exact chunk_at (k0_pay5 x1 x2) x6 x7 x8 3 (by decide) slices_S16x768_o0_384_S16x128 rotates_S16x128_d1 inb_S16x768_S16x128_0_384 j
      | ⟨4, _⟩ =>
        show (k0_pay7 x1 x2 (k0_pay17 x6) (k0_pay18 x7) (k0_pay19 x8)) j = _
        unfold k0_pay7
        simp only [k0_pay17, k0_pay18, k0_pay19, shapeCast_self]
        exact chunk_at (k0_pay5 x1 x2) x6 x7 x8 4 (by decide) slices_S16x768_o0_512_S16x128 rotates_S16x128_d1 inb_S16x768_S16x128_0_512 j
      | ⟨5, _⟩ =>
        show (k0_pay8 x1 x2 (k0_pay17 x6) (k0_pay18 x7) (k0_pay19 x8)) j = _
        unfold k0_pay8
        simp only [k0_pay17, k0_pay18, k0_pay19, shapeCast_self]
        exact chunk_at (k0_pay5 x1 x2) x6 x7 x8 5 (by decide) slices_S16x768_o0_640_S16x128 rotates_S16x128_d1 inb_S16x768_S16x128_0_640 j
  · have hn : k0_cond6 i = 1#1 := hx.mpr h
    simp only [dif_neg h, dif_pos hn]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg3.eq_unread hf1; obtain rfl := harg4.eq_unread hf2
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    · iexists _; isplitr; swap; · iexact H10
      ipureintro
      rw [Common.read_store _ _ (by decide)]
      simp only [View.readAt_eq_ld, Memref.IsWhole.read_unread]
      rw [View.ld_unit_lit _ _ (by decide), View.ld_unit_lit _ _ (by decide)]
      exact (if_neg h).symm

end body

/-! ## Which case a point is in -/

theorem cond1_iff : ∀ t : Fin cfg0.N, k0_cond1 (grid0.coords t) = 1#1 ↔ t.val % 9 ≠ 8 := by decide +kernel
theorem cond4_iff : ∀ t : Fin cfg0.N, k0_cond4 (grid0.coords t) = 1#1 ↔ t.val % 9 = 8 := by decide +kernel
theorem cond3_not : ∀ t : Fin cfg0.N, k0_cond3 (grid0.coords t) = 1#1 ↔ ¬ k0_cond2 (grid0.coords t) = 1#1 := by decide +kernel
theorem cond6_not : ∀ t : Fin cfg0.N, k0_cond6 (grid0.coords t) = 1#1 ↔ ¬ k0_cond5 (grid0.coords t) = 1#1 := by decide +kernel

/-- The point before. -/
abbrev prev (t : Fin cfg0.N) : Fin cfg0.N := ⟨t.val - 1, Nat.lt_of_le_of_lt (Nat.sub_le _ _) t.isLt⟩

/-- The last point of a column tile is in the same column tile as the point before. -/
theorem same_cond2 : ∀ t : Fin cfg0.N, t.val % 9 = 8 → (k0_cond2 (grid0.coords t) = 1#1 ↔ k0_cond2 (grid0.coords (prev t)) = 1#1) := by decide +kernel

theorem not_flush9_pred : ∀ t : Fin cfg0.N, t.val % 9 = 8 → (cfg0.win 9).flush (prev t) = false := by
  intro t h
  rw [Pipeline.Window.flush_eq_flushF]
  revert t; decide +kernel

theorem flush9_last : ∀ t : Fin cfg0.N, t.val % 9 = 8 → (cfg0.win 9).flush t = true := by
  intro t h
  rw [Pipeline.Window.flush_eq_flushF]
  revert t; decide +kernel

/-- The blocks the prompt's tile is made from are, at the last point of a column tile, those of the point before. -/
theorem same0 : ∀ t : Fin cfg0.N, t.val % 9 = 8 → win0_0.index t = win0_0.index (prev t) := by decide +kernel
theorem same2 : ∀ t : Fin cfg0.N, t.val % 9 = 8 → win0_2.index t = win0_2.index (prev t) := by decide +kernel
theorem same3 : ∀ t : Fin cfg0.N, t.val % 9 = 8 → win0_3.index t = win0_3.index (prev t) := by decide +kernel
theorem same4 : ∀ t : Fin cfg0.N, t.val % 9 = 8 → win0_4.index t = win0_4.index (prev t) := by decide +kernel
theorem same5 : ∀ t : Fin cfg0.N, t.val % 9 = 8 → win0_5.index t = win0_5.index (prev t) := by decide +kernel

/-! ## The launch -/

variable (m : (ℓ : Loc nD τ sig) → Buf (Elt F) ℓ) (ρ : Dev nD → PrngReg)

/-- What the prompt's output block holds after point `t`, -/
def outP (c : Dev nD) (t : Fin cfg0.N) : S1024x768.Idx → Elt F .f32 := rotP (grid0.coords t) (iblk m c 0 t) (iblk m c 2 t) (iblk m c 3 t) (iblk m c 4 t) (iblk m c 5 t)

/-- and what the sample rows' output block holds when it is written. -/
def outS (c : Dev nD) (t : Fin cfg0.N) : S16x768.Idx → Elt F .f32 := rotS (grid0.coords t) (iblk m c 1 t) (iblk m c 2 t) (iblk m c 6 t) (iblk m c 7 t) (iblk m c 8 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outP m c t
    | ⟨10, _⟩ => outS m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outP m c t := by dsimp only [dats]
theorem after10 (c : Dev nD) (t : Fin cfg0.N) : (dats m 0 c).after 10 t = outS m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- Points whose block indices agree have the same block of each input the prompt's tile reads. -/
theorem iblk0_congr (c : Dev nD) {t t' : Fin cfg0.N} (h : win0_0.index t = win0_0.index t') : iblk m c 0 t = iblk m c 0 t' :=
  (dats m 0 c).fetched_congr 0 h rfl (iblk m c 0 t)
theorem iblk2_congr (c : Dev nD) {t t' : Fin cfg0.N} (h : win0_2.index t = win0_2.index t') : iblk m c 2 t = iblk m c 2 t' :=
  (dats m 0 c).fetched_congr 2 h rfl (iblk m c 2 t)
theorem iblk3_congr (c : Dev nD) {t t' : Fin cfg0.N} (h : win0_3.index t = win0_3.index t') : iblk m c 3 t = iblk m c 3 t' :=
  (dats m 0 c).fetched_congr 3 h rfl (iblk m c 3 t)
theorem iblk4_congr (c : Dev nD) {t t' : Fin cfg0.N} (h : win0_4.index t = win0_4.index t') : iblk m c 4 t = iblk m c 4 t' :=
  (dats m 0 c).fetched_congr 4 h rfl (iblk m c 4 t)
theorem iblk5_congr (c : Dev nD) {t t' : Fin cfg0.N} (h : win0_5.index t = win0_5.index t') : iblk m c 5 t = iblk m c 5 t' :=
  (dats m 0 c).fetched_congr 5 h rfl (iblk m c 5 t)

/-- The last point of a column tile finds the prompt's output block as the point before left it. -/
theorem before9_last (c : Dev nD) (t : Fin cfg0.N) (ht : t.val % 9 = 8) (d) : (dats m 0 c).before 9 t d = outP m c t := by
  have h0 : t.val ≠ 0 := by omega
  rw [(dats m 0 c).before_of_pos 9 t h0 ((cfg0.win 9).fetch_out rfl t), not_flush9_pred t ht, if_neg Bool.false_ne_true]
  unfold Dat.left
  have hi : cfg0.idle 9 (cfg0.grid.coords (prev t)) = false := by
    revert t; decide +kernel
  rw [hi]
  have e : (dats m 0 c).after 9 (prev t) = outP m c t := by
    rw [after9]; unfold outP rotP
    rw [iblk0_congr m c (same0 t ht), iblk2_congr m c (same2 t ht), iblk3_congr m c (same3 t ht), iblk4_congr m c (same4 t ht), iblk5_congr m c (same5 t ht)]
    simp only [same_cond2 t ht]
  exact e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns over a row tile of the prompt, -/
def postRow (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare ((dats m 0 c).before 10 t d)))

/-- and at the last point of a column tile. -/
def postLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 800000 in
theorem sound_row (c : Dev nD) (t : Fin cfg0.N) (ht : t.val % 9 ≠ 8) :
    bodyPre m c t ⊢ wp frame (wpE (defs₀ (F := F)) Variants.none c none) Set.univ (bodyAt0 t) (fun _ => postRow m c t) := by
  unfold bodyPre postRow bodyAt0
  simp only [before0, before1, before2, before3, before4, before5, before6, before7, before8, after0, after1, after2, after3, after4, after5, after6, after7, after8, after9]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyRun_row c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)
    ((dats m 0 c).before 9 t d9) ((dats m 0 c).before 10 t d10)
    ((cond1_iff t).mpr ht) (fun h => ht ((cond4_iff t).mp h)) (cond3_not t) Set.univ _)
  unfold Held
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 800000 in
theorem sound_last (c : Dev nD) (t : Fin cfg0.N) (ht : t.val % 9 = 8) :
    bodyPre m c t ⊢ wp frame (wpE (defs₀ (F := F)) Variants.none c none) Set.univ (bodyAt0 t) (fun _ => postLast m c t) := by
  unfold bodyPre postLast bodyAt0
  simp only [before0, before1, before2, before3, before4, before5, before6, before7, before8, before9_last m c t ht, after0, after1, after2, after3, after4, after5, after6, after7, after8, after9, after10]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyRun_last c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)
    (outP m c t) ((dats m 0 c).before 10 t d10)
    (fun h => (cond1_iff t).mp h ht) ((cond4_iff t).mpr ht) (cond6_not t) Set.univ _)
  unfold Held
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem idle9 (t : Fin cfg0.N) : idle0 9 (grid0.coords t) = decide (t.val % 9 = 8) := by
  revert t; decide +kernel
theorem idle10 (t : Fin cfg0.N) : idle0 10 (grid0.coords t) = !decide (t.val % 9 = 8) := by
  revert t; decide +kernel

theorem flush10_row (t : Fin cfg0.N) (ht : t.val % 9 ≠ 8) : (cfg0.win 10).flush t = false := by
  cases h : (cfg0.win 10).flush t
  · rfl
  · exact absurd ((flush0_10 t).mp h) ht

set_option maxHeartbeats 4000000 in
theorem body_obligation (c : Dev nD) : BodyObligation (dats (F := F) m 0 c) (defs₀ (F := F)) Variants.none () Set.univ := fun t => by
  rw [bigSep_W0, bigSep_W0, defs₀_row]
  by_cases ht : t.val % 9 = 8
  · have i9 : idle0 9 (grid0.coords t) = true := by rw [idle9, ht]; rfl
    have i10 : idle0 10 (grid0.coords t) = false := by rw [idle10, ht]; rfl
    simp only [i9, i10, flush9_last t ht]
    exact triple_restated (sound_last m c t ht) rfl .rfl fun _ => .rfl
  · have i9 : idle0 9 (grid0.coords t) = false := by rw [idle9, decide_eq_false ht]
    have i10 : idle0 10 (grid0.coords t) = true := by rw [idle10, decide_eq_false ht]; rfl
    simp only [i9, i10, flush10_row t ht]
    exact triple_restated (sound_row m c t ht) rfl .rfl fun _ => .rfl

set_option backward.isDefEq.respectTransparency.types false in
/-- The launch ends with every input array unchanged, the outputs at what the bodies left, the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel9Ideal.Tile

end
-- ==== Proof.FrameRotBits.lean ====
/- The argument claim of `Kernel9`: the program and its idealisation are one text, so the idealisation's claim is its own. -/
module

public import proofs.«01_k».proof.Proof.FrameRot
public import proofs.«01_k».proof.Proof.Gen.Kernel9.Frame

@[expose] public section

noncomputable section

namespace Cert.Kernel9.Tile

open Cert.Kernel9 Cert.Kernel9.Gen
open Idealize.ShloMosaic Idealize.ShloMosaic.TcCoe Idealize.SL.Sem

variable {F : FTy → Type} [FloatOps F]

/-- The two programs' kernels are the same. -/
theorem body_eq : defs₀ (F := F) = Cert.Kernel9Ideal.defs₀ (F := F) :=
  congrArg Defs.onTc (funext fun ℓ => funext fun a => by
    cases ℓ with | mk v h => match v, h, a with
      | 0, _, (t, s) => exact rfl)

theorem defs_eq : defs (F := F) = Cert.Kernel9Ideal.defs (F := F) :=
  congrArg (Pipeline.defs Cert.Kernel9Ideal.pcfgs) body_eq

set_option maxHeartbeats 1000000 in
/-- And so is what runs before the launch. -/
theorem main_eq : main (F := F) = Cert.Kernel9Ideal.main (F := F) := by
  funext d
  with_unfolding_all exact rfl

/-- The argument arrays end unchanged and every counter ends at zero. -/
theorem frame_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.Kernel9Ideal.Tile.frame_args m ρ

end Cert.Kernel9.Tile

end
-- ==== Proof.RefRot.lean ====
/- The reference of the first attention's projection read at an index: a sum over the input's features, and for the
   lanes of the queries and keys that turn, that sum and its partner's by the position's angle. -/
module

public import proofs.«01_k».proof.Proof.Gen.Reference9Ideal.Read
public import Idealize.ShloMosaic.Lib.Pointwise

@[expose] public section

set_option maxRecDepth 16384

noncomputable section

namespace Cert.QkvA

open Idealize.ShloMosaic Idealize.ShloMosaic.TcCoe Idealize.ShloMosaic.Pointwise
open Idealize.SL.Sem

/-- The turning rate of lane `k`. -/
def rate (k : Fin 16) : EReal :=
  FloatOps.hostPowf (F := Ideal) (φ := .f32) (FloatOps.ofBits .f32 0x48F42400#32)
    (FloatOps.hostDivf (FloatOps.hostNegf (FloatOps.sitofp .f32 (BitVec.ofNat 32 k.val))) (FloatOps.ofBits .f32 0x41800000#32))

/-- The angle of lane `k` at position `p`, -/
def ang (p : BitVec 32) (k : Fin 16) : EReal := (FloatOps.sitofp (F := Ideal) .f32 p : EReal) * rate k

/-- its cosine -/
def cs (p : BitVec 32) (k : Fin 16) : EReal := FloatOps.hostUnary (F := Ideal) (φ := .f32) .cos (ang p k)

/-- and its sine. -/
def sn (p : BitVec 32) (k : Fin 16) : EReal := FloatOps.hostUnary (F := Ideal) (φ := .f32) .sin (ang p k)

/-- Lane `q` of a head turned at position `p`: `s` is its value, `u` that of the lane sixteen before it and `d` that of the
    lane sixteen after it. -/
def spin (p : BitVec 32) (q : Nat) (s u d : EReal) : EReal :=
  if h : q < 16 then s * cs p ⟨q, h⟩ - d * sn p ⟨q, h⟩
  else if h' : q < 32 then s * cs p ⟨q - 16, by omega⟩ + u * sn p ⟨q - 16, by omega⟩
  else s

/-- The projection of row `r` onto feature `e`. -/
def proj {n : Nat} (x : FVec Ideal ⟨2, ![n, 4096]⟩ .bf16) (w : FVec Ideal ⟨2, ![4096, 11520]⟩ .bf16) (r : Fin n) (e : Fin 11520) : EReal :=
  ∑ k : Fin 4096, x (ix2 r k) * w (ix2 k e)

/-- The feature sixteen lanes before `e` in its head, -/
abbrev up (e : Fin 11520) : Fin 11520 := ⟨e.val / 128 * 128 + (e.val % 128 + 112) % 128, by have := e.isLt; omega⟩

/-- and sixteen after it. -/
abbrev dn (e : Fin 11520) : Fin 11520 := ⟨e.val / 128 * 128 + (e.val % 128 + 16) % 128, by have := e.isLt; omega⟩

/-- The projection with the queries' and keys' lanes turned. -/
def turned {n : Nat} (x : FVec Ideal ⟨2, ![n, 4096]⟩ .bf16) (w : FVec Ideal ⟨2, ![4096, 11520]⟩ .bf16) (p : BitVec 32) (r : Fin n) (e : Fin 11520) : EReal :=
  if e.val < 7680 then spin p (e.val % 128) (proj x w r e) (proj x w r (up e)) (proj x w r (dn e)) else proj x w r e

theorem spin_low (p : BitVec 32) {q : Nat} (h : q < 16) (s u d : EReal) : spin p q s u d = s * cs p ⟨q, h⟩ - d * sn p ⟨q, h⟩ := dif_pos h

theorem spin_mid (p : BitVec 32) {q : Nat} (h : ¬ q < 16) (h' : q < 32) (s u d : EReal) :
    spin p q s u d = s * cs p ⟨q - 16, by omega⟩ + u * sn p ⟨q - 16, by omega⟩ := (dif_neg h).trans (dif_pos h')

theorem spin_high (p : BitVec 32) {q : Nat} (h : ¬ q < 32) (s u d : EReal) : spin p q s u d = s :=
  (dif_neg (by omega)).trans (dif_neg h)

open Cert.Reference9Ideal Cert.Reference9Ideal.Gen Cert.Reference9Ideal.Read

/-! ## The prompt rows -/

section prompt

variable (x0 : FVec Ideal S8192x4096 .bf16) (x2 : FVec Ideal S4096x11520 .bf16)

/-- The projection before it is cut into heads. -/
theorem prompt_proj (i : S4x2048x3x30x128.Idx) (r : Fin 8192) (e : Fin 11520) (hr : r.val = (i 0).val * 2048 + (i 1).val) (he : e.val = ((i 2).val * 30 + (i 3).val) * 128 + (i 4).val) :
    val_main_v5 (F := Ideal) x0 x2 i = proj x0 x2 r e := by
  have h0 : (i 0).val < 4 := (i 0).isLt
  have h1 : (i 1).val < 2048 := (i 1).isLt
  have h2 : (i 2).val < 3 := (i 2).isLt
  have h3 : (i 3).val < 30 := (i 3).isLt
  have h4 : (i 4).val < 128 := (i 4).isLt
  rw [val_main_v5_apply, val_main_v4_apply]
  refine Finset.sum_congr rfl fun k _ => ?_
  rw [val_main_v2_apply, val_main_v1_apply, val_main_v3_apply]
  refine congrArg₂ (fun a b : EReal => a * b) (congrArg x0 (funext fun a => Fin.ext ?_)) (congrArg x2 (funext fun a => Fin.ext ?_))
  · have hk : k.val < 4096 := k.isLt
    match a with
    | ⟨0, _⟩ => show ((((((((i 0).val * 2048 + (i 1).val) * 3 + (i 2).val) * 30 + (i 3).val) * 128 + (i 4).val) / 23592960) * 2048 + ((((((i 0).val * 2048 + (i 1).val) * 3 + (i 2).val) * 30 + (i 3).val) * 128 + (i 4).val) / 11520 % 2048)) * 4096 + k.val) / 4096 = r.val; omega
    | ⟨1, _⟩ => show ((((((((i 0).val * 2048 + (i 1).val) * 3 + (i 2).val) * 30 + (i 3).val) * 128 + (i 4).val) / 23592960) * 2048 + ((((((i 0).val * 2048 + (i 1).val) * 3 + (i 2).val) * 30 + (i 3).val) * 128 + (i 4).val) / 11520 % 2048)) * 4096 + k.val) % 4096 = k.val; omega
  · match a with
    | ⟨0, _⟩ => rfl
    | ⟨1, _⟩ => show (((((i 0).val * 2048 + (i 1).val) * 3 + (i 2).val) * 30 + (i 3).val) * 128 + (i 4).val) % 11520 = e.val; omega

/-- The first half of the turning lanes, -/
theorem prompt_first (i : S4x2048x2x30x16.Idx) (r : Fin 8192) (e : Fin 11520) (hr : r.val = (i 0).val * 2048 + (i 1).val) (he : e.val = ((i 2).val * 30 + (i 3).val) * 128 + (i 4).val) :
    val_main_v24 (F := Ideal) x0 x2 i = proj x0 x2 r e := by
  rw [val_main_v24_apply, val_main_v23_apply, val_main_v6_apply]
  exact prompt_proj x0 x2 _ r e hr he

/-- and the second. -/
theorem prompt_second (i : S4x2048x2x30x16.Idx) (r : Fin 8192) (e : Fin 11520) (hr : r.val = (i 0).val * 2048 + (i 1).val) (he : e.val = ((i 2).val * 30 + (i 3).val) * 128 + (16 + (i 4).val)) :
    val_main_v25 (F := Ideal) x0 x2 i = proj x0 x2 r e := by
  rw [val_main_v25_apply, val_main_v23_apply, val_main_v6_apply]
  exact prompt_proj x0 x2 _ r e hr he

/-- The lanes that do not turn, -/
theorem prompt_still (i : S4x2048x2x30x96.Idx) (r : Fin 8192) (e : Fin 11520) (hr : r.val = (i 0).val * 2048 + (i 1).val) (he : e.val = ((i 2).val * 30 + (i 3).val) * 128 + (32 + (i 4).val)) :
    val_main_v37 (F := Ideal) x0 x2 i = proj x0 x2 r e := by
  rw [val_main_v37_apply, val_main_v6_apply]
  exact prompt_proj x0 x2 _ r e hr he

/-- and the values. -/
theorem prompt_values (i : S4x2048x1x30x128.Idx) (r : Fin 8192) (e : Fin 11520) (hr : r.val = (i 0).val * 2048 + (i 1).val) (he : e.val = ((2 + (i 2).val) * 30 + (i 3).val) * 128 + (i 4).val) :
    val_main_v39 (F := Ideal) x0 x2 i = proj x0 x2 r e := by
  rw [val_main_v39_apply]
  exact prompt_proj x0 x2 _ r e hr he

/-- The lanes' rates. -/
theorem prompt_rate (i : S16.Idx) (k : Fin 16) (hk : k.val = (i 0).val) : val_main_v12 (F := Ideal) i = rate k := by
  obtain rfl : k = ⟨(i 0).val, (i 0).isLt⟩ := Fin.ext hk
  rfl

/-- The angles at a position. -/
theorem prompt_ang (i : S2048x16.Idx) (k : Fin 16) (hk : k.val = (i 1).val) : val_main_v18 (F := Ideal) i = ang (BitVec.ofNat 32 (i 0).val) k := by
  rw [val_main_v18_apply, val_main_v16_apply, val_main_v14_apply, val_main_v13_apply, val_main_v0_apply, val_main_v17_apply, val_main_v15_apply, prompt_rate _ k hk]
  rfl

theorem prompt_cos (i : S1x2048x1x1x16.Idx) (k : Fin 16) (hk : k.val = (i 4).val) : val_main_v20 (F := Ideal) i = cs (BitVec.ofNat 32 (i 1).val) k := by
  have h0 : (i 0).val < 1 := (i 0).isLt
  have h1 : (i 1).val < 2048 := (i 1).isLt
  have h2 : (i 2).val < 1 := (i 2).isLt
  have h3 : (i 3).val < 1 := (i 3).isLt
  have h4 : (i 4).val < 16 := (i 4).isLt
  rw [val_main_v20_apply, val_main_v19_apply, prompt_ang _ k (hk.trans (by show (i 4).val = (((((i 0).val * 2048 + (i 1).val) * 1 + (i 2).val) * 1 + (i 3).val) * 16 + (i 4).val) % 16; omega))]
  show FloatOps.hostUnary (F := Ideal) (φ := .f32) .cos (ang (BitVec.ofNat 32 ((((((i 0).val * 2048 + (i 1).val) * 1 + (i 2).val) * 1 + (i 3).val) * 16 + (i 4).val) / 16)) k) = cs (BitVec.ofNat 32 (i 1).val) k
  rw [show (((((i 0).val * 2048 + (i 1).val) * 1 + (i 2).val) * 1 + (i 3).val) * 16 + (i 4).val) / 16 = (i 1).val by omega]
  rfl

theorem prompt_sin (i : S1x2048x1x1x16.Idx) (k : Fin 16) (hk : k.val = (i 4).val) : val_main_v22 (F := Ideal) i = sn (BitVec.ofNat 32 (i 1).val) k := by
  have h0 : (i 0).val < 1 := (i 0).isLt
  have h1 : (i 1).val < 2048 := (i 1).isLt
  have h2 : (i 2).val < 1 := (i 2).isLt
  have h3 : (i 3).val < 1 := (i 3).isLt
  have h4 : (i 4).val < 16 := (i 4).isLt
  rw [val_main_v22_apply, val_main_v21_apply, prompt_ang _ k (hk.trans (by show (i 4).val = (((((i 0).val * 2048 + (i 1).val) * 1 + (i 2).val) * 1 + (i 3).val) * 16 + (i 4).val) % 16; omega))]
  show FloatOps.hostUnary (F := Ideal) (φ := .f32) .sin (ang (BitVec.ofNat 32 ((((((i 0).val * 2048 + (i 1).val) * 1 + (i 2).val) * 1 + (i 3).val) * 16 + (i 4).val) / 16)) k) = sn (BitVec.ofNat 32 (i 1).val) k
  rw [show (((((i 0).val * 2048 + (i 1).val) * 1 + (i 2).val) * 1 + (i 3).val) * 16 + (i 4).val) / 16 = (i 1).val by omega]
  rfl

/-- The first half of the turning lanes, turned, -/
theorem prompt_low (j : S4x2048x2x30x16.Idx) (r : Fin 8192) (e : Fin 11520) (hr : r.val = (j 0).val * 2048 + (j 1).val) (he : e.val = ((j 2).val * 30 + (j 3).val) * 128 + (j 4).val) :
    val_main_v30 (F := Ideal) x0 x2 j = proj x0 x2 r e * cs (BitVec.ofNat 32 (j 1).val) ⟨(j 4).val, (j 4).isLt⟩ - proj x0 x2 r (dn e) * sn (BitVec.ofNat 32 (j 1).val) ⟨(j 4).val, (j 4).isLt⟩ := by
  have h4 : (j 4).val < 16 := (j 4).isLt
  have hc : val_main_v26 (F := Ideal) j = cs (BitVec.ofNat 32 (j 1).val) ⟨(j 4).val, (j 4).isLt⟩ := by
    rw [val_main_v26_apply]
    exact prompt_cos (idx_main_v26 j) _ rfl
  have hs : val_main_v28 (F := Ideal) j = sn (BitVec.ofNat 32 (j 1).val) ⟨(j 4).val, (j 4).isLt⟩ := by
    rw [val_main_v28_apply]
    exact prompt_sin (idx_main_v28 j) _ rfl
  rw [val_main_v30_apply, val_main_v27_apply, val_main_v29_apply, hc, hs, prompt_first x0 x2 j r e hr he,
    prompt_second x0 x2 j r (dn e) hr (by show e.val / 128 * 128 + (e.val % 128 + 16) % 128 = ((j 2).val * 30 + (j 3).val) * 128 + (16 + (j 4).val); omega)]
  rfl

/-- and the second. -/
theorem prompt_high (j : S4x2048x2x30x16.Idx) (r : Fin 8192) (e : Fin 11520) (hr : r.val = (j 0).val * 2048 + (j 1).val) (he : e.val = ((j 2).val * 30 + (j 3).val) * 128 + (16 + (j 4).val)) :
    val_main_v35 (F := Ideal) x0 x2 j = proj x0 x2 r e * cs (BitVec.ofNat 32 (j 1).val) ⟨(j 4).val, (j 4).isLt⟩ + proj x0 x2 r (up e) * sn (BitVec.ofNat 32 (j 1).val) ⟨(j 4).val, (j 4).isLt⟩ := by
  have h4 : (j 4).val < 16 := (j 4).isLt
  have hc : val_main_v31 (F := Ideal) j = cs (BitVec.ofNat 32 (j 1).val) ⟨(j 4).val, (j 4).isLt⟩ := by
    rw [val_main_v31_apply]
    exact prompt_cos (idx_main_v31 j) _ rfl
  have hs : val_main_v33 (F := Ideal) j = sn (BitVec.ofNat 32 (j 1).val) ⟨(j 4).val, (j 4).isLt⟩ := by
    rw [val_main_v33_apply]
    exact prompt_sin (idx_main_v33 j) _ rfl
  rw [val_main_v35_apply, val_main_v32_apply, val_main_v34_apply, hc, hs, prompt_second x0 x2 j r e hr he,
    prompt_first x0 x2 j r (up e) hr (by show e.val / 128 * 128 + (e.val % 128 + 112) % 128 = ((j 2).val * 30 + (j 3).val) * 128 + (j 4).val; omega)]
  rfl

/-- The turning lanes. -/
theorem prompt_turning (i : S4x2048x2x30x32.Idx) (r : Fin 8192) (e : Fin 11520) (hr : r.val = (i 0).val * 2048 + (i 1).val) (he : e.val = ((i 2).val * 30 + (i 3).val) * 128 + (i 4).val) :
    val_main_v36 (F := Ideal) x0 x2 i = spin (BitVec.ofNat 32 (i 1).val) (i 4).val (proj x0 x2 r e) (proj x0 x2 r (up e)) (proj x0 x2 r (dn e)) := by
  have h4 : (i 4).val < 32 := (i 4).isLt
  unfold val_main_v36
  by_cases h : (i 4).val < 16
  · rw [concatenate_pair_apply_left (s₁ := S4x2048x2x30x16) (s₂ := S4x2048x2x30x16) 4 _ _ _ i rfl ((fun a => match a with
      | ⟨0, _⟩ => i 0
      | ⟨1, _⟩ => i 1
      | ⟨2, _⟩ => i 2
      | ⟨3, _⟩ => i 3
      | ⟨4, _⟩ => ⟨(i 4).val, h⟩ : S4x2048x2x30x16.Idx)) (fun b => by
      match b with
      | ⟨0, _⟩ => rfl
      | ⟨1, _⟩ => rfl
      | ⟨2, _⟩ => rfl
      | ⟨3, _⟩ => rfl
      | ⟨4, _⟩ => rfl)]
    rw [spin_low _ h]
    exact prompt_low x0 x2 _ r e hr he
  · rw [concatenate_pair_apply_right (s₁ := S4x2048x2x30x16) (s₂ := S4x2048x2x30x16) 4 _ _ _ i rfl rfl ((fun a => match a with
      | ⟨0, _⟩ => i 0
      | ⟨1, _⟩ => i 1
      | ⟨2, _⟩ => i 2
      | ⟨3, _⟩ => i 3
      | ⟨4, _⟩ => ⟨(i 4).val - 16, by show (i 4).val - 16 < 16; omega⟩ : S4x2048x2x30x16.Idx)) (fun b hb => by
      match b with
      | ⟨0, _⟩ => rfl
      | ⟨1, _⟩ => rfl
      | ⟨2, _⟩ => rfl
      | ⟨3, _⟩ => rfl
      | ⟨4, _⟩ => exact absurd rfl hb) (by show (i 4).val - 16 + 16 = (i 4).val; omega)]
    rw [spin_mid _ h h4]
    exact prompt_high x0 x2 _ r e hr (he.trans (by show ((i 2).val * 30 + (i 3).val) * 128 + (i 4).val = ((i 2).val * 30 + (i 3).val) * 128 + (16 + ((i 4).val - 16)); omega))

/-- The queries' and keys' lanes. -/
theorem prompt_heads (i : S4x2048x2x30x128.Idx) (r : Fin 8192) (e : Fin 11520) (hr : r.val = (i 0).val * 2048 + (i 1).val) (he : e.val = ((i 2).val * 30 + (i 3).val) * 128 + (i 4).val) :
    val_main_v38 (F := Ideal) x0 x2 i = spin (BitVec.ofNat 32 (i 1).val) (i 4).val (proj x0 x2 r e) (proj x0 x2 r (up e)) (proj x0 x2 r (dn e)) := by
  have h4 : (i 4).val < 128 := (i 4).isLt
  unfold val_main_v38
  by_cases h : (i 4).val < 32
  · rw [concatenate_pair_apply_left (s₁ := S4x2048x2x30x32) (s₂ := S4x2048x2x30x96) 4 _ _ _ i rfl ((fun a => match a with
      | ⟨0, _⟩ => i 0
      | ⟨1, _⟩ => i 1
      | ⟨2, _⟩ => i 2
      | ⟨3, _⟩ => i 3
      | ⟨4, _⟩ => ⟨(i 4).val, h⟩ : S4x2048x2x30x32.Idx)) (fun b => by
      match b with
      | ⟨0, _⟩ => rfl
      | ⟨1, _⟩ => rfl
      | ⟨2, _⟩ => rfl
      | ⟨3, _⟩ => rfl
      | ⟨4, _⟩ => rfl)]
    exact prompt_turning x0 x2 _ r e hr he
  · rw [concatenate_pair_apply_right (s₁ := S4x2048x2x30x32) (s₂ := S4x2048x2x30x96) 4 _ _ _ i rfl rfl ((fun a => match a with
      | ⟨0, _⟩ => i 0
      | ⟨1, _⟩ => i 1
      | ⟨2, _⟩ => i 2
      | ⟨3, _⟩ => i 3
      | ⟨4, _⟩ => ⟨(i 4).val - 32, by show (i 4).val - 32 < 96; omega⟩ : S4x2048x2x30x96.Idx)) (fun b hb => by
      match b with
      | ⟨0, _⟩ => rfl
      | ⟨1, _⟩ => rfl
      | ⟨2, _⟩ => rfl
      | ⟨3, _⟩ => rfl
      | ⟨4, _⟩ => exact absurd rfl hb) (by show (i 4).val - 32 + 32 = (i 4).val; omega)]
    rw [spin_high _ h]
    exact prompt_still x0 x2 _ r e hr (he.trans (by show ((i 2).val * 30 + (i 3).val) * 128 + (i 4).val = ((i 2).val * 30 + (i 3).val) * 128 + (32 + ((i 4).val - 32)); omega))

/-- The reference's result for the prompt rows at a row and a feature. -/
theorem prompt_at (z : S8192x11520.Idx) (r : Fin 8192) (e : Fin 11520) (h0 : r.val = (z 0).val) (h1 : e.val = (z 1).val) :
    val_main_v41 (F := Ideal) x0 x2 z = turned x0 x2 (BitVec.ofNat 32 (r.val % 2048)) r e := by
  have hr : r.val < 8192 := r.isLt
  have he : e.val < 11520 := e.isLt
  rw [val_main_v41_apply]
  generalize hi : idx_main_v41 z = i
  have i0 : (i 0).val = r.val / 2048 := by rw [← hi]; show ((z 0).val * 11520 + (z 1).val) / 23592960 = r.val / 2048; omega
  have i1 : (i 1).val = r.val % 2048 := by rw [← hi]; show ((z 0).val * 11520 + (z 1).val) / 11520 % 2048 = r.val % 2048; omega
  have i2 : (i 2).val = e.val / 3840 := by rw [← hi]; show ((z 0).val * 11520 + (z 1).val) / 3840 % 3 = e.val / 3840; omega
  have i3 : (i 3).val = e.val / 128 % 30 := by rw [← hi]; show ((z 0).val * 11520 + (z 1).val) / 128 % 30 = e.val / 128 % 30; omega
  have i4 : (i 4).val = e.val % 128 := by rw [← hi]; show ((z 0).val * 11520 + (z 1).val) % 128 = e.val % 128; omega
  unfold val_main_v40 turned
  by_cases h : e.val < 7680
  · rw [if_pos h, concatenate_pair_apply_left (s₁ := S4x2048x2x30x128) (s₂ := S4x2048x1x30x128) 2 _ _ _ i rfl ((fun a => match a with
      | ⟨0, _⟩ => i 0
      | ⟨1, _⟩ => i 1
      | ⟨2, _⟩ => ⟨(i 2).val, by show (i 2).val < 2; omega⟩
      | ⟨3, _⟩ => i 3
      | ⟨4, _⟩ => i 4 : S4x2048x2x30x128.Idx)) (fun b => by
      match b with
      | ⟨0, _⟩ => rfl
      | ⟨1, _⟩ => rfl
      | ⟨2, _⟩ => rfl
      | ⟨3, _⟩ => rfl
      | ⟨4, _⟩ => rfl)]
    rw [← i4, ← i1]
    exact prompt_heads x0 x2 _ r e (by show r.val = (i 0).val * 2048 + (i 1).val; omega) (by show e.val = ((i 2).val * 30 + (i 3).val) * 128 + (i 4).val; omega)
  · rw [if_neg h, concatenate_pair_apply_right (s₁ := S4x2048x2x30x128) (s₂ := S4x2048x1x30x128) 2 _ _ _ i rfl rfl ((fun a => match a with
      | ⟨0, _⟩ => i 0
      | ⟨1, _⟩ => i 1
      | ⟨2, _⟩ => ⟨(i 2).val - 2, by show (i 2).val - 2 < 1; omega⟩
      | ⟨3, _⟩ => i 3
      | ⟨4, _⟩ => i 4 : S4x2048x1x30x128.Idx)) (fun b hb => by
      match b with
      | ⟨0, _⟩ => rfl
      | ⟨1, _⟩ => rfl
      | ⟨2, _⟩ => exact absurd rfl hb
      | ⟨3, _⟩ => rfl
      | ⟨4, _⟩ => rfl) (by show (i 2).val - 2 + 2 = (i 2).val; omega)]
    exact prompt_values x0 x2 _ r e (by show r.val = (i 0).val * 2048 + (i 1).val; omega) (by show e.val = ((2 + ((i 2).val - 2)) * 30 + (i 3).val) * 128 + (i 4).val; omega)

end prompt

/-! ## The sample rows -/

section sample

variable (x1 : FVec Ideal S16x4096 .bf16) (x2 : FVec Ideal S4096x11520 .bf16)

/-- The projection before it is cut into heads. -/
theorem sample_proj (i : S16x1x3x30x128.Idx) (r : Fin 16) (e : Fin 11520) (hr : r.val = (i 0).val * 1 + (i 1).val) (he : e.val = ((i 2).val * 30 + (i 3).val) * 128 + (i 4).val) :
    val_main_v49 (F := Ideal) x1 x2 i = proj x1 x2 r e := by
  have h0 : (i 0).val < 16 := (i 0).isLt
  have h1 : (i 1).val < 1 := (i 1).isLt
  have h2 : (i 2).val < 3 := (i 2).isLt
  have h3 : (i 3).val < 30 := (i 3).isLt
  have h4 : (i 4).val < 128 := (i 4).isLt
  rw [val_main_v49_apply, val_main_v48_apply]
  refine Finset.sum_congr rfl fun k _ => ?_
  rw [val_main_v46_apply, val_main_v45_apply, val_main_v47_apply]
  refine congrArg₂ (fun a b : EReal => a * b) (congrArg x1 (funext fun a => Fin.ext ?_)) (congrArg x2 (funext fun a => Fin.ext ?_))
  · have hk : k.val < 4096 := k.isLt
    match a with
    | ⟨0, _⟩ => show ((((((((i 0).val * 1 + (i 1).val) * 3 + (i 2).val) * 30 + (i 3).val) * 128 + (i 4).val) / 11520) * 1 + (0)) * 4096 + k.val) / 4096 = r.val; omega
    | ⟨1, _⟩ => show ((((((((i 0).val * 1 + (i 1).val) * 3 + (i 2).val) * 30 + (i 3).val) * 128 + (i 4).val) / 11520) * 1 + (0)) * 4096 + k.val) % 4096 = k.val; omega
  · match a with
    | ⟨0, _⟩ => rfl
    | ⟨1, _⟩ => show (((((i 0).val * 1 + (i 1).val) * 3 + (i 2).val) * 30 + (i 3).val) * 128 + (i 4).val) % 11520 = e.val; omega

/-- The first half of the turning lanes, -/
theorem sample_first (i : S16x1x2x30x16.Idx) (r : Fin 16) (e : Fin 11520) (hr : r.val = (i 0).val * 1 + (i 1).val) (he : e.val = ((i 2).val * 30 + (i 3).val) * 128 + (i 4).val) :
    val_main_v67 (F := Ideal) x1 x2 i = proj x1 x2 r e := by
  rw [val_main_v67_apply, val_main_v66_apply, val_main_v50_apply]
  exact sample_proj x1 x2 _ r e hr he

/-- and the second. -/
theorem sample_second (i : S16x1x2x30x16.Idx) (r : Fin 16) (e : Fin 11520) (hr : r.val = (i 0).val * 1 + (i 1).val) (he : e.val = ((i 2).val * 30 + (i 3).val) * 128 + (16 + (i 4).val)) :
    val_main_v68 (F := Ideal) x1 x2 i = proj x1 x2 r e := by
  rw [val_main_v68_apply, val_main_v66_apply, val_main_v50_apply]
  exact sample_proj x1 x2 _ r e hr he

/-- The lanes that do not turn, -/
theorem sample_still (i : S16x1x2x30x96.Idx) (r : Fin 16) (e : Fin 11520) (hr : r.val = (i 0).val * 1 + (i 1).val) (he : e.val = ((i 2).val * 30 + (i 3).val) * 128 + (32 + (i 4).val)) :
    val_main_v80 (F := Ideal) x1 x2 i = proj x1 x2 r e := by
  rw [val_main_v80_apply, val_main_v50_apply]
  exact sample_proj x1 x2 _ r e hr he

/-- and the values. -/
theorem sample_values (i : S16x1x1x30x128.Idx) (r : Fin 16) (e : Fin 11520) (hr : r.val = (i 0).val * 1 + (i 1).val) (he : e.val = ((2 + (i 2).val) * 30 + (i 3).val) * 128 + (i 4).val) :
    val_main_v82 (F := Ideal) x1 x2 i = proj x1 x2 r e := by
  rw [val_main_v82_apply]
  exact sample_proj x1 x2 _ r e hr he

/-- The lanes' rates. -/
theorem sample_rate (i : S16.Idx) (k : Fin 16) (hk : k.val = (i 0).val) : val_main_v56 (F := Ideal) i = rate k := by
  obtain rfl : k = ⟨(i 0).val, (i 0).isLt⟩ := Fin.ext hk
  rfl

/-- The angles at a position. -/
theorem sample_ang (i : S1x16.Idx) (k : Fin 16) (hk : k.val = (i 1).val) : val_main_v61 (F := Ideal) i = ang 8192#32 k := by
  rw [val_main_v61_apply, val_main_v60_apply, val_main_v58_apply, val_main_v57_apply, val_main_v44_apply, val_main_v43_apply, val_main_v42_apply, val_main_c_apply, val_main_v59_apply, sample_rate _ k hk]
  rfl

theorem sample_cos (i : S1x1x1x1x16.Idx) (k : Fin 16) (hk : k.val = (i 4).val) : val_main_v63 (F := Ideal) i = cs 8192#32 k := by
  have h0 : (i 0).val < 1 := (i 0).isLt
  have h1 : (i 1).val < 1 := (i 1).isLt
  have h2 : (i 2).val < 1 := (i 2).isLt
  have h3 : (i 3).val < 1 := (i 3).isLt
  have h4 : (i 4).val < 16 := (i 4).isLt
  rw [val_main_v63_apply, val_main_v62_apply, sample_ang _ k (hk.trans (by show (i 4).val = (((((i 0).val * 1 + (i 1).val) * 1 + (i 2).val) * 1 + (i 3).val) * 16 + (i 4).val) % 16; omega))]
  rfl

theorem sample_sin (i : S1x1x1x1x16.Idx) (k : Fin 16) (hk : k.val = (i 4).val) : val_main_v65 (F := Ideal) i = sn 8192#32 k := by
  have h0 : (i 0).val < 1 := (i 0).isLt
  have h1 : (i 1).val < 1 := (i 1).isLt
  have h2 : (i 2).val < 1 := (i 2).isLt
  have h3 : (i 3).val < 1 := (i 3).isLt
  have h4 : (i 4).val < 16 := (i 4).isLt
  rw [val_main_v65_apply, val_main_v64_apply, sample_ang _ k (hk.trans (by show (i 4).val = (((((i 0).val * 1 + (i 1).val) * 1 + (i 2).val) * 1 + (i 3).val) * 16 + (i 4).val) % 16; omega))]
  rfl

/-- The first half of the turning lanes, turned, -/
theorem sample_low (j : S16x1x2x30x16.Idx) (r : Fin 16) (e : Fin 11520) (hr : r.val = (j 0).val * 1 + (j 1).val) (he : e.val = ((j 2).val * 30 + (j 3).val) * 128 + (j 4).val) :
    val_main_v73 (F := Ideal) x1 x2 j = proj x1 x2 r e * cs 8192#32 ⟨(j 4).val, (j 4).isLt⟩ - proj x1 x2 r (dn e) * sn 8192#32 ⟨(j 4).val, (j 4).isLt⟩ := by
  have h4 : (j 4).val < 16 := (j 4).isLt
  have hc : val_main_v69 (F := Ideal) j = cs 8192#32 ⟨(j 4).val, (j 4).isLt⟩ := by
    rw [val_main_v69_apply]
    exact sample_cos (idx_main_v69 j) _ rfl
  have hs : val_main_v71 (F := Ideal) j = sn 8192#32 ⟨(j 4).val, (j 4).isLt⟩ := by
    rw [val_main_v71_apply]
    exact sample_sin (idx_main_v71 j) _ rfl
  rw [val_main_v73_apply, val_main_v70_apply, val_main_v72_apply, hc, hs, sample_first x1 x2 j r e hr he,
    sample_second x1 x2 j r (dn e) hr (by show e.val / 128 * 128 + (e.val % 128 + 16) % 128 = ((j 2).val * 30 + (j 3).val) * 128 + (16 + (j 4).val); omega)]
  rfl

/-- and the second. -/
theorem sample_high (j : S16x1x2x30x16.Idx) (r : Fin 16) (e : Fin 11520) (hr : r.val = (j 0).val * 1 + (j 1).val) (he : e.val = ((j 2).val * 30 + (j 3).val) * 128 + (16 + (j 4).val)) :
    val_main_v78 (F := Ideal) x1 x2 j = proj x1 x2 r e * cs 8192#32 ⟨(j 4).val, (j 4).isLt⟩ + proj x1 x2 r (up e) * sn 8192#32 ⟨(j 4).val, (j 4).isLt⟩ := by
  have h4 : (j 4).val < 16 := (j 4).isLt
  have hc : val_main_v74 (F := Ideal) j = cs 8192#32 ⟨(j 4).val, (j 4).isLt⟩ := by
    rw [val_main_v74_apply]
    exact sample_cos (idx_main_v74 j) _ rfl
  have hs : val_main_v76 (F := Ideal) j = sn 8192#32 ⟨(j 4).val, (j 4).isLt⟩ := by
    rw [val_main_v76_apply]
    exact sample_sin (idx_main_v76 j) _ rfl
  rw [val_main_v78_apply, val_main_v75_apply, val_main_v77_apply, hc, hs, sample_second x1 x2 j r e hr he,
    sample_first x1 x2 j r (up e) hr (by show e.val / 128 * 128 + (e.val % 128 + 112) % 128 = ((j 2).val * 30 + (j 3).val) * 128 + (j 4).val; omega)]
  rfl

/-- The turning lanes. -/
theorem sample_turning (i : S16x1x2x30x32.Idx) (r : Fin 16) (e : Fin 11520) (hr : r.val = (i 0).val * 1 + (i 1).val) (he : e.val = ((i 2).val * 30 + (i 3).val) * 128 + (i 4).val) :
    val_main_v79 (F := Ideal) x1 x2 i = spin 8192#32 (i 4).val (proj x1 x2 r e) (proj x1 x2 r (up e)) (proj x1 x2 r (dn e)) := by
  have h4 : (i 4).val < 32 := (i 4).isLt
  unfold val_main_v79
  by_cases h : (i 4).val < 16
  · rw [concatenate_pair_apply_left (s₁ := S16x1x2x30x16) (s₂ := S16x1x2x30x16) 4 _ _ _ i rfl ((fun a => match a with
      | ⟨0, _⟩ => i 0
      | ⟨1, _⟩ => i 1
      | ⟨2, _⟩ => i 2
      | ⟨3, _⟩ => i 3
      | ⟨4, _⟩ => ⟨(i 4).val, h⟩ : S16x1x2x30x16.Idx)) (fun b => by
      match b with
      | ⟨0, _⟩ => rfl
      | ⟨1, _⟩ => rfl
      | ⟨2, _⟩ => rfl
      | ⟨3, _⟩ => rfl
      | ⟨4, _⟩ => rfl)]
    rw [spin_low _ h]
    exact sample_low x1 x2 _ r e hr he
  · rw [concatenate_pair_apply_right (s₁ := S16x1x2x30x16) (s₂ := S16x1x2x30x16) 4 _ _ _ i rfl rfl ((fun a => match a with
      | ⟨0, _⟩ => i 0
      | ⟨1, _⟩ => i 1
      | ⟨2, _⟩ => i 2
      | ⟨3, _⟩ => i 3
      | ⟨4, _⟩ => ⟨(i 4).val - 16, by show (i 4).val - 16 < 16; omega⟩ : S16x1x2x30x16.Idx)) (fun b hb => by
      match b with
      | ⟨0, _⟩ => rfl
      | ⟨1, _⟩ => rfl
      | ⟨2, _⟩ => rfl
      | ⟨3, _⟩ => rfl
      | ⟨4, _⟩ => exact absurd rfl hb) (by show (i 4).val - 16 + 16 = (i 4).val; omega)]
    rw [spin_mid _ h h4]
    exact sample_high x1 x2 _ r e hr (he.trans (by show ((i 2).val * 30 + (i 3).val) * 128 + (i 4).val = ((i 2).val * 30 + (i 3).val) * 128 + (16 + ((i 4).val - 16)); omega))

/-- The queries' and keys' lanes. -/
theorem sample_heads (i : S16x1x2x30x128.Idx) (r : Fin 16) (e : Fin 11520) (hr : r.val = (i 0).val * 1 + (i 1).val) (he : e.val = ((i 2).val * 30 + (i 3).val) * 128 + (i 4).val) :
    val_main_v81 (F := Ideal) x1 x2 i = spin 8192#32 (i 4).val (proj x1 x2 r e) (proj x1 x2 r (up e)) (proj x1 x2 r (dn e)) := by
  have h4 : (i 4).val < 128 := (i 4).isLt
  unfold val_main_v81
  by_cases h : (i 4).val < 32
  · rw [concatenate_pair_apply_left (s₁ := S16x1x2x30x32) (s₂ := S16x1x2x30x96) 4 _ _ _ i rfl ((fun a => match a with
      | ⟨0, _⟩ => i 0
      | ⟨1, _⟩ => i 1
      | ⟨2, _⟩ => i 2
      | ⟨3, _⟩ => i 3
      | ⟨4, _⟩ => ⟨(i 4).val, h⟩ : S16x1x2x30x32.Idx)) (fun b => by
      match b with
      | ⟨0, _⟩ => rfl
      | ⟨1, _⟩ => rfl
      | ⟨2, _⟩ => rfl
      | ⟨3, _⟩ => rfl
      | ⟨4, _⟩ => rfl)]
    exact sample_turning x1 x2 _ r e hr he
  · rw [concatenate_pair_apply_right (s₁ := S16x1x2x30x32) (s₂ := S16x1x2x30x96) 4 _ _ _ i rfl rfl ((fun a => match a with
      | ⟨0, _⟩ => i 0
      | ⟨1, _⟩ => i 1
      | ⟨2, _⟩ => i 2
      | ⟨3, _⟩ => i 3
      | ⟨4, _⟩ => ⟨(i 4).val - 32, by show (i 4).val - 32 < 96; omega⟩ : S16x1x2x30x96.Idx)) (fun b hb => by
      match b with
      | ⟨0, _⟩ => rfl
      | ⟨1, _⟩ => rfl
      | ⟨2, _⟩ => rfl
      | ⟨3, _⟩ => rfl
      | ⟨4, _⟩ => exact absurd rfl hb) (by show (i 4).val - 32 + 32 = (i 4).val; omega)]
    rw [spin_high _ h]
    exact sample_still x1 x2 _ r e hr (he.trans (by show ((i 2).val * 30 + (i 3).val) * 128 + (i 4).val = ((i 2).val * 30 + (i 3).val) * 128 + (32 + ((i 4).val - 32)); omega))

/-- The reference's result for the sample rows at a row and a feature. -/
theorem sample_at (z : S16x11520.Idx) (r : Fin 16) (e : Fin 11520) (h0 : r.val = (z 0).val) (h1 : e.val = (z 1).val) :
    val_main_v84 (F := Ideal) x1 x2 z = turned x1 x2 8192#32 r e := by
  have hr : r.val < 16 := r.isLt
  have he : e.val < 11520 := e.isLt
  rw [val_main_v84_apply]
  generalize hi : idx_main_v84 z = i
  have i0 : (i 0).val = r.val / 1 := by rw [← hi]; show ((z 0).val * 11520 + (z 1).val) / 11520 = r.val / 1; omega
  have i1 : (i 1).val = r.val % 1 := by rw [← hi]; show 0 = r.val % 1; omega
  have i2 : (i 2).val = e.val / 3840 := by rw [← hi]; show ((z 0).val * 11520 + (z 1).val) / 3840 % 3 = e.val / 3840; omega
  have i3 : (i 3).val = e.val / 128 % 30 := by rw [← hi]; show ((z 0).val * 11520 + (z 1).val) / 128 % 30 = e.val / 128 % 30; omega
  have i4 : (i 4).val = e.val % 128 := by rw [← hi]; show ((z 0).val * 11520 + (z 1).val) % 128 = e.val % 128; omega
  unfold val_main_v83 turned
  by_cases h : e.val < 7680
  · rw [if_pos h, concatenate_pair_apply_left (s₁ := S16x1x2x30x128) (s₂ := S16x1x1x30x128) 2 _ _ _ i rfl ((fun a => match a with
      | ⟨0, _⟩ => i 0
      | ⟨1, _⟩ => i 1
      | ⟨2, _⟩ => ⟨(i 2).val, by show (i 2).val < 2; omega⟩
      | ⟨3, _⟩ => i 3
      | ⟨4, _⟩ => i 4 : S16x1x2x30x128.Idx)) (fun b => by
      match b with
      | ⟨0, _⟩ => rfl
      | ⟨1, _⟩ => rfl
      | ⟨2, _⟩ => rfl
      | ⟨3, _⟩ => rfl
      | ⟨4, _⟩ => rfl)]
    rw [← i4]
    exact sample_heads x1 x2 _ r e (by show r.val = (i 0).val * 1 + (i 1).val; omega) (by show e.val = ((i 2).val * 30 + (i 3).val) * 128 + (i 4).val; omega)
  · rw [if_neg h, concatenate_pair_apply_right (s₁ := S16x1x2x30x128) (s₂ := S16x1x1x30x128) 2 _ _ _ i rfl rfl ((fun a => match a with
      | ⟨0, _⟩ => i 0
      | ⟨1, _⟩ => i 1
      | ⟨2, _⟩ => ⟨(i 2).val - 2, by show (i 2).val - 2 < 1; omega⟩
      | ⟨3, _⟩ => i 3
      | ⟨4, _⟩ => i 4 : S16x1x1x30x128.Idx)) (fun b hb => by
      match b with
      | ⟨0, _⟩ => rfl
      | ⟨1, _⟩ => rfl
      | ⟨2, _⟩ => exact absurd rfl hb
      | ⟨3, _⟩ => rfl
      | ⟨4, _⟩ => rfl) (by show (i 2).val - 2 + 2 = (i 2).val; omega)]
    exact sample_values x1 x2 _ r e (by show r.val = (i 0).val * 1 + (i 1).val; omega) (by show e.val = ((2 + ((i 2).val - 2)) * 30 + (i 3).val) * 128 + (i 4).val; omega)

end sample

end Cert.QkvA
-- ==== Proof.TabRot.lean ====
/- The tables the rotating projection multiplies by, as the operations before its launch make them, read at a row and a lane. -/
module

public import proofs.«01_k».proof.Proof.FrameRot
public import proofs.«01_k».proof.Proof.RefRot
public import Idealize.ShloMosaic.Lib.Pointwise
public import Idealize.ShloMosaic.Lib.StableHlo.Run

@[expose] public section

set_option maxRecDepth 16384

noncomputable section

namespace Cert.Kernel9Ideal.Tile

open Cert.Kernel9Ideal Cert.Kernel9Ideal.Gen
open Idealize.ShloMosaic Idealize.ShloMosaic.TcCoe Idealize.ShloMosaic.Pointwise Idealize.ShloMosaic.StableHlo
open Idealize.SL.Sem
open Cert.QkvA

/-! ## Tables joined out of narrower ones -/

section joined

variable {n : Nat} (r : Fin n) (q : Fin 128)

/-- The first table: the cosines twice and a constant. -/
theorem join3_at (x y : (⟨2, ![n, 16]⟩ : Shape).Idx → EReal) (o : (⟨2, ![n, 96]⟩ : Shape).Idx → EReal)
    (h : Shape.Concatenates [⟨2, ![n, 16]⟩, ⟨2, ![n, 16]⟩, ⟨2, ![n, 96]⟩] ⟨2, ![n, 128]⟩ 1) :
    concatenate ⟨2, ![n, 128]⟩ 1 [⟨⟨2, ![n, 16]⟩, x⟩, ⟨⟨2, ![n, 16]⟩, y⟩, ⟨⟨2, ![n, 96]⟩, o⟩] h (ix2 r q)
      = if h : q.val < 16 then x (ix2 r ⟨q.val, h⟩) else if h' : q.val < 32 then y (ix2 r ⟨q.val - 16, by omega⟩) else o (ix2 r ⟨q.val - 32, by omega⟩) := by
  have hq : q.val < 128 := q.isLt
  pointwise []
  by_cases h1 : q.val < 16
  · rw [dif_pos h1, dif_pos h1]
    refine congrArg x (funext fun b => Fin.ext ?_)
    match b with
    | ⟨0, _⟩ => rfl
    | ⟨1, _⟩ => rfl
  · rw [dif_neg h1, dif_neg h1]
    by_cases h2 : q.val < 32
    · rw [dif_pos h2, dif_pos (show q.val - 16 < 16 by omega)]
      refine congrArg y (funext fun b => Fin.ext ?_)
      match b with
      | ⟨0, _⟩ => rfl
      | ⟨1, _⟩ => rfl
    · rw [dif_neg h2, dif_neg (show ¬ q.val - 16 < 16 by omega)]
      refine congrArg o (funext fun b => Fin.ext ?_)
      match b with
      | ⟨0, _⟩ => rfl
      | ⟨1, _⟩ => exact Nat.sub_sub _ 16 16

theorem join2_at (x : (⟨2, ![n, 16]⟩ : Shape).Idx → EReal) (o : (⟨2, ![n, 112]⟩ : Shape).Idx → EReal)
    (h : Shape.Concatenates [⟨2, ![n, 16]⟩, ⟨2, ![n, 112]⟩] ⟨2, ![n, 128]⟩ 1) :
    concatenate ⟨2, ![n, 128]⟩ 1 [⟨⟨2, ![n, 16]⟩, x⟩, ⟨⟨2, ![n, 112]⟩, o⟩] h (ix2 r q)
      = if h : q.val < 16 then x (ix2 r ⟨q.val, h⟩) else o (ix2 r ⟨q.val - 16, by omega⟩) := by
  have hq : q.val < 128 := q.isLt
  pointwise []
  by_cases h1 : q.val < 16
  · rw [dif_pos h1, dif_pos h1]
    refine congrArg x (funext fun b => Fin.ext ?_)
    match b with
    | ⟨0, _⟩ => rfl
    | ⟨1, _⟩ => rfl
  · rw [dif_neg h1, dif_neg h1]
    refine congrArg o (funext fun b => Fin.ext ?_)
    match b with
    | ⟨0, _⟩ => rfl
    | ⟨1, _⟩ => rfl

end joined

/-! ## The angles -/

/-- The lanes' rates as the kernel's host operations make them. -/
def rates : FVec Ideal S16 .f32 :=
  Host.powf (broadcastInDim S16 ![] bcast_S_S16 (constant S_ .f32 0x48F42400#32))
    (Host.divf (Host.negf (sitofp .f32 (iotaInDim S16 32 0))) (broadcastInDim S16 ![] bcast_S_S16 (constant S_ .f32 0x41800000#32)))

theorem rates_at (k : Fin 16) : rates (ix1 k) = rate k := by
  unfold rates rate
  rfl

/-- The prompt rows' positions. -/
def posP : S8192.Idx → BitVec 32 :=
  shapeCast S8192 (broadcastInDim S4x2048 ![0, 1] bcast_S1x2048_S4x2048_0_1 (shapeCast S1x2048 (iotaInDim S2048 32 0) shapeCasts_S2048_S1x2048)) shapeCasts_S4x2048_S8192

theorem posP_at (r : Fin 8192) : posP (ix1 r) = BitVec.ofNat 32 (r.val % 2048) := by
  have hr : r.val < 8192 := r.isLt
  unfold posP
  rw [shapeCast_apply _ shapeCasts_S4x2048_S8192 (ix1 r) (ix2 (⟨r.val / 2048, by omega⟩ : Fin 4) (⟨r.val % 2048, by omega⟩ : Fin 2048))
      (by rw [Shape.rowMajor_val_two, Shape.rowMajor_val_one]; show r.val / 2048 * 2048 + r.val % 2048 = r.val; omega),
    broadcastInDim_apply _ bcast_S1x2048_S4x2048_0_1 _ _ (ix2 (⟨0, Nat.one_pos⟩ : Fin 1) (⟨r.val % 2048, by omega⟩ : Fin 2048)) (fun a => match a with
      | ⟨0, _⟩ => by show 0 = if (1 : Nat) = 1 then 0 else r.val / 2048; rw [if_pos rfl]
      | ⟨1, _⟩ => by show r.val % 2048 = if (2048 : Nat) = 1 then 0 else r.val % 2048; rw [if_neg (by decide)]),
    shapeCast_apply _ shapeCasts_S2048_S1x2048 _ (ix1 (⟨r.val % 2048, by omega⟩ : Fin 2048))
      (by rw [Shape.rowMajor_val_two, Shape.rowMajor_val_one]; show r.val % 2048 = 0 * 2048 + r.val % 2048; omega)]
  rfl

/-- The sample rows' positions. -/
def posS : S16.Idx → BitVec 32 := broadcastInDim S16 ![] bcast_S_S16 (constantI S_ 32 8192#32)

/-- The prompt rows' angles. -/
def angP : FVec Ideal S8192x16 .f32 :=
  mulf (broadcastInDim S8192x16 ![0, 1] bcast_S8192x1_S8192x16_0_1 (broadcastInDim S8192x1 ![0] bcast_S8192_S8192x1_0 (sitofp .f32 posP)))
    (broadcastInDim S8192x16 ![0, 1] bcast_S1x16_S8192x16_0_1 (broadcastInDim S1x16 ![1] bcast_S16_S1x16_1 rates))

theorem angP_at (r : Fin 8192) (k : Fin 16) : angP (ix2 r k) = ang (BitVec.ofNat 32 (r.val % 2048)) k := by
  unfold angP ang
  rw [← rates_at, ← posP_at]
  refine congrArg₂ (fun a b : EReal => a * b) ?_ ?_
  · rw [broadcastInDim_apply _ bcast_S8192x1_S8192x16_0_1 _ _ (ix2 r (⟨0, Nat.one_pos⟩ : Fin 1)) (fun a => match a with
        | ⟨0, _⟩ => by show r.val = if (8192 : Nat) = 1 then 0 else r.val; rw [if_neg (by decide)]
        | ⟨1, _⟩ => by show 0 = if (1 : Nat) = 1 then 0 else k.val; rw [if_pos rfl]),
      broadcastInDim_apply _ bcast_S8192_S8192x1_0 _ _ (ix1 r) (fun a => match a with
        | ⟨0, _⟩ => by show r.val = if (8192 : Nat) = 1 then 0 else r.val; rw [if_neg (by decide)])]
    rfl
  · rw [broadcastInDim_apply _ bcast_S1x16_S8192x16_0_1 _ _ (ix2 (⟨0, Nat.one_pos⟩ : Fin 1) k) (fun a => match a with
        | ⟨0, _⟩ => by show 0 = if (1 : Nat) = 1 then 0 else r.val; rw [if_pos rfl]
        | ⟨1, _⟩ => by show k.val = if (16 : Nat) = 1 then 0 else k.val; rw [if_neg (by decide)]),
      broadcastInDim_apply _ bcast_S16_S1x16_1 _ _ (ix1 k) (fun a => match a with
        | ⟨0, _⟩ => by show k.val = if (16 : Nat) = 1 then 0 else k.val; rw [if_neg (by decide)])]

/-- The three tables of the prompt rows. -/
def tabAP : FVec Ideal S8192x128 .f32 :=
  concatenate S8192x128 1 [⟨S8192x16, Host.cos angP⟩, ⟨S8192x16, Host.cos angP⟩, ⟨S8192x96, broadcastInDim S8192x96 ![] bcast_S_S8192x96 (constant S_ .f32 0x3F800000#32)⟩] concatenates_S8192x16_S8192x16_S8192x96_S8192x128_d1

def tabBP : FVec Ideal S8192x128 .f32 :=
  concatenate S8192x128 1 [⟨S8192x16, broadcastInDim S8192x16 ![] bcast_S_S8192x16 (constant S_ .f32 0x00000000#32)⟩, ⟨S8192x16, Host.sin angP⟩, ⟨S8192x96, broadcastInDim S8192x96 ![] bcast_S_S8192x96 (constant S_ .f32 0x00000000#32)⟩] concatenates_S8192x16_S8192x16_S8192x96_S8192x128_d1

def tabDP : FVec Ideal S8192x128 .f32 :=
  concatenate S8192x128 1 [⟨S8192x16, Host.negf (Host.sin angP)⟩, ⟨S8192x112, broadcastInDim S8192x112 ![] bcast_S_S8192x112 (constant S_ .f32 0x00000000#32)⟩] concatenates_S8192x16_S8192x112_S8192x128_d1

theorem tabAP_at (r : Fin 8192) (q : Fin 128) :
    tabAP (ix2 r q) = if h : q.val < 16 then cs (BitVec.ofNat 32 (r.val % 2048)) ⟨q.val, h⟩ else if h' : q.val < 32 then cs (BitVec.ofNat 32 (r.val % 2048)) ⟨q.val - 16, by omega⟩ else 1 := by
  unfold tabAP
  refine (join3_at r q _ _ _ concatenates_S8192x16_S8192x16_S8192x96_S8192x128_d1).trans ?_
  by_cases h : q.val < 16
  · rw [dif_pos h, dif_pos h]; unfold cs; rw [← angP_at r]; rfl
  · rw [dif_neg h, dif_neg h]
    by_cases h' : q.val < 32
    · rw [dif_pos h', dif_pos h']; unfold cs; rw [← angP_at r]; rfl
    · rw [dif_neg h', dif_neg h']; exact Ideal.ofBits_one_f32

theorem tabBP_at (r : Fin 8192) (q : Fin 128) :
    tabBP (ix2 r q) = if h : q.val < 16 then 0 else if h' : q.val < 32 then sn (BitVec.ofNat 32 (r.val % 2048)) ⟨q.val - 16, by omega⟩ else 0 := by
  unfold tabBP
  refine (join3_at r q _ _ _ concatenates_S8192x16_S8192x16_S8192x96_S8192x128_d1).trans ?_
  by_cases h : q.val < 16
  · rw [dif_pos h, dif_pos h]; exact Ideal.ofBits_zero_f32
  · rw [dif_neg h, dif_neg h]
    by_cases h' : q.val < 32
    · rw [dif_pos h', dif_pos h']; unfold sn; rw [← angP_at r]; rfl
    · rw [dif_neg h', dif_neg h']; exact Ideal.ofBits_zero_f32

theorem tabDP_at (r : Fin 8192) (q : Fin 128) :
    tabDP (ix2 r q) = if h : q.val < 16 then -sn (BitVec.ofNat 32 (r.val % 2048)) ⟨q.val, h⟩ else 0 := by
  unfold tabDP
  refine (join2_at r q _ _ concatenates_S8192x16_S8192x112_S8192x128_d1).trans ?_
  by_cases h : q.val < 16
  · rw [dif_pos h, dif_pos h]; unfold sn; rw [← angP_at r]; rfl
  · rw [dif_neg h, dif_neg h]; exact Ideal.ofBits_zero_f32

/-- A lane's three products with the tables are the turned lane. -/
theorem tabP_spin (r : Fin 8192) (q : Fin 128) (v u d : EReal) :
    v * tabAP (ix2 r q) + u * tabBP (ix2 r q) + d * tabDP (ix2 r q) = spin (BitVec.ofNat 32 (r.val % 2048)) q.val v u d := by
  rw [tabAP_at, tabBP_at, tabDP_at]
  by_cases h : q.val < 16
  · rw [dif_pos h, dif_pos h, dif_pos h, spin_low _ h, mul_zero, add_zero, sub_eq_add_neg, mul_neg]
  · rw [dif_neg h, dif_neg h, dif_neg h, mul_zero, add_zero]
    by_cases h' : q.val < 32
    · rw [dif_pos h', dif_pos h', spin_mid _ h h']
    · rw [dif_neg h', dif_neg h', spin_high _ h', mul_one, mul_zero, add_zero]

theorem V_main_v19 (m : (ℓ : Loc nD τ sig) → Buf (Elt Ideal) ℓ) (c : Dev nD) : V m c main_v19 = tabAP := by
  unfold V
  exact (by after_results <;> rfl)

theorem V_main_v22 (m : (ℓ : Loc nD τ sig) → Buf (Elt Ideal) ℓ) (c : Dev nD) : V m c main_v22 = tabBP := by
  unfold V
  exact (by after_results <;> rfl)

theorem V_main_v25 (m : (ℓ : Loc nD τ sig) → Buf (Elt Ideal) ℓ) (c : Dev nD) : V m c main_v25 = tabDP := by
  unfold V
  exact (by after_results <;> rfl)

/-- The sample rows' angles. -/
def angS : FVec Ideal S16x16 .f32 :=
  mulf (broadcastInDim S16x16 ![0, 1] bcast_S16x1_S16x16_0_1 (broadcastInDim S16x1 ![0] bcast_S16_S16x1_0 (sitofp .f32 posS)))
    (broadcastInDim S16x16 ![0, 1] bcast_S1x16_S16x16_0_1 (broadcastInDim S1x16 ![1] bcast_S16_S1x16_1 rates))

theorem angS_at (r : Fin 16) (k : Fin 16) : angS (ix2 r k) = ang 8192#32 k := by
  unfold angS ang
  rw [← rates_at]
  refine congrArg₂ (fun a b : EReal => a * b) ?_ ?_
  · rw [broadcastInDim_apply _ bcast_S16x1_S16x16_0_1 _ _ (ix2 r (⟨0, Nat.one_pos⟩ : Fin 1)) (fun a => match a with
        | ⟨0, _⟩ => by show r.val = if (16 : Nat) = 1 then 0 else r.val; rw [if_neg (by decide)]
        | ⟨1, _⟩ => by show 0 = if (1 : Nat) = 1 then 0 else k.val; rw [if_pos rfl]),
      broadcastInDim_apply _ bcast_S16_S16x1_0 _ _ (ix1 r) (fun a => match a with
        | ⟨0, _⟩ => by show r.val = if (16 : Nat) = 1 then 0 else r.val; rw [if_neg (by decide)])]
    rfl
  · rw [broadcastInDim_apply _ bcast_S1x16_S16x16_0_1 _ _ (ix2 (⟨0, Nat.one_pos⟩ : Fin 1) k) (fun a => match a with
        | ⟨0, _⟩ => by show 0 = if (1 : Nat) = 1 then 0 else r.val; rw [if_pos rfl]
        | ⟨1, _⟩ => by show k.val = if (16 : Nat) = 1 then 0 else k.val; rw [if_neg (by decide)]),
      broadcastInDim_apply _ bcast_S16_S1x16_1 _ _ (ix1 k) (fun a => match a with
        | ⟨0, _⟩ => by show k.val = if (16 : Nat) = 1 then 0 else k.val; rw [if_neg (by decide)])]

/-- The three tables of the sample rows. -/
def tabAS : FVec Ideal S16x128 .f32 :=
  concatenate S16x128 1 [⟨S16x16, Host.cos angS⟩, ⟨S16x16, Host.cos angS⟩, ⟨S16x96, broadcastInDim S16x96 ![] bcast_S_S16x96 (constant S_ .f32 0x3F800000#32)⟩] concatenates_S16x16_S16x16_S16x96_S16x128_d1

def tabBS : FVec Ideal S16x128 .f32 :=
  concatenate S16x128 1 [⟨S16x16, broadcastInDim S16x16 ![] bcast_S_S16x16 (constant S_ .f32 0x00000000#32)⟩, ⟨S16x16, Host.sin angS⟩, ⟨S16x96, broadcastInDim S16x96 ![] bcast_S_S16x96 (constant S_ .f32 0x00000000#32)⟩] concatenates_S16x16_S16x16_S16x96_S16x128_d1

def tabDS : FVec Ideal S16x128 .f32 :=
  concatenate S16x128 1 [⟨S16x16, Host.negf (Host.sin angS)⟩, ⟨S16x112, broadcastInDim S16x112 ![] bcast_S_S16x112 (constant S_ .f32 0x00000000#32)⟩] concatenates_S16x16_S16x112_S16x128_d1

theorem tabAS_at (r : Fin 16) (q : Fin 128) :
    tabAS (ix2 r q) = if h : q.val < 16 then cs 8192#32 ⟨q.val, h⟩ else if h' : q.val < 32 then cs 8192#32 ⟨q.val - 16, by omega⟩ else 1 := by
  unfold tabAS
  refine (join3_at r q _ _ _ concatenates_S16x16_S16x16_S16x96_S16x128_d1).trans ?_
  by_cases h : q.val < 16
  · rw [dif_pos h, dif_pos h]; unfold cs; rw [← angS_at r]; rfl
  · rw [dif_neg h, dif_neg h]
    by_cases h' : q.val < 32
    · rw [dif_pos h', dif_pos h']; unfold cs; rw [← angS_at r]; rfl
    · rw [dif_neg h', dif_neg h']; exact Ideal.ofBits_one_f32

theorem tabBS_at (r : Fin 16) (q : Fin 128) :
    tabBS (ix2 r q) = if h : q.val < 16 then 0 else if h' : q.val < 32 then sn 8192#32 ⟨q.val - 16, by omega⟩ else 0 := by
  unfold tabBS
  refine (join3_at r q _ _ _ concatenates_S16x16_S16x16_S16x96_S16x128_d1).trans ?_
  by_cases h : q.val < 16
  · rw [dif_pos h, dif_pos h]; exact Ideal.ofBits_zero_f32
  · rw [dif_neg h, dif_neg h]
    by_cases h' : q.val < 32
    · rw [dif_pos h', dif_pos h']; unfold sn; rw [← angS_at r]; rfl
    · rw [dif_neg h', dif_neg h']; exact Ideal.ofBits_zero_f32

theorem tabDS_at (r : Fin 16) (q : Fin 128) :
    tabDS (ix2 r q) = if h : q.val < 16 then -sn 8192#32 ⟨q.val, h⟩ else 0 := by
  unfold tabDS
  refine (join2_at r q _ _ concatenates_S16x16_S16x112_S16x128_d1).trans ?_
  by_cases h : q.val < 16
  · rw [dif_pos h, dif_pos h]; unfold sn; rw [← angS_at r]; rfl
  · rw [dif_neg h, dif_neg h]; exact Ideal.ofBits_zero_f32

/-- A lane's three products with the tables are the turned lane. -/
theorem tabS_spin (r : Fin 16) (q : Fin 128) (v u d : EReal) :
    v * tabAS (ix2 r q) + u * tabBS (ix2 r q) + d * tabDS (ix2 r q) = spin 8192#32 q.val v u d := by
  rw [tabAS_at, tabBS_at, tabDS_at]
  by_cases h : q.val < 16
  · rw [dif_pos h, dif_pos h, dif_pos h, spin_low _ h, mul_zero, add_zero, sub_eq_add_neg, mul_neg]
  · rw [dif_neg h, dif_neg h, dif_neg h, mul_zero, add_zero]
    by_cases h' : q.val < 32
    · rw [dif_pos h', dif_pos h', spin_mid _ h h']
    · rw [dif_neg h', dif_neg h', spin_high _ h', mul_one, mul_zero, add_zero]

theorem V_main_v42 (m : (ℓ : Loc nD τ sig) → Buf (Elt Ideal) ℓ) (c : Dev nD) : V m c main_v42 = tabAS := by
  unfold V
  exact (by after_results <;> rfl)

theorem V_main_v45 (m : (ℓ : Loc nD τ sig) → Buf (Elt Ideal) ℓ) (c : Dev nD) : V m c main_v45 = tabBS := by
  unfold V
  exact (by after_results <;> rfl)

theorem V_main_v48 (m : (ℓ : Loc nD τ sig) → Buf (Elt Ideal) ℓ) (c : Dev nD) : V m c main_v48 = tabDS := by
  unfold V
  exact (by after_results <;> rfl)

end Cert.Kernel9Ideal.Tile
-- ==== Proof.ElemRot.lean ====
/- The rotating projection's launch against its reference: every tile the kernel stores is the reference's. -/
module

public import proofs.«01_k».proof.Proof.TabRot

@[expose] public section

set_option maxRecDepth 16384

noncomputable section

namespace Cert.Kernel9Ideal.Tile

open Cert.Kernel9Ideal Cert.Kernel9Ideal.Gen
open Idealize.ShloMosaic Idealize.ShloMosaic.TcCoe Idealize.ShloMosaic.Pointwise
open Idealize.SL.Sem
open Cert.QkvA

/-- A tile of the prompt's projection at a row and a column. -/
theorem pay1_at (v6 : FVec Ideal S1024x4096 .bf16) (v7 : FVec Ideal S4096x768 .bf16) (r : Fin 1024) (q : Fin 768) :
    k0_pay1 (F := Ideal) v6 v7 (ix2 r q) = ∑ k : Fin 4096, v6 (ix2 r k) * v7 (ix2 k q) := by
  pointwise [k0_pay1]

/-- A tile of the sample rows' projection at a row and a column. -/
theorem pay5_at (v6 : FVec Ideal S16x4096 .bf16) (v7 : FVec Ideal S4096x768 .bf16) (r : Fin 16) (q : Fin 768) :
    k0_pay5 (F := Ideal) v6 v7 (ix2 r q) = ∑ k : Fin 4096, v6 (ix2 r k) * v7 (ix2 k q) := by
  pointwise [k0_pay5]

theorem cond2_iff : ∀ t : Fin cfg0.N, k0_cond2 (grid0.coords t) = 1#1 ↔ ((grid0.coords t) 0).val < 10 := by decide +kernel
theorem cond5_iff : ∀ t : Fin cfg0.N, k0_cond5 (grid0.coords t) = 1#1 ↔ ((grid0.coords t) 0).val < 10 := by decide +kernel

variable (m : (ℓ : Loc nD τ sig) → Buf (Elt Ideal) ℓ) (ρ : Dev nD → PrngReg) (c : Dev nD)

theorem map0 : ∀ t : Fin cfg0.N, cc0_transform_0 (grid0.coords t) = ![min ((grid0.coords t) 1).val 7, 0] := by decide +kernel
theorem map1 : ∀ t : Fin cfg0.N, cc0_transform_1 (grid0.coords t) = ![0, 0] := by decide +kernel
theorem map2 : ∀ t : Fin cfg0.N, cc0_transform_2 (grid0.coords t) = ![0, ((grid0.coords t) 0).val] := by decide +kernel
theorem map3 : ∀ t : Fin cfg0.N, cc0_transform_3 (grid0.coords t) = ![min ((grid0.coords t) 1).val 7, 0] := by decide +kernel
theorem map4 : ∀ t : Fin cfg0.N, cc0_transform_4 (grid0.coords t) = ![min ((grid0.coords t) 1).val 7, 0] := by decide +kernel
theorem map5 : ∀ t : Fin cfg0.N, cc0_transform_5 (grid0.coords t) = ![min ((grid0.coords t) 1).val 7, 0] := by decide +kernel
theorem map6 : ∀ t : Fin cfg0.N, cc0_transform_6 (grid0.coords t) = ![0, 0] := by decide +kernel
theorem map7 : ∀ t : Fin cfg0.N, cc0_transform_7 (grid0.coords t) = ![0, 0] := by decide +kernel
theorem map8 : ∀ t : Fin cfg0.N, cc0_transform_8 (grid0.coords t) = ![0, 0] := by decide +kernel
theorem map9 : ∀ t : Fin cfg0.N, cc0_transform_9 (grid0.coords t) = ![min ((grid0.coords t) 1).val 7, ((grid0.coords t) 0).val] := by decide +kernel
theorem map10 : ∀ t : Fin cfg0.N, cc0_transform_10 (grid0.coords t) = ![0, ((grid0.coords t) 0).val] := by decide +kernel

theorem blk0_at (t : Fin cfg0.N) (y : S1024x4096.Idx) (z : S8192x4096.Idx)
    (h0 : (z 0).val = 1024 * min ((grid0.coords t) 1).val 7 + (y 0).val) (h1 : (z 1).val = (y 1).val) :
    iblk m c 0 t y = (V m c main_arg0 : S8192x4096.Idx → EReal) z := by
  have e0 : win0_0.index t 0 = min ((grid0.coords t) 1).val 7 := congrFun (map0 t) 0
  have e1 : win0_0.index t 1 = 0 := congrFun (map0 t) 1
  have e : ((win0_0.blk t).view.emb y) = z := funext fun a => Fin.ext (by
    match a with
    | ⟨0, _⟩ =>
      show (((win0_0.blk t).view.emb y) 0).val = (z 0).val
      blk_simp
      rw [e0, h0]
      omega
    | ⟨1, _⟩ =>
      show (((win0_0.blk t).view.emb y) 1).val = (z 1).val
      blk_simp
      rw [e1, h1]
      omega)
  exact congrArg (V m c main_arg0) e

theorem blk1_at (t : Fin cfg0.N) (y : S16x4096.Idx) (z : S16x4096.Idx)
    (h0 : (z 0).val = (y 0).val) (h1 : (z 1).val = (y 1).val) :
    iblk m c 1 t y = (V m c main_arg1 : S16x4096.Idx → EReal) z := by
  have e0 : win0_1.index t 0 = 0 := congrFun (map1 t) 0
  have e1 : win0_1.index t 1 = 0 := congrFun (map1 t) 1
  have e : ((win0_1.blk t).view.emb y) = z := funext fun a => Fin.ext (by
    match a with
    | ⟨0, _⟩ =>
      show (((win0_1.blk t).view.emb y) 0).val = (z 0).val
      blk_simp
      rw [e0, h0]
      omega
    | ⟨1, _⟩ =>
      show (((win0_1.blk t).view.emb y) 1).val = (z 1).val
      blk_simp
      rw [e1, h1]
      omega)
  exact congrArg (V m c main_arg1) e

theorem blk2_at (t : Fin cfg0.N) (y : S4096x768.Idx) (z : S4096x11520.Idx)
    (h0 : (z 0).val = (y 0).val) (h1 : (z 1).val = 768 * ((grid0.coords t) 0).val + (y 1).val) :
    iblk m c 2 t y = (V m c main_arg2 : S4096x11520.Idx → EReal) z := by
  have e0 : win0_2.index t 0 = 0 := congrFun (map2 t) 0
  have e1 : win0_2.index t 1 = ((grid0.coords t) 0).val := congrFun (map2 t) 1
  have e : ((win0_2.blk t).view.emb y) = z := funext fun a => Fin.ext (by
    match a with
    | ⟨0, _⟩ =>
      show (((win0_2.blk t).view.emb y) 0).val = (z 0).val
      blk_simp
      rw [e0, h0]
      omega
    | ⟨1, _⟩ =>
      show (((win0_2.blk t).view.emb y) 1).val = (z 1).val
      blk_simp
      rw [e1, h1]
      omega)
  exact congrArg (V m c main_arg2) e

theorem blk3_at (t : Fin cfg0.N) (y : S1024x128.Idx) (z : S8192x128.Idx)
    (h0 : (z 0).val = 1024 * min ((grid0.coords t) 1).val 7 + (y 0).val) (h1 : (z 1).val = (y 1).val) :
    iblk m c 3 t y = (V m c main_v19 : S8192x128.Idx → EReal) z := by
  have e0 : win0_3.index t 0 = min ((grid0.coords t) 1).val 7 := congrFun (map3 t) 0
  have e1 : win0_3.index t 1 = 0 := congrFun (map3 t) 1
  have e : ((win0_3.blk t).view.emb y) = z := funext fun a => Fin.ext (by
    match a with
    | ⟨0, _⟩ =>
      show (((win0_3.blk t).view.emb y) 0).val = (z 0).val
      blk_simp
      rw [e0, h0]
      omega
    | ⟨1, _⟩ =>
      show (((win0_3.blk t).view.emb y) 1).val = (z 1).val
      blk_simp
      rw [e1, h1]
      omega)
  exact congrArg (V m c main_v19) e

theorem blk4_at (t : Fin cfg0.N) (y : S1024x128.Idx) (z : S8192x128.Idx)
    (h0 : (z 0).val = 1024 * min ((grid0.coords t) 1).val 7 + (y 0).val) (h1 : (z 1).val = (y 1).val) :
    iblk m c 4 t y = (V m c main_v22 : S8192x128.Idx → EReal) z := by
  have e0 : win0_4.index t 0 = min ((grid0.coords t) 1).val 7 := congrFun (map4 t) 0
  have e1 : win0_4.index t 1 = 0 := congrFun (map4 t) 1
  have e : ((win0_4.blk t).view.emb y) = z := funext fun a => Fin.ext (by
    match a with
    | ⟨0, _⟩ =>
      show (((win0_4.blk t).view.emb y) 0).val = (z 0).val
      blk_simp
      rw [e0, h0]
      omega
    | ⟨1, _⟩ =>
      show (((win0_4.blk t).view.emb y) 1).val = (z 1).val
      blk_simp
      rw [e1, h1]
      omega)
  exact congrArg (V m c main_v22) e

theorem blk5_at (t : Fin cfg0.N) (y : S1024x128.Idx) (z : S8192x128.Idx)
    (h0 : (z 0).val = 1024 * min ((grid0.coords t) 1).val 7 + (y 0).val) (h1 : (z 1).val = (y 1).val) :
    iblk m c 5 t y = (V m c main_v25 : S8192x128.Idx → EReal) z := by
  have e0 : win0_5.index t 0 = min ((grid0.coords t) 1).val 7 := congrFun (map5 t) 0
  have e1 : win0_5.index t 1 = 0 := congrFun (map5 t) 1
  have e : ((win0_5.blk t).view.emb y) = z := funext fun a => Fin.ext (by
    match a with
    | ⟨0, _⟩ =>
      show (((win0_5.blk t).view.emb y) 0).val = (z 0).val
      blk_simp
      rw [e0, h0]
      omega
    | ⟨1, _⟩ =>
      show (((win0_5.blk t).view.emb y) 1).val = (z 1).val
      blk_simp
      rw [e1, h1]
      omega)
  exact congrArg (V m c main_v25) e

theorem blk6_at (t : Fin cfg0.N) (y : S16x128.Idx) (z : S16x128.Idx)
    (h0 : (z 0).val = (y 0).val) (h1 : (z 1).val = (y 1).val) :
    iblk m c 6 t y = (V m c main_v42 : S16x128.Idx → EReal) z := by
  have e0 : win0_6.index t 0 = 0 := congrFun (map6 t) 0
  have e1 : win0_6.index t 1 = 0 := congrFun (map6 t) 1
  have e : ((win0_6.blk t).view.emb y) = z := funext fun a => Fin.ext (by
    match a with
    | ⟨0, _⟩ =>
      show (((win0_6.blk t).view.emb y) 0).val = (z 0).val
      blk_simp
      rw [e0, h0]
      omega
    | ⟨1, _⟩ =>
      show (((win0_6.blk t).view.emb y) 1).val = (z 1).val
      blk_simp
      rw [e1, h1]
      omega)
  exact congrArg (V m c main_v42) e

theorem blk7_at (t : Fin cfg0.N) (y : S16x128.Idx) (z : S16x128.Idx)
    (h0 : (z 0).val = (y 0).val) (h1 : (z 1).val = (y 1).val) :
    iblk m c 7 t y = (V m c main_v45 : S16x128.Idx → EReal) z := by
  have e0 : win0_7.index t 0 = 0 := congrFun (map7 t) 0
  have e1 : win0_7.index t 1 = 0 := congrFun (map7 t) 1
  have e : ((win0_7.blk t).view.emb y) = z := funext fun a => Fin.ext (by
    match a with
    | ⟨0, _⟩ =>
      show (((win0_7.blk t).view.emb y) 0).val = (z 0).val
      blk_simp
      rw [e0, h0]
      omega
    | ⟨1, _⟩ =>
      show (((win0_7.blk t).view.emb y) 1).val = (z 1).val
      blk_simp
      rw [e1, h1]
      omega)
  exact congrArg (V m c main_v45) e

theorem blk8_at (t : Fin cfg0.N) (y : S16x128.Idx) (z : S16x128.Idx)
    (h0 : (z 0).val = (y 0).val) (h1 : (z 1).val = (y 1).val) :
    iblk m c 8 t y = (V m c main_v48 : S16x128.Idx → EReal) z := by
  have e0 : win0_8.index t 0 = 0 := congrFun (map8 t) 0
  have e1 : win0_8.index t 1 = 0 := congrFun (map8 t) 1
  have e : ((win0_8.blk t).view.emb y) = z := funext fun a => Fin.ext (by
    match a with
    | ⟨0, _⟩ =>
      show (((win0_8.blk t).view.emb y) 0).val = (z 0).val
      blk_simp
      rw [e0, h0]
      omega
    | ⟨1, _⟩ =>
      show (((win0_8.blk t).view.emb y) 1).val = (z 1).val
      blk_simp
      rw [e1, h1]
      omega)
  exact congrArg (V m c main_v48) e

/-- A column of the prompt's tile before it turns is the projection. -/
theorem rawP_at (t : Fin cfg0.N) (y : S1024x768.Idx) (r : Fin 8192) (e : Fin 11520)
    (h0 : r.val = 1024 * min ((grid0.coords t) 1).val 7 + (y 0).val) (h1 : e.val = 768 * ((grid0.coords t) 0).val + (y 1).val) :
    k0_pay1 (F := Ideal) (iblk m c 0 t) (iblk m c 2 t) y = proj (m ((c : Thread nD τ).loc main_arg0)) (m ((c : Thread nD τ).loc main_arg2)) r e := by
  have ey : y = ix2 (⟨(y 0).val, (y 0).isLt⟩ : Fin 1024) (⟨(y 1).val, (y 1).isLt⟩ : Fin 768) := funext fun a => by
    match a with
    | ⟨0, _⟩ => rfl
    | ⟨1, _⟩ => rfl
  rw [ey, pay1_at]
  refine Finset.sum_congr rfl fun k _ => ?_
  exact congrArg₂ (fun a b : EReal => a * b) ((blk0_at m c t _ (ix2 r k) (by exact h0) (by rfl)).trans (congrFun (V_main_arg0 m c) _))
    ((blk2_at m c t _ (ix2 k e) (by rfl) (by exact h1)).trans (congrFun (V_main_arg2 m c) _))

/-- The prompt's tile after a point is the reference at its places. -/
theorem outP_at (t : Fin cfg0.N) (y : S1024x768.Idx) (z : S8192x11520.Idx)
    (h0 : (z 0).val = 1024 * min ((grid0.coords t) 1).val 7 + (y 0).val) (h1 : (z 1).val = 768 * ((grid0.coords t) 0).val + (y 1).val) :
    outP m c t y = Cert.Reference9Ideal.Read.val_main_v41 (F := Ideal) (m ((c : Thread nD τ).loc main_arg0)) (m ((c : Thread nD τ).loc main_arg2)) z := by
  have hy : (y 1).val < 768 := (y 1).isLt
  have hz : (z 1).val < 11520 := (z 1).isLt
  obtain ⟨r, hr⟩ : ∃ r : Fin 8192, r.val = (z 0).val := ⟨⟨(z 0).val, (z 0).isLt⟩, rfl⟩
  obtain ⟨e, he⟩ : ∃ e : Fin 11520, e.val = (z 1).val := ⟨⟨(z 1).val, (z 1).isLt⟩, rfl⟩
  rw [prompt_at _ _ z r e hr he]
  unfold outP rotP turned
  by_cases hc : ((grid0.coords t) 0).val < 10
  · rw [if_pos ((cond2_iff t).mpr hc), if_pos (show e.val < 7680 by omega)]
    obtain ⟨q, hq⟩ : ∃ q : Fin 128, q.val = (y 1).val % 128 := ⟨⟨(y 1).val % 128, Nat.mod_lt _ (by decide)⟩, rfl⟩
    rw [← show q.val = e.val % 128 by omega]
    refine Eq.trans ?_ (tabP_spin r q _ _ _)
    unfold rotT
    exact congrArg₂ (fun a b : EReal => a + b) (congrArg₂ (fun a b : EReal => a + b)
        (congrArg₂ (fun a b : EReal => a * b) (rawP_at m c t y r e (hr.trans h0) (he.trans h1)) ((blk3_at m c t _ (ix2 r q) (by exact hr.trans h0) (by exact hq)).trans (congrFun (V_main_v19 m c) _)))
        (congrArg₂ (fun a b : EReal => a * b) (rawP_at m c t _ r (up e) (by exact hr.trans h0)
          (by show e.val / 128 * 128 + (e.val % 128 + 112) % 128 = 768 * ((grid0.coords t) 0).val + ((y 1).val / 128 * 128 + ((y 1).val % 128 + 112) % 128); omega)) ((blk4_at m c t _ (ix2 r q) (by exact hr.trans h0) (by exact hq)).trans (congrFun (V_main_v22 m c) _))))
      (congrArg₂ (fun a b : EReal => a * b) (rawP_at m c t _ r (dn e) (by exact hr.trans h0)
        (by show e.val / 128 * 128 + (e.val % 128 + 16) % 128 = 768 * ((grid0.coords t) 0).val + ((y 1).val / 128 * 128 + ((y 1).val % 128 + 16) % 128); omega)) ((blk5_at m c t _ (ix2 r q) (by exact hr.trans h0) (by exact hq)).trans (congrFun (V_main_v25 m c) _)))
  · rw [if_neg (fun h => hc ((cond2_iff t).mp h)), if_neg (show ¬ e.val < 7680 by omega)]
    exact rawP_at m c t y r e (hr.trans h0) (he.trans h1)

/-- The prompt's output array after the launch is the reference's. -/
theorem arr_out9 : (dats m 0 c).arrAt 9 cfg0.N
    = Cert.Reference9Ideal.Read.val_main_v41 (F := Ideal) (m ((c : Thread nD τ).loc main_arg0)) (m ((c : Thread nD τ).loc main_arg2)) := by
  refine Pipeline.Dat.arrAt_eq_of_covers (dats m 0 c) 9 _ (by decide +kernel) fun t hf y => ?_
  have e0 : win0_9.index t 0 = min ((grid0.coords t) 1).val 7 := congrFun (map9 t) 0
  have e1 : win0_9.index t 1 = ((grid0.coords t) 0).val := congrFun (map9 t) 1
  have a0 : (((win0_9.blk t).view.emb y) 0).val = 1024 * min ((grid0.coords t) 1).val 7 + (y 0).val := by
    blk_simp
    rw [e0]
    omega
  have a1 : (((win0_9.blk t).view.emb y) 1).val = 768 * ((grid0.coords t) 0).val + (y 1).val := by
    blk_simp
    rw [e1]
    omega
  refine Eq.trans ?_ (outP_at m c t y ((win0_9.blk t).view.emb y) a0 a1)
  rw [← after9]
  rfl

/-- A column of the sample rows' tile before it turns is the projection. -/
theorem rawS_at (t : Fin cfg0.N) (y : S16x768.Idx) (r : Fin 16) (e : Fin 11520)
    (h0 : r.val = (y 0).val) (h1 : e.val = 768 * ((grid0.coords t) 0).val + (y 1).val) :
    k0_pay5 (F := Ideal) (iblk m c 1 t) (iblk m c 2 t) y = proj (m ((c : Thread nD τ).loc main_arg1)) (m ((c : Thread nD τ).loc main_arg2)) r e := by
  have ey : y = ix2 (⟨(y 0).val, (y 0).isLt⟩ : Fin 16) (⟨(y 1).val, (y 1).isLt⟩ : Fin 768) := funext fun a => by
    match a with
    | ⟨0, _⟩ => rfl
    | ⟨1, _⟩ => rfl
  rw [ey, pay5_at]
  refine Finset.sum_congr rfl fun k _ => ?_
  exact congrArg₂ (fun a b : EReal => a * b) ((blk1_at m c t _ (ix2 r k) (by exact h0) (by rfl)).trans (congrFun (V_main_arg1 m c) _))
    ((blk2_at m c t _ (ix2 k e) (by rfl) (by exact h1)).trans (congrFun (V_main_arg2 m c) _))

/-- The sample rows' tile after a point is the reference at its places. -/
theorem outS_at (t : Fin cfg0.N) (y : S16x768.Idx) (z : S16x11520.Idx)
    (h0 : (z 0).val = (y 0).val) (h1 : (z 1).val = 768 * ((grid0.coords t) 0).val + (y 1).val) :
    outS m c t y = Cert.Reference9Ideal.Read.val_main_v84 (F := Ideal) (m ((c : Thread nD τ).loc main_arg1)) (m ((c : Thread nD τ).loc main_arg2)) z := by
  have hy : (y 1).val < 768 := (y 1).isLt
  have hz : (z 1).val < 11520 := (z 1).isLt
  obtain ⟨r, hr⟩ : ∃ r : Fin 16, r.val = (z 0).val := ⟨⟨(z 0).val, (z 0).isLt⟩, rfl⟩
  obtain ⟨e, he⟩ : ∃ e : Fin 11520, e.val = (z 1).val := ⟨⟨(z 1).val, (z 1).isLt⟩, rfl⟩
  rw [sample_at _ _ z r e hr he]
  unfold outS rotS turned
  by_cases hc : ((grid0.coords t) 0).val < 10
  · rw [if_pos ((cond5_iff t).mpr hc), if_pos (show e.val < 7680 by omega)]
    obtain ⟨q, hq⟩ : ∃ q : Fin 128, q.val = (y 1).val % 128 := ⟨⟨(y 1).val % 128, Nat.mod_lt _ (by decide)⟩, rfl⟩
    rw [← show q.val = e.val % 128 by omega]
    refine Eq.trans ?_ (tabS_spin r q _ _ _)
    unfold rotT
    exact congrArg₂ (fun a b : EReal => a + b) (congrArg₂ (fun a b : EReal => a + b)
        (congrArg₂ (fun a b : EReal => a * b) (rawS_at m c t y r e (hr.trans h0) (he.trans h1)) ((blk6_at m c t _ (ix2 r q) (by exact hr.trans h0) (by exact hq)).trans (congrFun (V_main_v42 m c) _)))
        (congrArg₂ (fun a b : EReal => a * b) (rawS_at m c t _ r (up e) (by exact hr.trans h0)
          (by show e.val / 128 * 128 + (e.val % 128 + 112) % 128 = 768 * ((grid0.coords t) 0).val + ((y 1).val / 128 * 128 + ((y 1).val % 128 + 112) % 128); omega)) ((blk7_at m c t _ (ix2 r q) (by exact hr.trans h0) (by exact hq)).trans (congrFun (V_main_v45 m c) _))))
      (congrArg₂ (fun a b : EReal => a * b) (rawS_at m c t _ r (dn e) (by exact hr.trans h0)
        (by show e.val / 128 * 128 + (e.val % 128 + 16) % 128 = 768 * ((grid0.coords t) 0).val + ((y 1).val / 128 * 128 + ((y 1).val % 128 + 16) % 128); omega)) ((blk8_at m c t _ (ix2 r q) (by exact hr.trans h0) (by exact hq)).trans (congrFun (V_main_v48 m c) _)))
  · rw [if_neg (fun h => hc ((cond5_iff t).mp h)), if_neg (show ¬ e.val < 7680 by omega)]
    exact rawS_at m c t y r e (hr.trans h0) (he.trans h1)

/-- The sample rows' output array after the launch is the reference's. -/
theorem arr_out10 : (dats m 0 c).arrAt 10 cfg0.N
    = Cert.Reference9Ideal.Read.val_main_v84 (F := Ideal) (m ((c : Thread nD τ).loc main_arg1)) (m ((c : Thread nD τ).loc main_arg2)) := by
  refine Pipeline.Dat.arrAt_eq_of_covers (dats m 0 c) 10 _ (by decide +kernel) fun t hf y => ?_
  have e0 : win0_10.index t 0 = 0 := congrFun (map10 t) 0
  have e1 : win0_10.index t 1 = ((grid0.coords t) 0).val := congrFun (map10 t) 1
  have a0 : (((win0_10.blk t).view.emb y) 0).val = (y 0).val := by
    blk_simp
    rw [e0]
    omega
  have a1 : (((win0_10.blk t).view.emb y) 1).val = 768 * ((grid0.coords t) 0).val + (y 1).val := by
    blk_simp
    rw [e1]
    omega
  refine Eq.trans ?_ (outS_at m c t y ((win0_10.blk t).view.emb y) a0 a1)
  rw [← after10]
  rfl

end Cert.Kernel9Ideal.Tile
-- ==== Proof.AlgRot.lean ====
/- The first attention's projection and its reference agree. -/
module

public import proofs.«01_k».proof.Defs
public import proofs.«01_k».proof.Proof.ElemRot
public import Idealize.ShloMosaic.Lib.Quiescent

@[expose] public section

set_option maxRecDepth 16384

noncomputable section

namespace Cert.QkvA

open Idealize.ShloMosaic Idealize.ShloMosaic.TcCoe
open Idealize.SL.Sem

open Cert.Kernel9Ideal in
theorem algebraic : Cert.algebraic_Kernel9Ideal_Reference9Ideal (hKernel9Ideal := Cert.Kernel9Ideal.Gen.facts) (hReference9Ideal := Cert.Reference9Ideal.Gen.facts) := by
  intro m g m' g' _ hargs
  refine ⟨fun c => Cert.Reference9Ideal.Read.val_main_v41 (F := Ideal) (m ((c.tc : Thread nD τ).loc main_arg0)) (m ((c.tc : Thread nD τ).loc main_arg2)),
    fun c => Cert.Reference9Ideal.Read.val_main_v84 (F := Ideal) (m ((c.tc : Thread nD τ).loc main_arg1)) (m ((c.tc : Thread nD τ).loc main_arg2)), ?_, ?_⟩
  · refine (θ_run _ _ _).mono (fun r h c => ?_) (θ_run_and (Tile.run m g) (Tile.frame_args m g))
    exact ⟨(h.1.out_eq c 9).trans (Tile.arr_out9 m c), (h.1.out_eq c 10).trans (Tile.arr_out10 m c), h.2.1 c⟩
  · refine (θ_run _ _ _).mono (fun r h c => ?_) (Cert.Reference9Ideal.Value.run m' g')
    obtain ⟨h0, h1, hrest⟩ := h c
    obtain ⟨a0, a1, a2⟩ := hargs c
    refine ⟨h0.trans ?_, h1.trans ?_, hrest⟩
    · rw [Cert.Reference9Ideal.Read.val_main_v41_eq, a0, a2]
    · rw [Cert.Reference9Ideal.Read.val_main_v84_eq, a1, a2]

open Cert.Reference9Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Cert.Reference9Ideal.Value.run m g)

end Cert.QkvA
-- ==== Proof.NormRow.lean ====
/- The layer norm of a row at one lane, as the kernel and the reference both compute it. -/
module

public import Idealize.ShloMosaic.PureOps.Ideal.Laws

@[expose] public section

noncomputable section

namespace Cert.Norm

open Idealize.ShloMosaic

/-- A row's mean. -/
def mean (x : Fin 4096 → EReal) : EReal := Ideal.div (∑ k, x k) (Ideal.ofBits .f32 0x45800000#32)

/-- A row's lane normalized by the row's mean and variance, scaled by `g` and shifted by `b`. -/
def norm (x : Fin 4096 → EReal) (l : Fin 4096) (g b : EReal) : EReal :=
  (x l - mean x) * Ideal.rsqrt (Ideal.div (∑ k, (x k - mean x) * (x k - mean x)) (Ideal.ofBits .f32 0x45800000#32) + Ideal.ofBits .f32 0x3727C5AC#32) * g + b

theorem norm_congr {x x' : Fin 4096 → EReal} {l l' : Fin 4096} {g g' b b' : EReal} (hx : ∀ k, x k = x' k) (hl : l = l') (hg : g = g') (hb : b = b') :
    norm x l g b = norm x' l' g' b' := by
  rw [funext hx, hl, hg, hb]

end Cert.Norm
-- ==== Proof.ElemLnP.lean ====
/- The prompt's layer norm against its reference: every value the kernel stores is the reference's. -/
module

public import proofs.«01_k».proof.Proof.Common
public import proofs.«01_k».proof.Proof.NormRow
public import proofs.«01_k».proof.Proof.Gen.Kernel10Ideal.Value
public import proofs.«01_k».proof.Proof.Gen.Reference10Ideal.Read
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel10Ideal.Tile

open Cert.Kernel10Ideal Cert.Kernel10Ideal.Gen
open Idealize.ShloMosaic Idealize.ShloMosaic.TcCoe Idealize.ShloMosaic.Pointwise Idealize.ShloMosaic.StableHlo
open Idealize.SL.Sem

/-! ## The pieces a grid point stores -/

theorem trips1 : k0_t1_loop.trips = 16 := by decide +kernel

theorem off1_eq : ∀ k : Fin k0_t1_loop.trips, k0_off1 k = ![16 * k.val, 0] := by decide +kernel

section trip

variable {F : FTy → Type} [FloatOps F]
variable (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S256x4096 .bf16) (harg5 : arg5.IsWhole)
  (v0 v2 : Vec F S1x4096 .f32) (X : BufTy.Contents (Elt F) arg1.view.ty)

/-- The rows a trip loads and stores. -/
abbrev rows (k : Fin k0_t1_loop.trips) : Rect S256x4096 := Rect.unit (k0_off1 k) S16x4096.size (k0_off1_inb k)

theorem tripA (k : Fin k0_t1_loop.trips) : (trip_k0_t1 (F := F) 𝒱 c bd i arg1 harg1 arg2 harg2 arg3 harg3 arg4 harg4 arg5 harg5 v0 v2 X k).1
    = [⟨rows k, k0_pay1 v0 v2 (View.readAt (Elt F) arg1.view (rows k).toLoadRect X)⟩] := by
  unfold trip_k0_t1
  rfl

theorem tripB (k : Fin k0_t1_loop.trips) : (trip_k0_t1 (F := F) 𝒱 c bd i arg1 harg1 arg2 harg2 arg3 harg3 arg4 harg4 arg5 harg5 v0 v2 X k).2.1
    = [⟨rows k, k0_pay2 v0 v2 (View.readAt (Elt F) arg1.view (rows k).toLoadRect X)⟩] := by
  unfold trip_k0_t1
  rfl

/-- Every piece of the trips before `n` is a piece of one of them. -/
theorem of_memA (p) : ∀ n : ℕ, n ≤ k0_t1_loop.trips → p ∈ (pb_k0_t1 (F := F) 𝒱 c bd i arg1 harg1 arg2 harg2 arg3 harg3 arg4 harg4 arg5 harg5 v0 v2 X n).1 →
      ∃ k : Fin k0_t1_loop.trips, p = ⟨rows k, k0_pay1 v0 v2 (View.readAt (Elt F) arg1.view (rows k).toLoadRect X)⟩
  | 0, _, h => absurd h List.not_mem_nil
  | n + 1, hn, h => by
    have e := pb_k0_t1_succ (F := F) 𝒱 c bd i arg1 harg1 arg2 harg2 arg3 harg3 arg4 harg4 arg5 harg5 v0 v2 X ⟨n, hn⟩
    rw [e] at h
    rcases List.mem_append.mp h with h | h
    · replace h : p ∈ (trip_k0_t1 (F := F) 𝒱 c bd i arg1 harg1 arg2 harg2 arg3 harg3 arg4 harg4 arg5 harg5 v0 v2 X ⟨n, hn⟩).1 := h
      rw [tripA] at h
      exact ⟨⟨n, hn⟩, List.mem_singleton.mp h⟩
    · exact of_memA p n (Nat.le_of_succ_le hn) h

theorem of_memB (p) : ∀ n : ℕ, n ≤ k0_t1_loop.trips → p ∈ (pb_k0_t1 (F := F) 𝒱 c bd i arg1 harg1 arg2 harg2 arg3 harg3 arg4 harg4 arg5 harg5 v0 v2 X n).2 →
      ∃ k : Fin k0_t1_loop.trips, p = ⟨rows k, k0_pay2 v0 v2 (View.readAt (Elt F) arg1.view (rows k).toLoadRect X)⟩
  | 0, _, h => absurd h List.not_mem_nil
  | n + 1, hn, h => by
    have e := pb_k0_t1_succ (F := F) 𝒱 c bd i arg1 harg1 arg2 harg2 arg3 harg3 arg4 harg4 arg5 harg5 v0 v2 X ⟨n, hn⟩
    rw [e] at h
    rcases List.mem_append.mp h with h | h
    · replace h : p ∈ (trip_k0_t1 (F := F) 𝒱 c bd i arg1 harg1 arg2 harg2 arg3 harg3 arg4 harg4 arg5 harg5 v0 v2 X ⟨n, hn⟩).2.1 := h
      rw [tripB] at h
      exact ⟨⟨n, hn⟩, List.mem_singleton.mp h⟩
    · exact of_memB p n (Nat.le_of_succ_le hn) h

variable (x0 : Vec F S256x4096 .f32) (x1 x2 : Vec F S1x4096 .f32)

theorem runA : (kernelRun0_A c i arg1 harg1 arg2 harg2 arg3 harg3 arg4 harg4 arg5 harg5 x0 x1 x2).1 = (pb_k0_t1 (F := F) Variants.none c none i arg1 harg1 arg2 harg2 arg3 harg3 arg4 harg4 arg5 harg5 x1 x2 (harg1.unread x0) k0_t1_loop.trips).1 := by
  have e1 : View.readAt (Elt F) arg2.view (Rect.unit ![0, 0] S1x4096.size inb_S1x4096_S1x4096_0_0).toLoadRect (harg2.unread x1) = x1 := by
    rw [View.readAt_eq_ld, harg2.read_unread, View.ld_unit_zero (View.eq_zero_of_forall (by decide))]
  have e2 : View.readAt (Elt F) arg3.view (Rect.unit ![0, 0] S1x4096.size inb_S1x4096_S1x4096_0_0).toLoadRect (harg3.unread x2) = x2 := by
    rw [View.readAt_eq_ld, harg3.read_unread, View.ld_unit_zero (View.eq_zero_of_forall (by decide))]
  conv_rhs => rw [← e1, ← e2]
  unfold kernelRun0_A
  rfl

theorem runB : (kernelRun0_A c i arg1 harg1 arg2 harg2 arg3 harg3 arg4 harg4 arg5 harg5 x0 x1 x2).2.1 = (pb_k0_t1 (F := F) Variants.none c none i arg1 harg1 arg2 harg2 arg3 harg3 arg4 harg4 arg5 harg5 x1 x2 (harg1.unread x0) k0_t1_loop.trips).2 := by
  have e1 : View.readAt (Elt F) arg2.view (Rect.unit ![0, 0] S1x4096.size inb_S1x4096_S1x4096_0_0).toLoadRect (harg2.unread x1) = x1 := by
    rw [View.readAt_eq_ld, harg2.read_unread, View.ld_unit_zero (View.eq_zero_of_forall (by decide))]
  have e2 : View.readAt (Elt F) arg3.view (Rect.unit ![0, 0] S1x4096.size inb_S1x4096_S1x4096_0_0).toLoadRect (harg3.unread x2) = x2 := by
    rw [View.readAt_eq_ld, harg3.read_unread, View.ld_unit_zero (View.eq_zero_of_forall (by decide))]
  conv_rhs => rw [← e1, ← e2]
  unfold kernelRun0_A
  rfl

end trip

/-! ## The values -/

theorem pay1_at (v0 v2 : FVec Ideal S1x4096 .f32) (v8 : FVec Ideal S16x4096 .f32) (r : Fin 16) (l : Fin 4096) :
    k0_pay1 (F := Ideal) v0 v2 v8 (ix2 r l) = Norm.norm (fun k => v8 (ix2 r k)) l (v0 (ix2 0 l)) (v2 (ix2 0 l)) := by
  pointwise [k0_pay1]
  rfl

theorem pay2_at (v0 v2 : FVec Ideal S1x4096 .f32) (v8 : FVec Ideal S16x4096 .f32) (r : Fin 16) (l : Fin 4096) :
    k0_pay2 (F := Ideal) v0 v2 v8 (ix2 r l) = Norm.norm (fun k => v8 (ix2 r k)) l (v0 (ix2 0 l)) (v2 (ix2 0 l)) :=
  pay1_at v0 v2 v8 r l

theorem ix16 (x : S16x4096.Idx) : x = ix2 (⟨(x 0).val, (x 0).isLt⟩ : Fin 16) (⟨(x 1).val, (x 1).isLt⟩ : Fin 4096) :=
  Common.eta2 x

/-- The layer norm of the array at an index. -/
def rowNorm (x0 : S8192x4096.Idx → EReal) (x1 x2 : S4096.Idx → EReal) (z : S8192x4096.Idx) : EReal :=
  Norm.norm (fun k => x0 (ix2 (⟨(z 0).val, (z 0).isLt⟩ : Fin 8192) k)) ⟨(z 1).val, (z 1).isLt⟩
    (x1 (ix1 (⟨(z 1).val, (z 1).isLt⟩ : Fin 4096))) (x2 (ix1 (⟨(z 1).val, (z 1).isLt⟩ : Fin 4096)))

open Cert.Reference10Ideal.Read in
theorem ref_at (x0 : FVec Ideal S8192x4096 .f32) (x1 x2 : FVec Ideal S4096 .f32) (z : S8192x4096.Idx) :
    val_main_v23 (F := Ideal) x0 x1 x2 z = rowNorm x0 x1 x2 z := by
  have e1 : ∀ k : Fin 4096, idx_main_v0 (idx_main_v1 (idx_main_v11 z)) k = ix2 (⟨(z 0).val, (z 0).isLt⟩ : Fin 8192) k := fun k =>
    funext fun a => match a with
    | ⟨0, _⟩ => rfl
    | ⟨1, _⟩ => rfl
  have e2 : ∀ k : Fin 4096, idx_main_v7 (idx_main_v8 (idx_main_v16 z)) k = ix2 (⟨(z 0).val, (z 0).isLt⟩ : Fin 8192) k := fun k =>
    funext fun a => match a with
    | ⟨0, _⟩ => rfl
    | ⟨1, _⟩ => rfl
  have e3 : ∀ k j : Fin 4096, idx_main_v0 (idx_main_v1 (idx_main_v4 (ix2 (⟨(z 0).val, (z 0).isLt⟩ : Fin 8192) k))) j = ix2 (⟨(z 0).val, (z 0).isLt⟩ : Fin 8192) j := fun k j =>
    funext fun a => match a with
    | ⟨0, _⟩ => rfl
    | ⟨1, _⟩ => rfl
  have e4 : idx_main_v18 (idx_main_v19 z) = ix1 (⟨(z 1).val, (z 1).isLt⟩ : Fin 4096) := funext fun a => match a with
    | ⟨0, _⟩ => rfl
  have e5 : idx_main_v21 (idx_main_v22 z) = ix1 (⟨(z 1).val, (z 1).isLt⟩ : Fin 4096) := funext fun a => match a with
    | ⟨0, _⟩ => rfl
  have e6 : z = ix2 (⟨(z 0).val, (z 0).isLt⟩ : Fin 8192) (⟨(z 1).val, (z 1).isLt⟩ : Fin 4096) := funext fun a => match a with
    | ⟨0, _⟩ => rfl
    | ⟨1, _⟩ => rfl
  have e7 : ∀ s : EReal, (FloatOps.ofBits .f32 0x00000000#32 : Ideal .f32) + s = s := fun s => by
    show Ideal.ofBits .f32 0x00000000#32 + s = s
    rw [Ideal.ofBits_zero_f32, zero_add]
  rw [val_main_v23_apply, val_main_v20_apply, val_main_v22_apply, val_main_v21_apply, val_main_v19_apply, val_main_v18_apply, val_main_v17_apply,
    val_main_v16_apply, val_main_v15_apply, val_main_v14_apply, val_main_v13_apply, val_main_cst_3_apply, val_main_v12_apply, val_main_v11_apply,
    val_main_v10_apply, val_main_v9_apply, val_main_cst_2_apply, val_main_v8_apply, val_main_v7_apply, val_main_cst_1_apply]
  simp only [val_main_v6_apply, val_main_v5_apply, val_main_v4_apply, val_main_v3_apply, val_main_v2_apply, val_main_cst_0_apply, val_main_v1_apply,
    val_main_v0_apply, val_main_cst_apply]
  simp only [e1, e2, e3, e4, e5, e7]
  have e8 : x0 z = x0 (ix2 (⟨(z 0).val, (z 0).isLt⟩ : Fin 8192) (⟨(z 1).val, (z 1).isLt⟩ : Fin 4096)) := congrArg x0 e6
  rw [e8]
  rfl

/-- The reference's second result is its first: the cast to bf16 does not round here. -/
theorem ref24_at (x0 : FVec Ideal S8192x4096 .f32) (x1 x2 : FVec Ideal S4096 .f32) (z : S8192x4096.Idx) :
    Cert.Reference10Ideal.Read.val_main_v24 (F := Ideal) x0 x1 x2 z = rowNorm x0 x1 x2 z :=
  (Cert.Reference10Ideal.Read.val_main_v24_apply (F := Ideal) x0 x1 x2 z).trans (ref_at x0 x1 x2 z)

variable (m : (ℓ : Loc nD τ sig) → Buf (Elt Ideal) ℓ) (c : Dev nD)

theorem V_main_v0 : V m c main_v0 = shapeCast S1x4096 (m ((c : Thread nD τ).loc main_arg1) : S4096.Idx → EReal) shapeCasts_S4096_S1x4096 := by
  unfold V
  exact (by after_results <;> rfl)

theorem V_main_v1 : V m c main_v1 = shapeCast S1x4096 (m ((c : Thread nD τ).loc main_arg2) : S4096.Idx → EReal) shapeCasts_S4096_S1x4096 := by
  unfold V
  exact (by after_results <;> rfl)

theorem lift_at (x : S4096.Idx → EReal) (l : Fin 4096) : shapeCast S1x4096 x shapeCasts_S4096_S1x4096 (ix2 (0 : Fin 1) l) = x (ix1 l) := by
  pointwise []

theorem coord_lt (t : Fin cfg0.N) : ((grid0.coords t) 0).val < 32 := ((grid0.coords t) 0).isLt

theorem map0 : ∀ t : Fin cfg0.N, cc0_transform_0 (grid0.coords t) = ![((grid0.coords t) 0).val, 0] := by decide +kernel
theorem map1 : ∀ t : Fin cfg0.N, cc0_transform_1 (grid0.coords t) = ![0, 0] := by decide +kernel
theorem map2 : ∀ t : Fin cfg0.N, cc0_transform_2 (grid0.coords t) = ![0, 0] := by decide +kernel
theorem map3 : ∀ t : Fin cfg0.N, cc0_transform_3 (grid0.coords t) = ![((grid0.coords t) 0).val, 0] := by decide +kernel
theorem map4 : ∀ t : Fin cfg0.N, cc0_transform_4 (grid0.coords t) = ![((grid0.coords t) 0).val, 0] := by decide +kernel

theorem blk0_at (t : Fin cfg0.N) (y : S256x4096.Idx) (z : S8192x4096.Idx)
    (h0 : (z 0).val = 256 * ((grid0.coords t) 0).val + (y 0).val) (h1 : (z 1).val = (y 1).val) :
    iblk m c 0 t y = (m ((c : Thread nD τ).loc main_arg0) : S8192x4096.Idx → EReal) z := by
  have e0 : win0_0.index t 0 = ((grid0.coords t) 0).val := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (l : Fin 4096) :
    iblk m c 1 t (ix2 (0 : Fin 1) l : S1x4096.Idx) = (m ((c : Thread nD τ).loc main_arg1) : S4096.Idx → EReal) (ix1 l) := by
  have e0 : win0_1.index t 0 = 0 := congrFun (map1 t) 0
  have e1 : win0_1.index t 1 = 0 := congrFun (map1 t) 1
  refine Eq.trans ?_ (lift_at _ l)
  rw [← V_main_v0]
  blk_simp [iblk]
  refine congrArg (V m c main_v0) (funext fun a => Fin.ext ?_)
  match a with
  | ⟨0, _⟩ =>
    show (((win0_1.blk t).view.emb (ix2 (0 : Fin 1) l : S1x4096.Idx)) 0).val = 0
    blk_simp
    rw [e0]
    rfl
  | ⟨1, _⟩ =>
    show (((win0_1.blk t).view.emb (ix2 (0 : Fin 1) l : S1x4096.Idx)) 1).val = l.val
    blk_simp
    rw [e1]
    show 0 * 4096 + l.val = l.val
    omega

theorem blk2_at (t : Fin cfg0.N) (l : Fin 4096) :
    iblk m c 2 t (ix2 (0 : Fin 1) l : S1x4096.Idx) = (m ((c : Thread nD τ).loc main_arg2) : S4096.Idx → EReal) (ix1 l) := by
  have e0 : win0_2.index t 0 = 0 := congrFun (map2 t) 0
  have e1 : win0_2.index t 1 = 0 := congrFun (map2 t) 1
  refine Eq.trans ?_ (lift_at _ l)
  rw [← V_main_v1]
  blk_simp [iblk]
  refine congrArg (V m c main_v1) (funext fun a => Fin.ext ?_)
  match a with
  | ⟨0, _⟩ =>
    show (((win0_2.blk t).view.emb (ix2 (0 : Fin 1) l : S1x4096.Idx)) 0).val = 0
    blk_simp
    rw [e0]
    rfl
  | ⟨1, _⟩ =>
    show (((win0_2.blk t).view.emb (ix2 (0 : Fin 1) l : S1x4096.Idx)) 1).val = l.val
    blk_simp
    rw [e1]
    show 0 * 4096 + l.val = l.val
    omega

/-- The layer norm of a staged block at an index. -/
def blkNorm (x0 : S256x4096.Idx → EReal) (x1 x2 : S1x4096.Idx → EReal) (y : S256x4096.Idx) : EReal :=
  Norm.norm (fun k => x0 (ix2 (⟨(y 0).val, (y 0).isLt⟩ : Fin 256) k)) ⟨(y 1).val, (y 1).isLt⟩
    (x1 (ix2 (0 : Fin 1) (⟨(y 1).val, (y 1).isLt⟩ : Fin 4096))) (x2 (ix2 (0 : Fin 1) (⟨(y 1).val, (y 1).isLt⟩ : Fin 4096)))

/-- A trip's rows of a block, normalized, are the block's norm at the trip's places. -/
theorem rows_norm (x0 : S256x4096.Idx → EReal) (x1 x2 : S1x4096.Idx → EReal) (k : Fin k0_t1_loop.trips) (r : Fin 16) (l : Fin 4096) :
    Norm.norm (fun j => View.ld (Val := Elt Ideal) (e' := .f32) x0 (rows k) (ix2 r j)) l (x1 (ix2 (0 : Fin 1) l)) (x2 (ix2 (0 : Fin 1) l))
      = blkNorm x0 x1 x2 ((rows k).idx (ix2 r l)) := by
  have hl : l = ⟨((rows k).idx (ix2 r l) 1).val, ((rows k).idx (ix2 r l) 1).isLt⟩ := Fin.ext (by
    show l.val = ((rows k).idx (ix2 r l) 1).val
    rw [Rect.idx_unit_val]
    have e := congrFun (off1_eq k) 1
    show l.val = k0_off1 k 1 + l.val
    rw [show k0_off1 k 1 = 0 from e, Nat.zero_add])
  unfold blkNorm
  refine Norm.norm_congr (fun j => ?_) hl ?_ ?_
  · refine View.ld_unit_apply_of (Val := Elt Ideal) (e := .f32) x0 _ _ _ _ _ fun a => ?_
    match a with
    | ⟨0, _⟩ => exact Rect.idx_unit_val _ _ _ _ _
    | ⟨1, _⟩ =>
      have e := congrFun (off1_eq k) 1
      show j.val = k0_off1 k 1 + j.val
      rw [show k0_off1 k 1 = 0 from e, Nat.zero_add]
  · rw [← hl]
  · rw [← hl]

theorem body3_at (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S256x4096 .bf16) (harg5 : arg5.IsWhole) (x0 : FVec Ideal S256x4096 .f32) (x1 x2 : FVec Ideal S1x4096 .f32) (y : S256x4096.Idx) :
    out0_A_3 (F := Ideal) c i arg1 harg1 arg2 harg2 arg3 harg3 arg4 harg4 arg5 harg5 x0 x1 x2 y = blkNorm x0 x1 x2 y := by
  unfold out0_A_3
  refine (congrFun (View.read_writes_eq_canon (Val := Elt Ideal) VO0_3 VO0_3.junk _ (cover0_A_3 (F := Ideal) c i arg1 harg1 arg2 harg2 arg3 harg3 arg4 harg4 arg5 harg5 x0 x1 x2)) y).trans ?_
  refine View.canon_apply_of_pieces (blkNorm x0 x1 x2) _ ?_ y (cover0_A_3 (F := Ideal) c i arg1 harg1 arg2 harg2 arg3 harg3 arg4 harg4 arg5 harg5 x0 x1 x2 y)
  intro q hq
  rw [runA] at hq
  obtain ⟨k, rfl⟩ := of_memA _ _ _ _ _ _ _ _ _ _ _ _ _ _ _ _ _ q _ le_rfl hq
  intro x
  show k0_pay1 (F := Ideal) x1 x2 (View.readAt (Elt Ideal) arg1.view (rows k).toLoadRect (harg1.unread x0)) x = _
  rw [View.readAt_eq_ld, harg1.read_unread]
  rw [ix16 x]
  exact (pay1_at x1 x2 _ _ _).trans (rows_norm x0 x1 x2 k _ _)

theorem body4_at (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S256x4096 .bf16) (harg5 : arg5.IsWhole) (x0 : FVec Ideal S256x4096 .f32) (x1 x2 : FVec Ideal S1x4096 .f32) (y : S256x4096.Idx) :
    out0_A_4 (F := Ideal) c i arg1 harg1 arg2 harg2 arg3 harg3 arg4 harg4 arg5 harg5 x0 x1 x2 y = blkNorm x0 x1 x2 y := by
  unfold out0_A_4
  refine (congrFun (View.read_writes_eq_canon (Val := Elt Ideal) VO0_4 VO0_4.junk _ (cover0_A_4 (F := Ideal) c i arg1 harg1 arg2 harg2 arg3 harg3 arg4 harg4 arg5 harg5 x0 x1 x2)) y).trans ?_
  refine View.canon_apply_of_pieces (blkNorm x0 x1 x2) _ ?_ y (cover0_A_4 (F := Ideal) c i arg1 harg1 arg2 harg2 arg3 harg3 arg4 harg4 arg5 harg5 x0 x1 x2 y)
  intro q hq
  rw [runB] at hq
  obtain ⟨k, rfl⟩ := of_memB _ _ _ _ _ _ _ _ _ _ _ _ _ _ _ _ _ q _ le_rfl hq
  intro x
  show k0_pay2 (F := Ideal) x1 x2 (View.readAt (Elt Ideal) arg1.view (rows k).toLoadRect (harg1.unread x0)) x = _
  rw [View.readAt_eq_ld, harg1.read_unread]
  rw [ix16 x]
  exact (pay2_at x1 x2 _ _ _).trans (rows_norm x0 x1 x2 k _ _)

/-- What a point leaves of result 0 is the reference at its places. -/
theorem out3_at (t : Fin cfg0.N) (y : S256x4096.Idx) (z : S8192x4096.Idx)
    (h0 : (z 0).val = 256 * ((grid0.coords t) 0).val + (y 0).val) (h1 : (z 1).val = (y 1).val) :
    (outsAt0 m c t).1 y = Cert.Reference10Ideal.Read.val_main_v23 (F := Ideal) (m ((c : Thread nD τ).loc main_arg0)) (m ((c : Thread nD τ).loc main_arg1)) (m ((c : Thread nD τ).loc main_arg2)) z := by
  have hl : (⟨(y 1).val, (y 1).isLt⟩ : Fin 4096) = ⟨(z 1).val, (z 1).isLt⟩ := Fin.ext h1.symm
  rw [ref_at]
  refine (body3_at c (grid0.coords t) _ _ _ _ _ _ _ _ _ _ (iblk m c 0 t) (iblk m c 1 t) (iblk m c 2 t) y).trans ?_
  refine Norm.norm_congr (fun k => ?_) hl ?_ ?_
  · exact blk0_at m c t (ix2 (⟨(y 0).val, (y 0).isLt⟩ : Fin 256) k) (ix2 (⟨(z 0).val, (z 0).isLt⟩ : Fin 8192) k) h0 rfl
  · rw [← hl]
    exact blk1_at m c t _
  · rw [← hl]
    exact blk2_at m c t _

/-- Output array 0 after the launch is the reference's. -/
theorem arr_out3 : (dats m 0 c).arrAt 3 cfg0.N
    = Cert.Reference10Ideal.Read.val_main_v23 (F := Ideal) (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  have e0 : win0_3.index t 0 = ((grid0.coords t) 0).val := congrFun (map3 t) 0
  have e1 : win0_3.index t 1 = 0 := congrFun (map3 t) 1
  have hc := coord_lt t
  have a0 : (((win0_3.blk t).view.emb y) 0).val = 256 * ((grid0.coords t) 0).val + (y 0).val := by
    blk_simp
    rw [e0]
    omega
  have a1 : (((win0_3.blk t).view.emb y) 1).val = (y 1).val := by
    blk_simp
    rw [e1]
    omega
  refine Eq.trans ?_ (out3_at m c t y ((win0_3.blk t).view.emb y) a0 a1)
  rw [← after0_3]
  rfl

/-- What a point leaves of result 1 is the reference at its places. -/
theorem out4_at (t : Fin cfg0.N) (y : S256x4096.Idx) (z : S8192x4096.Idx)
    (h0 : (z 0).val = 256 * ((grid0.coords t) 0).val + (y 0).val) (h1 : (z 1).val = (y 1).val) :
    (outsAt0 m c t).2 y = Cert.Reference10Ideal.Read.val_main_v24 (F := Ideal) (m ((c : Thread nD τ).loc main_arg0)) (m ((c : Thread nD τ).loc main_arg1)) (m ((c : Thread nD τ).loc main_arg2)) z := by
  have hl : (⟨(y 1).val, (y 1).isLt⟩ : Fin 4096) = ⟨(z 1).val, (z 1).isLt⟩ := Fin.ext h1.symm
  rw [ref24_at]
  refine (body4_at c (grid0.coords t) _ _ _ _ _ _ _ _ _ _ (iblk m c 0 t) (iblk m c 1 t) (iblk m c 2 t) y).trans ?_
  refine Norm.norm_congr (fun k => ?_) hl ?_ ?_
  · exact blk0_at m c t (ix2 (⟨(y 0).val, (y 0).isLt⟩ : Fin 256) k) (ix2 (⟨(z 0).val, (z 0).isLt⟩ : Fin 8192) k) h0 rfl
  · rw [← hl]
    exact blk1_at m c t _
  · rw [← hl]
    exact blk2_at m c t _

/-- Output array 1 after the launch is the reference's. -/
theorem arr_out4 : (dats m 0 c).arrAt 4 cfg0.N
    = Cert.Reference10Ideal.Read.val_main_v24 (F := Ideal) (m ((c : Thread nD τ).loc main_arg0)) (m ((c : Thread nD τ).loc main_arg1)) (m ((c : Thread nD τ).loc main_arg2)) := by
  refine Pipeline.Dat.arrAt_eq_of_covers (dats m 0 c) 4 _ (by decide +kernel) fun t hf y => ?_
  have e0 : win0_4.index t 0 = ((grid0.coords t) 0).val := congrFun (map4 t) 0
  have e1 : win0_4.index t 1 = 0 := congrFun (map4 t) 1
  have hc := coord_lt t
  have a0 : (((win0_4.blk t).view.emb y) 0).val = 256 * ((grid0.coords t) 0).val + (y 0).val := by
    blk_simp
    rw [e0]
    omega
  have a1 : (((win0_4.blk t).view.emb y) 1).val = (y 1).val := by
    blk_simp
    rw [e1]
    omega
  refine Eq.trans ?_ (out4_at m c t y ((win0_4.blk t).view.emb y) a0 a1)
  rw [← after0_4]
  rfl

end Cert.Kernel10Ideal.Tile
-- ==== Proof.AlgLnP.lean ====
/- The prompt's layer norm and its reference agree. -/
module

public import proofs.«01_k».proof.Defs
public import proofs.«01_k».proof.Proof.ElemLnP
public import Idealize.ShloMosaic.Lib.Quiescent

@[expose] public section

set_option maxRecDepth 16384

noncomputable section

namespace Cert.LnP

open Idealize.ShloMosaic Idealize.ShloMosaic.TcCoe
open Idealize.SL.Sem

open Cert.Kernel10Ideal in
theorem algebraic : Cert.algebraic_Kernel10Ideal_Reference10Ideal (hKernel10Ideal := Cert.Kernel10Ideal.Gen.facts) (hReference10Ideal := Cert.Reference10Ideal.Gen.facts) := by
  intro m g m' g' _ hargs
  refine ⟨fun c => Cert.Reference10Ideal.Read.val_main_v23 (F := Ideal) (m ((c.tc : Thread nD τ).loc main_arg0)) (m ((c.tc : Thread nD τ).loc main_arg1)) (m ((c.tc : Thread nD τ).loc main_arg2)),
    fun c => Cert.Reference10Ideal.Read.val_main_v24 (F := Ideal) (m ((c.tc : Thread nD τ).loc main_arg0)) (m ((c.tc : Thread nD τ).loc main_arg1)) (m ((c.tc : Thread nD τ).loc main_arg2)), ?_, ?_⟩
  · refine (θ_run _ _ _).mono (fun r h c => ?_) (Cert.Kernel10Ideal.Value.run_blocks m g)
    obtain ⟨h0, h1, hrest⟩ := h c
    exact ⟨h0.trans (Tile.arr_out3 m c), h1.trans (Tile.arr_out4 m c), hrest⟩
  · refine (θ_run _ _ _).mono (fun r h c => ?_) (Cert.Reference10Ideal.Value.run m' g')
    obtain ⟨h0, h1, hrest⟩ := h c
    obtain ⟨a0, a1, a2⟩ := hargs c
    refine ⟨h0.trans ?_, h1.trans ?_, hrest⟩
    · rw [Cert.Reference10Ideal.Read.val_main_v23_eq, a0, a1, a2]
    · rw [Cert.Reference10Ideal.Read.val_main_v24_eq, a0, a1, a2]

open Cert.Reference10Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Cert.Reference10Ideal.Value.run m g)

end Cert.LnP
-- ==== Proof.ElemLnS.lean ====
/- The sample rows' layer norm against its reference: every value the kernel stores is the reference's. -/
module

public import proofs.«01_k».proof.Proof.Common
public import proofs.«01_k».proof.Proof.NormRow
public import proofs.«01_k».proof.Proof.Gen.Kernel11Ideal.Value
public import proofs.«01_k».proof.Proof.Gen.Reference11Ideal.Read
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel11Ideal.Tile

open Cert.Kernel11Ideal Cert.Kernel11Ideal.Gen
open Idealize.ShloMosaic Idealize.ShloMosaic.TcCoe Idealize.ShloMosaic.Pointwise Idealize.ShloMosaic.StableHlo
open Idealize.SL.Sem

theorem pay1_at (v0 v2 : FVec Ideal S1x4096 .f32) (v8 : FVec Ideal S16x4096 .f32) (r : Fin 16) (l : Fin 4096) :
    k0_pay1 (F := Ideal) v0 v2 v8 (ix2 r l) = Norm.norm (fun k => v8 (ix2 r k)) l (v0 (ix2 0 l)) (v2 (ix2 0 l)) := by
  pointwise [k0_pay1]
  rfl

theorem pay2_at (v0 v2 : FVec Ideal S1x4096 .f32) (v8 : FVec Ideal S16x4096 .f32) (r : Fin 16) (l : Fin 4096) :
    k0_pay2 (F := Ideal) v0 v2 v8 (ix2 r l) = Norm.norm (fun k => v8 (ix2 r k)) l (v0 (ix2 0 l)) (v2 (ix2 0 l)) :=
  pay1_at v0 v2 v8 r l

theorem ix16 (x : S16x4096.Idx) : x = ix2 (⟨(x 0).val, (x 0).isLt⟩ : Fin 16) (⟨(x 1).val, (x 1).isLt⟩ : Fin 4096) :=
  Common.eta2 x

/-- The layer norm of the array at an index. -/
def rowNorm (x0 : S16x4096.Idx → EReal) (x1 x2 : S4096.Idx → EReal) (z : S16x4096.Idx) : EReal :=
  Norm.norm (fun k => x0 (ix2 (⟨(z 0).val, (z 0).isLt⟩ : Fin 16) k)) ⟨(z 1).val, (z 1).isLt⟩
    (x1 (ix1 (⟨(z 1).val, (z 1).isLt⟩ : Fin 4096))) (x2 (ix1 (⟨(z 1).val, (z 1).isLt⟩ : Fin 4096)))

open Cert.Reference11Ideal.Read in
theorem ref_at (x0 : FVec Ideal S16x4096 .f32) (x1 x2 : FVec Ideal S4096 .f32) (z : S16x4096.Idx) :
    val_main_v23 (F := Ideal) x0 x1 x2 z = rowNorm x0 x1 x2 z := by
  have e1 : ∀ k : Fin 4096, idx_main_v0 (idx_main_v1 (idx_main_v11 z)) k = ix2 (⟨(z 0).val, (z 0).isLt⟩ : Fin 16) k := fun k =>
    funext fun a => match a with
    | ⟨0, _⟩ => rfl
    | ⟨1, _⟩ => rfl
  have e2 : ∀ k : Fin 4096, idx_main_v7 (idx_main_v8 (idx_main_v16 z)) k = ix2 (⟨(z 0).val, (z 0).isLt⟩ : Fin 16) k := fun k =>
    funext fun a => match a with
    | ⟨0, _⟩ => rfl
    | ⟨1, _⟩ => rfl
  have e3 : ∀ k j : Fin 4096, idx_main_v0 (idx_main_v1 (idx_main_v4 (ix2 (⟨(z 0).val, (z 0).isLt⟩ : Fin 16) k))) j = ix2 (⟨(z 0).val, (z 0).isLt⟩ : Fin 16) j := fun k j =>
    funext fun a => match a with
    | ⟨0, _⟩ => rfl
    | ⟨1, _⟩ => rfl
  have e4 : idx_main_v18 (idx_main_v19 z) = ix1 (⟨(z 1).val, (z 1).isLt⟩ : Fin 4096) := funext fun a => match a with
    | ⟨0, _⟩ => rfl
  have e5 : idx_main_v21 (idx_main_v22 z) = ix1 (⟨(z 1).val, (z 1).isLt⟩ : Fin 4096) := funext fun a => match a with
    | ⟨0, _⟩ => rfl
  have e6 : z = ix2 (⟨(z 0).val, (z 0).isLt⟩ : Fin 16) (⟨(z 1).val, (z 1).isLt⟩ : Fin 4096) := funext fun a => match a with
    | ⟨0, _⟩ => rfl
    | ⟨1, _⟩ => rfl
  have e7 : ∀ s : EReal, (FloatOps.ofBits .f32 0x00000000#32 : Ideal .f32) + s = s := fun s => by
    show Ideal.ofBits .f32 0x00000000#32 + s = s
    rw [Ideal.ofBits_zero_f32, zero_add]
  rw [val_main_v23_apply, val_main_v20_apply, val_main_v22_apply, val_main_v21_apply, val_main_v19_apply, val_main_v18_apply, val_main_v17_apply,
    val_main_v16_apply, val_main_v15_apply, val_main_v14_apply, val_main_v13_apply, val_main_cst_3_apply, val_main_v12_apply, val_main_v11_apply,
    val_main_v10_apply, val_main_v9_apply, val_main_cst_2_apply, val_main_v8_apply, val_main_v7_apply, val_main_cst_1_apply]
  simp only [val_main_v6_apply, val_main_v5_apply, val_main_v4_apply, val_main_v3_apply, val_main_v2_apply, val_main_cst_0_apply, val_main_v1_apply,
    val_main_v0_apply, val_main_cst_apply]
  simp only [e1, e2, e3, e4, e5, e7]
  have e8 : x0 z = x0 (ix2 (⟨(z 0).val, (z 0).isLt⟩ : Fin 16) (⟨(z 1).val, (z 1).isLt⟩ : Fin 4096)) := congrArg x0 e6
  rw [e8]
  rfl

/-- The reference's second result is its first: the cast to bf16 does not round here. -/
theorem ref24_at (x0 : FVec Ideal S16x4096 .f32) (x1 x2 : FVec Ideal S4096 .f32) (z : S16x4096.Idx) :
    Cert.Reference11Ideal.Read.val_main_v24 (F := Ideal) x0 x1 x2 z = rowNorm x0 x1 x2 z :=
  (Cert.Reference11Ideal.Read.val_main_v24_apply (F := Ideal) x0 x1 x2 z).trans (ref_at x0 x1 x2 z)

variable (m : (ℓ : Loc nD τ sig) → Buf (Elt Ideal) ℓ) (c : Dev nD)

theorem V_main_v0 : V m c main_v0 = shapeCast S1x4096 (m ((c : Thread nD τ).loc main_arg1) : S4096.Idx → EReal) shapeCasts_S4096_S1x4096 := by
  unfold V
  exact (by after_results <;> rfl)

theorem V_main_v1 : V m c main_v1 = shapeCast S1x4096 (m ((c : Thread nD τ).loc main_arg2) : S4096.Idx → EReal) shapeCasts_S4096_S1x4096 := by
  unfold V
  exact (by after_results <;> rfl)

theorem lift_at (x : S4096.Idx → EReal) (l : Fin 4096) : shapeCast S1x4096 x shapeCasts_S4096_S1x4096 (ix2 (0 : Fin 1) l) = x (ix1 l) := by
  pointwise []

theorem coord_lt (t : Fin cfg0.N) : ((grid0.coords t) 0).val < 1 := ((grid0.coords t) 0).isLt

theorem map0 : ∀ t : Fin cfg0.N, cc0_transform_0 (grid0.coords t) = ![((grid0.coords t) 0).val, 0] := by decide +kernel
theorem map1 : ∀ t : Fin cfg0.N, cc0_transform_1 (grid0.coords t) = ![0, 0] := by decide +kernel
theorem map2 : ∀ t : Fin cfg0.N, cc0_transform_2 (grid0.coords t) = ![0, 0] := by decide +kernel
theorem map3 : ∀ t : Fin cfg0.N, cc0_transform_3 (grid0.coords t) = ![((grid0.coords t) 0).val, 0] := by decide +kernel
theorem map4 : ∀ t : Fin cfg0.N, cc0_transform_4 (grid0.coords t) = ![((grid0.coords t) 0).val, 0] := by decide +kernel

theorem blk0_at (t : Fin cfg0.N) (y : S16x4096.Idx) (z : S16x4096.Idx)
    (h0 : (z 0).val = 16 * ((grid0.coords t) 0).val + (y 0).val) (h1 : (z 1).val = (y 1).val) :
    iblk m c 0 t y = (m ((c : Thread nD τ).loc main_arg0) : S16x4096.Idx → EReal) z := by
  have e0 : win0_0.index t 0 = ((grid0.coords t) 0).val := congrFun (map0 t) 0
  have e1 : win0_0.index t 1 = 0 := congrFun (map0 t) 1
  blk_simp [iblk]
  exact congrArg (m ((c : Thread nD τ).loc main_arg0)) (Common.ext2 (by blk_simp; rw [e0, h0]; omega) (by blk_simp; rw [e1, h1]; omega))

theorem blk1_at (t : Fin cfg0.N) (l : Fin 4096) :
    iblk m c 1 t (ix2 (0 : Fin 1) l : S1x4096.Idx) = (m ((c : Thread nD τ).loc main_arg1) : S4096.Idx → EReal) (ix1 l) := by
  have e0 : win0_1.index t 0 = 0 := congrFun (map1 t) 0
  have e1 : win0_1.index t 1 = 0 := congrFun (map1 t) 1
  refine Eq.trans ?_ (lift_at _ l)
  rw [← V_main_v0]
  blk_simp [iblk]
  refine congrArg (V m c main_v0) (funext fun a => Fin.ext ?_)
  match a with
  | ⟨0, _⟩ =>
    show (((win0_1.blk t).view.emb (ix2 (0 : Fin 1) l : S1x4096.Idx)) 0).val = 0
    blk_simp
    rw [e0]
    rfl
  | ⟨1, _⟩ =>
    show (((win0_1.blk t).view.emb (ix2 (0 : Fin 1) l : S1x4096.Idx)) 1).val = l.val
    blk_simp
    rw [e1]
    show 0 * 4096 + l.val = l.val
    omega

theorem blk2_at (t : Fin cfg0.N) (l : Fin 4096) :
    iblk m c 2 t (ix2 (0 : Fin 1) l : S1x4096.Idx) = (m ((c : Thread nD τ).loc main_arg2) : S4096.Idx → EReal) (ix1 l) := by
  have e0 : win0_2.index t 0 = 0 := congrFun (map2 t) 0
  have e1 : win0_2.index t 1 = 0 := congrFun (map2 t) 1
  refine Eq.trans ?_ (lift_at _ l)
  rw [← V_main_v1]
  blk_simp [iblk]
  refine congrArg (V m c main_v1) (funext fun a => Fin.ext ?_)
  match a with
  | ⟨0, _⟩ =>
    show (((win0_2.blk t).view.emb (ix2 (0 : Fin 1) l : S1x4096.Idx)) 0).val = 0
    blk_simp
    rw [e0]
    rfl
  | ⟨1, _⟩ =>
    show (((win0_2.blk t).view.emb (ix2 (0 : Fin 1) l : S1x4096.Idx)) 1).val = l.val
    blk_simp
    rw [e1]
    show 0 * 4096 + l.val = l.val
    omega

theorem body3_at (x0 : FVec Ideal S16x4096 .f32) (x1 x2 : FVec Ideal S1x4096 .f32) (y : S16x4096.Idx) :
    out0_3 (F := Ideal) x0 x1 x2 y
      = Norm.norm (fun k => x0 (ix2 (⟨(y 0).val, (y 0).isLt⟩ : Fin 16) k)) ⟨(y 1).val, (y 1).isLt⟩ (x1 (ix2 (0 : Fin 1) (⟨(y 1).val, (y 1).isLt⟩ : Fin 4096))) (x2 (ix2 (0 : Fin 1) (⟨(y 1).val, (y 1).isLt⟩ : Fin 4096))) := by
  unfold out0_3
  have l0 : View.ld (Val := Elt Ideal) (e' := .f32) x0 r0_1 = x0 := View.ld_unit_zero (Val := Elt Ideal) (e := .f32) (View.eq_zero_of_forall (by decide)) _ x0
  have l1 : View.ld (Val := Elt Ideal) (e' := .f32) x1 r0_0 = x1 := View.ld_unit_zero (Val := Elt Ideal) (e := .f32) (View.eq_zero_of_forall (by decide)) _ x1
  have l2 : View.ld (Val := Elt Ideal) (e' := .f32) x2 r0_0 = x2 := View.ld_unit_zero (Val := Elt Ideal) (e := .f32) (View.eq_zero_of_forall (by decide)) _ x2
  rw [View.canon_unit_zero (View.eq_zero_of_forall (by decide)), l0, l1, l2]
  conv_lhs => rw [ix16 y]
  exact pay1_at x1 x2 x0 _ _

theorem body4_at (x0 : FVec Ideal S16x4096 .f32) (x1 x2 : FVec Ideal S1x4096 .f32) (y : S16x4096.Idx) :
    out0_4 (F := Ideal) x0 x1 x2 y
      = Norm.norm (fun k => x0 (ix2 (⟨(y 0).val, (y 0).isLt⟩ : Fin 16) k)) ⟨(y 1).val, (y 1).isLt⟩ (x1 (ix2 (0 : Fin 1) (⟨(y 1).val, (y 1).isLt⟩ : Fin 4096))) (x2 (ix2 (0 : Fin 1) (⟨(y 1).val, (y 1).isLt⟩ : Fin 4096))) := by
  unfold out0_4
  have l0 : View.ld (Val := Elt Ideal) (e' := .f32) x0 r0_1 = x0 := View.ld_unit_zero (Val := Elt Ideal) (e := .f32) (View.eq_zero_of_forall (by decide)) _ x0
  have l1 : View.ld (Val := Elt Ideal) (e' := .f32) x1 r0_0 = x1 := View.ld_unit_zero (Val := Elt Ideal) (e := .f32) (View.eq_zero_of_forall (by decide)) _ x1
  have l2 : View.ld (Val := Elt Ideal) (e' := .f32) x2 r0_0 = x2 := View.ld_unit_zero (Val := Elt Ideal) (e := .f32) (View.eq_zero_of_forall (by decide)) _ x2
  rw [View.canon_unit_zero (View.eq_zero_of_forall (by decide)), l0, l1, l2]
  conv_lhs => rw [ix16 y]
  exact pay2_at x1 x2 x0 _ _

/-- What a point leaves of result 0 is the reference at its places. -/
theorem out3_at (t : Fin cfg0.N) (y : S16x4096.Idx) (z : S16x4096.Idx)
    (h0 : (z 0).val = 16 * ((grid0.coords t) 0).val + (y 0).val) (h1 : (z 1).val = (y 1).val) :
    out0_3 (F := Ideal) (iblk m c 0 t) (iblk m c 1 t) (iblk m c 2 t) y = Cert.Reference11Ideal.Read.val_main_v23 (F := Ideal) (m ((c : Thread nD τ).loc main_arg0)) (m ((c : Thread nD τ).loc main_arg1)) (m ((c : Thread nD τ).loc main_arg2)) z := by
  have hl : (⟨(y 1).val, (y 1).isLt⟩ : Fin 4096) = ⟨(z 1).val, (z 1).isLt⟩ := Fin.ext h1.symm
  rw [ref_at]
  refine (body3_at (iblk m c 0 t) (iblk m c 1 t) (iblk m c 2 t) y).trans ?_
  refine Norm.norm_congr (fun k => ?_) hl ?_ ?_
  · exact blk0_at m c t (ix2 (⟨(y 0).val, (y 0).isLt⟩ : Fin 16) k) (ix2 (⟨(z 0).val, (z 0).isLt⟩ : Fin 16) k) h0 rfl
  · rw [← hl]
    exact blk1_at m c t _
  · rw [← hl]
    exact blk2_at m c t _

/-- Output array 0 after the launch is the reference's. -/
theorem arr_out3 : (dats m 0 c).arrAt 3 cfg0.N
    = Cert.Reference11Ideal.Read.val_main_v23 (F := Ideal) (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  have e0 : win0_3.index t 0 = ((grid0.coords t) 0).val := congrFun (map3 t) 0
  have e1 : win0_3.index t 1 = 0 := congrFun (map3 t) 1
  have hc := coord_lt t
  have a0 : (((win0_3.blk t).view.emb y) 0).val = 16 * ((grid0.coords t) 0).val + (y 0).val := by
    blk_simp
    rw [e0]
    omega
  have a1 : (((win0_3.blk t).view.emb y) 1).val = (y 1).val := by
    blk_simp
    rw [e1]
    omega
  refine Eq.trans ?_ (out3_at m c t y ((win0_3.blk t).view.emb y) a0 a1)
  rw [← after0_3]
  rfl

/-- What a point leaves of result 1 is the reference at its places. -/
theorem out4_at (t : Fin cfg0.N) (y : S16x4096.Idx) (z : S16x4096.Idx)
    (h0 : (z 0).val = 16 * ((grid0.coords t) 0).val + (y 0).val) (h1 : (z 1).val = (y 1).val) :
    out0_4 (F := Ideal) (iblk m c 0 t) (iblk m c 1 t) (iblk m c 2 t) y = Cert.Reference11Ideal.Read.val_main_v24 (F := Ideal) (m ((c : Thread nD τ).loc main_arg0)) (m ((c : Thread nD τ).loc main_arg1)) (m ((c : Thread nD τ).loc main_arg2)) z := by
  have hl : (⟨(y 1).val, (y 1).isLt⟩ : Fin 4096) = ⟨(z 1).val, (z 1).isLt⟩ := Fin.ext h1.symm
  rw [ref24_at]
  refine (body4_at (iblk m c 0 t) (iblk m c 1 t) (iblk m c 2 t) y).trans ?_
  refine Norm.norm_congr (fun k => ?_) hl ?_ ?_
  · exact blk0_at m c t (ix2 (⟨(y 0).val, (y 0).isLt⟩ : Fin 16) k) (ix2 (⟨(z 0).val, (z 0).isLt⟩ : Fin 16) k) h0 rfl
  · rw [← hl]
    exact blk1_at m c t _
  · rw [← hl]
    exact blk2_at m c t _

/-- Output array 1 after the launch is the reference's. -/
theorem arr_out4 : (dats m 0 c).arrAt 4 cfg0.N
    = Cert.Reference11Ideal.Read.val_main_v24 (F := Ideal) (m ((c : Thread nD τ).loc main_arg0)) (m ((c : Thread nD τ).loc main_arg1)) (m ((c : Thread nD τ).loc main_arg2)) := by
  refine Pipeline.Dat.arrAt_eq_of_covers (dats m 0 c) 4 _ (by decide +kernel) fun t hf y => ?_
  have e0 : win0_4.index t 0 = ((grid0.coords t) 0).val := congrFun (map4 t) 0
  have e1 : win0_4.index t 1 = 0 := congrFun (map4 t) 1
  have hc := coord_lt t
  have a0 : (((win0_4.blk t).view.emb y) 0).val = 16 * ((grid0.coords t) 0).val + (y 0).val := by
    blk_simp
    rw [e0]
    omega
  have a1 : (((win0_4.blk t).view.emb y) 1).val = (y 1).val := by
    blk_simp
    rw [e1]
    omega
  refine Eq.trans ?_ (out4_at m c t y ((win0_4.blk t).view.emb y) a0 a1)
  rw [← after0_4]
  rfl

end Cert.Kernel11Ideal.Tile
-- ==== Proof.AlgLnS.lean ====
/- The sample rows' layer norm and its reference agree. -/
module

public import proofs.«01_k».proof.Defs
public import proofs.«01_k».proof.Proof.ElemLnS
public import Idealize.ShloMosaic.Lib.Quiescent

@[expose] public section

set_option maxRecDepth 16384

noncomputable section

namespace Cert.LnS

open Idealize.ShloMosaic Idealize.ShloMosaic.TcCoe
open Idealize.SL.Sem

open Cert.Kernel11Ideal in
theorem algebraic : Cert.algebraic_Kernel11Ideal_Reference11Ideal (hKernel11Ideal := Cert.Kernel11Ideal.Gen.facts) (hReference11Ideal := Cert.Reference11Ideal.Gen.facts) := by
  intro m g m' g' _ hargs
  refine ⟨fun c => Cert.Reference11Ideal.Read.val_main_v23 (F := Ideal) (m ((c.tc : Thread nD τ).loc main_arg0)) (m ((c.tc : Thread nD τ).loc main_arg1)) (m ((c.tc : Thread nD τ).loc main_arg2)),
    fun c => Cert.Reference11Ideal.Read.val_main_v24 (F := Ideal) (m ((c.tc : Thread nD τ).loc main_arg0)) (m ((c.tc : Thread nD τ).loc main_arg1)) (m ((c.tc : Thread nD τ).loc main_arg2)), ?_, ?_⟩
  · refine (θ_run _ _ _).mono (fun r h c => ?_) (Cert.Kernel11Ideal.Value.run_blocks m g)
    obtain ⟨h0, h1, hrest⟩ := h c
    exact ⟨h0.trans (Tile.arr_out3 m c), h1.trans (Tile.arr_out4 m c), hrest⟩
  · refine (θ_run _ _ _).mono (fun r h c => ?_) (Cert.Reference11Ideal.Value.run m' g')
    obtain ⟨h0, h1, hrest⟩ := h c
    obtain ⟨a0, a1, a2⟩ := hargs c
    refine ⟨h0.trans ?_, h1.trans ?_, hrest⟩
    · rw [Cert.Reference11Ideal.Read.val_main_v23_eq, a0, a1, a2]
    · rw [Cert.Reference11Ideal.Read.val_main_v24_eq, a0, a1, a2]

open Cert.Reference11Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Cert.Reference11Ideal.Value.run m g)

end Cert.LnS
-- ==== Proof.ShiftRow.lean ====
/- The caches of the dilated attention, shifted by one position: reading the arrays before the call and the reference, for a cache
   of any length. A cache's row of storage holds one head's key or value at one position of one sequence. -/
module

public import Idealize.ShloMosaic.Lib.Pointwise
public import Idealize.ShloMosaic.Lib.StableHlo.Run
public import Idealize.ShloMosaic.Lib.Pipeline.ValueKit
public import Idealize.ShloMosaic.Lib.KernelVsHost

@[expose] public section

noncomputable section

namespace Cert.Shift

open Idealize.ShloMosaic Idealize.ShloMosaic.TcCoe Idealize.ShloMosaic.StableHlo

variable {α : Type}

/-- A cache's shape: sequence, position, key or value, head, lane. -/
abbrev Cache (L : ℕ) : Shape := ⟨5, ![16, L, 2, 10, 128]⟩
/-- The same with the heads before keys and values. -/
abbrev Heads (L : ℕ) : Shape := ⟨5, ![16, L, 10, 2, 128]⟩
/-- The new position's keys and values. -/
abbrev New : Shape := ⟨4, ![16, 2, 10, 128]⟩
abbrev Rows (n : ℕ) : Shape := ⟨2, ![n, 128]⟩

theorem idx_ext {n : ℕ} (i k : (Rows n).Idx) (h0 : (i 0).val = (k 0).val) (h1 : (i 1).val = (k 1).val) : i = k := by
  funext a
  match a with
  | ⟨0, _⟩ => exact Fin.ext h0
  | ⟨1, _⟩ => exact Fin.ext h1

/-- The place of a row of storage in the cache. -/
def cell {L : ℕ} (s p c h l : ℕ) (hs : s < 16) (hp : p < L) (hc : c < 2) (hh : h < 10) (hl : l < 128) : (Cache L).Idx := fun a => match a with
  | ⟨0, _⟩ => ⟨s, hs⟩
  | ⟨1, _⟩ => ⟨p, hp⟩
  | ⟨2, _⟩ => ⟨c, hc⟩
  | ⟨3, _⟩ => ⟨h, hh⟩
  | ⟨4, _⟩ => ⟨l, hl⟩

def newCell (s c h l : ℕ) (hs : s < 16) (hc : c < 2) (hh : h < 10) (hl : l < 128) : New.Idx := fun a => match a with
  | ⟨0, _⟩ => ⟨s, hs⟩
  | ⟨1, _⟩ => ⟨c, hc⟩
  | ⟨2, _⟩ => ⟨h, hh⟩
  | ⟨3, _⟩ => ⟨l, hl⟩

def headCell {L : ℕ} (s p h c l : ℕ) (hs : s < 16) (hp : p < L) (hh : h < 10) (hc : c < 2) (hl : l < 128) : (Heads L).Idx := fun a => match a with
  | ⟨0, _⟩ => ⟨s, hs⟩
  | ⟨1, _⟩ => ⟨p, hp⟩
  | ⟨2, _⟩ => ⟨h, hh⟩
  | ⟨3, _⟩ => ⟨c, hc⟩
  | ⟨4, _⟩ => ⟨l, hl⟩

/-- A row of a cache's storage is the cache at the row's place. -/
theorem storage_at {L n : ℕ} (x : (Cache L).Idx → α) (ht : (Cache L).Transposes [0, 1, 3, 2, 4] (Heads L)) (hc : (Heads L).ShapeCasts (Rows n))
    (j : (Rows n).Idx) (s p c h l : ℕ) (hs : s < 16) (hp : p < L) (hc' : c < 2) (hh : h < 10) (hl : l < 128)
    (h0 : (j 0).val = ((s * L + p) * 10 + h) * 2 + c) (h1 : (j 1).val = l) :
    shapeCast (Rows n) (transpose (Heads L) [0, 1, 3, 2, 4] x ht) hc j = x (cell s p c h l hs hp hc' hh hl) := by
  refine (shapeCast_apply _ hc j (headCell s p h c l hs hp hh hc' hl) ?_).trans (transpose_apply _ x ht _ _ fun b => ?_)
  · rw [Shape.rowMajor_val_five, Shape.rowMajor_val_two]
    show (((s * L + p) * 10 + h) * 2 + c) * 128 + l = (j 0).val * 128 + (j 1).val
    rw [h0, h1]
  · match b with
    | ⟨0, _⟩ => rfl
    | ⟨1, _⟩ => rfl
    | ⟨2, _⟩ => rfl
    | ⟨3, _⟩ => rfl
    | ⟨4, _⟩ => rfl

/-- A row of the new position's padded storage is the new position at the row's place. -/
theorem padded_at (x : New.Idx → α) {u : Shape} (v : u.Idx → α) (hu : 0 < u.numel)
    (ht : New.Transposes [0, 2, 1, 3] ⟨4, ![16, 10, 2, 128]⟩) (hc1 : (⟨4, ![16, 10, 2, 128]⟩ : Shape).ShapeCasts (Rows 320))
    (hc2 : (Rows 320).ShapeCasts ⟨3, ![16, 20, 128]⟩)
    (hp : (⟨3, ![16, 20, 128]⟩ : Shape).Pads (![0, 0, 0] : Fin 3 → Nat) ![0, 4, 0] ![0, 0, 0] ⟨3, ![16, 24, 128]⟩)
    (hc3 : (⟨3, ![16, 24, 128]⟩ : Shape).ShapeCasts (Rows 384))
    (j : (Rows 384).Idx) (s c h l : ℕ) (hs : s < 16) (hc' : c < 2) (hh : h < 10) (hl : l < 128)
    (h0 : (j 0).val = 24 * s + (2 * h + c)) (h1 : (j 1).val = l) :
    shapeCast (Rows 384) (pad ⟨3, ![16, 24, 128]⟩ (![0, 0, 0] : Fin 3 → Nat) ![0, 4, 0] ![0, 0, 0]
      (shapeCast ⟨3, ![16, 20, 128]⟩ (shapeCast (Rows 320) (transpose ⟨4, ![16, 10, 2, 128]⟩ [0, 2, 1, 3] x ht) hc1) hc2) v hp hu) hc3 j
      = x (newCell s c h l hs hc' hh hl) := by
  let k3 : (⟨3, ![16, 24, 128]⟩ : Shape).Idx := fun a => match a with
    | ⟨0, _⟩ => ⟨s, hs⟩
    | ⟨1, _⟩ => ⟨2 * h + c, by show 2 * h + c < 24; omega⟩
    | ⟨2, _⟩ => ⟨l, hl⟩
  let k2 : (⟨3, ![16, 20, 128]⟩ : Shape).Idx := fun a => match a with
    | ⟨0, _⟩ => ⟨s, hs⟩
    | ⟨1, _⟩ => ⟨2 * h + c, by show 2 * h + c < 20; omega⟩
    | ⟨2, _⟩ => ⟨l, hl⟩
  let k1 : (Rows 320).Idx := fun a => match a with
    | ⟨0, _⟩ => ⟨20 * s + (2 * h + c), by show 20 * s + (2 * h + c) < 320; omega⟩
    | ⟨1, _⟩ => ⟨l, hl⟩
  let k0 : (⟨4, ![16, 10, 2, 128]⟩ : Shape).Idx := fun a => match a with
    | ⟨0, _⟩ => ⟨s, hs⟩
    | ⟨1, _⟩ => ⟨h, hh⟩
    | ⟨2, _⟩ => ⟨c, hc'⟩
    | ⟨3, _⟩ => ⟨l, hl⟩
  refine (shapeCast_apply _ hc3 j k3 ?_).trans ((pad_apply_of_inside _ _ _ _ v hp hu k3 k2 fun a => ?_).trans
    ((shapeCast_apply _ hc2 k2 k1 ?_).trans ((shapeCast_apply _ hc1 k1 k0 ?_).trans (transpose_apply _ x ht _ _ fun b => ?_))))
  · rw [Shape.rowMajor_val_three, Shape.rowMajor_val_two]
    show (s * 24 + (2 * h + c)) * 128 + l = (j 0).val * 128 + (j 1).val
    omega
  · match a with
    | ⟨0, _⟩ => show s = 0 + s * (0 + 1); omega
    | ⟨1, _⟩ => show 2 * h + c = 0 + (2 * h + c) * (0 + 1); omega
    | ⟨2, _⟩ => show l = 0 + l * (0 + 1); omega
  · rw [Shape.rowMajor_val_three, Shape.rowMajor_val_two]
    show (20 * s + (2 * h + c)) * 128 + l = (s * 20 + (2 * h + c)) * 128 + l
    omega
  · rw [Shape.rowMajor_val_four, Shape.rowMajor_val_two]
    show ((s * 10 + h) * 2 + c) * 128 + l = (20 * s + (2 * h + c)) * 128 + l
    omega
  · match b with
    | ⟨0, _⟩ => rfl
    | ⟨1, _⟩ => rfl
    | ⟨2, _⟩ => rfl
    | ⟨3, _⟩ => rfl

section reference

variable {L n : ℕ} (x : (Cache L).Idx → α) (y : New.Idx → α)
  (hb : New.BroadcastsInDim ⟨5, ![16, 1, 2, 10, 128]⟩ (![0, 2, 3, 4] : Fin 4 → Fin 5))
  (hk : Shape.Concatenates [Cache L, ⟨5, ![16, 1, 2, 10, 128]⟩] (Cache (L + 1)) 1)
  (hsl : (Cache (L + 1)).Slices (![0, 1, 0, 0, 0] : Fin 5 → Nat) (Cache L))
  (ht : (Cache L).Transposes [0, 1, 3, 2, 4] (Heads L)) (hc : (Heads L).ShapeCasts (Rows n)) (j : (Rows n).Idx)

/-- The reference's array: the cache and the new position, without the first position, as rows of storage. -/
def shifted : (Rows n).Idx → α :=
  shapeCast (Rows n) (transpose (Heads L) [0, 1, 3, 2, 4] (extractStridedSlice (Cache L) (![0, 1, 0, 0, 0] : Fin 5 → Nat)
    (concatenate (Cache (L + 1)) 1 [⟨Cache L, x⟩, ⟨⟨5, ![16, 1, 2, 10, 128]⟩, broadcastInDim ⟨5, ![16, 1, 2, 10, 128]⟩ (![0, 2, 3, 4] : Fin 4 → Fin 5) hb y⟩] hk)
    hsl) ht) hc

/-- Before the last position a row of the result is the cache's row of the next position. -/
theorem shifted_old (s p c h l : ℕ) (hs : s < 16) (hp : p + 1 < L) (hc' : c < 2) (hh : h < 10) (hl : l < 128)
    (h0 : (j 0).val = ((s * L + p) * 10 + h) * 2 + c) (h1 : (j 1).val = l) :
    shifted x y hb hk hsl ht hc j = x (cell s (p + 1) c h l hs hp hc' hh hl) := by
  unfold shifted
  refine (storage_at _ ht hc j s p c h l hs (by omega) hc' hh hl h0 h1).trans
    ((extractStridedSlice_apply _ _ hsl _ (cell (L := L + 1) s (p + 1) c h l hs (by omega) hc' hh hl) fun a => ?_).trans
      (concatenate_pair_apply_left 1 x _ hk _ rfl (cell s (p + 1) c h l hs hp hc' hh hl) fun b => ?_))
  · match a with
    | ⟨0, _⟩ => exact (Nat.zero_add s).symm
    | ⟨1, _⟩ => exact Nat.add_comm p 1
    | ⟨2, _⟩ => exact (Nat.zero_add c).symm
    | ⟨3, _⟩ => exact (Nat.zero_add h).symm
    | ⟨4, _⟩ => exact (Nat.zero_add l).symm
  · match b with
    | ⟨0, _⟩ => rfl
    | ⟨1, _⟩ => rfl
    | ⟨2, _⟩ => rfl
    | ⟨3, _⟩ => rfl
    | ⟨4, _⟩ => rfl

/-- At the last position it is the new position's row. -/
theorem shifted_new (s p c h l : ℕ) (hs : s < 16) (hp : p + 1 = L) (hc' : c < 2) (hh : h < 10) (hl : l < 128)
    (h0 : (j 0).val = ((s * L + p) * 10 + h) * 2 + c) (h1 : (j 1).val = l) :
    shifted x y hb hk hsl ht hc j = y (newCell s c h l hs hc' hh hl) := by
  unfold shifted
  let k : (⟨5, ![16, 1, 2, 10, 128]⟩ : Shape).Idx := fun a => match a with
    | ⟨0, _⟩ => ⟨s, hs⟩
    | ⟨1, _⟩ => ⟨0, Nat.one_pos⟩
    | ⟨2, _⟩ => ⟨c, hc'⟩
    | ⟨3, _⟩ => ⟨h, hh⟩
    | ⟨4, _⟩ => ⟨l, hl⟩
  refine (storage_at _ ht hc j s p c h l hs (by omega) hc' hh hl h0 h1).trans
    ((extractStridedSlice_apply _ _ hsl _ (cell (L := L + 1) s (p + 1) c h l hs (by omega) hc' hh hl) fun a => ?_).trans
      ((concatenate_pair_apply_right 1 x _ hk _ rfl rfl k (fun b hb => ?_) ?_).trans (broadcastInDim_apply _ hb y k _ fun a => ?_)))
  · match a with
    | ⟨0, _⟩ => exact (Nat.zero_add s).symm
    | ⟨1, _⟩ => exact Nat.add_comm p 1
    | ⟨2, _⟩ => exact (Nat.zero_add c).symm
    | ⟨3, _⟩ => exact (Nat.zero_add h).symm
    | ⟨4, _⟩ => exact (Nat.zero_add l).symm
  · match b with
    | ⟨0, _⟩ => rfl
    | ⟨1, _⟩ => exact absurd rfl hb
    | ⟨2, _⟩ => rfl
    | ⟨3, _⟩ => rfl
    | ⟨4, _⟩ => rfl
  · show 0 + L = p + 1
    omega
  · match a with
    | ⟨0, _⟩ => show s = if (16 : ℕ) = 1 then 0 else s; rw [if_neg (by decide)]
    | ⟨1, _⟩ => show c = if (2 : ℕ) = 1 then 0 else c; rw [if_neg (by decide)]
    | ⟨2, _⟩ => show h = if (10 : ℕ) = 1 then 0 else h; rw [if_neg (by decide)]
    | ⟨3, _⟩ => show l = if (128 : ℕ) = 1 then 0 else l; rw [if_neg (by decide)]

/-- A row of the result that is of no last position is the cache's row twenty further. -/
theorem shifted_row_old (hn : n = 320 * L) (hp : (j 0).val / 20 % L + 1 < L) (k : (Rows n).Idx) (h0 : (k 0).val = (j 0).val + 20) (h1 : (k 1).val = (j 1).val) :
    shapeCast (Rows n) (transpose (Heads L) [0, 1, 3, 2, 4] x ht) hc k = shifted x y hb hk hsl ht hc j := by
  have hj : (j 0).val < n := (j 0).isLt
  have hd := Nat.div_add_mod ((j 0).val / 20) L
  rw [Nat.mul_comm] at hd
  have hs : (j 0).val / 20 / L < 16 := Nat.div_lt_of_lt_mul (by omega)
  exact (storage_at x ht hc k ((j 0).val / 20 / L) ((j 0).val / 20 % L + 1) ((j 0).val % 2) ((j 0).val / 2 % 10) (j 1).val hs hp (by omega) (by omega) (j 1).isLt
    (by omega) h1).trans
    (shifted_old x y hb hk hsl ht hc j ((j 0).val / 20 / L) ((j 0).val / 20 % L) ((j 0).val % 2) ((j 0).val / 2 % 10) (j 1).val hs hp (by omega) (by omega) (j 1).isLt
      (by omega) rfl).symm

/-- A row of a last position is the new position's row. -/
theorem shifted_row_new (hn : n = 320 * L) (hp : (j 0).val / 20 % L + 1 = L) {u : Shape} (v : u.Idx → α) (hu : 0 < u.numel)
    (ht' : New.Transposes [0, 2, 1, 3] ⟨4, ![16, 10, 2, 128]⟩) (hc1 : (⟨4, ![16, 10, 2, 128]⟩ : Shape).ShapeCasts (Rows 320))
    (hc2 : (Rows 320).ShapeCasts ⟨3, ![16, 20, 128]⟩)
    (hp' : (⟨3, ![16, 20, 128]⟩ : Shape).Pads (![0, 0, 0] : Fin 3 → Nat) ![0, 4, 0] ![0, 0, 0] ⟨3, ![16, 24, 128]⟩)
    (hc3 : (⟨3, ![16, 24, 128]⟩ : Shape).ShapeCasts (Rows 384))
    (k : (Rows 384).Idx) (h0 : (k 0).val = 24 * ((j 0).val / 20 / L) + (j 0).val % 20) (h1 : (k 1).val = (j 1).val) :
    shapeCast (Rows 384) (pad ⟨3, ![16, 24, 128]⟩ (![0, 0, 0] : Fin 3 → Nat) ![0, 4, 0] ![0, 0, 0]
      (shapeCast ⟨3, ![16, 20, 128]⟩ (shapeCast (Rows 320) (transpose ⟨4, ![16, 10, 2, 128]⟩ [0, 2, 1, 3] y ht') hc1) hc2) v hp' hu) hc3 k
      = shifted x y hb hk hsl ht hc j := by
  have hj : (j 0).val < n := (j 0).isLt
  have hd := Nat.div_add_mod ((j 0).val / 20) L
  rw [Nat.mul_comm] at hd
  have hs : (j 0).val / 20 / L < 16 := Nat.div_lt_of_lt_mul (by omega)
  exact (padded_at y v hu ht' hc1 hc2 hp' hc3 k ((j 0).val / 20 / L) ((j 0).val % 2) ((j 0).val / 2 % 10) (j 1).val hs (by omega) (by omega) (j 1).isLt (by omega) h1).trans
    (shifted_new x y hb hk hsl ht hc j ((j 0).val / 20 / L) ((j 0).val / 20 % L) ((j 0).val % 2) ((j 0).val / 2 % 10) (j 1).val hs hp (by omega) (by omega) (j 1).isLt
      (by omega) rfl).symm

end reference

/-! ## What a grid point stores -/

/-- A block shifted by one position: its later rows, then the next rows. -/
def shiftBlk {n : ℕ} (x : (Rows 2560).Idx → α) (w : (Rows n).Idx → α) (hn : 20 ≤ n) (y : (Rows 2560).Idx) : α :=
  if h : (y 0).val < 2540 then x (fun a => match a with
    | ⟨0, _⟩ => ⟨20 + (y 0).val, by show 20 + (y 0).val < 2560; omega⟩
    | ⟨1, _⟩ => ⟨(y 1).val, (y 1).isLt⟩)
  else w (fun a => match a with
    | ⟨0, _⟩ => ⟨(y 0).val - 2540, by have h' : (y 0).val < 2560 := (y 0).isLt; show (y 0).val - 2540 < n; omega⟩
    | ⟨1, _⟩ => ⟨(y 1).val, (y 1).isLt⟩)

theorem shiftBlk_old {n : ℕ} (x : (Rows 2560).Idx → α) (w : (Rows n).Idx → α) (hn : 20 ≤ n) (y k : (Rows 2560).Idx)
    (h0 : (k 0).val = 20 + (y 0).val) (h1 : (k 1).val = (y 1).val) : shiftBlk x w hn y = x k := by
  have h' : (k 0).val < 2560 := (k 0).isLt
  unfold shiftBlk
  rw [dif_pos (by omega)]
  refine congrArg x (funext fun a => Fin.ext ?_)
  match a with
  | ⟨0, _⟩ => exact h0.symm
  | ⟨1, _⟩ => exact h1.symm

theorem shiftBlk_next {n : ℕ} (x : (Rows 2560).Idx → α) (w : (Rows n).Idx → α) (hn : 20 ≤ n) (y : (Rows 2560).Idx) (k : (Rows n).Idx)
    (h0 : 2540 + (k 0).val = (y 0).val) (h1 : (k 1).val = (y 1).val) : shiftBlk x w hn y = w k := by
  unfold shiftBlk
  rw [dif_neg (by omega)]
  refine congrArg w (funext fun a => Fin.ext ?_)
  match a with
  | ⟨0, _⟩ => show (y 0).val - 2540 = (k 0).val; omega
  | ⟨1, _⟩ => exact h1.symm

/-! ## A block of the result -/

/-- Where in its sequence a position of a block is. -/
theorem position {L nb : ℕ} (t q : ℕ) (hnb : 0 < nb) (hL : L = 128 * nb) (hq : q < 128) : (128 * t + q) % L = 128 * (t % nb) + q ∧ (128 * t + q) / L = t / nb := by
  have e : 128 * t + q = L * (t / nb) + (128 * (t % nb) + q) := by
    have hd := Nat.div_add_mod t nb
    rw [hL, Nat.mul_assoc]
    omega
  have hlt := Nat.mod_lt t hnb
  have hs : 128 * (t % nb) + q < L := by omega
  refine ⟨?_, ?_⟩
  · rw [e, Nat.mul_add_mod, Nat.mod_eq_of_lt hs]
  · rw [e, Nat.mul_add_div (by omega), Nat.div_eq_of_lt hs, Nat.add_zero]

section block

variable {L n nb : ℕ} (hnb : 0 < nb) (hL : L = 128 * nb) (hn : n = 320 * L) (x : (Cache L).Idx → α) (y : New.Idx → α)
  (hb : New.BroadcastsInDim ⟨5, ![16, 1, 2, 10, 128]⟩ (![0, 2, 3, 4] : Fin 4 → Fin 5))
  (hk : Shape.Concatenates [Cache L, ⟨5, ![16, 1, 2, 10, 128]⟩] (Cache (L + 1)) 1)
  (hsl : (Cache (L + 1)).Slices (![0, 1, 0, 0, 0] : Fin 5 → Nat) (Cache L))
  (ht : (Cache L).Transposes [0, 1, 3, 2, 4] (Heads L)) (hc : (Heads L).ShapeCasts (Rows n))
  {S : (Rows n).Idx → α} (hS : S = shapeCast (Rows n) (transpose (Heads L) [0, 1, 3, 2, 4] x ht) hc)

include hnb hL hn hS

/-- The block shifted is the result's block, if the rows that come after it are. -/
theorem block_at {d : ℕ} (t : ℕ) (b : (Rows 2560).Idx → α) (w : (Rows d).Idx → α) (hd : 20 ≤ d) (u : (Rows 2560).Idx) (j : (Rows n).Idx)
    (hbS : ∀ (u : (Rows 2560).Idx) (k : (Rows n).Idx), (k 0).val = 2560 * t + (u 0).val → (k 1).val = (u 1).val → b u = S k)
    (h0 : (j 0).val = 2560 * t + (u 0).val) (h1 : (j 1).val = (u 1).val)
    (hw : ∀ v : (Rows d).Idx, 2540 + (v 0).val = (u 0).val → (v 1).val = (u 1).val → w v = shifted x y hb hk hsl ht hc j) :
    shiftBlk b w hd u = shifted x y hb hk hsl ht hc j := by
  have hj : (j 0).val < n := (j 0).isLt
  have hu : (u 0).val < 2560 := (u 0).isLt
  by_cases hy : (u 0).val < 2540
  · have hq := (position t ((u 0).val / 20) hnb hL (by omega)).1
    have hlt := Nat.mod_lt t hnb
    have hp : (j 0).val / 20 % L + 1 < L := by
      rw [show (j 0).val / 20 = 128 * t + (u 0).val / 20 by omega, hq]
      omega
    have hs : (j 0).val / 20 / L < 16 := Nat.div_lt_of_lt_mul (by omega)
    have hdm := Nat.div_add_mod ((j 0).val / 20) L
    have hsL : L * ((j 0).val / 20 / L) ≤ L * 15 := Nat.mul_le_mul_left L (by omega)
    let k : (Rows n).Idx := fun a => match a with
      | ⟨0, _⟩ => ⟨(j 0).val + 20, by show (j 0).val + 20 < n; omega⟩
      | ⟨1, _⟩ => ⟨(j 1).val, (j 1).isLt⟩
    let v : (Rows 2560).Idx := fun a => match a with
      | ⟨0, _⟩ => ⟨20 + (u 0).val, by show 20 + (u 0).val < 2560; omega⟩
      | ⟨1, _⟩ => ⟨(u 1).val, (u 1).isLt⟩
    refine (shiftBlk_old b w hd u v rfl rfl).trans ((hbS v k ?_ h1).trans ?_)
    · show (j 0).val + 20 = 2560 * t + (20 + (u 0).val)
      omega
    · rw [hS]
      exact shifted_row_old x y hb hk hsl ht hc j hn hp k rfl rfl
  · let v : (Rows d).Idx := fun a => match a with
      | ⟨0, _⟩ => ⟨(u 0).val - 2540, by show (u 0).val - 2540 < d; omega⟩
      | ⟨1, _⟩ => ⟨(u 1).val, (u 1).isLt⟩
    have hv : 2540 + (v 0).val = (u 0).val := by
      show 2540 + ((u 0).val - 2540) = (u 0).val
      omega
    exact (shiftBlk_next b w hd u v hv rfl).trans (hw v hv rfl)

/-- A block that is not its sequence's last goes on with the next block. -/
theorem block_next (t : ℕ) (htb : t % nb + 1 < nb) (b : (Rows 2560).Idx → α) (w : (Rows 40).Idx → α) (hd : 20 ≤ 40) (u : (Rows 2560).Idx) (j : (Rows n).Idx)
    (hbS : ∀ (u : (Rows 2560).Idx) (k : (Rows n).Idx), (k 0).val = 2560 * t + (u 0).val → (k 1).val = (u 1).val → b u = S k)
    (hwS : ∀ (u : (Rows 40).Idx) (k : (Rows n).Idx), (k 0).val = 2560 * (t + 1) + (u 0).val → (k 1).val = (u 1).val → w u = S k)
    (h0 : (j 0).val = 2560 * t + (u 0).val) (h1 : (j 1).val = (u 1).val) :
    shiftBlk b w hd u = shifted x y hb hk hsl ht hc j := by
  refine block_at hnb hL hn x y hb hk hsl ht hc hS t b w hd u j hbS h0 h1 fun v hv0 hv1 => ?_
  have hj : (j 0).val < n := (j 0).isLt
  have hu : (u 0).val < 2560 := (u 0).isLt
  have hq := (position t ((u 0).val / 20) hnb hL (by omega)).1
  have hp : (j 0).val / 20 % L + 1 < L := by
    rw [show (j 0).val / 20 = 128 * t + (u 0).val / 20 by omega, hq]
    omega
  have hs : (j 0).val / 20 / L < 16 := Nat.div_lt_of_lt_mul (by omega)
  have hdm := Nat.div_add_mod ((j 0).val / 20) L
  have hsL : L * ((j 0).val / 20 / L) ≤ L * 15 := Nat.mul_le_mul_left L (by omega)
  let k : (Rows n).Idx := fun a => match a with
    | ⟨0, _⟩ => ⟨(j 0).val + 20, by show (j 0).val + 20 < n; omega⟩
    | ⟨1, _⟩ => ⟨(j 1).val, (j 1).isLt⟩
  refine (hwS v k ?_ (h1.trans hv1.symm)).trans ?_
  · show (j 0).val + 20 = 2560 * (t + 1) + (v 0).val
    omega
  · rw [hS]
    exact shifted_row_old x y hb hk hsl ht hc j hn hp k rfl rfl

/-- A sequence's last block goes on with the new position. -/
theorem block_last {s : Shape} {v0 : s.Idx → α} (hu : 0 < s.numel)
    (ht' : New.Transposes [0, 2, 1, 3] ⟨4, ![16, 10, 2, 128]⟩) (hc1 : (⟨4, ![16, 10, 2, 128]⟩ : Shape).ShapeCasts (Rows 320))
    (hc2 : (Rows 320).ShapeCasts ⟨3, ![16, 20, 128]⟩)
    (hp' : (⟨3, ![16, 20, 128]⟩ : Shape).Pads (![0, 0, 0] : Fin 3 → Nat) ![0, 4, 0] ![0, 0, 0] ⟨3, ![16, 24, 128]⟩)
    (hc3 : (⟨3, ![16, 24, 128]⟩ : Shape).ShapeCasts (Rows 384)) {T : (Rows 384).Idx → α}
    (hT : T = shapeCast (Rows 384) (pad ⟨3, ![16, 24, 128]⟩ (![0, 0, 0] : Fin 3 → Nat) ![0, 4, 0] ![0, 0, 0]
      (shapeCast ⟨3, ![16, 20, 128]⟩ (shapeCast (Rows 320) (transpose ⟨4, ![16, 10, 2, 128]⟩ [0, 2, 1, 3] y ht') hc1) hc2) v0 hp' hu) hc3)
    (t : ℕ) (htb : t % nb + 1 = nb) (b : (Rows 2560).Idx → α) (w : (Rows 24).Idx → α) (hd : 20 ≤ 24) (u : (Rows 2560).Idx) (j : (Rows n).Idx)
    (hbS : ∀ (u : (Rows 2560).Idx) (k : (Rows n).Idx), (k 0).val = 2560 * t + (u 0).val → (k 1).val = (u 1).val → b u = S k)
    (hwT : ∀ (u : (Rows 24).Idx) (k : (Rows 384).Idx), (k 0).val = 24 * (t / nb) + (u 0).val → (k 1).val = (u 1).val → w u = T k)
    (h0 : (j 0).val = 2560 * t + (u 0).val) (h1 : (j 1).val = (u 1).val) :
    shiftBlk b w hd u = shifted x y hb hk hsl ht hc j := by
  refine block_at hnb hL hn x y hb hk hsl ht hc hS t b w hd u j hbS h0 h1 fun v hv0 hv1 => ?_
  have hj : (j 0).val < n := (j 0).isLt
  have hu' : (u 0).val < 2560 := (u 0).isLt
  have hs : (j 0).val / 20 / L < 16 := Nat.div_lt_of_lt_mul (by omega)
  obtain ⟨hq, hr⟩ := position t ((u 0).val / 20) hnb hL (by omega)
  rw [← show (j 0).val / 20 = 128 * t + (u 0).val / 20 by omega] at hq hr
  let k : (Rows 384).Idx := fun a => match a with
    | ⟨0, _⟩ => ⟨24 * ((j 0).val / 20 / L) + (j 0).val % 20, by show 24 * ((j 0).val / 20 / L) + (j 0).val % 20 < 384; omega⟩
    | ⟨1, _⟩ => ⟨(j 1).val, (j 1).isLt⟩
  refine (hwT v k ?_ (h1.trans hv1.symm)).trans ?_
  · show 24 * ((j 0).val / 20 / L) + (j 0).val % 20 = 24 * (t / nb) + (v 0).val
    rw [hr]
    omega
  · rw [hT]
    exact shifted_row_new x y hb hk hsl ht hc j hn (by rw [hq]; omega) v0 hu ht' hc1 hc2 hp' hc3 k rfl rfl

end block

/-- The two pieces that a grid point stores make the shifted block. -/
theorem canon_shift {n : ℕ} (x : FVec Ideal (Rows 2560) .f32) (w : FVec Ideal (Rows n) .f32) (hn : 20 ≤ n)
    (i1 : ∀ a, (![2540, 0] : Fin 2 → ℕ) a + (Rows 20).size a ≤ (Rows 2560).size a) (i2 : ∀ a, (![0, 0] : Fin 2 → ℕ) a + (Rows 20).size a ≤ (Rows n).size a)
    (i3 : ∀ a, (![0, 0] : Fin 2 → ℕ) a + (Rows 2540).size a ≤ (Rows 2560).size a) (i4 : ∀ a, (![20, 0] : Fin 2 → ℕ) a + (Rows 2540).size a ≤ (Rows 2560).size a)
    (c1 : (Rows 20).ShapeCasts (Rows 20)) (c2 : (Rows 2540).ShapeCasts (Rows 2540)) (L : List (View.Piece (Elt Ideal) (Rows 2560) .f32))
    (hL : L = [⟨Rect.unit (s := Rows 2560) ![2540, 0] (Rows 20).size i1,
          shapeCast (Rows 20) (View.ld (Val := Elt Ideal) (e' := .f32) w (Rect.unit (s := Rows n) ![0, 0] (Rows 20).size i2)) c1⟩,
        ⟨Rect.unit (s := Rows 2560) ![0, 0] (Rows 2540).size i3,
          shapeCast (Rows 2540) (View.ld (Val := Elt Ideal) (e' := .f32) x (Rect.unit (s := Rows 2560) ![20, 0] (Rows 2540).size i4)) c2⟩])
    (y : (Rows 2560).Idx) (hy : ∃ p ∈ L, y ∈ p.1.set) : View.canon L y = shiftBlk x w hn y := by
  refine View.canon_apply_of_pieces (shiftBlk x w hn) _ ?_ y hy
  rw [hL]
  intro q hq
  rcases List.mem_cons.mp hq with rfl | hq
  · intro k
    show shapeCast (Rows 20) (View.ld (Val := Elt Ideal) (e' := .f32) w (Rect.unit (s := Rows n) ![0, 0] (Rows 20).size i2)) c1 k = _
    rw [shapeCast_apply _ c1 k k rfl]
    refine (shiftBlk_next x w hn _ ((Rect.unit (s := Rows n) ![0, 0] (Rows 20).size i2).idx k) ?_ ?_).symm
    · show 2540 + ((Rect.unit (s := Rows n) ![0, 0] (Rows 20).size i2).idx k 0).val = ((Rect.unit (s := Rows 2560) ![2540, 0] (Rows 20).size i1).idx k 0).val
      rw [Rect.idx_unit_val, Rect.idx_unit_val]
      show 2540 + (0 + (k 0).val) = 2540 + (k 0).val
      omega
    · show ((Rect.unit (s := Rows n) ![0, 0] (Rows 20).size i2).idx k 1).val = ((Rect.unit (s := Rows 2560) ![2540, 0] (Rows 20).size i1).idx k 1).val
      rw [Rect.idx_unit_val, Rect.idx_unit_val]
      rfl
  · obtain rfl := List.mem_singleton.mp hq
    intro k
    show shapeCast (Rows 2540) (View.ld (Val := Elt Ideal) (e' := .f32) x (Rect.unit (s := Rows 2560) ![20, 0] (Rows 2540).size i4)) c2 k = _
    rw [shapeCast_apply _ c2 k k rfl]
    refine (shiftBlk_old x w hn _ ((Rect.unit (s := Rows 2560) ![20, 0] (Rows 2540).size i4).idx k) ?_ ?_).symm
    · show ((Rect.unit (s := Rows 2560) ![20, 0] (Rows 2540).size i4).idx k 0).val = 20 + ((Rect.unit (s := Rows 2560) ![0, 0] (Rows 2540).size i3).idx k 0).val
      rw [Rect.idx_unit_val, Rect.idx_unit_val]
      show 20 + (k 0).val = 20 + (0 + (k 0).val)
      omega
    · show ((Rect.unit (s := Rows 2560) ![20, 0] (Rows 2540).size i4).idx k 1).val = ((Rect.unit (s := Rows 2560) ![0, 0] (Rows 2540).size i3).idx k 1).val
      rw [Rect.idx_unit_val, Rect.idx_unit_val]
      rfl

end Cert.Shift
-- ==== Proof.Shift12.lean ====
/- The first group's cache, shifted by one position: the call and its reference agree. -/
module

public import proofs.«01_k».proof.Defs
public import proofs.«01_k».proof.Proof.ShiftRow
public import proofs.«01_k».proof.Proof.Gen.Kernel12Ideal.Value
public import proofs.«01_k».proof.Proof.Gen.Reference12Ideal.Read
public import Idealize.ShloMosaic.Lib.Quiescent

@[expose] public section

set_option maxRecDepth 16384

noncomputable section

namespace Cert.Kernel12Ideal.Tile

open Cert.Kernel12Ideal Cert.Kernel12Ideal.Gen
open Idealize.ShloMosaic Idealize.ShloMosaic.TcCoe Idealize.ShloMosaic.StableHlo
open Idealize.SL.Sem

/-! ## The arrays before the call -/

variable (m : (ℓ : Loc nD τ sig) → Buf (Elt Ideal) ℓ) (c : Dev nD)

abbrev cache : FVec Ideal S16x128x2x10x128 .f32 := m ((c : Thread nD τ).loc main_arg0)
abbrev new : FVec Ideal S16x2x10x128 .f32 := m ((c : Thread nD τ).loc main_arg1)

theorem V_main_v1 : V m c main_v1 = shapeCast S40960x128 (transpose S16x128x10x2x128 [0, 1, 3, 2, 4] (cache m c) transposes_S16x128x2x10x128_S16x128x10x2x128_0_1_3_2_4) shapeCasts_S16x128x10x2x128_S40960x128 := by
  unfold V
  exact (by after_results <;> rfl)

theorem V_main_v6 : V m c main_v6 = shapeCast S384x128 (pad S16x24x128 (![0, 0, 0] : Fin 3 → Nat) ![0, 4, 0] ![0, 0, 0]
    (shapeCast S16x20x128 (shapeCast S320x128 (transpose S16x10x2x128 [0, 2, 1, 3] (new m c) transposes_S16x2x10x128_S16x10x2x128_0_2_1_3) shapeCasts_S16x10x2x128_S320x128) shapeCasts_S320x128_S16x20x128)
    (V m c main_call0_v0) pads_S16x20x128_S16x24x128_000_040_000 h_S_) shapeCasts_S16x24x128_S384x128 := by
  unfold V
  exact (by after_results <;> rfl)

/-! ## The blocks -/

theorem map0 : ∀ t : Fin cfg0.N, cc0_transform_0 (grid0.coords t) = ![t.val, 0] := by decide +kernel
theorem map2 : ∀ t : Fin cfg0.N, cc0_transform_2 (grid0.coords t) = ![t.val / 1, 0] := by decide +kernel
theorem map3 : ∀ t : Fin cfg0.N, cc0_transform_3 (grid0.coords t) = ![t.val, 0] := by decide +kernel

/-- A row of the block of the cache that a point holds. -/
theorem blk0_at (t : Fin cfg0.N) (u : S2560x128.Idx) (k : S40960x128.Idx) (h0 : (k 0).val = 2560 * t.val + (u 0).val) (h1 : (k 1).val = (u 1).val) :
    iblk m c 0 t u = V m c main_v1 k := by
  have e0 : win0_0.index t 0 = t.val := congrFun (map0 t) 0
  have e1 : win0_0.index t 1 = 0 := congrFun (map0 t) 1
  show V m c main_v1 ((win0_0.blk t).view.emb u) = V m c main_v1 k
  refine congrArg _ (Shift.idx_ext _ _ ?_ ?_)
  · blk_simp
    rw [e0]
    omega
  · blk_simp
    rw [e1]
    omega

/-- A row of the block of the new position that a point holds. -/
theorem blk2_at (t : Fin cfg0.N) (u : S24x128.Idx) (k : S384x128.Idx) (h0 : (k 0).val = 24 * (t.val / 1) + (u 0).val) (h1 : (k 1).val = (u 1).val) :
    iblk m c 2 t u = V m c main_v6 k := by
  have e0 : win0_2.index t 0 = t.val / 1 := congrFun (map2 t) 0
  have e1 : win0_2.index t 1 = 0 := congrFun (map2 t) 1
  show V m c main_v6 ((win0_2.blk t).view.emb u) = V m c main_v6 k
  refine congrArg _ (Shift.idx_ext _ _ ?_ ?_)
  · blk_simp
    rw [e0]
    omega
  · blk_simp
    rw [e1]
    omega

/-! ## What a point stores -/

/-- In case A a point stores its block of the cache shifted by one position, then the new position. -/
theorem bodyA_at (i : grid0.Coords) (arg2 : Memref sig .tc .vmem S2560x128 .f32) (harg2 : arg2.IsWhole) (arg3 : Memref sig .tc .vmem S40x128 .f32) (harg3 : arg3.IsWhole) (arg4 : Memref sig .tc .vmem S24x128 .f32) (harg4 : arg4.IsWhole) (arg5 : Memref sig .tc .vmem S2560x128 .f32) (harg5 : arg5.IsWhole) (hc0 : ¬cond0_0 i) (hc1 : cond0_1 i)
    (x0 : FVec Ideal S2560x128 .f32) (x1 : FVec Ideal S40x128 .f32) (x2 : FVec Ideal S24x128 .f32) (y : S2560x128.Idx) :
    out0_A_3 (F := Ideal) c i arg2 harg2 arg3 harg3 arg4 harg4 arg5 harg5 hc0 hc1 x0 x1 x2 y = Shift.shiftBlk x0 x2 (by decide) y := by
  unfold out0_A_3
  refine (congrFun (View.read_writes_eq_canon (Val := Elt Ideal) VO0_3 VO0_3.junk _ (cover0_A_3 (F := Ideal) c i arg2 harg2 arg3 harg3 arg4 harg4 arg5 harg5 hc0 hc1 x0 x1 x2)) y).trans ?_
  refine Shift.canon_shift x0 x2 (by decide) inb_S2560x128_S20x128_2540_0 inb_S24x128_S20x128_0_0 inb_S2560x128_S2540x128_0_0 inb_S2560x128_S2540x128_20_0
    shapeCasts_S20x128_S20x128 shapeCasts_S2540x128_S2540x128 _ ?_ y (cover0_A_3 (F := Ideal) c i arg2 harg2 arg3 harg3 arg4 harg4 arg5 harg5 hc0 hc1 x0 x1 x2 y)
  have e0 : arg2.view.read (Elt Ideal) (harg2.unread x0) = x0 := by rw [harg2.read_unread]
  have e1 : arg4.view.read (Elt Ideal) (harg4.unread x2) = x2 := by rw [harg4.read_unread]
  conv_rhs => rw [← e0, ← e1]
  unfold kernelRun0_A
  rfl

/-- The reference's array at the kernel's arguments. -/
abbrev ref : FVec Ideal S40960x128 .f32 := Cert.Reference12Ideal.Read.val_main_v4 (F := Ideal) (cache m c) (new m c)

/-- What a point leaves is the reference at its places. -/
theorem out_at (t : Fin cfg0.N) (y : S2560x128.Idx) (z : S40960x128.Idx) (h0 : (z 0).val = 2560 * t.val + (y 0).val) (h1 : (z 1).val = (y 1).val) :
    outsAt0 m c t y = ref m c z := by
  exact (bodyA_at c (grid0.coords t) _ _ _ _ _ _ _ _ (hcond0_0 t) (hcond0_1 t) (iblk m c 0 t) (iblk m c 1 t) (iblk m c 2 t) y).trans
    (Shift.block_last (L := 128) (n := 40960) (nb := 1) (by decide) rfl rfl _ _ _ _ _ _ _ (V_main_v1 m c) h_S_ _ _ _ _ _ (V_main_v6 m c) t.val (by omega) _ _ _ y z (blk0_at m c t) (blk2_at m c t) h0 h1)

/-- The output array after the launch is the reference's. -/
theorem arr_out : (dats m 0 c).arrAt 3 cfg0.N = ref m c := by
  refine Pipeline.Dat.arrAt_eq_of_covers (dats m 0 c) 3 _ (by decide +kernel) fun t hf y => ?_
  have e0 : win0_3.index t 0 = t.val := congrFun (map3 t) 0
  have e1 : win0_3.index t 1 = 0 := congrFun (map3 t) 1
  have a0 : (((win0_3.blk t).view.emb y) 0).val = 2560 * t.val + (y 0).val := by
    blk_simp
    rw [e0]
    omega
  have a1 : (((win0_3.blk t).view.emb y) 1).val = (y 1).val := by
    blk_simp
    rw [e1]
    omega
  refine Eq.trans ?_ (out_at m c t y ((win0_3.blk t).view.emb y) a0 a1)
  rw [← after0_3]
  rfl

end Cert.Kernel12Ideal.Tile

namespace Cert.Shift12

open Idealize.ShloMosaic Idealize.ShloMosaic.TcCoe
open Idealize.SL.Sem

theorem algebraic : Cert.algebraic_Kernel12Ideal_Reference12Ideal (hKernel12Ideal := Cert.Kernel12Ideal.Gen.facts) (hReference12Ideal := Cert.Reference12Ideal.Gen.facts) := by
  intro m g m' g' _ hargs
  refine ⟨fun c => Cert.Kernel12Ideal.Tile.ref m c, ?_, ?_⟩
  · refine (θ_run _ _ _).mono (fun r h c => ?_) (Cert.Kernel12Ideal.Value.run_blocks m g)
    obtain ⟨h0, hrest⟩ := h c
    exact ⟨h0.trans (Cert.Kernel12Ideal.Tile.arr_out m c), hrest⟩
  · refine (θ_run _ _ _).mono (fun r h c => ?_) (Cert.Reference12Ideal.Value.run m' g')
    obtain ⟨h0, hrest⟩ := h c
    obtain ⟨a0, a1⟩ := hargs c
    refine ⟨h0.trans ?_, hrest⟩
    rw [Cert.Reference12Ideal.Read.val_main_v4_eq, a0, a1]

open Cert.Reference12Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.Reference12Ideal.Value.run m g)

end Cert.Shift12
-- ==== Proof.Shift13.lean ====
/- The second group's cache, shifted by one position: the call and its reference agree. -/
module

public import proofs.«01_k».proof.Defs
public import proofs.«01_k».proof.Proof.ShiftRow
public import proofs.«01_k».proof.Proof.Gen.Kernel13Ideal.Value
public import proofs.«01_k».proof.Proof.Gen.Reference13Ideal.Read
public import Idealize.ShloMosaic.Lib.Quiescent

@[expose] public section

set_option maxRecDepth 16384

noncomputable section

namespace Cert.Kernel13Ideal.Tile

open Cert.Kernel13Ideal Cert.Kernel13Ideal.Gen
open Idealize.ShloMosaic Idealize.ShloMosaic.TcCoe Idealize.ShloMosaic.StableHlo
open Idealize.SL.Sem

/-! ## The arrays before the call -/

variable (m : (ℓ : Loc nD τ sig) → Buf (Elt Ideal) ℓ) (c : Dev nD)

abbrev cache : FVec Ideal S16x512x2x10x128 .f32 := m ((c : Thread nD τ).loc main_arg0)
abbrev new : FVec Ideal S16x2x10x128 .f32 := m ((c : Thread nD τ).loc main_arg1)

theorem V_main_v1 : V m c main_v1 = shapeCast S163840x128 (transpose S16x512x10x2x128 [0, 1, 3, 2, 4] (cache m c) transposes_S16x512x2x10x128_S16x512x10x2x128_0_1_3_2_4) shapeCasts_S16x512x10x2x128_S163840x128 := by
  unfold V
  exact (by after_results <;> rfl)

theorem V_main_v6 : V m c main_v6 = shapeCast S384x128 (pad S16x24x128 (![0, 0, 0] : Fin 3 → Nat) ![0, 4, 0] ![0, 0, 0]
    (shapeCast S16x20x128 (shapeCast S320x128 (transpose S16x10x2x128 [0, 2, 1, 3] (new m c) transposes_S16x2x10x128_S16x10x2x128_0_2_1_3) shapeCasts_S16x10x2x128_S320x128) shapeCasts_S320x128_S16x20x128)
    (V m c main_call0_v0) pads_S16x20x128_S16x24x128_000_040_000 h_S_) shapeCasts_S16x24x128_S384x128 := by
  unfold V
  exact (by after_results <;> rfl)

/-! ## The blocks -/

theorem map0 : ∀ t : Fin cfg0.N, cc0_transform_0 (grid0.coords t) = ![t.val, 0] := by decide +kernel
theorem map1 : ∀ t : Fin cfg0.N, t.val % 4 + 1 < 4 → cc0_transform_1 (grid0.coords t) = ![64 * (t.val + 1), 0] := by decide +kernel
theorem map2 : ∀ t : Fin cfg0.N, cc0_transform_2 (grid0.coords t) = ![t.val / 4, 0] := by decide +kernel
theorem map3 : ∀ t : Fin cfg0.N, cc0_transform_3 (grid0.coords t) = ![t.val, 0] := by decide +kernel

/-- A row of the block of the cache that a point holds. -/
theorem blk0_at (t : Fin cfg0.N) (u : S2560x128.Idx) (k : S163840x128.Idx) (h0 : (k 0).val = 2560 * t.val + (u 0).val) (h1 : (k 1).val = (u 1).val) :
    iblk m c 0 t u = V m c main_v1 k := by
  have e0 : win0_0.index t 0 = t.val := congrFun (map0 t) 0
  have e1 : win0_0.index t 1 = 0 := congrFun (map0 t) 1
  show V m c main_v1 ((win0_0.blk t).view.emb u) = V m c main_v1 k
  refine congrArg _ (Shift.idx_ext _ _ ?_ ?_)
  · blk_simp
    rw [e0]
    omega
  · blk_simp
    rw [e1]
    omega

/-- A row of the block after it. -/
theorem blk1_at (t : Fin cfg0.N) (ht : t.val % 4 + 1 < 4) (u : S40x128.Idx) (k : S163840x128.Idx) (h0 : (k 0).val = 2560 * (t.val + 1) + (u 0).val) (h1 : (k 1).val = (u 1).val) :
    iblk m c 1 t u = V m c main_v1 k := by
  have e0 : win0_1.index t 0 = 64 * (t.val + 1) := congrFun (map1 t ht) 0
  have e1 : win0_1.index t 1 = 0 := congrFun (map1 t ht) 1
  show V m c main_v1 ((win0_1.blk t).view.emb u) = V m c main_v1 k
  refine congrArg _ (Shift.idx_ext _ _ ?_ ?_)
  · blk_simp
    rw [e0]
    omega
  · blk_simp
    rw [e1]
    omega

/-- A row of the block of the new position that a point holds. -/
theorem blk2_at (t : Fin cfg0.N) (u : S24x128.Idx) (k : S384x128.Idx) (h0 : (k 0).val = 24 * (t.val / 4) + (u 0).val) (h1 : (k 1).val = (u 1).val) :
    iblk m c 2 t u = V m c main_v6 k := by
  have e0 : win0_2.index t 0 = t.val / 4 := congrFun (map2 t) 0
  have e1 : win0_2.index t 1 = 0 := congrFun (map2 t) 1
  show V m c main_v6 ((win0_2.blk t).view.emb u) = V m c main_v6 k
  refine congrArg _ (Shift.idx_ext _ _ ?_ ?_)
  · blk_simp
    rw [e0]
    omega
  · blk_simp
    rw [e1]
    omega

/-! ## What a point stores -/

/-- In case A a point stores its block of the cache shifted by one position, then the first position of the next block. -/
theorem bodyA_at (i : grid0.Coords) (arg2 : Memref sig .tc .vmem S2560x128 .f32) (harg2 : arg2.IsWhole) (arg3 : Memref sig .tc .vmem S40x128 .f32) (harg3 : arg3.IsWhole) (arg4 : Memref sig .tc .vmem S24x128 .f32) (harg4 : arg4.IsWhole) (arg5 : Memref sig .tc .vmem S2560x128 .f32) (harg5 : arg5.IsWhole) (hc0 : cond0_0 i) (hc1 : ¬cond0_1 i)
    (x0 : FVec Ideal S2560x128 .f32) (x1 : FVec Ideal S40x128 .f32) (x2 : FVec Ideal S24x128 .f32) (y : S2560x128.Idx) :
    out0_A_3 (F := Ideal) c i arg2 harg2 arg3 harg3 arg4 harg4 arg5 harg5 hc0 hc1 x0 x1 x2 y = Shift.shiftBlk x0 x1 (by decide) y := by
  unfold out0_A_3
  refine (congrFun (View.read_writes_eq_canon (Val := Elt Ideal) VO0_3 VO0_3.junk _ (cover0_A_3 (F := Ideal) c i arg2 harg2 arg3 harg3 arg4 harg4 arg5 harg5 hc0 hc1 x0 x1 x2)) y).trans ?_
  refine Shift.canon_shift x0 x1 (by decide) inb_S2560x128_S20x128_2540_0 inb_S40x128_S20x128_0_0 inb_S2560x128_S2540x128_0_0 inb_S2560x128_S2540x128_20_0
    shapeCasts_S20x128_S20x128 shapeCasts_S2540x128_S2540x128 _ ?_ y (cover0_A_3 (F := Ideal) c i arg2 harg2 arg3 harg3 arg4 harg4 arg5 harg5 hc0 hc1 x0 x1 x2 y)
  have e0 : arg2.view.read (Elt Ideal) (harg2.unread x0) = x0 := by rw [harg2.read_unread]
  have e1 : arg3.view.read (Elt Ideal) (harg3.unread x1) = x1 := by rw [harg3.read_unread]
  conv_rhs => rw [← e0, ← e1]
  unfold kernelRun0_A
  rfl

/-- In case B a point stores its block of the cache shifted by one position, then the new position. -/
theorem bodyB_at (i : grid0.Coords) (arg2 : Memref sig .tc .vmem S2560x128 .f32) (harg2 : arg2.IsWhole) (arg3 : Memref sig .tc .vmem S40x128 .f32) (harg3 : arg3.IsWhole) (arg4 : Memref sig .tc .vmem S24x128 .f32) (harg4 : arg4.IsWhole) (arg5 : Memref sig .tc .vmem S2560x128 .f32) (harg5 : arg5.IsWhole) (hc0 : ¬cond0_0 i) (hc1 : cond0_1 i)
    (x0 : FVec Ideal S2560x128 .f32) (x1 : FVec Ideal S40x128 .f32) (x2 : FVec Ideal S24x128 .f32) (y : S2560x128.Idx) :
    out0_B_3 (F := Ideal) c i arg2 harg2 arg3 harg3 arg4 harg4 arg5 harg5 hc0 hc1 x0 x1 x2 y = Shift.shiftBlk x0 x2 (by decide) y := by
  unfold out0_B_3
  refine (congrFun (View.read_writes_eq_canon (Val := Elt Ideal) VO0_3 VO0_3.junk _ (cover0_B_3 (F := Ideal) c i arg2 harg2 arg3 harg3 arg4 harg4 arg5 harg5 hc0 hc1 x0 x1 x2)) y).trans ?_
  refine Shift.canon_shift x0 x2 (by decide) inb_S2560x128_S20x128_2540_0 inb_S24x128_S20x128_0_0 inb_S2560x128_S2540x128_0_0 inb_S2560x128_S2540x128_20_0
    shapeCasts_S20x128_S20x128 shapeCasts_S2540x128_S2540x128 _ ?_ y (cover0_B_3 (F := Ideal) c i arg2 harg2 arg3 harg3 arg4 harg4 arg5 harg5 hc0 hc1 x0 x1 x2 y)
  have e0 : arg2.view.read (Elt Ideal) (harg2.unread x0) = x0 := by rw [harg2.read_unread]
  have e1 : arg4.view.read (Elt Ideal) (harg4.unread x2) = x2 := by rw [harg4.read_unread]
  conv_rhs => rw [← e0, ← e1]
  unfold kernelRun0_B
  rfl

/-- The reference's array at the kernel's arguments. -/
abbrev ref : FVec Ideal S163840x128 .f32 := Cert.Reference13Ideal.Read.val_main_v4 (F := Ideal) (cache m c) (new m c)

/-- What a point leaves is the reference at its places. -/
theorem out_at (t : Fin cfg0.N) (y : S2560x128.Idx) (z : S163840x128.Idx) (h0 : (z 0).val = 2560 * t.val + (y 0).val) (h1 : (z 1).val = (y 1).val) :
    outsAt0 m c t.val t.isLt y = ref m c z := by
  by_cases ha : t.val % 4 + 1 < 4
  · rw [outsAt0_A m c t (by omega) (by omega)]
    exact (bodyA_at c (grid0.coords t) _ _ _ _ _ _ _ _ _ _ (iblk m c 0 t) (iblk m c 1 t) (iblk m c 2 t) y).trans
      (Shift.block_next (L := 512) (n := 163840) (nb := 4) (by decide) rfl rfl _ _ _ _ _ _ _ (V_main_v1 m c) t.val ha _ _ _ y z (blk0_at m c t) (blk1_at m c t ha) h0 h1)
  · rw [outsAt0_B m c t (by omega) (by omega)]
    exact (bodyB_at c (grid0.coords t) _ _ _ _ _ _ _ _ _ _ (iblk m c 0 t) (iblk m c 1 t) (iblk m c 2 t) y).trans
      (Shift.block_last (L := 512) (n := 163840) (nb := 4) (by decide) rfl rfl _ _ _ _ _ _ _ (V_main_v1 m c) h_S_ _ _ _ _ _ (V_main_v6 m c) t.val (by omega) _ _ _ y z (blk0_at m c t) (blk2_at m c t) h0 h1)

/-- The output array after the launch is the reference's. -/
theorem arr_out : (dats m 0 c).arrAt 3 cfg0.N = ref m c := by
  refine Pipeline.Dat.arrAt_eq_of_covers (dats m 0 c) 3 _ (by decide +kernel) fun t hf y => ?_
  have e0 : win0_3.index t 0 = t.val := congrFun (map3 t) 0
  have e1 : win0_3.index t 1 = 0 := congrFun (map3 t) 1
  have a0 : (((win0_3.blk t).view.emb y) 0).val = 2560 * t.val + (y 0).val := by
    blk_simp
    rw [e0]
    omega
  have a1 : (((win0_3.blk t).view.emb y) 1).val = (y 1).val := by
    blk_simp
    rw [e1]
    omega
  refine Eq.trans ?_ (out_at m c t y ((win0_3.blk t).view.emb y) a0 a1)
  rw [← after0_3]
  rfl

end Cert.Kernel13Ideal.Tile

namespace Cert.Shift13

open Idealize.ShloMosaic Idealize.ShloMosaic.TcCoe
open Idealize.SL.Sem

theorem algebraic : Cert.algebraic_Kernel13Ideal_Reference13Ideal (hKernel13Ideal := Cert.Kernel13Ideal.Gen.facts) (hReference13Ideal := Cert.Reference13Ideal.Gen.facts) := by
  intro m g m' g' _ hargs
  refine ⟨fun c => Cert.Kernel13Ideal.Tile.ref m c, ?_, ?_⟩
  · refine (θ_run _ _ _).mono (fun r h c => ?_) (Cert.Kernel13Ideal.Value.run_blocks m g)
    obtain ⟨h0, hrest⟩ := h c
    exact ⟨h0.trans (Cert.Kernel13Ideal.Tile.arr_out m c), hrest⟩
  · refine (θ_run _ _ _).mono (fun r h c => ?_) (Cert.Reference13Ideal.Value.run m' g')
    obtain ⟨h0, hrest⟩ := h c
    obtain ⟨a0, a1⟩ := hargs c
    refine ⟨h0.trans ?_, hrest⟩
    rw [Cert.Reference13Ideal.Read.val_main_v4_eq, a0, a1]

open Cert.Reference13Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.Reference13Ideal.Value.run m g)

end Cert.Shift13
-- ==== Proof.Shift14.lean ====
/- The third group's cache, shifted by one position: the call and its reference agree. -/
module

public import proofs.«01_k».proof.Defs
public import proofs.«01_k».proof.Proof.ShiftRow
public import proofs.«01_k».proof.Proof.Gen.Kernel14Ideal.Value
public import proofs.«01_k».proof.Proof.Gen.Reference14Ideal.Read
public import Idealize.ShloMosaic.Lib.Quiescent

@[expose] public section

set_option maxRecDepth 16384

noncomputable section

namespace Cert.Kernel14Ideal.Tile

open Cert.Kernel14Ideal Cert.Kernel14Ideal.Gen
open Idealize.ShloMosaic Idealize.ShloMosaic.TcCoe Idealize.ShloMosaic.StableHlo
open Idealize.SL.Sem

/-! ## The arrays before the call -/

variable (m : (ℓ : Loc nD τ sig) → Buf (Elt Ideal) ℓ) (c : Dev nD)

abbrev cache : FVec Ideal S16x2048x2x10x128 .f32 := m ((c : Thread nD τ).loc main_arg0)
abbrev new : FVec Ideal S16x2x10x128 .f32 := m ((c : Thread nD τ).loc main_arg1)

theorem V_main_v1 : V m c main_v1 = shapeCast S655360x128 (transpose S16x2048x10x2x128 [0, 1, 3, 2, 4] (cache m c) transposes_S16x2048x2x10x128_S16x2048x10x2x128_0_1_3_2_4) shapeCasts_S16x2048x10x2x128_S655360x128 := by
  unfold V
  exact (by after_results <;> rfl)

theorem V_main_v6 : V m c main_v6 = shapeCast S384x128 (pad S16x24x128 (![0, 0, 0] : Fin 3 → Nat) ![0, 4, 0] ![0, 0, 0]
    (shapeCast S16x20x128 (shapeCast S320x128 (transpose S16x10x2x128 [0, 2, 1, 3] (new m c) transposes_S16x2x10x128_S16x10x2x128_0_2_1_3) shapeCasts_S16x10x2x128_S320x128) shapeCasts_S320x128_S16x20x128)
    (V m c main_call0_v0) pads_S16x20x128_S16x24x128_000_040_000 h_S_) shapeCasts_S16x24x128_S384x128 := by
  unfold V
  exact (by after_results <;> rfl)

/-! ## The blocks -/

theorem map0 : ∀ t : Fin cfg0.N, cc0_transform_0 (grid0.coords t) = ![t.val, 0] := by decide +kernel
theorem map1 : ∀ t : Fin cfg0.N, t.val % 16 + 1 < 16 → cc0_transform_1 (grid0.coords t) = ![64 * (t.val + 1), 0] := by decide +kernel
theorem map2 : ∀ t : Fin cfg0.N, cc0_transform_2 (grid0.coords t) = ![t.val / 16, 0] := by decide +kernel
theorem map3 : ∀ t : Fin cfg0.N, cc0_transform_3 (grid0.coords t) = ![t.val, 0] := by decide +kernel

/-- A row of the block of the cache that a point holds. -/
theorem blk0_at (t : Fin cfg0.N) (u : S2560x128.Idx) (k : S655360x128.Idx) (h0 : (k 0).val = 2560 * t.val + (u 0).val) (h1 : (k 1).val = (u 1).val) :
    iblk m c 0 t u = V m c main_v1 k := by
  have e0 : win0_0.index t 0 = t.val := congrFun (map0 t) 0
  have e1 : win0_0.index t 1 = 0 := congrFun (map0 t) 1
  show V m c main_v1 ((win0_0.blk t).view.emb u) = V m c main_v1 k
  refine congrArg _ (Shift.idx_ext _ _ ?_ ?_)
  · blk_simp
    rw [e0]
    omega
  · blk_simp
    rw [e1]
    omega

/-- A row of the block after it. -/
theorem blk1_at (t : Fin cfg0.N) (ht : t.val % 16 + 1 < 16) (u : S40x128.Idx) (k : S655360x128.Idx) (h0 : (k 0).val = 2560 * (t.val + 1) + (u 0).val) (h1 : (k 1).val = (u 1).val) :
    iblk m c 1 t u = V m c main_v1 k := by
  have e0 : win0_1.index t 0 = 64 * (t.val + 1) := congrFun (map1 t ht) 0
  have e1 : win0_1.index t 1 = 0 := congrFun (map1 t ht) 1
  show V m c main_v1 ((win0_1.blk t).view.emb u) = V m c main_v1 k
  refine congrArg _ (Shift.idx_ext _ _ ?_ ?_)
  · blk_simp
    rw [e0]
    omega
  · blk_simp
    rw [e1]
    omega

/-- A row of the block of the new position that a point holds. -/
theorem blk2_at (t : Fin cfg0.N) (u : S24x128.Idx) (k : S384x128.Idx) (h0 : (k 0).val = 24 * (t.val / 16) + (u 0).val) (h1 : (k 1).val = (u 1).val) :
    iblk m c 2 t u = V m c main_v6 k := by
  have e0 : win0_2.index t 0 = t.val / 16 := congrFun (map2 t) 0
  have e1 : win0_2.index t 1 = 0 := congrFun (map2 t) 1
  show V m c main_v6 ((win0_2.blk t).view.emb u) = V m c main_v6 k
  refine congrArg _ (Shift.idx_ext _ _ ?_ ?_)
  · blk_simp
    rw [e0]
    omega
  · blk_simp
    rw [e1]
    omega

/-! ## What a point stores -/

/-- In case A a point stores its block of the cache shifted by one position, then the first position of the next block. -/
theorem bodyA_at (i : grid0.Coords) (arg2 : Memref sig .tc .vmem S2560x128 .f32) (harg2 : arg2.IsWhole) (arg3 : Memref sig .tc .vmem S40x128 .f32) (harg3 : arg3.IsWhole) (arg4 : Memref sig .tc .vmem S24x128 .f32) (harg4 : arg4.IsWhole) (arg5 : Memref sig .tc .vmem S2560x128 .f32) (harg5 : arg5.IsWhole) (hc0 : cond0_0 i) (hc1 : ¬cond0_1 i)
    (x0 : FVec Ideal S2560x128 .f32) (x1 : FVec Ideal S40x128 .f32) (x2 : FVec Ideal S24x128 .f32) (y : S2560x128.Idx) :
    out0_A_3 (F := Ideal) c i arg2 harg2 arg3 harg3 arg4 harg4 arg5 harg5 hc0 hc1 x0 x1 x2 y = Shift.shiftBlk x0 x1 (by decide) y := by
  unfold out0_A_3
  refine (congrFun (View.read_writes_eq_canon (Val := Elt Ideal) VO0_3 VO0_3.junk _ (cover0_A_3 (F := Ideal) c i arg2 harg2 arg3 harg3 arg4 harg4 arg5 harg5 hc0 hc1 x0 x1 x2)) y).trans ?_
  refine Shift.canon_shift x0 x1 (by decide) inb_S2560x128_S20x128_2540_0 inb_S40x128_S20x128_0_0 inb_S2560x128_S2540x128_0_0 inb_S2560x128_S2540x128_20_0
    shapeCasts_S20x128_S20x128 shapeCasts_S2540x128_S2540x128 _ ?_ y (cover0_A_3 (F := Ideal) c i arg2 harg2 arg3 harg3 arg4 harg4 arg5 harg5 hc0 hc1 x0 x1 x2 y)
  have e0 : arg2.view.read (Elt Ideal) (harg2.unread x0) = x0 := by rw [harg2.read_unread]
  have e1 : arg3.view.read (Elt Ideal) (harg3.unread x1) = x1 := by rw [harg3.read_unread]
  conv_rhs => rw [← e0, ← e1]
  unfold kernelRun0_A
  rfl

/-- In case B a point stores its block of the cache shifted by one position, then the new position. -/
theorem bodyB_at (i : grid0.Coords) (arg2 : Memref sig .tc .vmem S2560x128 .f32) (harg2 : arg2.IsWhole) (arg3 : Memref sig .tc .vmem S40x128 .f32) (harg3 : arg3.IsWhole) (arg4 : Memref sig .tc .vmem S24x128 .f32) (harg4 : arg4.IsWhole) (arg5 : Memref sig .tc .vmem S2560x128 .f32) (harg5 : arg5.IsWhole) (hc0 : ¬cond0_0 i) (hc1 : cond0_1 i)
    (x0 : FVec Ideal S2560x128 .f32) (x1 : FVec Ideal S40x128 .f32) (x2 : FVec Ideal S24x128 .f32) (y : S2560x128.Idx) :
    out0_B_3 (F := Ideal) c i arg2 harg2 arg3 harg3 arg4 harg4 arg5 harg5 hc0 hc1 x0 x1 x2 y = Shift.shiftBlk x0 x2 (by decide) y := by
  unfold out0_B_3
  refine (congrFun (View.read_writes_eq_canon (Val := Elt Ideal) VO0_3 VO0_3.junk _ (cover0_B_3 (F := Ideal) c i arg2 harg2 arg3 harg3 arg4 harg4 arg5 harg5 hc0 hc1 x0 x1 x2)) y).trans ?_
  refine Shift.canon_shift x0 x2 (by decide) inb_S2560x128_S20x128_2540_0 inb_S24x128_S20x128_0_0 inb_S2560x128_S2540x128_0_0 inb_S2560x128_S2540x128_20_0
    shapeCasts_S20x128_S20x128 shapeCasts_S2540x128_S2540x128 _ ?_ y (cover0_B_3 (F := Ideal) c i arg2 harg2 arg3 harg3 arg4 harg4 arg5 harg5 hc0 hc1 x0 x1 x2 y)
  have e0 : arg2.view.read (Elt Ideal) (harg2.unread x0) = x0 := by rw [harg2.read_unread]
  have e1 : arg4.view.read (Elt Ideal) (harg4.unread x2) = x2 := by rw [harg4.read_unread]
  conv_rhs => rw [← e0, ← e1]
  unfold kernelRun0_B
  rfl

/-- The reference's array at the kernel's arguments. -/
abbrev ref : FVec Ideal S655360x128 .f32 := Cert.Reference14Ideal.Read.val_main_v4 (F := Ideal) (cache m c) (new m c)

/-- What a point leaves is the reference at its places. -/
theorem out_at (t : Fin cfg0.N) (y : S2560x128.Idx) (z : S655360x128.Idx) (h0 : (z 0).val = 2560 * t.val + (y 0).val) (h1 : (z 1).val = (y 1).val) :
    outsAt0 m c t.val t.isLt y = ref m c z := by
  by_cases ha : t.val % 16 + 1 < 16
  · rw [outsAt0_A m c t (by omega) (by omega)]
    exact (bodyA_at c (grid0.coords t) _ _ _ _ _ _ _ _ _ _ (iblk m c 0 t) (iblk m c 1 t) (iblk m c 2 t) y).trans
      (Shift.block_next (L := 2048) (n := 655360) (nb := 16) (by decide) rfl rfl _ _ _ _ _ _ _ (V_main_v1 m c) t.val ha _ _ _ y z (blk0_at m c t) (blk1_at m c t ha) h0 h1)
  · rw [outsAt0_B m c t (by omega) (by omega)]
    exact (bodyB_at c (grid0.coords t) _ _ _ _ _ _ _ _ _ _ (iblk m c 0 t) (iblk m c 1 t) (iblk m c 2 t) y).trans
      (Shift.block_last (L := 2048) (n := 655360) (nb := 16) (by decide) rfl rfl _ _ _ _ _ _ _ (V_main_v1 m c) h_S_ _ _ _ _ _ (V_main_v6 m c) t.val (by omega) _ _ _ y z (blk0_at m c t) (blk2_at m c t) h0 h1)

/-- The output array after the launch is the reference's. -/
theorem arr_out : (dats m 0 c).arrAt 3 cfg0.N = ref m c := by
  refine Pipeline.Dat.arrAt_eq_of_covers (dats m 0 c) 3 _ (by decide +kernel) fun t hf y => ?_
  have e0 : win0_3.index t 0 = t.val := congrFun (map3 t) 0
  have e1 : win0_3.index t 1 = 0 := congrFun (map3 t) 1
  have a0 : (((win0_3.blk t).view.emb y) 0).val = 2560 * t.val + (y 0).val := by
    blk_simp
    rw [e0]
    omega
  have a1 : (((win0_3.blk t).view.emb y) 1).val = (y 1).val := by
    blk_simp
    rw [e1]
    omega
  refine Eq.trans ?_ (out_at m c t y ((win0_3.blk t).view.emb y) a0 a1)
  rw [← after0_3]
  rfl

end Cert.Kernel14Ideal.Tile

namespace Cert.Shift14

open Idealize.ShloMosaic Idealize.ShloMosaic.TcCoe
open Idealize.SL.Sem

theorem algebraic : Cert.algebraic_Kernel14Ideal_Reference14Ideal (hKernel14Ideal := Cert.Kernel14Ideal.Gen.facts) (hReference14Ideal := Cert.Reference14Ideal.Gen.facts) := by
  intro m g m' g' _ hargs
  refine ⟨fun c => Cert.Kernel14Ideal.Tile.ref m c, ?_, ?_⟩
  · refine (θ_run _ _ _).mono (fun r h c => ?_) (Cert.Kernel14Ideal.Value.run_blocks m g)
    obtain ⟨h0, hrest⟩ := h c
    exact ⟨h0.trans (Cert.Kernel14Ideal.Tile.arr_out m c), hrest⟩
  · refine (θ_run _ _ _).mono (fun r h c => ?_) (Cert.Reference14Ideal.Value.run m' g')
    obtain ⟨h0, hrest⟩ := h c
    obtain ⟨a0, a1⟩ := hargs c
    refine ⟨h0.trans ?_, hrest⟩
    rw [Cert.Reference14Ideal.Read.val_main_v4_eq, a0, a1]

open Cert.Reference14Ideal in
/-- The reference leaves its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.Reference14Ideal.Value.run m g)

end Cert.Shift14
-- ==== Proof.lean ====
/- The certificate: every claim about the kernels' calls, put together from the modules that prove them. -/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Pre_finite_scores
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Read
public import proofs.«01_k».proof.Proof.FrameBBits
public import proofs.«01_k».proof.Proof.AlgB
public import proofs.«01_k».proof.Proof.FrameIBits
public import proofs.«01_k».proof.Proof.AlgI
public import proofs.«01_k».proof.Proof.FrameOBits
public import proofs.«01_k».proof.Proof.AlgO
public import proofs.«01_k».proof.Proof.FrameQryBBits
public import proofs.«01_k».proof.Proof.AlgQryB
public import proofs.«01_k».proof.Proof.FrameKeyBBits
public import proofs.«01_k».proof.Proof.AlgKeyB
public import proofs.«01_k».proof.Proof.FrameValBBits
public import proofs.«01_k».proof.Proof.AlgValB
public import proofs.«01_k».proof.Proof.FrameMixBBits
public import proofs.«01_k».proof.Proof.AlgMixB
public import proofs.«01_k».proof.Proof.FrameMixABits
public import proofs.«01_k».proof.Proof.AlgMixA
public import proofs.«01_k».proof.Proof.FrameRotBits
public import proofs.«01_k».proof.Proof.AlgRot
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Read
public import proofs.«01_k».proof.Proof.AlgLnP
public import proofs.«01_k».proof.Proof.AlgLnS
public import proofs.«01_k».proof.Proof.Shift12
public import proofs.«01_k».proof.Proof.Shift13
public import proofs.«01_k».proof.Proof.Shift14

@[expose] public section

noncomputable section

namespace Cert.Proof

open Idealize.ShloMosaic Idealize.ShloMosaic.TcCoe

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite_scores.Gen.facts,
    fun m g _ => Cert.Kernel.Tile.frame_args m g,
    fun m g _ => Cert.KernelIdeal.Tile.frame_args m g,
    fun m g _ => Cert.KernelIdeal.Tile.frame_args m g,
    fun m g _ => Cert.Stick.reference_frame m g,
    fun m g _ => Cert.Stick.reference_frame m g,
    fun m g _ => Cert.Kernel2.Tile.frame_args m g,
    fun m g _ => Cert.Kernel2Ideal.Tile.frame_args m g,
    fun m g _ => Cert.FfnIn.reference_frame m g,
    fun m g _ => Cert.Kernel3.Tile.frame_args m g,
    fun m g _ => Cert.Kernel3Ideal.Tile.frame_args m g,
    fun m g _ => Cert.FfnOut.reference_frame m g,
    fun m g _ => Cert.Kernel4.Tile.frame_args m g,
    fun m g _ => Cert.Kernel4Ideal.Tile.frame_args m g,
    fun m g _ => Cert.QryB.reference_frame m g,
    fun m g _ => Cert.Kernel5.Tile.frame_args m g,
    fun m g _ => Cert.Kernel5Ideal.Tile.frame_args m g,
    fun m g _ => Cert.KeyB.reference_frame m g,
    fun m g _ => Cert.Kernel6.Tile.frame_args m g,
    fun m g _ => Cert.Kernel6Ideal.Tile.frame_args m g,
    fun m g _ => Cert.ValB.reference_frame m g,
    fun m g _ => Cert.Kernel7.Tile.frame_args m g,
    fun m g _ => Cert.Kernel7Ideal.Tile.frame_args m g,
    fun m g _ => Cert.MixB.reference_frame m g,
    fun m g _ => Cert.Kernel8.Tile.frame_args m g,
    fun m g _ => Cert.Kernel8Ideal.Tile.frame_args m g,
    fun m g _ => Cert.MixA.reference_frame m g,
    fun m g _ => Cert.Kernel9.Tile.frame_args m g,
    fun m g _ => Cert.Kernel9Ideal.Tile.frame_args m g,
    fun m g _ => Cert.QkvA.reference_frame m g,
    fun m g _ => Cert.Kernel10.Gen.frame m g,
    fun m g _ => Cert.Kernel10Ideal.Gen.frame m g,
    fun m g _ => Cert.LnP.reference_frame m g,
    fun m g _ => Cert.Kernel11.Gen.frame m g,
    fun m g _ => Cert.Kernel11Ideal.Gen.frame m g,
    fun m g _ => Cert.LnS.reference_frame m g,
    fun m g _ => Cert.Kernel12.Gen.frame m g,
    fun m g _ => Cert.Kernel12Ideal.Gen.frame m g,
    fun m g _ => Cert.Shift12.reference_frame m g,
    fun m g _ => Cert.Kernel13.Gen.frame m g,
    fun m g _ => Cert.Kernel13Ideal.Gen.frame m g,
    fun m g _ => Cert.Shift13.reference_frame m g,
    fun m g _ => Cert.Kernel14.Gen.frame m g,
    fun m g _ => Cert.Kernel14Ideal.Gen.frame m g,
    fun m g _ => Cert.Shift14.reference_frame m g,
    trivial, Cert.Stick.algebraic,
    trivial, Cert.FfnIn.algebraic,
    trivial, Cert.FfnOut.algebraic,
    trivial, Cert.QryB.algebraic,
    trivial, Cert.KeyB.algebraic,
    trivial, Cert.ValB.algebraic,
    trivial, Cert.MixB.algebraic,
    trivial, Cert.MixA.algebraic,
    trivial, Cert.QkvA.algebraic,
    trivial, Cert.LnP.algebraic,
    trivial, Cert.LnS.algebraic,
    trivial, Cert.Shift12.algebraic,
    trivial, Cert.Shift13.algebraic,
    trivial, Cert.Shift14.algebraic⟩

end Cert.Proof

end
